-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Stream (m : (ℓ : Loc Cert.Stream.nD Cert.Stream.τ Cert.Stream.sig) → Buf (Elt Bits) ℓ) : Prop :=
  True

def Pre_StreamIdeal (m : (ℓ : Loc Cert.StreamIdeal.nD Cert.StreamIdeal.τ Cert.StreamIdeal.sig) → Buf (Elt Ideal) ℓ) : Prop :=
  True

def Pre_StreamRefIdeal (m : (ℓ : Loc Cert.StreamRefIdeal.nD Cert.StreamRefIdeal.τ Cert.StreamRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6))).2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6))).2.2.2.2.2.2 = (fun _ => 1#1)

def Pre_Leave (m : (ℓ : Loc Cert.Leave.nD Cert.Leave.τ Cert.Leave.sig) → Buf (Elt Bits) ℓ) : Prop :=
  True

def Pre_LeaveIdeal (m : (ℓ : Loc Cert.LeaveIdeal.nD Cert.LeaveIdeal.τ Cert.LeaveIdeal.sig) → Buf (Elt Ideal) ℓ) : Prop :=
  True

def Pre_LeaveIdeal_finite_leave [hPre_finite_leave : Cert.Pre_finite_leave.Facts] (m : (ℓ : Loc Cert.LeaveIdeal.nD Cert.LeaveIdeal.τ Cert.LeaveIdeal.sig) → Buf (Elt Ideal) ℓ) : Prop :=
  ∀ c : Dev Cert.LeaveIdeal.nD,
    (Cert.Pre_finite_leave.fn (F := Ideal) (m ((c.tc : Thread Cert.LeaveIdeal.nD Cert.LeaveIdeal.τ).loc Cert.LeaveIdeal.main_arg0)) (m ((c.tc : Thread Cert.LeaveIdeal.nD Cert.LeaveIdeal.τ).loc Cert.LeaveIdeal.main_arg1)) (m ((c.tc : Thread Cert.LeaveIdeal.nD Cert.LeaveIdeal.τ).loc Cert.LeaveIdeal.main_arg2)) (m ((c.tc : Thread Cert.LeaveIdeal.nD Cert.LeaveIdeal.τ).loc Cert.LeaveIdeal.main_arg3))).1 = (fun _ => 1#1)
    ∧ (Cert.Pre_finite_leave.fn (F := Ideal) (m ((c.tc : Thread Cert.LeaveIdeal.nD Cert.LeaveIdeal.τ).loc Cert.LeaveIdeal.main_arg0)) (m ((c.tc : Thread Cert.LeaveIdeal.nD Cert.LeaveIdeal.τ).loc Cert.LeaveIdeal.main_arg1)) (m ((c.tc : Thread Cert.LeaveIdeal.nD Cert.LeaveIdeal.τ).loc Cert.LeaveIdeal.main_arg2)) (m ((c.tc : Thread Cert.LeaveIdeal.nD Cert.LeaveIdeal.τ).loc Cert.LeaveIdeal.main_arg3))).2.1 = (fun _ => 1#1)
    ∧ (Cert.Pre_finite_leave.fn (F := Ideal) (m ((c.tc : Thread Cert.LeaveIdeal.nD Cert.LeaveIdeal.τ).loc Cert.LeaveIdeal.main_arg0)) (m ((c.tc : Thread Cert.LeaveIdeal.nD Cert.LeaveIdeal.τ).loc Cert.LeaveIdeal.main_arg1)) (m ((c.tc : Thread Cert.LeaveIdeal.nD Cert.LeaveIdeal.τ).loc Cert.LeaveIdeal.main_arg2)) (m ((c.tc : Thread Cert.LeaveIdeal.nD Cert.LeaveIdeal.τ).loc Cert.LeaveIdeal.main_arg3))).2.2.1 = (fun _ => 1#1)
    ∧ (Cert.Pre_finite_leave.fn (F := Ideal) (m ((c.tc : Thread Cert.LeaveIdeal.nD Cert.LeaveIdeal.τ).loc Cert.LeaveIdeal.main_arg0)) (m ((c.tc : Thread Cert.LeaveIdeal.nD Cert.LeaveIdeal.τ).loc Cert.LeaveIdeal.main_arg1)) (m ((c.tc : Thread Cert.LeaveIdeal.nD Cert.LeaveIdeal.τ).loc Cert.LeaveIdeal.main_arg2)) (m ((c.tc : Thread Cert.LeaveIdeal.nD Cert.LeaveIdeal.τ).loc Cert.LeaveIdeal.main_arg3))).2.2.2 = (fun _ => 1#1)

def Pre_LeaveRefIdeal (m : (ℓ : Loc Cert.LeaveRefIdeal.nD Cert.LeaveRefIdeal.τ Cert.LeaveRefIdeal.sig) → Buf (Elt Ideal) ℓ) : Prop :=
  True

def Pre_LeaveRefIdeal_finite_leave [hPre_finite_leave : Cert.Pre_finite_leave.Facts] (m : (ℓ : Loc Cert.LeaveRefIdeal.nD Cert.LeaveRefIdeal.τ Cert.LeaveRefIdeal.sig) → Buf (Elt Ideal) ℓ) : Prop :=
  ∀ c : Dev Cert.LeaveRefIdeal.nD,
    (Cert.Pre_finite_leave.fn (F := Ideal) (m ((c.tc : Thread Cert.LeaveRefIdeal.nD Cert.LeaveRefIdeal.τ).loc Cert.LeaveRefIdeal.main_arg0)) (m ((c.tc : Thread Cert.LeaveRefIdeal.nD Cert.LeaveRefIdeal.τ).loc Cert.LeaveRefIdeal.main_arg1)) (m ((c.tc : Thread Cert.LeaveRefIdeal.nD Cert.LeaveRefIdeal.τ).loc Cert.LeaveRefIdeal.main_arg2)) (m ((c.tc : Thread Cert.LeaveRefIdeal.nD Cert.LeaveRefIdeal.τ).loc Cert.LeaveRefIdeal.main_arg3))).1 = (fun _ => 1#1)
    ∧ (Cert.Pre_finite_leave.fn (F := Ideal) (m ((c.tc : Thread Cert.LeaveRefIdeal.nD Cert.LeaveRefIdeal.τ).loc Cert.LeaveRefIdeal.main_arg0)) (m ((c.tc : Thread Cert.LeaveRefIdeal.nD Cert.LeaveRefIdeal.τ).loc Cert.LeaveRefIdeal.main_arg1)) (m ((c.tc : Thread Cert.LeaveRefIdeal.nD Cert.LeaveRefIdeal.τ).loc Cert.LeaveRefIdeal.main_arg2)) (m ((c.tc : Thread Cert.LeaveRefIdeal.nD Cert.LeaveRefIdeal.τ).loc Cert.LeaveRefIdeal.main_arg3))).2.1 = (fun _ => 1#1)
    ∧ (Cert.Pre_finite_leave.fn (F := Ideal) (m ((c.tc : Thread Cert.LeaveRefIdeal.nD Cert.LeaveRefIdeal.τ).loc Cert.LeaveRefIdeal.main_arg0)) (m ((c.tc : Thread Cert.LeaveRefIdeal.nD Cert.LeaveRefIdeal.τ).loc Cert.LeaveRefIdeal.main_arg1)) (m ((c.tc : Thread Cert.LeaveRefIdeal.nD Cert.LeaveRefIdeal.τ).loc Cert.LeaveRefIdeal.main_arg2)) (m ((c.tc : Thread Cert.LeaveRefIdeal.nD Cert.LeaveRefIdeal.τ).loc Cert.LeaveRefIdeal.main_arg3))).2.2.1 = (fun _ => 1#1)
    ∧ (Cert.Pre_finite_leave.fn (F := Ideal) (m ((c.tc : Thread Cert.LeaveRefIdeal.nD Cert.LeaveRefIdeal.τ).loc Cert.LeaveRefIdeal.main_arg0)) (m ((c.tc : Thread Cert.LeaveRefIdeal.nD Cert.LeaveRefIdeal.τ).loc Cert.LeaveRefIdeal.main_arg1)) (m ((c.tc : Thread Cert.LeaveRefIdeal.nD Cert.LeaveRefIdeal.τ).loc Cert.LeaveRefIdeal.main_arg2)) (m ((c.tc : Thread Cert.LeaveRefIdeal.nD Cert.LeaveRefIdeal.τ).loc Cert.LeaveRefIdeal.main_arg3))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.2 = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_finite_heads [hPre_finite_heads : Cert.Pre_finite_heads.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.2.1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.2.2.1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.2.2.2.1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.2.2.2.2.1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6))).2.2.2.2.2.2 = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_finite_heads [hPre_finite_heads : Cert.Pre_finite_heads.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.2.1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.2.2.1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.2.2.2.1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.2.2.2.2.1 = (fun _ => 1#1)
    ∧ (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6))).2.2.2.2.2.2 = (fun _ => 1#1)

def Pre_FoxD (m : (ℓ : Loc Cert.FoxD.nD Cert.FoxD.τ Cert.FoxD.sig) → Buf (Elt Bits) ℓ) : Prop :=
  True

def Pre_FoxDIdeal (m : (ℓ : Loc Cert.FoxDIdeal.nD Cert.FoxDIdeal.τ Cert.FoxDIdeal.sig) → Buf (Elt Ideal) ℓ) : Prop :=
  True

def Pre_FoxDIdeal_finite_fox [hPre_finite_fox : Cert.Pre_finite_fox.Facts] (m : (ℓ : Loc Cert.FoxDIdeal.nD Cert.FoxDIdeal.τ Cert.FoxDIdeal.sig) → Buf (Elt Ideal) ℓ) : Prop :=
  ∀ c : Dev Cert.FoxDIdeal.nD,
    (Cert.Pre_finite_fox.fn (F := Ideal) (m ((c.tc : Thread Cert.FoxDIdeal.nD Cert.FoxDIdeal.τ).loc Cert.FoxDIdeal.main_arg0)) (m ((c.tc : Thread Cert.FoxDIdeal.nD Cert.FoxDIdeal.τ).loc Cert.FoxDIdeal.main_arg1))).1 = (fun _ => 1#1)
    ∧ (Cert.Pre_finite_fox.fn (F := Ideal) (m ((c.tc : Thread Cert.FoxDIdeal.nD Cert.FoxDIdeal.τ).loc Cert.FoxDIdeal.main_arg0)) (m ((c.tc : Thread Cert.FoxDIdeal.nD Cert.FoxDIdeal.τ).loc Cert.FoxDIdeal.main_arg1))).2 = (fun _ => 1#1)

def Pre_FoxDRefIdeal (m : (ℓ : Loc Cert.FoxDRefIdeal.nD Cert.FoxDRefIdeal.τ Cert.FoxDRefIdeal.sig) → Buf (Elt Ideal) ℓ) : Prop :=
  True

def Pre_FoxDRefIdeal_finite_fox [hPre_finite_fox : Cert.Pre_finite_fox.Facts] (m : (ℓ : Loc Cert.FoxDRefIdeal.nD Cert.FoxDRefIdeal.τ Cert.FoxDRefIdeal.sig) → Buf (Elt Ideal) ℓ) : Prop :=
  ∀ c : Dev Cert.FoxDRefIdeal.nD,
    (Cert.Pre_finite_fox.fn (F := Ideal) (m ((c.tc : Thread Cert.FoxDRefIdeal.nD Cert.FoxDRefIdeal.τ).loc Cert.FoxDRefIdeal.main_arg0)) (m ((c.tc : Thread Cert.FoxDRefIdeal.nD Cert.FoxDRefIdeal.τ).loc Cert.FoxDRefIdeal.main_arg1))).1 = (fun _ => 1#1)
    ∧ (Cert.Pre_finite_fox.fn (F := Ideal) (m ((c.tc : Thread Cert.FoxDRefIdeal.nD Cert.FoxDRefIdeal.τ).loc Cert.FoxDRefIdeal.main_arg0)) (m ((c.tc : Thread Cert.FoxDRefIdeal.nD Cert.FoxDRefIdeal.τ).loc Cert.FoxDRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Stream [hStream : Cert.Stream.Facts] : Prop :=
  ∀ (m : (ℓ : Loc Cert.Stream.nD Cert.Stream.τ Cert.Stream.sig) → Buf (Elt Bits) ℓ) (g : Dev Cert.Stream.nD → PrngReg), Pre_Stream m →
    θ_run (Cert.Stream.defs (F := Bits)) (onTc (τ := Cert.Stream.τ) (Cert.Stream.main (F := Bits))) ⟨m, fun _ => 0, g⟩ (fun r => (∀ c : Dev Cert.Stream.nD,
      r.2.mem ((c.tc : Thread Cert.Stream.nD Cert.Stream.τ).loc Cert.Stream.main_arg0) = m ((c.tc : Thread Cert.Stream.nD Cert.Stream.τ).loc Cert.Stream.main_arg0)
      ∧ r.2.mem ((c.tc : Thread Cert.Stream.nD Cert.Stream.τ).loc Cert.Stream.main_arg1) = m ((c.tc : Thread Cert.Stream.nD Cert.Stream.τ).loc Cert.Stream.main_arg1))
      ∧ r.2.sem = fun _ => 0)

def quiescent_StreamIdeal [hStreamIdeal : Cert.StreamIdeal.Facts] : Prop :=
  ∀ (m : (ℓ : Loc Cert.StreamIdeal.nD Cert.StreamIdeal.τ Cert.StreamIdeal.sig) → Buf (Elt Ideal) ℓ) (g : Dev Cert.StreamIdeal.nD → PrngReg), Pre_StreamIdeal m →
    θ_run (Cert.StreamIdeal.defs (F := Ideal)) (onTc (τ := Cert.StreamIdeal.τ) (Cert.StreamIdeal.main (F := Ideal))) ⟨m, fun _ => 0, g⟩ (fun r => (∀ c : Dev Cert.StreamIdeal.nD,
      r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
      ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1))
      ∧ r.2.sem = fun _ => 0)

def quiescent_StreamRefIdeal [hStreamRefIdeal : Cert.StreamRefIdeal.Facts] : Prop :=
  ∀ (m : (ℓ : Loc Cert.StreamRefIdeal.nD Cert.StreamRefIdeal.τ Cert.StreamRefIdeal.sig) → Buf (Elt Ideal) ℓ) (g : Dev Cert.StreamRefIdeal.nD → PrngReg), Pre_StreamRefIdeal m →
    θ_run (Cert.StreamRefIdeal.defs (F := Ideal)) (onTc (τ := Cert.StreamRefIdeal.τ) (Cert.StreamRefIdeal.main (F := Ideal))) ⟨m, fun _ => 0, g⟩ (fun r => (∀ c : Dev Cert.StreamRefIdeal.nD,
      r.2.mem ((c.tc : Thread Cert.StreamRefIdeal.nD Cert.StreamRefIdeal.τ).loc Cert.StreamRefIdeal.main_arg0) = m ((c.tc : Thread Cert.StreamRefIdeal.nD Cert.StreamRefIdeal.τ).loc Cert.StreamRefIdeal.main_arg0)
      ∧ r.2.mem ((c.tc : Thread Cert.StreamRefIdeal.nD Cert.StreamRefIdeal.τ).loc Cert.StreamRefIdeal.main_arg1) = m ((c.tc : Thread Cert.StreamRefIdeal.nD Cert.StreamRefIdeal.τ).loc Cert.StreamRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Leave [hLeave : Cert.Leave.Facts] : Prop :=
  ∀ (m : (ℓ : Loc Cert.Leave.nD Cert.Leave.τ Cert.Leave.sig) → Buf (Elt Bits) ℓ) (g : Dev Cert.Leave.nD → PrngReg), Pre_Leave m →
    θ_run (Cert.Leave.defs (F := Bits)) (onTc (τ := Cert.Leave.τ) (Cert.Leave.main (F := Bits))) ⟨m, fun _ => 0, g⟩ (fun r => (∀ c : Dev Cert.Leave.nD,
      r.2.mem ((c.tc : Thread Cert.Leave.nD Cert.Leave.τ).loc Cert.Leave.main_arg0) = m ((c.tc : Thread Cert.Leave.nD Cert.Leave.τ).loc Cert.Leave.main_arg0)
      ∧ r.2.mem ((c.tc : Thread Cert.Leave.nD Cert.Leave.τ).loc Cert.Leave.main_arg1) = m ((c.tc : Thread Cert.Leave.nD Cert.Leave.τ).loc Cert.Leave.main_arg1)
      ∧ r.2.mem ((c.tc : Thread Cert.Leave.nD Cert.Leave.τ).loc Cert.Leave.main_arg2) = m ((c.tc : Thread Cert.Leave.nD Cert.Leave.τ).loc Cert.Leave.main_arg2)
      ∧ r.2.mem ((c.tc : Thread Cert.Leave.nD Cert.Leave.τ).loc Cert.Leave.main_arg3) = m ((c.tc : Thread Cert.Leave.nD Cert.Leave.τ).loc Cert.Leave.main_arg3))
      ∧ r.2.sem = fun _ => 0)

def quiescent_LeaveIdeal [hLeaveIdeal : Cert.LeaveIdeal.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ r.2.sem = fun _ => 0)

def quiescent_LeaveIdeal_pre_finite_leave [hLeaveIdeal : Cert.LeaveIdeal.Facts] [hPre_finite_leave : Cert.Pre_finite_leave.Facts] : Prop :=
  ∀ (m : (ℓ : Loc Cert.LeaveIdeal.nD Cert.LeaveIdeal.τ Cert.LeaveIdeal.sig) → Buf (Elt Ideal) ℓ) (g : Dev Cert.LeaveIdeal.nD → PrngReg), Pre_LeaveIdeal_finite_leave m →
    θ_run (Cert.LeaveIdeal.defs (F := Ideal)) (onTc (τ := Cert.LeaveIdeal.τ) (Cert.LeaveIdeal.main (F := Ideal))) ⟨m, fun _ => 0, g⟩ (fun r => (∀ c : Dev Cert.LeaveIdeal.nD,
      r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
      ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
      ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
      ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ r.2.sem = fun _ => 0)

def quiescent_LeaveRefIdeal [hLeaveRefIdeal : Cert.LeaveRefIdeal.Facts] : Prop :=
  ∀ (m : (ℓ : Loc Cert.LeaveRefIdeal.nD Cert.LeaveRefIdeal.τ Cert.LeaveRefIdeal.sig) → Buf (Elt Ideal) ℓ) (g : Dev Cert.LeaveRefIdeal.nD → PrngReg), Pre_LeaveRefIdeal m →
    θ_run (Cert.LeaveRefIdeal.defs (F := Ideal)) (onTc (τ := Cert.LeaveRefIdeal.τ) (Cert.LeaveRefIdeal.main (F := Ideal))) ⟨m, fun _ => 0, g⟩ (fun r => (∀ c : Dev Cert.LeaveRefIdeal.nD,
      r.2.mem ((c.tc : Thread Cert.LeaveRefIdeal.nD Cert.LeaveRefIdeal.τ).loc Cert.LeaveRefIdeal.main_arg0) = m ((c.tc : Thread Cert.LeaveRefIdeal.nD Cert.LeaveRefIdeal.τ).loc Cert.LeaveRefIdeal.main_arg0)
      ∧ r.2.mem ((c.tc : Thread Cert.LeaveRefIdeal.nD Cert.LeaveRefIdeal.τ).loc Cert.LeaveRefIdeal.main_arg1) = m ((c.tc : Thread Cert.LeaveRefIdeal.nD Cert.LeaveRefIdeal.τ).loc Cert.LeaveRefIdeal.main_arg1)
      ∧ r.2.mem ((c.tc : Thread Cert.LeaveRefIdeal.nD Cert.LeaveRefIdeal.τ).loc Cert.LeaveRefIdeal.main_arg2) = m ((c.tc : Thread Cert.LeaveRefIdeal.nD Cert.LeaveRefIdeal.τ).loc Cert.LeaveRefIdeal.main_arg2)
      ∧ r.2.mem ((c.tc : Thread Cert.LeaveRefIdeal.nD Cert.LeaveRefIdeal.τ).loc Cert.LeaveRefIdeal.main_arg3) = m ((c.tc : Thread Cert.LeaveRefIdeal.nD Cert.LeaveRefIdeal.τ).loc Cert.LeaveRefIdeal.main_arg3))
      ∧ r.2.sem = fun _ => 0)

def quiescent_LeaveRefIdeal_pre_finite_leave [hLeaveRefIdeal : Cert.LeaveRefIdeal.Facts] [hPre_finite_leave : Cert.Pre_finite_leave.Facts] : Prop :=
  ∀ (m : (ℓ : Loc Cert.LeaveRefIdeal.nD Cert.LeaveRefIdeal.τ Cert.LeaveRefIdeal.sig) → Buf (Elt Ideal) ℓ) (g : Dev Cert.LeaveRefIdeal.nD → PrngReg), Pre_LeaveRefIdeal_finite_leave m →
    θ_run (Cert.LeaveRefIdeal.defs (F := Ideal)) (onTc (τ := Cert.LeaveRefIdeal.τ) (Cert.LeaveRefIdeal.main (F := Ideal))) ⟨m, fun _ => 0, g⟩ (fun r => (∀ c : Dev Cert.LeaveRefIdeal.nD,
      r.2.mem ((c.tc : Thread Cert.LeaveRefIdeal.nD Cert.LeaveRefIdeal.τ).loc Cert.LeaveRefIdeal.main_arg0) = m ((c.tc : Thread Cert.LeaveRefIdeal.nD Cert.LeaveRefIdeal.τ).loc Cert.LeaveRefIdeal.main_arg0)
      ∧ r.2.mem ((c.tc : Thread Cert.LeaveRefIdeal.nD Cert.LeaveRefIdeal.τ).loc Cert.LeaveRefIdeal.main_arg1) = m ((c.tc : Thread Cert.LeaveRefIdeal.nD Cert.LeaveRefIdeal.τ).loc Cert.LeaveRefIdeal.main_arg1)
      ∧ r.2.mem ((c.tc : Thread Cert.LeaveRefIdeal.nD Cert.LeaveRefIdeal.τ).loc Cert.LeaveRefIdeal.main_arg2) = m ((c.tc : Thread Cert.LeaveRefIdeal.nD Cert.LeaveRefIdeal.τ).loc Cert.LeaveRefIdeal.main_arg2)
      ∧ r.2.mem ((c.tc : Thread Cert.LeaveRefIdeal.nD Cert.LeaveRefIdeal.τ).loc Cert.LeaveRefIdeal.main_arg3) = m ((c.tc : Thread Cert.LeaveRefIdeal.nD Cert.LeaveRefIdeal.τ).loc Cert.LeaveRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6))
      ∧ r.2.sem = fun _ => 0)

def quiescent_HeadsIdeal_pre_finite_heads [hHeadsIdeal : Cert.HeadsIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_finite_heads m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6))
      ∧ r.2.sem = fun _ => 0)

def quiescent_HeadsRefIdeal_pre_finite_heads [hHeadsRefIdeal : Cert.HeadsRefIdeal.Facts] [hPre_finite_heads : Cert.Pre_finite_heads.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_finite_heads m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6))
      ∧ r.2.sem = fun _ => 0)

def quiescent_FoxD [hFoxD : Cert.FoxD.Facts] : Prop :=
  ∀ (m : (ℓ : Loc Cert.FoxD.nD Cert.FoxD.τ Cert.FoxD.sig) → Buf (Elt Bits) ℓ) (g : Dev Cert.FoxD.nD → PrngReg), Pre_FoxD m →
    θ_run (Cert.FoxD.defs (F := Bits)) (onTc (τ := Cert.FoxD.τ) (Cert.FoxD.main (F := Bits))) ⟨m, fun _ => 0, g⟩ (fun r => (∀ c : Dev Cert.FoxD.nD,
      r.2.mem ((c.tc : Thread Cert.FoxD.nD Cert.FoxD.τ).loc Cert.FoxD.main_arg0) = m ((c.tc : Thread Cert.FoxD.nD Cert.FoxD.τ).loc Cert.FoxD.main_arg0)
      ∧ r.2.mem ((c.tc : Thread Cert.FoxD.nD Cert.FoxD.τ).loc Cert.FoxD.main_arg1) = m ((c.tc : Thread Cert.FoxD.nD Cert.FoxD.τ).loc Cert.FoxD.main_arg1))
      ∧ r.2.sem = fun _ => 0)

def quiescent_FoxDIdeal [hFoxDIdeal : Cert.FoxDIdeal.Facts] : Prop :=
  ∀ (m : (ℓ : Loc Cert.FoxDIdeal.nD Cert.FoxDIdeal.τ Cert.FoxDIdeal.sig) → Buf (Elt Ideal) ℓ) (g : Dev Cert.FoxDIdeal.nD → PrngReg), Pre_FoxDIdeal m →
    θ_run (Cert.FoxDIdeal.defs (F := Ideal)) (onTc (τ := Cert.FoxDIdeal.τ) (Cert.FoxDIdeal.main (F := Ideal))) ⟨m, fun _ => 0, g⟩ (fun r => (∀ c : Dev Cert.FoxDIdeal.nD,
      r.2.mem ((c.tc : Thread Cert.FoxDIdeal.nD Cert.FoxDIdeal.τ).loc Cert.FoxDIdeal.main_arg0) = m ((c.tc : Thread Cert.FoxDIdeal.nD Cert.FoxDIdeal.τ).loc Cert.FoxDIdeal.main_arg0)
      ∧ r.2.mem ((c.tc : Thread Cert.FoxDIdeal.nD Cert.FoxDIdeal.τ).loc Cert.FoxDIdeal.main_arg1) = m ((c.tc : Thread Cert.FoxDIdeal.nD Cert.FoxDIdeal.τ).loc Cert.FoxDIdeal.main_arg1))
      ∧ r.2.sem = fun _ => 0)

def quiescent_FoxDIdeal_pre_finite_fox [hFoxDIdeal : Cert.FoxDIdeal.Facts] [hPre_finite_fox : Cert.Pre_finite_fox.Facts] : Prop :=
  ∀ (m : (ℓ : Loc Cert.FoxDIdeal.nD Cert.FoxDIdeal.τ Cert.FoxDIdeal.sig) → Buf (Elt Ideal) ℓ) (g : Dev Cert.FoxDIdeal.nD → PrngReg), Pre_FoxDIdeal_finite_fox m →
    θ_run (Cert.FoxDIdeal.defs (F := Ideal)) (onTc (τ := Cert.FoxDIdeal.τ) (Cert.FoxDIdeal.main (F := Ideal))) ⟨m, fun _ => 0, g⟩ (fun r => (∀ c : Dev Cert.FoxDIdeal.nD,
      r.2.mem ((c.tc : Thread Cert.FoxDIdeal.nD Cert.FoxDIdeal.τ).loc Cert.FoxDIdeal.main_arg0) = m ((c.tc : Thread Cert.FoxDIdeal.nD Cert.FoxDIdeal.τ).loc Cert.FoxDIdeal.main_arg0)
      ∧ r.2.mem ((c.tc : Thread Cert.FoxDIdeal.nD Cert.FoxDIdeal.τ).loc Cert.FoxDIdeal.main_arg1) = m ((c.tc : Thread Cert.FoxDIdeal.nD Cert.FoxDIdeal.τ).loc Cert.FoxDIdeal.main_arg1))
      ∧ r.2.sem = fun _ => 0)

def quiescent_FoxDRefIdeal [hFoxDRefIdeal : Cert.FoxDRefIdeal.Facts] : Prop :=
  ∀ (m : (ℓ : Loc Cert.FoxDRefIdeal.nD Cert.FoxDRefIdeal.τ Cert.FoxDRefIdeal.sig) → Buf (Elt Ideal) ℓ) (g : Dev Cert.FoxDRefIdeal.nD → PrngReg), Pre_FoxDRefIdeal m →
    θ_run (Cert.FoxDRefIdeal.defs (F := Ideal)) (onTc (τ := Cert.FoxDRefIdeal.τ) (Cert.FoxDRefIdeal.main (F := Ideal))) ⟨m, fun _ => 0, g⟩ (fun r => (∀ c : Dev Cert.FoxDRefIdeal.nD,
      r.2.mem ((c.tc : Thread Cert.FoxDRefIdeal.nD Cert.FoxDRefIdeal.τ).loc Cert.FoxDRefIdeal.main_arg0) = m ((c.tc : Thread Cert.FoxDRefIdeal.nD Cert.FoxDRefIdeal.τ).loc Cert.FoxDRefIdeal.main_arg0)
      ∧ r.2.mem ((c.tc : Thread Cert.FoxDRefIdeal.nD Cert.FoxDRefIdeal.τ).loc Cert.FoxDRefIdeal.main_arg1) = m ((c.tc : Thread Cert.FoxDRefIdeal.nD Cert.FoxDRefIdeal.τ).loc Cert.FoxDRefIdeal.main_arg1))
      ∧ r.2.sem = fun _ => 0)

def quiescent_FoxDRefIdeal_pre_finite_fox [hFoxDRefIdeal : Cert.FoxDRefIdeal.Facts] [hPre_finite_fox : Cert.Pre_finite_fox.Facts] : Prop :=
  ∀ (m : (ℓ : Loc Cert.FoxDRefIdeal.nD Cert.FoxDRefIdeal.τ Cert.FoxDRefIdeal.sig) → Buf (Elt Ideal) ℓ) (g : Dev Cert.FoxDRefIdeal.nD → PrngReg), Pre_FoxDRefIdeal_finite_fox m →
    θ_run (Cert.FoxDRefIdeal.defs (F := Ideal)) (onTc (τ := Cert.FoxDRefIdeal.τ) (Cert.FoxDRefIdeal.main (F := Ideal))) ⟨m, fun _ => 0, g⟩ (fun r => (∀ c : Dev Cert.FoxDRefIdeal.nD,
      r.2.mem ((c.tc : Thread Cert.FoxDRefIdeal.nD Cert.FoxDRefIdeal.τ).loc Cert.FoxDRefIdeal.main_arg0) = m ((c.tc : Thread Cert.FoxDRefIdeal.nD Cert.FoxDRefIdeal.τ).loc Cert.FoxDRefIdeal.main_arg0)
      ∧ r.2.mem ((c.tc : Thread Cert.FoxDRefIdeal.nD Cert.FoxDRefIdeal.τ).loc Cert.FoxDRefIdeal.main_arg1) = m ((c.tc : Thread Cert.FoxDRefIdeal.nD Cert.FoxDRefIdeal.τ).loc Cert.FoxDRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v3)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v3) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v14) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v5) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v7) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v6) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Stream_StreamIdeal : Prop :=
  True

def algebraic_StreamIdeal_StreamRefIdeal [hStreamIdeal : Cert.StreamIdeal.Facts] [hStreamRefIdeal : Cert.StreamRefIdeal.Facts] : Prop :=
  ∀ (m : (ℓ : Loc Cert.StreamIdeal.nD Cert.StreamIdeal.τ Cert.StreamIdeal.sig) → Buf (Elt Ideal) ℓ) (g : Dev Cert.StreamIdeal.nD → PrngReg)
    (m' : (ℓ : Loc Cert.StreamRefIdeal.nD Cert.StreamRefIdeal.τ Cert.StreamRefIdeal.sig) → Buf (Elt Ideal) ℓ) (g' : Dev Cert.StreamRefIdeal.nD → PrngReg), Pre_StreamIdeal m →
    (∀ c : Dev Cert.StreamIdeal.nD,
      m' ((c.tc : Thread Cert.StreamRefIdeal.nD Cert.StreamRefIdeal.τ).loc Cert.StreamRefIdeal.main_arg0) = m ((c.tc : Thread Cert.StreamIdeal.nD Cert.StreamIdeal.τ).loc Cert.StreamIdeal.main_arg0)
      ∧ m' ((c.tc : Thread Cert.StreamRefIdeal.nD Cert.StreamRefIdeal.τ).loc Cert.StreamRefIdeal.main_arg1) = m ((c.tc : Thread Cert.StreamIdeal.nD Cert.StreamIdeal.τ).loc Cert.StreamIdeal.main_arg1)) →
    ∃ (v0 : (c : Dev Cert.StreamIdeal.nD) → Buf (Elt Ideal) ((c.tc : Thread Cert.StreamIdeal.nD Cert.StreamIdeal.τ).loc Cert.StreamIdeal.main_v0)),
      θ_run (Cert.StreamIdeal.defs (F := Ideal)) (onTc (τ := Cert.StreamIdeal.τ) (Cert.StreamIdeal.main (F := Ideal))) ⟨m, fun _ => 0, g⟩ (fun r => ∀ c : Dev Cert.StreamIdeal.nD,
          r.2.mem ((c.tc : Thread Cert.StreamIdeal.nD Cert.StreamIdeal.τ).loc Cert.StreamIdeal.main_v0) = v0 c
          ∧ r.2.mem ((c.tc : Thread Cert.StreamIdeal.nD Cert.StreamIdeal.τ).loc Cert.StreamIdeal.main_arg0) = m ((c.tc : Thread Cert.StreamIdeal.nD Cert.StreamIdeal.τ).loc Cert.StreamIdeal.main_arg0)
          ∧ r.2.mem ((c.tc : Thread Cert.StreamIdeal.nD Cert.StreamIdeal.τ).loc Cert.StreamIdeal.main_arg1) = m ((c.tc : Thread Cert.StreamIdeal.nD Cert.StreamIdeal.τ).loc Cert.StreamIdeal.main_arg1))
      ∧ θ_run (Cert.StreamRefIdeal.defs (F := Ideal)) (onTc (τ := Cert.StreamRefIdeal.τ) (Cert.StreamRefIdeal.main (F := Ideal))) ⟨m', fun _ => 0, g'⟩ (fun r => ∀ c : Dev Cert.StreamRefIdeal.nD,
          r.2.mem ((c.tc : Thread Cert.StreamRefIdeal.nD Cert.StreamRefIdeal.τ).loc Cert.StreamRefIdeal.main_v5) = v0 c
          ∧ r.2.mem ((c.tc : Thread Cert.StreamRefIdeal.nD Cert.StreamRefIdeal.τ).loc Cert.StreamRefIdeal.main_arg0) = m' ((c.tc : Thread Cert.StreamRefIdeal.nD Cert.StreamRefIdeal.τ).loc Cert.StreamRefIdeal.main_arg0)
          ∧ r.2.mem ((c.tc : Thread Cert.StreamRefIdeal.nD Cert.StreamRefIdeal.τ).loc Cert.StreamRefIdeal.main_arg1) = m' ((c.tc : Thread Cert.StreamRefIdeal.nD Cert.StreamRefIdeal.τ).loc Cert.StreamRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v6) = v0 c
          ∧ r.2.mem ((c.tc : Thread Cert.MlpRefIdeal.nD Cert.MlpRefIdeal.τ).loc Cert.MlpRefIdeal.main_v9) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)) →
    ∃ (v0 : (c : Dev Cert.JoinIdeal.nD) → Buf (Elt Ideal) ((c.tc : Thread Cert.JoinIdeal.nD Cert.JoinIdeal.τ).loc Cert.JoinIdeal.main_v2_0)) (v1 : (c : Dev Cert.JoinIdeal.nD) → Buf (Elt Ideal) ((c.tc : Thread Cert.JoinIdeal.nD Cert.JoinIdeal.τ).loc Cert.JoinIdeal.main_v2_1)) (v2 : (c : Dev Cert.JoinIdeal.nD) → Buf (Elt Ideal) ((c.tc : Thread Cert.JoinIdeal.nD Cert.JoinIdeal.τ).loc Cert.JoinIdeal.main_v2_2)) (v3 : (c : Dev Cert.JoinIdeal.nD) → Buf (Elt Ideal) ((c.tc : Thread Cert.JoinIdeal.nD Cert.JoinIdeal.τ).loc Cert.JoinIdeal.main_v2_3)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v2_0) = v0 c
          ∧ r.2.mem ((c.tc : Thread Cert.JoinIdeal.nD Cert.JoinIdeal.τ).loc Cert.JoinIdeal.main_v2_1) = v1 c
          ∧ r.2.mem ((c.tc : Thread Cert.JoinIdeal.nD Cert.JoinIdeal.τ).loc Cert.JoinIdeal.main_v2_2) = v2 c
          ∧ r.2.mem ((c.tc : Thread Cert.JoinIdeal.nD Cert.JoinIdeal.τ).loc Cert.JoinIdeal.main_v2_3) = v3 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v29) = v0 c
          ∧ r.2.mem ((c.tc : Thread Cert.JoinRefIdeal.nD Cert.JoinRefIdeal.τ).loc Cert.JoinRefIdeal.main_v48) = v1 c
          ∧ r.2.mem ((c.tc : Thread Cert.JoinRefIdeal.nD Cert.JoinRefIdeal.τ).loc Cert.JoinRefIdeal.main_v47) = v2 c
          ∧ r.2.mem ((c.tc : Thread Cert.JoinRefIdeal.nD Cert.JoinRefIdeal.τ).loc Cert.JoinRefIdeal.main_v49) = v3 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)) →
    ∃ (v0 : (c : Dev Cert.EntryIdeal.nD) → Buf (Elt Ideal) ((c.tc : Thread Cert.EntryIdeal.nD Cert.EntryIdeal.τ).loc Cert.EntryIdeal.main_v2_0)) (v1 : (c : Dev Cert.EntryIdeal.nD) → Buf (Elt Ideal) ((c.tc : Thread Cert.EntryIdeal.nD Cert.EntryIdeal.τ).loc Cert.EntryIdeal.main_v2_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v2_0) = v0 c
          ∧ r.2.mem ((c.tc : Thread Cert.EntryIdeal.nD Cert.EntryIdeal.τ).loc Cert.EntryIdeal.main_v2_1) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v23) = v0 c
          ∧ r.2.mem ((c.tc : Thread Cert.EntryRefIdeal.nD Cert.EntryRefIdeal.τ).loc Cert.EntryRefIdeal.main_v24) = v1 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v39) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v20_0)) (v1 : (c : Dev Cert.MidIdeal.nD) → Buf (Elt Ideal) ((c.tc : Thread Cert.MidIdeal.nD Cert.MidIdeal.τ).loc Cert.MidIdeal.main_v20_1)) (v2 : (c : Dev Cert.MidIdeal.nD) → Buf (Elt Ideal) ((c.tc : Thread Cert.MidIdeal.nD Cert.MidIdeal.τ).loc Cert.MidIdeal.main_v20_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v20_0) = v0 c
          ∧ r.2.mem ((c.tc : Thread Cert.MidIdeal.nD Cert.MidIdeal.τ).loc Cert.MidIdeal.main_v20_1) = v1 c
          ∧ r.2.mem ((c.tc : Thread Cert.MidIdeal.nD Cert.MidIdeal.τ).loc Cert.MidIdeal.main_v20_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v78) = v0 c
          ∧ r.2.mem ((c.tc : Thread Cert.MidRefIdeal.nD Cert.MidRefIdeal.τ).loc Cert.MidRefIdeal.main_v79) = v1 c
          ∧ r.2.mem ((c.tc : Thread Cert.MidRefIdeal.nD Cert.MidRefIdeal.τ).loc Cert.MidRefIdeal.main_v83) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Leave_LeaveIdeal : Prop :=
  True

def algebraic_LeaveIdeal_LeaveRefIdeal_pre_finite_leave [hLeaveIdeal : Cert.LeaveIdeal.Facts] [hLeaveRefIdeal : Cert.LeaveRefIdeal.Facts] [hPre_finite_leave : Cert.Pre_finite_leave.Facts] : Prop :=
  ∀ (m : (ℓ : Loc Cert.LeaveIdeal.nD Cert.LeaveIdeal.τ Cert.LeaveIdeal.sig) → Buf (Elt Ideal) ℓ) (g : Dev Cert.LeaveIdeal.nD → PrngReg)
    (m' : (ℓ : Loc Cert.LeaveRefIdeal.nD Cert.LeaveRefIdeal.τ Cert.LeaveRefIdeal.sig) → Buf (Elt Ideal) ℓ) (g' : Dev Cert.LeaveRefIdeal.nD → PrngReg), Pre_LeaveIdeal_finite_leave m →
    (∀ c : Dev Cert.LeaveIdeal.nD,
      m' ((c.tc : Thread Cert.LeaveRefIdeal.nD Cert.LeaveRefIdeal.τ).loc Cert.LeaveRefIdeal.main_arg0) = m ((c.tc : Thread Cert.LeaveIdeal.nD Cert.LeaveIdeal.τ).loc Cert.LeaveIdeal.main_arg0)
      ∧ m' ((c.tc : Thread Cert.LeaveRefIdeal.nD Cert.LeaveRefIdeal.τ).loc Cert.LeaveRefIdeal.main_arg1) = m ((c.tc : Thread Cert.LeaveIdeal.nD Cert.LeaveIdeal.τ).loc Cert.LeaveIdeal.main_arg1)
      ∧ m' ((c.tc : Thread Cert.LeaveRefIdeal.nD Cert.LeaveRefIdeal.τ).loc Cert.LeaveRefIdeal.main_arg2) = m ((c.tc : Thread Cert.LeaveIdeal.nD Cert.LeaveIdeal.τ).loc Cert.LeaveIdeal.main_arg2)
      ∧ m' ((c.tc : Thread Cert.LeaveRefIdeal.nD Cert.LeaveRefIdeal.τ).loc Cert.LeaveRefIdeal.main_arg3) = m ((c.tc : Thread Cert.LeaveIdeal.nD Cert.LeaveIdeal.τ).loc Cert.LeaveIdeal.main_arg3)) →
    ∃ (v0 : (c : Dev Cert.LeaveIdeal.nD) → Buf (Elt Ideal) ((c.tc : Thread Cert.LeaveIdeal.nD Cert.LeaveIdeal.τ).loc Cert.LeaveIdeal.main_v1_0)) (v1 : (c : Dev Cert.LeaveIdeal.nD) → Buf (Elt Ideal) ((c.tc : Thread Cert.LeaveIdeal.nD Cert.LeaveIdeal.τ).loc Cert.LeaveIdeal.main_v1_1)),
      θ_run (Cert.LeaveIdeal.defs (F := Ideal)) (onTc (τ := Cert.LeaveIdeal.τ) (Cert.LeaveIdeal.main (F := Ideal))) ⟨m, fun _ => 0, g⟩ (fun r => ∀ c : Dev Cert.LeaveIdeal.nD,
          r.2.mem ((c.tc : Thread Cert.LeaveIdeal.nD Cert.LeaveIdeal.τ).loc Cert.LeaveIdeal.main_v1_0) = v0 c
          ∧ r.2.mem ((c.tc : Thread Cert.LeaveIdeal.nD Cert.LeaveIdeal.τ).loc Cert.LeaveIdeal.main_v1_1) = v1 c
          ∧ r.2.mem ((c.tc : Thread Cert.LeaveIdeal.nD Cert.LeaveIdeal.τ).loc Cert.LeaveIdeal.main_arg0) = m ((c.tc : Thread Cert.LeaveIdeal.nD Cert.LeaveIdeal.τ).loc Cert.LeaveIdeal.main_arg0)
          ∧ r.2.mem ((c.tc : Thread Cert.LeaveIdeal.nD Cert.LeaveIdeal.τ).loc Cert.LeaveIdeal.main_arg1) = m ((c.tc : Thread Cert.LeaveIdeal.nD Cert.LeaveIdeal.τ).loc Cert.LeaveIdeal.main_arg1)
          ∧ r.2.mem ((c.tc : Thread Cert.LeaveIdeal.nD Cert.LeaveIdeal.τ).loc Cert.LeaveIdeal.main_arg2) = m ((c.tc : Thread Cert.LeaveIdeal.nD Cert.LeaveIdeal.τ).loc Cert.LeaveIdeal.main_arg2)
          ∧ r.2.mem ((c.tc : Thread Cert.LeaveIdeal.nD Cert.LeaveIdeal.τ).loc Cert.LeaveIdeal.main_arg3) = m ((c.tc : Thread Cert.LeaveIdeal.nD Cert.LeaveIdeal.τ).loc Cert.LeaveIdeal.main_arg3))
      ∧ θ_run (Cert.LeaveRefIdeal.defs (F := Ideal)) (onTc (τ := Cert.LeaveRefIdeal.τ) (Cert.LeaveRefIdeal.main (F := Ideal))) ⟨m', fun _ => 0, g'⟩ (fun r => ∀ c : Dev Cert.LeaveRefIdeal.nD,
          r.2.mem ((c.tc : Thread Cert.LeaveRefIdeal.nD Cert.LeaveRefIdeal.τ).loc Cert.LeaveRefIdeal.main_v68) = v0 c
          ∧ r.2.mem ((c.tc : Thread Cert.LeaveRefIdeal.nD Cert.LeaveRefIdeal.τ).loc Cert.LeaveRefIdeal.main_v72) = v1 c
          ∧ r.2.mem ((c.tc : Thread Cert.LeaveRefIdeal.nD Cert.LeaveRefIdeal.τ).loc Cert.LeaveRefIdeal.main_arg0) = m' ((c.tc : Thread Cert.LeaveRefIdeal.nD Cert.LeaveRefIdeal.τ).loc Cert.LeaveRefIdeal.main_arg0)
          ∧ r.2.mem ((c.tc : Thread Cert.LeaveRefIdeal.nD Cert.LeaveRefIdeal.τ).loc Cert.LeaveRefIdeal.main_arg1) = m' ((c.tc : Thread Cert.LeaveRefIdeal.nD Cert.LeaveRefIdeal.τ).loc Cert.LeaveRefIdeal.main_arg1)
          ∧ r.2.mem ((c.tc : Thread Cert.LeaveRefIdeal.nD Cert.LeaveRefIdeal.τ).loc Cert.LeaveRefIdeal.main_arg2) = m' ((c.tc : Thread Cert.LeaveRefIdeal.nD Cert.LeaveRefIdeal.τ).loc Cert.LeaveRefIdeal.main_arg2)
          ∧ r.2.mem ((c.tc : Thread Cert.LeaveRefIdeal.nD Cert.LeaveRefIdeal.τ).loc Cert.LeaveRefIdeal.main_arg3) = m' ((c.tc : Thread Cert.LeaveRefIdeal.nD Cert.LeaveRefIdeal.τ).loc Cert.LeaveRefIdeal.main_arg3))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v3_0)) (v1 : (c : Dev Cert.TailIdeal.nD) → Buf (Elt Ideal) ((c.tc : Thread Cert.TailIdeal.nD Cert.TailIdeal.τ).loc Cert.TailIdeal.main_v3_1)) (v2 : (c : Dev Cert.TailIdeal.nD) → Buf (Elt Ideal) ((c.tc : Thread Cert.TailIdeal.nD Cert.TailIdeal.τ).loc Cert.TailIdeal.main_v3_2)) (v3 : (c : Dev Cert.TailIdeal.nD) → Buf (Elt Ideal) ((c.tc : Thread Cert.TailIdeal.nD Cert.TailIdeal.τ).loc Cert.TailIdeal.main_v3_3)) (v4 : (c : Dev Cert.TailIdeal.nD) → Buf (Elt Ideal) ((c.tc : Thread Cert.TailIdeal.nD Cert.TailIdeal.τ).loc Cert.TailIdeal.main_v3_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v3_0) = v0 c
          ∧ r.2.mem ((c.tc : Thread Cert.TailIdeal.nD Cert.TailIdeal.τ).loc Cert.TailIdeal.main_v3_1) = v1 c
          ∧ r.2.mem ((c.tc : Thread Cert.TailIdeal.nD Cert.TailIdeal.τ).loc Cert.TailIdeal.main_v3_2) = v2 c
          ∧ r.2.mem ((c.tc : Thread Cert.TailIdeal.nD Cert.TailIdeal.τ).loc Cert.TailIdeal.main_v3_3) = v3 c
          ∧ r.2.mem ((c.tc : Thread Cert.TailIdeal.nD Cert.TailIdeal.τ).loc Cert.TailIdeal.main_v3_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v101) = v0 c
          ∧ r.2.mem ((c.tc : Thread Cert.TailRefIdeal.nD Cert.TailRefIdeal.τ).loc Cert.TailRefIdeal.main_v108) = v1 c
          ∧ r.2.mem ((c.tc : Thread Cert.TailRefIdeal.nD Cert.TailRefIdeal.τ).loc Cert.TailRefIdeal.main_v109) = v2 c
          ∧ r.2.mem ((c.tc : Thread Cert.TailRefIdeal.nD Cert.TailRefIdeal.τ).loc Cert.TailRefIdeal.main_v110) = v3 c
          ∧ r.2.mem ((c.tc : Thread Cert.TailRefIdeal.nD Cert.TailRefIdeal.τ).loc Cert.TailRefIdeal.main_v117) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def preserves_Heads_HeadsIdeal : Prop :=
  True

def algebraic_HeadsIdeal_HeadsRefIdeal_pre_finite_heads [hHeadsIdeal : Cert.HeadsIdeal.Facts] [hHeadsRefIdeal : Cert.HeadsRefIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal_finite_heads m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)) →
    ∃ (v0 : (c : Dev Cert.HeadsIdeal.nD) → Buf (Elt Ideal) ((c.tc : Thread Cert.HeadsIdeal.nD Cert.HeadsIdeal.τ).loc Cert.HeadsIdeal.main_v5_0)) (v1 : (c : Dev Cert.HeadsIdeal.nD) → Buf (Elt Ideal) ((c.tc : Thread Cert.HeadsIdeal.nD Cert.HeadsIdeal.τ).loc Cert.HeadsIdeal.main_v5_1)) (v2 : (c : Dev Cert.HeadsIdeal.nD) → Buf (Elt Ideal) ((c.tc : Thread Cert.HeadsIdeal.nD Cert.HeadsIdeal.τ).loc Cert.HeadsIdeal.main_v5_2)) (v3 : (c : Dev Cert.HeadsIdeal.nD) → Buf (Elt Ideal) ((c.tc : Thread Cert.HeadsIdeal.nD Cert.HeadsIdeal.τ).loc Cert.HeadsIdeal.main_v5_3)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v5_0) = v0 c
          ∧ r.2.mem ((c.tc : Thread Cert.HeadsIdeal.nD Cert.HeadsIdeal.τ).loc Cert.HeadsIdeal.main_v5_1) = v1 c
          ∧ r.2.mem ((c.tc : Thread Cert.HeadsIdeal.nD Cert.HeadsIdeal.τ).loc Cert.HeadsIdeal.main_v5_2) = v2 c
          ∧ r.2.mem ((c.tc : Thread Cert.HeadsIdeal.nD Cert.HeadsIdeal.τ).loc Cert.HeadsIdeal.main_v5_3) = v3 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v99) = v0 c
          ∧ r.2.mem ((c.tc : Thread Cert.HeadsRefIdeal.nD Cert.HeadsRefIdeal.τ).loc Cert.HeadsRefIdeal.main_v100) = v1 c
          ∧ r.2.mem ((c.tc : Thread Cert.HeadsRefIdeal.nD Cert.HeadsRefIdeal.τ).loc Cert.HeadsRefIdeal.main_v74) = v2 c
          ∧ r.2.mem ((c.tc : Thread Cert.HeadsRefIdeal.nD Cert.HeadsRefIdeal.τ).loc Cert.HeadsRefIdeal.main_v104) = v3 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6))

def preserves_FoxD_FoxDIdeal : Prop :=
  IdealRules.named_const.Statement Cert.FoxDIdeal.κ "mask" .f32 0xF149F2CA#32 ⊥

def algebraic_FoxDIdeal_FoxDRefIdeal_pre_finite_fox [hFoxDIdeal : Cert.FoxDIdeal.Facts] [hFoxDRefIdeal : Cert.FoxDRefIdeal.Facts] [hPre_finite_fox : Cert.Pre_finite_fox.Facts] : Prop :=
  ∀ (m : (ℓ : Loc Cert.FoxDIdeal.nD Cert.FoxDIdeal.τ Cert.FoxDIdeal.sig) → Buf (Elt Ideal) ℓ) (g : Dev Cert.FoxDIdeal.nD → PrngReg)
    (m' : (ℓ : Loc Cert.FoxDRefIdeal.nD Cert.FoxDRefIdeal.τ Cert.FoxDRefIdeal.sig) → Buf (Elt Ideal) ℓ) (g' : Dev Cert.FoxDRefIdeal.nD → PrngReg), Pre_FoxDIdeal_finite_fox m →
    (∀ c : Dev Cert.FoxDIdeal.nD,
      m' ((c.tc : Thread Cert.FoxDRefIdeal.nD Cert.FoxDRefIdeal.τ).loc Cert.FoxDRefIdeal.main_arg0) = m ((c.tc : Thread Cert.FoxDIdeal.nD Cert.FoxDIdeal.τ).loc Cert.FoxDIdeal.main_arg0)
      ∧ m' ((c.tc : Thread Cert.FoxDRefIdeal.nD Cert.FoxDRefIdeal.τ).loc Cert.FoxDRefIdeal.main_arg1) = m ((c.tc : Thread Cert.FoxDIdeal.nD Cert.FoxDIdeal.τ).loc Cert.FoxDIdeal.main_arg1)) →
    ∃ (v0 : (c : Dev Cert.FoxDIdeal.nD) → Buf (Elt Ideal) ((c.tc : Thread Cert.FoxDIdeal.nD Cert.FoxDIdeal.τ).loc Cert.FoxDIdeal.main_v0_0)) (v1 : (c : Dev Cert.FoxDIdeal.nD) → Buf (Elt Ideal) ((c.tc : Thread Cert.FoxDIdeal.nD Cert.FoxDIdeal.τ).loc Cert.FoxDIdeal.main_v0_1)),
      θ_run (Cert.FoxDIdeal.defs (F := Ideal)) (onTc (τ := Cert.FoxDIdeal.τ) (Cert.FoxDIdeal.main (F := Ideal))) ⟨m, fun _ => 0, g⟩ (fun r => ∀ c : Dev Cert.FoxDIdeal.nD,
          r.2.mem ((c.tc : Thread Cert.FoxDIdeal.nD Cert.FoxDIdeal.τ).loc Cert.FoxDIdeal.main_v0_0) = v0 c
          ∧ r.2.mem ((c.tc : Thread Cert.FoxDIdeal.nD Cert.FoxDIdeal.τ).loc Cert.FoxDIdeal.main_v0_1) = v1 c
          ∧ r.2.mem ((c.tc : Thread Cert.FoxDIdeal.nD Cert.FoxDIdeal.τ).loc Cert.FoxDIdeal.main_arg0) = m ((c.tc : Thread Cert.FoxDIdeal.nD Cert.FoxDIdeal.τ).loc Cert.FoxDIdeal.main_arg0)
          ∧ r.2.mem ((c.tc : Thread Cert.FoxDIdeal.nD Cert.FoxDIdeal.τ).loc Cert.FoxDIdeal.main_arg1) = m ((c.tc : Thread Cert.FoxDIdeal.nD Cert.FoxDIdeal.τ).loc Cert.FoxDIdeal.main_arg1))
      ∧ θ_run (Cert.FoxDRefIdeal.defs (F := Ideal)) (onTc (τ := Cert.FoxDRefIdeal.τ) (Cert.FoxDRefIdeal.main (F := Ideal))) ⟨m', fun _ => 0, g'⟩ (fun r => ∀ c : Dev Cert.FoxDRefIdeal.nD,
          r.2.mem ((c.tc : Thread Cert.FoxDRefIdeal.nD Cert.FoxDRefIdeal.τ).loc Cert.FoxDRefIdeal.main_v37) = v0 c
          ∧ r.2.mem ((c.tc : Thread Cert.FoxDRefIdeal.nD Cert.FoxDRefIdeal.τ).loc Cert.FoxDRefIdeal.main_v62) = v1 c
          ∧ r.2.mem ((c.tc : Thread Cert.FoxDRefIdeal.nD Cert.FoxDRefIdeal.τ).loc Cert.FoxDRefIdeal.main_arg0) = m' ((c.tc : Thread Cert.FoxDRefIdeal.nD Cert.FoxDRefIdeal.τ).loc Cert.FoxDRefIdeal.main_arg0)
          ∧ r.2.mem ((c.tc : Thread Cert.FoxDRefIdeal.nD Cert.FoxDRefIdeal.τ).loc Cert.FoxDRefIdeal.main_arg1) = m' ((c.tc : Thread Cert.FoxDRefIdeal.nD Cert.FoxDRefIdeal.τ).loc Cert.FoxDRefIdeal.main_arg1))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hSquare : Cert.Square.Facts) (hSquareIdeal : Cert.SquareIdeal.Facts) (hSquareRefIdeal : Cert.SquareRefIdeal.Facts) (hPle : Cert.Ple.Facts) (hPleIdeal : Cert.PleIdeal.Facts) (hPleRefIdeal : Cert.PleRefIdeal.Facts) (hIn : Cert.In.Facts) (hInIdeal : Cert.InIdeal.Facts) (hInRefIdeal : Cert.InRefIdeal.Facts) (hStream : Cert.Stream.Facts) (hStreamIdeal : Cert.StreamIdeal.Facts) (hStreamRefIdeal : Cert.StreamRefIdeal.Facts) (hProj : Cert.Proj.Facts) (hProjIdeal : Cert.ProjIdeal.Facts) (hProjRefIdeal : Cert.ProjRefIdeal.Facts) (hMlp : Cert.Mlp.Facts) (hMlpIdeal : Cert.MlpIdeal.Facts) (hMlpRefIdeal : Cert.MlpRefIdeal.Facts) (hGate : Cert.Gate.Facts) (hGateIdeal : Cert.GateIdeal.Facts) (hGateRefIdeal : Cert.GateRefIdeal.Facts) (hJoin : Cert.Join.Facts) (hJoinIdeal : Cert.JoinIdeal.Facts) (hJoinRefIdeal : Cert.JoinRefIdeal.Facts) (hEntry : Cert.Entry.Facts) (hEntryIdeal : Cert.EntryIdeal.Facts) (hEntryRefIdeal : Cert.EntryRefIdeal.Facts) (hMix : Cert.Mix.Facts) (hMixIdeal : Cert.MixIdeal.Facts) (hMixRefIdeal : Cert.MixRefIdeal.Facts) (hMid : Cert.Mid.Facts) (hMidIdeal : Cert.MidIdeal.Facts) (hMidRefIdeal : Cert.MidRefIdeal.Facts) (hLeave : Cert.Leave.Facts) (hLeaveIdeal : Cert.LeaveIdeal.Facts) (hLeaveRefIdeal : Cert.LeaveRefIdeal.Facts) (hTail : Cert.Tail.Facts) (hTailIdeal : Cert.TailIdeal.Facts) (hTailRefIdeal : Cert.TailRefIdeal.Facts) (hHeads : Cert.Heads.Facts) (hHeadsIdeal : Cert.HeadsIdeal.Facts) (hHeadsRefIdeal : Cert.HeadsRefIdeal.Facts) (hFoxD : Cert.FoxD.Facts) (hFoxDIdeal : Cert.FoxDIdeal.Facts) (hFoxDRefIdeal : Cert.FoxDRefIdeal.Facts) (hPre_finite : Cert.Pre_finite.Facts) (hPre_finite_mid : Cert.Pre_finite_mid.Facts) (hPre_finite_leave : Cert.Pre_finite_leave.Facts) (hPre_finite_tail : Cert.Pre_finite_tail.Facts) (hPre_finite_heads : Cert.Pre_finite_heads.Facts) (hPre_finite_fox : Cert.Pre_finite_fox.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActRefIdeal (hActRefIdeal := hActRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Square (hSquare := hSquare)
    ∧ quiescent_SquareIdeal (hSquareIdeal := hSquareIdeal)
    ∧ quiescent_SquareRefIdeal (hSquareRefIdeal := hSquareRefIdeal)
    ∧ quiescent_Ple (hPle := hPle)
    ∧ quiescent_PleIdeal (hPleIdeal := hPleIdeal)
    ∧ quiescent_PleRefIdeal (hPleRefIdeal := hPleRefIdeal)
    ∧ quiescent_In (hIn := hIn)
    ∧ quiescent_InIdeal (hInIdeal := hInIdeal)
    ∧ quiescent_InRefIdeal (hInRefIdeal := hInRefIdeal)
    ∧ quiescent_Stream (hStream := hStream)
    ∧ quiescent_StreamIdeal (hStreamIdeal := hStreamIdeal)
    ∧ quiescent_StreamRefIdeal (hStreamRefIdeal := hStreamRefIdeal)
    ∧ quiescent_Proj (hProj := hProj)
    ∧ quiescent_ProjIdeal (hProjIdeal := hProjIdeal)
    ∧ quiescent_ProjRefIdeal (hProjRefIdeal := hProjRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Gate (hGate := hGate)
    ∧ quiescent_GateIdeal (hGateIdeal := hGateIdeal)
    ∧ quiescent_GateRefIdeal (hGateRefIdeal := hGateRefIdeal)
    ∧ quiescent_Join (hJoin := hJoin)
    ∧ quiescent_JoinIdeal (hJoinIdeal := hJoinIdeal)
    ∧ quiescent_JoinRefIdeal (hJoinRefIdeal := hJoinRefIdeal)
    ∧ quiescent_Entry (hEntry := hEntry)
    ∧ quiescent_EntryIdeal (hEntryIdeal := hEntryIdeal)
    ∧ quiescent_EntryRefIdeal (hEntryRefIdeal := hEntryRefIdeal)
    ∧ quiescent_Mix (hMix := hMix)
    ∧ quiescent_MixIdeal (hMixIdeal := hMixIdeal)
    ∧ quiescent_MixRefIdeal (hMixRefIdeal := hMixRefIdeal)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_Leave (hLeave := hLeave)
    ∧ quiescent_LeaveIdeal (hLeaveIdeal := hLeaveIdeal)
    ∧ quiescent_LeaveIdeal_pre_finite_leave (hLeaveIdeal := hLeaveIdeal) (hPre_finite_leave := hPre_finite_leave)
    ∧ quiescent_LeaveRefIdeal (hLeaveRefIdeal := hLeaveRefIdeal)
    ∧ quiescent_LeaveRefIdeal_pre_finite_leave (hLeaveRefIdeal := hLeaveRefIdeal) (hPre_finite_leave := hPre_finite_leave)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_Heads (hHeads := hHeads)
    ∧ quiescent_HeadsIdeal (hHeadsIdeal := hHeadsIdeal)
    ∧ quiescent_HeadsIdeal_pre_finite_heads (hHeadsIdeal := hHeadsIdeal) (hPre_finite_heads := hPre_finite_heads)
    ∧ quiescent_HeadsRefIdeal (hHeadsRefIdeal := hHeadsRefIdeal)
    ∧ quiescent_HeadsRefIdeal_pre_finite_heads (hHeadsRefIdeal := hHeadsRefIdeal) (hPre_finite_heads := hPre_finite_heads)
    ∧ quiescent_FoxD (hFoxD := hFoxD)
    ∧ quiescent_FoxDIdeal (hFoxDIdeal := hFoxDIdeal)
    ∧ quiescent_FoxDIdeal_pre_finite_fox (hFoxDIdeal := hFoxDIdeal) (hPre_finite_fox := hPre_finite_fox)
    ∧ quiescent_FoxDRefIdeal (hFoxDRefIdeal := hFoxDRefIdeal)
    ∧ quiescent_FoxDRefIdeal_pre_finite_fox (hFoxDRefIdeal := hFoxDRefIdeal) (hPre_finite_fox := hPre_finite_fox)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal (hActIdeal := hActIdeal) (hActRefIdeal := hActRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Square_SquareIdeal
    ∧ algebraic_SquareIdeal_SquareRefIdeal (hSquareIdeal := hSquareIdeal) (hSquareRefIdeal := hSquareRefIdeal)
    ∧ preserves_Ple_PleIdeal
    ∧ algebraic_PleIdeal_PleRefIdeal (hPleIdeal := hPleIdeal) (hPleRefIdeal := hPleRefIdeal)
    ∧ preserves_In_InIdeal
    ∧ algebraic_InIdeal_InRefIdeal (hInIdeal := hInIdeal) (hInRefIdeal := hInRefIdeal)
    ∧ preserves_Stream_StreamIdeal
    ∧ algebraic_StreamIdeal_StreamRefIdeal (hStreamIdeal := hStreamIdeal) (hStreamRefIdeal := hStreamRefIdeal)
    ∧ preserves_Proj_ProjIdeal
    ∧ algebraic_ProjIdeal_ProjRefIdeal (hProjIdeal := hProjIdeal) (hProjRefIdeal := hProjRefIdeal)
    ∧ preserves_Mlp_MlpIdeal
    ∧ algebraic_MlpIdeal_MlpRefIdeal (hMlpIdeal := hMlpIdeal) (hMlpRefIdeal := hMlpRefIdeal)
    ∧ preserves_Gate_GateIdeal
    ∧ algebraic_GateIdeal_GateRefIdeal (hGateIdeal := hGateIdeal) (hGateRefIdeal := hGateRefIdeal)
    ∧ preserves_Join_JoinIdeal
    ∧ algebraic_JoinIdeal_JoinRefIdeal (hJoinIdeal := hJoinIdeal) (hJoinRefIdeal := hJoinRefIdeal)
    ∧ preserves_Entry_EntryIdeal
    ∧ algebraic_EntryIdeal_EntryRefIdeal (hEntryIdeal := hEntryIdeal) (hEntryRefIdeal := hEntryRefIdeal)
    ∧ preserves_Mix_MixIdeal
    ∧ algebraic_MixIdeal_MixRefIdeal (hMixIdeal := hMixIdeal) (hMixRefIdeal := hMixRefIdeal)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_Leave_LeaveIdeal
    ∧ algebraic_LeaveIdeal_LeaveRefIdeal_pre_finite_leave (hLeaveIdeal := hLeaveIdeal) (hLeaveRefIdeal := hLeaveRefIdeal) (hPre_finite_leave := hPre_finite_leave)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_Heads_HeadsIdeal
    ∧ algebraic_HeadsIdeal_HeadsRefIdeal_pre_finite_heads (hHeadsIdeal := hHeadsIdeal) (hHeadsRefIdeal := hHeadsRefIdeal) (hPre_finite_heads := hPre_finite_heads)
    ∧ preserves_FoxD_FoxDIdeal
    ∧ algebraic_FoxDIdeal_FoxDRefIdeal_pre_finite_fox (hFoxDIdeal := hFoxDIdeal) (hFoxDRefIdeal := hFoxDRefIdeal) (hPre_finite_fox := hPre_finite_fox)
-- ==== Pre_finite.lean ====
abbrev S2048x3840 : Shape := ⟨2, ![2048, 3840]⟩
abbrev S128x2048 : Shape := ⟨2, ![128, 2048]⟩
abbrev S2048x512 : Shape := ⟨2, ![2048, 512]⟩
abbrev S_ : Shape := ⟨0, ![]⟩

class Facts : Prop where
  bcast_S_S2048x3840 : S_.BroadcastsInDim S2048x3840 (![] : Fin 0 → Fin S2048x3840.rank)
  bcast_S_S128x2048 : S_.BroadcastsInDim S128x2048 (![] : Fin 0 → Fin S128x2048.rank)
  bcast_S_S2048x512 : S_.BroadcastsInDim S2048x512 (![] : Fin 0 → Fin S2048x512.rank)

variable [Facts]

def fn {F : FTy → Type} [FloatOps F] (main_arg0 : FVec F S2048x3840 .f32) (main_arg1 : FVec F S128x2048 .f32) (main_arg2 : FVec F S2048x512 .f32) : IVec S2048x3840 1 × IVec S128x2048 1 × IVec S2048x512 1 :=
  let main_v0 : FVec F S2048x3840 .f32 := Host.absf main_arg0
  let main_cst : FVec F S_ .f32 := constant S_ .f32 0x7F800000#32
  let main_v1 : FVec F S2048x3840 .f32 := broadcastInDim S2048x3840 ![] bcast_S_S2048x3840 main_cst
  let main_v2 : IVec S2048x3840 1 := cmpf .olt main_v0 main_v1
  let main_v3 : FVec F S128x2048 .f32 := Host.absf main_arg1
  let main_cst_0 : FVec F S_ .f32 := constant S_ .f32 0x7F800000#32
  let main_v4 : FVec F S128x2048 .f32 := broadcastInDim S128x2048 ![] bcast_S_S128x2048 main_cst_0
  let main_v5 : IVec S128x2048 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  (main_v2, main_v5, main_v8)
-- ==== Pre_finite_fox.lean ====
abbrev S2048x3840 : Shape := ⟨2, ![2048, 3840]⟩
abbrev S128x2048 : Shape := ⟨2, ![128, 2048]⟩
abbrev S_ : Shape := ⟨0, ![]⟩

class Facts : Prop where
  bcast_S_S2048x3840 : S_.BroadcastsInDim S2048x3840 (![] : Fin 0 → Fin S2048x3840.rank)
  bcast_S_S128x2048 : S_.BroadcastsInDim S128x2048 (![] : Fin 0 → Fin S128x2048.rank)

variable [Facts]

def fn {F : FTy → Type} [FloatOps F] (main_arg0 : FVec F S2048x3840 .f32) (main_arg1 : FVec F S128x2048 .f32) : IVec S2048x3840 1 × IVec S128x2048 1 :=
  let main_v0 : FVec F S2048x3840 .f32 := Host.absf main_arg0
  let main_cst : FVec F S_ .f32 := constant S_ .f32 0x7F800000#32
  let main_v1 : FVec F S2048x3840 .f32 := broadcastInDim S2048x3840 ![] bcast_S_S2048x3840 main_cst
  let main_v2 : IVec S2048x3840 1 := cmpf .olt main_v0 main_v1
  let main_v3 : FVec F S128x2048 .f32 := Host.absf main_arg1
  let main_cst_0 : FVec F S_ .f32 := constant S_ .f32 0x7F800000#32
  let main_v4 : FVec F S128x2048 .f32 := broadcastInDim S128x2048 ![] bcast_S_S128x2048 main_cst_0
  let main_v5 : IVec S128x2048 1 := cmpf .olt main_v3 main_v4
  (main_v2, main_v5)
-- ==== Pre_finite_heads.lean ====
abbrev S2048x1024 : Shape := ⟨2, ![2048, 1024]⟩
abbrev S1024x1024 : Shape := ⟨2, ![1024, 1024]⟩
abbrev S2048x512 : Shape := ⟨2, ![2048, 512]⟩
abbrev S2048x3840 : Shape := ⟨2, ![2048, 3840]⟩
abbrev S128 : Shape := ⟨1, ![128]⟩
abbrev S64 : Shape := ⟨1, ![64]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S2048x512 : S_.BroadcastsInDim S2048x512 (![] : Fin 0 → Fin S2048x512.rank)
  bcast_S_S2048x3840 : S_.BroadcastsInDim S2048x3840 (![] : Fin 0 → Fin S2048x3840.rank)
  bcast_S_S128 : S_.BroadcastsInDim S128 (![] : Fin 0 → Fin S128.rank)
  bcast_S_S64 : S_.BroadcastsInDim S64 (![] : Fin 0 → Fin S64.rank)

variable [Facts]

def fn_part1 {F : FTy → Type} [FloatOps F] (main_arg6 : FVec F S64 .f32) (main_v2 : IVec S2048x1024 1) (main_v5 : IVec S1024x1024 1) (main_v8 : IVec S2048x512 1) (main_v11 : IVec S2048x3840 1) (main_v14 : IVec S2048x512 1) (main_v17 : IVec S128 1) : IVec S2048x1024 1 × IVec S1024x1024 1 × IVec S2048x512 1 × IVec S2048x3840 1 × IVec S2048x512 1 × IVec S128 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S2048x1024 .bf16) (main_arg1 : FVec F S1024x1024 .bf16) (main_arg2 : FVec F S2048x512 .f32) (main_arg3 : FVec F S2048x3840 .f32) (main_arg4 : FVec F S2048x512 .f32) (main_arg5 : FVec F S128 .f32) (main_arg6 : FVec F S64 .f32) : IVec S2048x1024 1 × IVec S1024x1024 1 × IVec S2048x512 1 × IVec S2048x3840 1 × IVec S2048x512 1 × IVec S128 1 × IVec S64 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x3840 .f32 := Host.absf main_arg3
  let main_cst_2 : FVec F S_ .f32 := constant S_ .f32 0x7F800000#32
  let main_v10 : FVec F S2048x3840 .f32 := broadcastInDim S2048x3840 ![] bcast_S_S2048x3840 main_cst_2
  let main_v11 : IVec S2048x3840 1 := cmpf .olt main_v9 main_v10
  let main_v12 : FVec F S2048x512 .f32 := Host.absf main_arg4
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_v2 main_v5 main_v8 main_v11 main_v14 main_v17
-- ==== Pre_finite_leave.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S1024 .f32) (main_arg2 : FVec F S2048x1024 .f32) (main_arg3 : FVec F S2048x1024 .f32) : IVec S2048x1024 1 × IVec S1024 1 × IVec S2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite_mid.lean ====
abbrev S2048x1024 : Shape := ⟨2, ![2048, 1024]⟩
abbrev S1024 : Shape := ⟨1, ![1024]⟩
abbrev S2048x4096 : Shape := ⟨2, ![2048, 4096]⟩
abbrev S4x1024x1024 : Shape := ⟨3, ![4, 1024, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S2048x4096 : S_.BroadcastsInDim S2048x4096 (![] : Fin 0 → Fin S2048x4096.rank)
  bcast_S_S4x1024x1024 : S_.BroadcastsInDim S4x1024x1024 (![] : Fin 0 → Fin S4x1024x1024.rank)
  bcast_S_S1024x1024 : S_.BroadcastsInDim S1024x1024 (![] : Fin 0 → Fin S1024x1024.rank)

variable [Facts]

def fn_part1 {F : FTy → Type} [FloatOps F] (main_arg6 : FVec F S1024x1024 .bf16) (main_v2 : IVec S2048x1024 1) (main_v5 : IVec S1024 1) (main_v8 : IVec S2048x1024 1) (main_v11 : IVec S2048x4096 1) (main_v14 : IVec S4x1024x1024 1) (main_v17 : IVec S2048x1024 1) : IVec S2048x1024 1 × IVec S1024 1 × IVec S2048x1024 1 × IVec S2048x4096 1 × IVec S4x1024x1024 1 × IVec S2048x1024 1 × IVec S1024x1024 1 :=
  let main_v18 : FVec F S1024x1024 .bf16 := Host.absf main_arg6
  let main_cst_5 : FVec F S_ .bf16 := constant S_ .bf16 0x7F80#16
  let main_v19 : FVec F S1024x1024 .bf16 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S2048x1024 .f32) (main_arg1 : FVec F S1024 .f32) (main_arg2 : FVec F S2048x1024 .f32) (main_arg3 : FVec F S2048x4096 .bf16) (main_arg4 : FVec F S4x1024x1024 .bf16) (main_arg5 : FVec F S2048x1024 .bf16) (main_arg6 : FVec F S1024x1024 .bf16) : IVec S2048x1024 1 × IVec S1024 1 × IVec S2048x1024 1 × IVec S2048x4096 1 × IVec S4x1024x1024 1 × IVec S2048x1024 1 × IVec S1024x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x4096 .bf16 := Host.absf main_arg3
  let main_cst_2 : FVec F S_ .bf16 := constant S_ .bf16 0x7F80#16
  let main_v10 : FVec F S2048x4096 .bf16 := broadcastInDim S2048x4096 ![] bcast_S_S2048x4096 main_cst_2
  let main_v11 : IVec S2048x4096 1 := cmpf .olt main_v9 main_v10
  let main_v12 : FVec F S4x1024x1024 .bf16 := Host.absf main_arg4
  let main_cst_3 : FVec F S_ .bf16 := constant S_ .bf16 0x7F80#16
  let main_v13 : FVec F S4x1024x1024 .bf16 := broadcastInDim S4x1024x1024 ![] bcast_S_S4x1024x1024 main_cst_3
  let main_v14 : IVec S4x1024x1024 1 := cmpf .olt main_v12 main_v13
  let main_v15 : FVec F S2048x1024 .bf16 := Host.absf main_arg5
  let main_cst_4 : FVec F S_ .bf16 := constant S_ .bf16 0x7F80#16
  let main_v16 : FVec F S2048x1024 .bf16 := broadcastInDim S2048x1024 ![] bcast_S_S2048x1024 main_cst_4
  let main_v17 : IVec S2048x1024 1 := cmpf .olt main_v15 main_v16
  fn_part1 (F := F) main_arg6 main_v2 main_v5 main_v8 main_v11 main_v14 main_v17
-- ==== Pre_finite_tail.lean ====
abbrev S2048x1024 : Shape := ⟨2, ![2048, 1024]⟩
abbrev S2048x4096 : Shape := ⟨2, ![2048, 4096]⟩
abbrev S4096x1024 : Shape := ⟨2, ![4096, 1024]⟩
abbrev S2048x256 : Shape := ⟨2, ![2048, 256]⟩
abbrev S4x256x256 : Shape := ⟨3, ![4, 256, 256]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S2048x4096 : S_.BroadcastsInDim S2048x4096 (![] : Fin 0 → Fin S2048x4096.rank)
  bcast_S_S4096x1024 : S_.BroadcastsInDim S4096x1024 (![] : Fin 0 → Fin S4096x1024.rank)
  bcast_S_S2048x256 : S_.BroadcastsInDim S2048x256 (![] : Fin 0 → Fin S2048x256.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_arg8 : FVec F S1024 .f32) (main_arg9 : FVec F S2048x1024 .f32) (main_v2 : IVec S2048x1024 1) (main_v5 : IVec S2048x4096 1) (main_v8 : IVec S4096x1024 1) (main_v11 : IVec S2048x256 1) (main_v14 : IVec S4x256x256 1) (main_v17 : IVec S2048x1024 1) : IVec S2048x1024 1 × IVec S2048x4096 1 × IVec S4096x1024 1 × IVec S2048x256 1 × IVec S4x256x256 1 × IVec S2048x1024 1 × IVec S1024 1 × IVec S1024 1 × IVec S1024 1 × IVec S2048x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S2048x1024 .f32 := Host.absf main_arg9
  let main_cst_8 : FVec F S_ .f32 := constant S_ .f32 0x7F800000#32
  let main_v28 : FVec F S2048x1024 .f32 := broadcastInDim S2048x1024 ![] bcast_S_S2048x1024 main_cst_8
  let main_v29 : IVec S2048x1024 1 := cmpf .olt main_v27 main_v28
  (main_v2, main_v5, main_v8, main_v11, main_v14, main_v17, main_v20, main_v23, main_v26, main_v29)

def fn {F : FTy → Type} [FloatOps F] (main_arg0 : FVec F S2048x1024 .f32) (main_arg1 : FVec F S2048x4096 .bf16) (main_arg2 : FVec F S4096x1024 .bf16) (main_arg3 : FVec F S2048x256 .bf16) (main_arg4 : FVec F S4x256x256 .bf16) (main_arg5 : FVec F S2048x1024 .f32) (main_arg6 : FVec F S1024 .f32) (main_arg7 : FVec F S1024 .f32) (main_arg8 : FVec F S1024 .f32) (main_arg9 : FVec F S2048x1024 .f32) : IVec S2048x1024 1 × IVec S2048x4096 1 × IVec S4096x1024 1 × IVec S2048x256 1 × IVec S4x256x256 1 × IVec S2048x1024 1 × IVec S1024 1 × IVec S1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x4096 .bf16 := Host.absf main_arg1
  let main_cst_0 : FVec F S_ .bf16 := constant S_ .bf16 0x7F80#16
  let main_v4 : FVec F S2048x4096 .bf16 := broadcastInDim S2048x4096 ![] bcast_S_S2048x4096 main_cst_0
  let main_v5 : IVec S2048x4096 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  let main_v9 : FVec F S2048x256 .bf16 := Host.absf main_arg3
  let main_cst_2 : FVec F S_ .bf16 := constant S_ .bf16 0x7F80#16
  let main_v10 : FVec F S2048x256 .bf16 := broadcastInDim S2048x256 ![] bcast_S_S2048x256 main_cst_2
  let main_v11 : IVec S2048x256 1 := cmpf .olt main_v9 main_v10
  let main_v12 : FVec F S4x256x256 .bf16 := Host.absf main_arg4
  let main_cst_3 : FVec F S_ .bf16 := constant S_ .bf16 0x7F80#16
  let main_v13 : FVec F S4x256x256 .bf16 := broadcastInDim S4x256x256 ![] bcast_S_S4x256x256 main_cst_3
  let main_v14 : IVec S4x256x256 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg6 main_arg7 main_arg8 main_arg9 main_v2 main_v5 main_v8 main_v11 main_v14 main_v17
-- ==== Kernel.lean ====
abbrev S2048x3840 : Shape := ⟨2, ![2048, 3840]⟩
abbrev S128x2048 : Shape := ⟨2, ![128, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S2048x2048 : Shape := ⟨2, ![2048, 2048]⟩
abbrev S1x2048x2048 : Shape := ⟨3, ![1, 2048, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x128 : Shape := ⟨2, ![2048, 128]⟩
abbrev S512x512 : Shape := ⟨2, ![512, 512]⟩
abbrev S512x128 : Shape := ⟨2, ![512, 128]⟩
abbrev S256x512 : Shape := ⟨2, ![256, 512]⟩
abbrev S256x128 : Shape := ⟨2, ![256, 128]⟩
abbrev S256x2048 : Shape := ⟨2, ![256, 2048]⟩
abbrev S1x2048 : Shape := ⟨2, ![1, 2048]⟩
abbrev S256x1 : Shape := ⟨2, ![256, 1]⟩
abbrev S256 : Shape := ⟨1, ![256]⟩
abbrev S2048 : Shape := ⟨1, ![2048]⟩

abbrev nBuf : Space → Nat
  | .hbm => 55
  | .vmem => 18
  | .smem => 0
  | _ => 0

abbrev bufTy : (tb : Table) → Fin (tcTables nBuf tb) → BufTy
  | .hbm, ⟨0, _⟩ => ⟨S2048x3840, .f32⟩
  | .hbm, ⟨1, _⟩ => ⟨S128x2048, .f32⟩
  | .hbm, ⟨2, _⟩ => ⟨S2048x512, .f32⟩
  | .hbm, ⟨3, _⟩ => ⟨S2048x512, .f32⟩
  | .hbm, ⟨4, _⟩ => ⟨S2048x8x64, .f32⟩
  | .hbm, ⟨5, _⟩ => ⟨S2048x512, .f32⟩
  | .hbm, ⟨6, _⟩ => ⟨S2048x8x64, .f32⟩
  | .hbm, ⟨7, _⟩ => ⟨S2048x512, .f32⟩
  | .hbm, ⟨8, _⟩ => ⟨S2048x8x64, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x64x2048, .f32⟩
  | .hbm, ⟨41, _⟩ => ⟨S2048x8x64, .f32⟩
  | .hbm, ⟨42, _⟩ => ⟨S2048x512, .f32⟩
  | .hbm, ⟨43, _⟩ => ⟨S8x2048x1, .f32⟩
  | .hbm, ⟨44, _⟩ => ⟨S8x2048x1, .f32⟩
  | .hbm, ⟨45, _⟩ => ⟨S8x2048, .f32⟩
  | .hbm, ⟨46, _⟩ => ⟨S2048x8, .f32⟩
  | .hbm, ⟨47, _⟩ => ⟨S_, .i32⟩
  | .hbm, ⟨48, _⟩ => ⟨S_, .f32⟩
  | .hbm, ⟨49, _⟩ => ⟨S2048x128, .f32⟩
  | .hbm, ⟨50, _⟩ => ⟨S512x512, .bf16⟩
  | .hbm, ⟨51, _⟩ => ⟨S2048x512, .f32⟩
  | .hbm, ⟨52, _⟩ => ⟨S2048x512, .f32⟩
  | .hbm, ⟨53, _⟩ => ⟨S512x128, .f32⟩
  | .hbm, ⟨54, _⟩ => ⟨S128x2048, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S128x2048, .f32⟩
  | .local _ .vmem, ⟨5, _⟩ => ⟨S256x512, .f32⟩
  | .local _ .vmem, ⟨6, _⟩ => ⟨S256x512, .f32⟩
  | .local _ .vmem, ⟨7, _⟩ => ⟨S256x128, .f32⟩
  | .local _ .vmem, ⟨8, _⟩ => ⟨S256x128, .f32⟩
  | .local _ .vmem, ⟨9, _⟩ => ⟨S256x512, .f32⟩
  | .local _ .vmem, ⟨10, _⟩ => ⟨S256x512, .f32⟩
  | .local _ .vmem, ⟨11, _⟩ => ⟨S256x512, .bf16⟩
  | .local _ .vmem, ⟨12, _⟩ => ⟨S256x512, .bf16⟩
  | .local _ .vmem, ⟨13, _⟩ => ⟨S2048x512, .f32⟩
  | .local _ .vmem, ⟨14, _⟩ => ⟨S2048x512, .f32⟩
  | .local _ .vmem, ⟨15, _⟩ => ⟨S256x128, .f32⟩
  | .local _ .vmem, ⟨16, _⟩ => ⟨S256x128, .f32⟩
  | .local _ .vmem, ⟨17, _⟩ => ⟨S128x2048, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_call1_v0 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x3840 : Shape := ⟨2, ![2048, 3840]⟩
abbrev S128x2048 : Shape := ⟨2, ![128, 2048]⟩
abbrev S2048x512 : Shape := ⟨2, ![2048, 512]⟩
abbrev S8x2048 : Shape := ⟨2, ![8, 2048]⟩
abbrev S512x512 : Shape := ⟨2, ![512, 512]⟩
abbrev S8x512 : Shape := ⟨2, ![8, 512]⟩
abbrev S512x8x64 : Shape := ⟨3, ![512, 8, 64]⟩
abbrev S2048x8x64 : Shape := ⟨3, ![2048, 8, 64]⟩
abbrev S8x512x2048 : Shape := ⟨3, ![8, 512, 2048]⟩
abbrev S_ : Shape := ⟨0, ![]⟩
abbrev S8x512x1 : Shape := ⟨3, ![8, 512, 1]⟩
abbrev S8x1x2048 : Shape := ⟨3, ![8, 1, 2048]⟩
abbrev S512x2048 : Shape := ⟨2, ![512, 2048]⟩
abbrev S1x512x2048 : Shape := ⟨3, ![1, 512, 2048]⟩
abbrev S8x64x512 : Shape := ⟨3, ![8, 64, 512]⟩
abbrev S8x64x2048 : Shape := ⟨3, ![8, 64, 2048]⟩
abbrev S8x2048x64 : Shape := ⟨3, ![8, 2048, 64]⟩
abbrev S8x512x64 : Shape := ⟨3, ![8, 512, 64]⟩
abbrev S512x8 : Shape := ⟨2, ![512, 8]⟩
abbrev S512x128 : Shape := ⟨2, ![512, 128]⟩

abbrev nBuf : Space → Nat
  | .hbm => 128
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S128x2048, .f32⟩
  | .hbm, ⟨2, _⟩ => ⟨S2048x512, .f32⟩
  | .hbm, ⟨3, _⟩ => ⟨S8x2048, .f32⟩
  | .hbm, ⟨4, _⟩ => ⟨S512x512, .f32⟩
  | .hbm, ⟨5, _⟩ => ⟨S2048x512, .f32⟩
  | .hbm, ⟨6, _⟩ => ⟨S2048x512, .f32⟩
  | .hbm, ⟨7, _⟩ => ⟨S8x512, .f32⟩
  | .hbm, ⟨8, _⟩ => ⟨S512x8x64, .f32⟩
  | .hbm, ⟨9, _⟩ => ⟨S2048x8x64, .f32⟩
  | .hbm, ⟨10, _⟩ => ⟨S2048x8x64, .f32⟩
  | .hbm, ⟨11, _⟩ => ⟨S8x512x2048, .f32⟩
  | .hbm, ⟨12, _⟩ => ⟨S_, .f32⟩
  | .hbm, ⟨13, _⟩ => ⟨S8x512x2048, .f32⟩
  | .hbm, ⟨14, _⟩ => ⟨S8x512x2048, .f32⟩
  | .hbm, ⟨15, _⟩ => ⟨S8x512x1, .f32⟩
  | .hbm, ⟨16, _⟩ => ⟨S8x512x2048, .f32⟩
  | .hbm, ⟨17, _⟩ => ⟨S8x512x2048, .f32⟩
  | .hbm, ⟨18, _⟩ => ⟨S8x1x2048, .f32⟩
  | .hbm, ⟨19, _⟩ => ⟨S8x512x2048, .f32⟩
  | .hbm, ⟨20, _⟩ => ⟨S8x512x2048, .f32⟩
  | .hbm, ⟨21, _⟩ => ⟨S512x2048, .i32⟩
  | .hbm, ⟨22, _⟩ => ⟨S512x2048, .i32⟩
  | .hbm, ⟨23, _⟩ => ⟨S_, .i32⟩
  | .hbm, ⟨24, _⟩ => ⟨S512x2048, .i32⟩
  | .hbm, ⟨25, _⟩ => ⟨S512x2048, .i32⟩
  | .hbm, ⟨26, _⟩ => ⟨S512x2048, .i1⟩
  | .hbm, ⟨27, _⟩ => ⟨S1x512x2048, .i1⟩
  | .hbm, ⟨28, _⟩ => ⟨S_, .f32⟩
  | .hbm, ⟨29, _⟩ => ⟨S_, .f32⟩
  | .hbm, ⟨30, _⟩ => ⟨S8x512x2048, .i1⟩
  | .hbm, ⟨31, _⟩ => ⟨S8x512x2048, .f32⟩
  | .hbm, ⟨32, _⟩ => ⟨S8x512x2048, .f32⟩
  | .hbm, ⟨33, _⟩ => ⟨S_, .f32⟩
  | .hbm, ⟨34, _⟩ => ⟨S8x512x2048, .f32⟩
  | .hbm, ⟨35, _⟩ => ⟨S_, .f32⟩
  | .hbm, ⟨36, _⟩ => ⟨S8x512, .f32⟩
  | .hbm, ⟨37, _⟩ => ⟨S8x512x1, .f32⟩
  | .hbm, ⟨38, _⟩ => ⟨S8x512x2048, .f32⟩
  | .hbm, ⟨39, _⟩ => ⟨S8x512x2048, .i1⟩
  | .hbm, ⟨40, _⟩ => ⟨S8x512x2048, .f32⟩
  | .hbm, ⟨41, _⟩ => ⟨S_, .f32⟩
  | .hbm, ⟨42, _⟩ => ⟨S8x512, .f32⟩
  | .hbm, ⟨43, _⟩ => ⟨S_, .f32⟩
  | .hbm, ⟨44, _⟩ => ⟨S8x512, .f32⟩
  | .hbm, ⟨45, _⟩ => ⟨S8x512, .f32⟩
  | .hbm, ⟨46, _⟩ => ⟨S_, .f32⟩
  | .hbm, ⟨47, _⟩ => ⟨S8x512, .f32⟩
  | .hbm, ⟨48, _⟩ => ⟨S8x512, .i1⟩
  | .hbm, ⟨49, _⟩ => ⟨S_, .f32⟩
  | .hbm, ⟨50, _⟩ => ⟨S8x512, .f32⟩
  | .hbm, ⟨51, _⟩ => ⟨S8x512, .i1⟩
  | .hbm, ⟨52, _⟩ => ⟨S_, .f32⟩
  | .hbm, ⟨53, _⟩ => ⟨S8x512, .f32⟩
  | .hbm, ⟨54, _⟩ => ⟨S_, .f32⟩
  | .hbm, ⟨55, _⟩ => ⟨S8x512, .f32⟩
  | .hbm, ⟨56, _⟩ => ⟨S_, .f32⟩
  | .hbm, ⟨57, _⟩ => ⟨S8x512, .f32⟩
  | .hbm, ⟨58, _⟩ => ⟨S8x512, .f32⟩
  | .hbm, ⟨59, _⟩ => ⟨S8x512, .f32⟩
  | .hbm, ⟨60, _⟩ => ⟨S8x512x1, .f32⟩
  | .hbm, ⟨61, _⟩ => ⟨S8x512x2048, .f32⟩
  | .hbm, ⟨62, _⟩ => ⟨S8x512x2048, .f32⟩
  | .hbm, ⟨63, _⟩ => ⟨S8x512x2048, .f32⟩
  | .hbm, ⟨64, _⟩ => ⟨S_, .f32⟩
  | .hbm, ⟨65, _⟩ => ⟨S8x512, .f32⟩
  | .hbm, ⟨66, _⟩ => ⟨S8x512x1, .f32⟩
  | .hbm, ⟨67, _⟩ => ⟨S8x512x2048, .f32⟩
  | .hbm, ⟨68, _⟩ => ⟨S8x512x2048, .f32⟩
  | .hbm, ⟨69, _⟩ => ⟨S8x512x1, .f32⟩
  | .hbm, ⟨70, _⟩ => ⟨S_, .f32⟩
  | .hbm, ⟨71, _⟩ => ⟨S8x512x1, .f32⟩
  | .hbm, ⟨72, _⟩ => ⟨S8x512x1, .f32⟩
  | .hbm, ⟨73, _⟩ => ⟨S8x64x512, .f32⟩
  | .hbm, ⟨74, _⟩ => ⟨S512x8x64, .f32⟩
  | .hbm, ⟨75, _⟩ => ⟨S512x512, .f32⟩
  | .hbm, ⟨76, _⟩ => ⟨S512x512, .f32⟩
  | .hbm, ⟨77, _⟩ => ⟨S512x8x64, .f32⟩
  | .hbm, ⟨78, _⟩ => ⟨S8x64x512, .f32⟩
  | .hbm, ⟨79, _⟩ => ⟨S8x512x2048, .f32⟩
  | .hbm, ⟨80, _⟩ => ⟨S8x64x2048, .f32⟩
  | .hbm, ⟨81, _⟩ => ⟨S2048x8x64, .f32⟩
  | .hbm, ⟨82, _⟩ => ⟨S8x512x2048, .f32⟩
  | .hbm, ⟨83, _⟩ => ⟨S8x512x2048, .f32⟩
  | .hbm, ⟨84, _⟩ => ⟨S8x512x2048, .f32⟩
  | .hbm, ⟨85, _⟩ => ⟨S_, .f32⟩
  | .hbm, ⟨86, _⟩ => ⟨S8x512, .f32⟩
  | .hbm, ⟨87, _⟩ => ⟨S8x512x1, .f32⟩
  | .hbm, ⟨88, _⟩ => ⟨S8x512x1, .f32⟩
  | .hbm, ⟨89, _⟩ => ⟨S8x512x2048, .f32⟩
  | .hbm, ⟨90, _⟩ => ⟨S8x512x2048, .f32⟩
  | .hbm, ⟨91, _⟩ => ⟨S_, .f32⟩
  | .hbm, ⟨92, _⟩ => ⟨S8x512, .f32⟩
  | .hbm, ⟨93, _⟩ => ⟨S8x512x2048, .f32⟩
  | .hbm, ⟨94, _⟩ => ⟨S8x512x2048, .f32⟩
  | .hbm, ⟨95, _⟩ => ⟨S8x512x2048, .f32⟩
  | .hbm, ⟨96, _⟩ => ⟨S_, .f32⟩
  | .hbm, ⟨97, _⟩ => ⟨S8x512x2048, .f32⟩
  | .hbm, ⟨98, _⟩ => ⟨S8x512x2048, .f32⟩
  | .hbm, ⟨99, _⟩ => ⟨S8x512x2048, .f32⟩
  | .hbm, ⟨100, _⟩ => ⟨S_, .f32⟩
  | .hbm, ⟨101, _⟩ => ⟨S8x2048, .f32⟩
  | .hbm, ⟨102, _⟩ => ⟨S8x1x2048, .f32⟩
  | .hbm, ⟨103, _⟩ => ⟨S_, .f32⟩
  | .hbm, ⟨104, _⟩ => ⟨S8x2048, .f32⟩
  | .hbm, ⟨105, _⟩ => ⟨S_, .f32⟩
  | .hbm, ⟨106, _⟩ => ⟨S8x512, .f32⟩
  | .hbm, ⟨107, _⟩ => ⟨S8x512x1, .f32⟩
  | .hbm, ⟨108, _⟩ => ⟨S_, .f32⟩
  | .hbm, ⟨109, _⟩ => ⟨S8x512, .f32⟩
  | .hbm, ⟨110, _⟩ => ⟨S_, .f32⟩
  | .hbm, ⟨111, _⟩ => ⟨S8x512x2048, .f32⟩
  | .hbm, ⟨112, _⟩ => ⟨S8x512x2048, .f32⟩
  | .hbm, ⟨113, _⟩ => ⟨S8x2048x64, .f32⟩
  | .hbm, ⟨114, _⟩ => ⟨S2048x8x64, .f32⟩
  | .hbm, ⟨115, _⟩ => ⟨S8x512x64, .f32⟩
  | .hbm, ⟨116, _⟩ => ⟨S512x8x64, .f32⟩
  | .hbm, ⟨117, _⟩ => ⟨S2048x512, .f32⟩
  | .hbm, ⟨118, _⟩ => ⟨S2048x512, .f32⟩
  | .hbm, ⟨119, _⟩ => ⟨S512x512, .f32⟩
  | .hbm, ⟨120, _⟩ => ⟨S512x512, .bf16⟩
  | .hbm, ⟨121, _⟩ => ⟨S512x8, .f32⟩
  | .hbm, ⟨122, _⟩ => ⟨S_, .i32⟩
  | .hbm, ⟨123, _⟩ => ⟨S_, .f32⟩
  | .hbm, ⟨124, _⟩ => ⟨S512x128, .f32⟩
  | .hbm, ⟨125, _⟩ => ⟨S_, .i32⟩
  | .hbm, ⟨126, _⟩ => ⟨S_, .f32⟩
  | .hbm, ⟨127, _⟩ => ⟨S128x2048, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_18 : Ref sig .tc := ⟨.hbm, 122, rfl⟩
abbrev main_call2_v0 : Ref sig .tc := ⟨.hbm, 123, rfl⟩
abbrev main_v92 : Ref sig .tc := ⟨.hbm, 124, rfl⟩
abbrev main_c_19 : Ref sig .tc := ⟨.hbm, 125, rfl⟩
abbrev main_call3_v0 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Act.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x1024, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Down.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S1024x4096, .f32⟩
  | .hbm, ⟨11, _⟩ => ⟨S4096x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Up.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S2048x512 : Shape := ⟨2, ![2048, 512]⟩
abbrev S1024x512 : Shape := ⟨2, ![1024, 512]⟩
abbrev S1x1024x512 : Shape := ⟨3, ![1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Square.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SquareRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ple.lean ====
abbrev S2048x256 : Shape := ⟨2, ![2048, 256]⟩
abbrev S2048x1024 : Shape := ⟨2, ![2048, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S4x256x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S1x256x256, .f32⟩
  | .local _ .vmem, ⟨4, _⟩ => ⟨S1x256x256, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== In.lean ====
abbrev S2048x3840 : Shape := ⟨2, ![2048, 3840]⟩
abbrev S2048x1024 : Shape := ⟨2, ![2048, 1024]⟩
abbrev S3840x1024 : Shape := ⟨2, ![3840, 1024]⟩
abbrev S2048x1280 : Shape := ⟨2, ![2048, 1280]⟩
abbrev S1280x1024 : Shape := ⟨2, ![1280, 1024]⟩
abbrev S2048x512 : Shape := ⟨2, ![2048, 512]⟩
abbrev S1280x512 : Shape := ⟨2, ![1280, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x3840, .bf16⟩
  | .hbm, ⟨1, _⟩ => ⟨S2048x1024, .bf16⟩
  | .hbm, ⟨2, _⟩ => ⟨S3840x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .f32⟩
  | .local _ .vmem, ⟨4, _⟩ => ⟨S1280x1024, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S2048x3840 : Shape := ⟨2, ![2048, 3840]⟩
abbrev S2048x1024 : Shape := ⟨2, ![2048, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S2048x1024, .bf16⟩
  | .hbm, ⟨2, _⟩ => ⟨S_, .f32⟩
  | .hbm, ⟨3, _⟩ => ⟨S1024x3840, .f32⟩
  | .hbm, ⟨4, _⟩ => ⟨S2048x1024, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | .hbm, ⟨9, _⟩ => ⟨S3840x1024, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Stream.lean ====
abbrev S2048x3840 : Shape := ⟨2, ![2048, 3840]⟩
abbrev S3840x1024 : Shape := ⟨2, ![3840, 1024]⟩
abbrev S2048x1024 : Shape := ⟨2, ![2048, 1024]⟩
abbrev S512x3840 : Shape := ⟨2, ![512, 3840]⟩
abbrev S512x1024 : Shape := ⟨2, ![512, 1024]⟩
abbrev S3840x512 : Shape := ⟨2, ![3840, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x3840, .bf16⟩
  | .hbm, ⟨1, _⟩ => ⟨S3840x1024, .bf16⟩
  | .hbm, ⟨2, _⟩ => ⟨S2048x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== StreamRefIdeal.lean ====
abbrev S2048x3840 : Shape := ⟨2, ![2048, 3840]⟩
abbrev S3840x1024 : Shape := ⟨2, ![3840, 1024]⟩
abbrev S_ : Shape := ⟨0, ![]⟩
abbrev S2048x1024 : Shape := ⟨2, ![2048, 1024]⟩
abbrev S1024x3840 : Shape := ⟨2, ![1024, 3840]⟩

abbrev nBuf : Space → Nat
  | .hbm => 9
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S3840x1024, .bf16⟩
  | .hbm, ⟨2, _⟩ => ⟨S_, .f32⟩
  | .hbm, ⟨3, _⟩ => ⟨S2048x1024, .f32⟩
  | .hbm, ⟨4, _⟩ => ⟨S3840x1024, .f32⟩
  | .hbm, ⟨5, _⟩ => ⟨S1024x3840, .f32⟩
  | .hbm, ⟨6, _⟩ => ⟨S2048x3840, .f32⟩
  | .hbm, ⟨7, _⟩ => ⟨S2048x3840, .f32⟩
  | .hbm, ⟨8, _⟩ => ⟨S2048x1024, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proj.lean ====
abbrev S2048x1024 : Shape := ⟨2, ![2048, 1024]⟩
abbrev S3840x1024 : Shape := ⟨2, ![3840, 1024]⟩
abbrev S2048x3840 : Shape := ⟨2, ![2048, 3840]⟩
abbrev S512x1024 : Shape := ⟨2, ![512, 1024]⟩
abbrev S512x3840 : Shape := ⟨2, ![512, 3840]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S2048x3840, .f32⟩
  | .local _ .vmem, ⟨0, _⟩ => ⟨S512x1024, .bf16⟩
  | .local _ .vmem, ⟨1, _⟩ => ⟨S512x1024, .bf16⟩
  | .local _ .vmem, ⟨2, _⟩ => ⟨S3840x1024, .bf16⟩
  | .local _ .vmem, ⟨3, _⟩ => ⟨S512x3840, .f32⟩
  | .local _ .vmem, ⟨4, _⟩ => ⟨S512x3840, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x1024 : Shape := ⟨2, ![2048, 1024]⟩
abbrev S3840x1024 : Shape := ⟨2, ![3840, 1024]⟩
abbrev S1024x3840 : Shape := ⟨2, ![1024, 3840]⟩
abbrev S2048x3840 : Shape := ⟨2, ![2048, 3840]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3840x1024, .bf16⟩
  | .hbm, ⟨2, _⟩ => ⟨S2048x1024, .f32⟩
  | .hbm, ⟨3, _⟩ => ⟨S3840x1024, .f32⟩
  | .hbm, ⟨4, _⟩ => ⟨S1024x3840, .f32⟩
  | .hbm, ⟨5, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mlp.lean ====
abbrev S2048x1024 : Shape := ⟨2, ![2048, 1024]⟩
abbrev S4x1024x1024 : Shape := ⟨3, ![4, 1024, 1024]⟩
abbrev S2048x4096 : Shape := ⟨2, ![2048, 4096]⟩
abbrev S512x1024 : Shape := ⟨2, ![512, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x4096, .bf16⟩
  | .hbm, ⟨3, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpRefIdeal.lean ====
abbrev S2048x1024 : Shape := ⟨2, ![2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1024, .bf16⟩
  | .hbm, ⟨2, _⟩ => ⟨S2048x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_call1_cst : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Gate.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Join.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x128 : Shape := ⟨2, ![2048, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== JoinRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .bf16⟩
  | .hbm, ⟨65, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Entry.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EntryRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Mix.lean ====
abbrev S2048x512 : Shape := ⟨2, ![2048, 512]⟩
abbrev S2048x3840 : Shape := ⟨2, ![2048, 3840]⟩
abbrev S128 : Shape := ⟨1, ![128]⟩
abbrev S64 : Shape := ⟨1, ![64]⟩
abbrev S1x128 : Shape := ⟨2, ![1, 128]⟩
abbrev S1x64 : Shape := ⟨2, ![1, 64]⟩
abbrev S2x64 : Shape := ⟨2, ![2, 64]⟩
abbrev S2048x1024 : Shape := ⟨2, ![2048, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S2048x512, .f32⟩
  | .hbm, ⟨3, _⟩ => ⟨S128, .f32⟩
  | .hbm, ⟨4, _⟩ => ⟨S64, .f32⟩
  | .hbm, ⟨5, _⟩ => ⟨S1x128, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S2048x512 : Shape := ⟨2, ![2048, 512]⟩
abbrev S2048x3840 : Shape := ⟨2, ![2048, 3840]⟩
abbrev S128 : Shape := ⟨1, ![128]⟩
abbrev S64 : Shape := ⟨1, ![64]⟩
abbrev S1x64 : Shape := ⟨2, ![1, 64]⟩
abbrev S2x64 : Shape := ⟨2, ![2, 64]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S2048x4x2x64 : Shape := ⟨4, ![2048, 4, 2, 64]⟩
abbrev S2048x4x2 : Shape := ⟨3, ![2048, 4, 2]⟩
abbrev S2048x4x2x1 : Shape := ⟨4, ![2048, 4, 2, 1]⟩
abbrev S1x1x2x64 : Shape := ⟨4, ![1, 1, 2, 64]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S2048x512, .f32⟩
  | .hbm, ⟨3, _⟩ => ⟨S128, .f32⟩
  | .hbm, ⟨4, _⟩ => ⟨S64, .f32⟩
  | .hbm, ⟨5, _⟩ => ⟨S2048x512, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S2048x4x128, .f32⟩
  | .hbm, ⟨10, _⟩ => ⟨S2048x4x128, .f32⟩
  | .hbm, ⟨11, _⟩ => ⟨S_, .f32⟩
  | .hbm, ⟨12, _⟩ => ⟨S2048x4, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S2048x4x128, .f32⟩
  | .hbm, ⟨22, _⟩ => ⟨S2048x4x128, .f32⟩
  | .hbm, ⟨23, _⟩ => ⟨S1x1x128, .f32⟩
  | .hbm, ⟨24, _⟩ => ⟨S2048x4x128, .f32⟩
  | .hbm, ⟨25, _⟩ => ⟨S2048x4x128, .f32⟩
  | .hbm, ⟨26, _⟩ => ⟨S2048x4x128, .f32⟩
  | .hbm, ⟨27, _⟩ => ⟨S2048x4x128, .f32⟩
  | .hbm, ⟨28, _⟩ => ⟨S2048x4x128, .f32⟩
  | .hbm, ⟨29, _⟩ => ⟨S_, .f32⟩
  | .hbm, ⟨30, _⟩ => ⟨S2048x4x128, .f32⟩
  | .hbm, ⟨31, _⟩ => ⟨S2048x4x128, .f32⟩
  | .hbm, ⟨32, _⟩ => ⟨S_, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x2x64, .f32⟩
  | .hbm, ⟨38, _⟩ => ⟨S2x64, .f32⟩
  | .hbm, ⟨39, _⟩ => ⟨S2048x4x2x64, .f32⟩
  | .hbm, ⟨40, _⟩ => ⟨S_, .f32⟩
  | .hbm, ⟨41, _⟩ => ⟨S2048x4x2, .f32⟩
  | .hbm, ⟨42, _⟩ => ⟨S2048x4x2x1, .f32⟩
  | .hbm, ⟨43, _⟩ => ⟨S_, .f32⟩
  | .hbm, ⟨44, _⟩ => ⟨S2048x4x2x1, .f32⟩
  | .hbm, ⟨45, _⟩ => ⟨S2048x4x2x1, .f32⟩
  | .hbm, ⟨46, _⟩ => ⟨S_, .f32⟩
  | .hbm, ⟨47, _⟩ => ⟨S2048x4x2x1, .f32⟩
  | .hbm, ⟨48, _⟩ => ⟨S2048x4x2x1, .f32⟩
  | .hbm, ⟨49, _⟩ => ⟨S2048x4x2x1, .f32⟩
  | .hbm, ⟨50, _⟩ => ⟨S2048x4x2x64, .f32⟩
  | .hbm, ⟨51, _⟩ => ⟨S2048x4x2x64, .f32⟩
  | .hbm, ⟨52, _⟩ => ⟨S1x1x2x64, .f32⟩
  | .hbm, ⟨53, _⟩ => ⟨S2048x4x2x64, .f32⟩
  | .hbm, ⟨54, _⟩ => ⟨S2048x4x2x64, .f32⟩
  | .hbm, ⟨55, _⟩ => ⟨S2048x512, .f32⟩
  | .hbm, ⟨56, _⟩ => ⟨S2048x512, .f32⟩
  | .hbm, ⟨57, _⟩ => ⟨S2048x1024, .f32⟩
  | .hbm, ⟨58, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Mid.lean ====
abbrev S2048x1024 : Shape := ⟨2, ![2048, 1024]⟩
abbrev S1024 : Shape := ⟨1, ![1024]⟩
abbrev S2048x4096 : Shape := ⟨2, ![2048, 4096]⟩
abbrev S4x1024x1024 : Shape := ⟨3, ![4, 1024, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S1x1024 : Shape := ⟨2, ![1, 1024]⟩
abbrev S8x1024 : Shape := ⟨2, ![8, 1024]⟩
abbrev S256x1024 : Shape := ⟨2, ![256, 1024]⟩
abbrev S256x4096 : Shape := ⟨2, ![256, 4096]⟩
abbrev S256x128 : Shape := ⟨2, ![256, 128]⟩
abbrev S1x1024x1024 : Shape := ⟨3, ![1, 1024, 1024]⟩
abbrev S256x1 : Shape := ⟨2, ![256, 1]⟩
abbrev S256 : Shape := ⟨1, ![256]⟩

abbrev nBuf : Space → Nat
  | .hbm => 35
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x4096, .bf16⟩
  | .hbm, ⟨4, _⟩ => ⟨S4x1024x1024, .bf16⟩
  | .hbm, ⟨5, _⟩ => ⟨S2048x1024, .bf16⟩
  | .hbm, ⟨6, _⟩ => ⟨S1024x1024, .bf16⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x128, .f32⟩
  | .hbm, ⟨31, _⟩ => ⟨S1x1024, .f32⟩
  | .hbm, ⟨32, _⟩ => ⟨S2048x1024, .f32⟩
  | .hbm, ⟨33, _⟩ => ⟨S2048x1024, .bf16⟩
  | .hbm, ⟨34, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S4x1024x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MidRefIdeal.lean ====
abbrev S2048x1024 : Shape := ⟨2, ![2048, 1024]⟩
abbrev S1024 : Shape := ⟨1, ![1024]⟩
abbrev S2048x4096 : Shape := ⟨2, ![2048, 4096]⟩
abbrev S4x1024x1024 : Shape := ⟨3, ![4, 1024, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x4x1024 : Shape := ⟨3, ![1024, 4, 1024]⟩
abbrev S1024x4096 : Shape := ⟨2, ![1024, 4096]⟩
abbrev S6x1024 : Shape := ⟨2, ![6, 1024]⟩
abbrev S8x1024 : Shape := ⟨2, ![8, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x4096, .bf16⟩
  | .hbm, ⟨4, _⟩ => ⟨S4x1024x1024, .bf16⟩
  | .hbm, ⟨5, _⟩ => ⟨S2048x1024, .bf16⟩
  | .hbm, ⟨6, _⟩ => ⟨S1024x1024, .bf16⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S4x1024x1024, .f32⟩
  | .hbm, ⟨49, _⟩ => ⟨S1024x4x1024, .f32⟩
  | .hbm, ⟨50, _⟩ => ⟨S1024x4096, .f32⟩
  | .hbm, ⟨51, _⟩ => ⟨S2048x4096, .f32⟩
  | .hbm, ⟨52, _⟩ => ⟨S1024x1024, .f32⟩
  | .hbm, ⟨53, _⟩ => ⟨S2048x1024, .f32⟩
  | .hbm, ⟨54, _⟩ => ⟨S2048x4096, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x1024, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S_, .f32⟩
  | .hbm, ⟨104, _⟩ => ⟨S2048, .f32⟩
  | .hbm, ⟨105, _⟩ => ⟨S2048x1024, .f32⟩
  | .hbm, ⟨106, _⟩ => ⟨S2048x1024, .f32⟩
  | .hbm, ⟨107, _⟩ => ⟨S2048x1024, .bf16⟩
  | .hbm, ⟨108, _⟩ => ⟨S1x1024, .f32⟩
  | .hbm, ⟨109, _⟩ => ⟨S1x1024, .f32⟩
  | .hbm, ⟨110, _⟩ => ⟨S_, .f32⟩
  | .hbm, ⟨111, _⟩ => ⟨S6x1024, .f32⟩
  | .hbm, ⟨112, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_cst_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Leave.lean ====
abbrev S2048x1024 : Shape := ⟨2, ![2048, 1024]⟩
abbrev S1024 : Shape := ⟨1, ![1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LeaveRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x1024, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x1024, .f32⟩
  | .hbm, ⟨93, _⟩ => ⟨S2048x1024, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S6x1024, .f32⟩
  | .hbm, ⟨98, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_20 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Tail.lean ====
abbrev S2048x1024 : Shape := ⟨2, ![2048, 1024]⟩
abbrev S2048x4096 : Shape := ⟨2, ![2048, 4096]⟩
abbrev S4096x1024 : Shape := ⟨2, ![4096, 1024]⟩
abbrev S2048x256 : Shape := ⟨2, ![2048, 256]⟩
abbrev S4x256x256 : Shape := ⟨3, ![4, 256, 256]⟩
abbrev S1024 : Shape := ⟨1, ![1024]⟩
abbrev S1x1024 : Shape := ⟨2, ![1, 1024]⟩
abbrev S8x1024 : Shape := ⟨2, ![8, 1024]⟩
abbrev S256x1024 : Shape := ⟨2, ![256, 1024]⟩
abbrev S256x4096 : Shape := ⟨2, ![256, 4096]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 18
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S4096x1024, .bf16⟩
  | .hbm, ⟨3, _⟩ => ⟨S2048x256, .bf16⟩
  | .hbm, ⟨4, _⟩ => ⟨S4x256x256, .bf16⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S4096x1024, .bf16⟩
  | .local _ .vmem, ⟨5, _⟩ => ⟨S256x256, .bf16⟩
  | .local _ .vmem, ⟨6, _⟩ => ⟨S256x256, .bf16⟩
  | .local _ .vmem, ⟨7, _⟩ => ⟨S4x256x256, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== TailRefIdeal.lean ====
abbrev S2048x1024 : Shape := ⟨2, ![2048, 1024]⟩
abbrev S2048x4096 : Shape := ⟨2, ![2048, 4096]⟩
abbrev S4096x1024 : Shape := ⟨2, ![4096, 1024]⟩
abbrev S2048x256 : Shape := ⟨2, ![2048, 256]⟩
abbrev S4x256x256 : Shape := ⟨3, ![4, 256, 256]⟩
abbrev S1024 : Shape := ⟨1, ![1024]⟩
abbrev S_ : Shape := ⟨0, ![]⟩
abbrev S256x4x256 : Shape := ⟨3, ![256, 4, 256]⟩
abbrev S256x1024 : Shape := ⟨2, ![256, 1024]⟩
abbrev S1x1024 : Shape := ⟨2, ![1, 1024]⟩
abbrev S2048 : Shape := ⟨1, ![2048]⟩
abbrev S2048x1 : Shape := ⟨2, ![2048, 1]⟩
abbrev S4x1024 : Shape := ⟨2, ![4, 1024]⟩
abbrev S8x1024 : Shape := ⟨2, ![8, 1024]⟩

abbrev nBuf : Space → Nat
  | .hbm => 161
  | .vmem => 0
  | .smem => 0
  | _ => 0

abbrev hbmTy0_0 (i : Nat) : BufTy := match i % 128 with
  | 0 => ⟨S2048x1024, .f32⟩
  | 1 => ⟨S2048x4096, .bf16⟩
  | 2 => ⟨S4096x1024, .bf16⟩
  | 3 => ⟨S2048x256, .bf16⟩
  | 4 => ⟨S4x256x256, .bf16⟩
  | 5 => ⟨S2048x1024, .f32⟩
  | 6 => ⟨S1024, .f32⟩
  | 7 => ⟨S1024, .f32⟩
  | 8 => ⟨S1024, .f32⟩
  | 9 => ⟨S2048x1024, .f32⟩
  | 10 => ⟨S_, .f32⟩
  | 11 => ⟨S2048x1024, .f32⟩
  | 12 => ⟨S2048x1024, .f32⟩
  | 13 => ⟨S2048x4096, .f32⟩
  | 14 => ⟨S4096x1024, .f32⟩
  | 15 => ⟨S2048x1024, .f32⟩
  | 16 => ⟨S2048x1024, .f32⟩
  | 17 => ⟨S2048x256, .f32⟩
  | 18 => ⟨S4x256x256, .f32⟩
  | 19 => ⟨S256x4x256, .f32⟩
  | 20 => ⟨S256x1024, .f32⟩
  | 21 => ⟨S2048x1024, .f32⟩
  | 22 => ⟨S1x1024, .f32⟩
  | 23 => ⟨S2048x1024, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S_, .f32⟩
  | 52 => ⟨S2048, .f32⟩
  | 53 => ⟨S2048x1, .f32⟩
  | 54 => ⟨S_, .f32⟩
  | 55 => ⟨S2048x1, .f32⟩
  | 56 => ⟨S2048x1, .f32⟩
  | 57 => ⟨S2048x1024, .f32⟩
  | 58 => ⟨S2048x1024, .f32⟩
  | 59 => ⟨S_, .f32⟩
  | 60 => ⟨S2048x1, .f32⟩
  | 61 => ⟨S2048x1, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x1024, .f32⟩
  | 68 => ⟨S2048x1024, .f32⟩
  | 69 => ⟨S1x1024, .f32⟩
  | 70 => ⟨S2048x1024, .f32⟩
  | 71 => ⟨S2048x1024, .f32⟩
  | 72 => ⟨S1x1024, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048, .f32⟩
  | 82 => ⟨S_, .f32⟩
  | 83 => ⟨S2048, .f32⟩
  | 84 => ⟨S2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S2048, .f32⟩
  | 93 => ⟨S_, .f32⟩
  | 94 => ⟨S2048, .f32⟩
  | 95 => ⟨S2048, .f32⟩
  | 96 => ⟨S2048x1024, .f32⟩
  | 97 => ⟨S2048x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S2048x1024, .f32⟩
  | 104 => ⟨S_, .f32⟩
  | 105 => ⟨S1024, .f32⟩
  | 106 => ⟨S1x1024, .f32⟩
  | 107 => ⟨S2048x1024, .f32⟩
  | 108 => ⟨S2048x1024, .f32⟩
  | 109 => ⟨S_, .f32⟩
  | 110 => ⟨S1024, .f32⟩
  | 111 => ⟨S2048x1024, .f32⟩
  | 112 => ⟨S_, .f32⟩
  | 113 => ⟨S2048, .f32⟩
  | 114 => ⟨S2048x1, .f32⟩
  | 115 => ⟨S2048x1024, .f32⟩
  | 116 => ⟨S2048x1024, .f32⟩
  | 117 => ⟨S2048x1, .f32⟩
  | 118 => ⟨S2048x1024, .f32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S_, .f32⟩
  | 126 => ⟨S2048, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S2048, .f32⟩
  | 4 => ⟨S2048x1, .f32⟩
  | 5 => ⟨S2048x1024, .f32⟩
  | 6 => ⟨S2048x1, .f32⟩
  | 7 => ⟨S_, .f32⟩
  | 8 => ⟨S2048x1, .f32⟩
  | 9 => ⟨S2048x1, .f32⟩
  | 10 => ⟨S_, .f32⟩
  | 11 => ⟨S2048, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S_, .f32⟩
  | 18 => ⟨S1024, .f32⟩
  | 19 => ⟨S1x1024, .f32⟩
  | 20 => ⟨S_, .f32⟩
  | 21 => ⟨S1024, .f32⟩
  | 22 => ⟨S2048x1024, .bf16⟩
  | 23 => ⟨S2048x1024, .bf16⟩
  | 24 => ⟨S2048x1024, .bf16⟩
  | 25 => ⟨S1024, .f32⟩
  | 26 => ⟨S1x1024, .f32⟩
  | 27 => ⟨S1x1024, .f32⟩
  | 28 => ⟨S1x1024, .f32⟩
  | 29 => ⟨S1x1024, .f32⟩
  | 30 => ⟨S_, .f32⟩
  | 31 => ⟨S4x1024, .f32⟩
  | 32 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_cst_15 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_cst_20 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_cst_22 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_cst_25 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_27 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_29 : Ref sig .tc := ⟨.hbm, 145, rfl⟩
abbrev main_v105 : Ref sig .tc := ⟨.hbm, 146, rfl⟩
abbrev main_v106 : Ref sig .tc := ⟨.hbm, 147, rfl⟩
abbrev main_cst_30 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_31 : Ref sig .tc := ⟨.hbm, 158, rfl⟩
abbrev main_v116 : Ref sig .tc := ⟨.hbm, 159, rfl⟩
abbrev main_v117 : Ref sig .tc := ⟨.hbm, 160, rfl⟩

abbrev nD : Nat := 1
abbrev τ : Topo := Topo.v7x

variable {F : FTy → Type} [FloatOps F]
-- ==== Heads.lean ====
abbrev S2048x1024 : Shape := ⟨2, ![2048, 1024]⟩
abbrev S1024x1024 : Shape := ⟨2, ![1024, 1024]⟩
abbrev S2048x512 : Shape := ⟨2, ![2048, 512]⟩
abbrev S2048x3840 : Shape := ⟨2, ![2048, 3840]⟩
abbrev S128 : Shape := ⟨1, ![128]⟩
abbrev S64 : Shape := ⟨1, ![64]⟩
abbrev S1x128 : Shape := ⟨2, ![1, 128]⟩
abbrev S1x64 : Shape := ⟨2, ![1, 64]⟩
abbrev S2x64 : Shape := ⟨2, ![2, 64]⟩
abbrev S8x128 : Shape := ⟨2, ![8, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x512, .f32⟩
  | .hbm, ⟨3, _⟩ => ⟨S2048x3840, .f32⟩
  | .hbm, ⟨4, _⟩ => ⟨S2048x512, .f32⟩
  | .hbm, ⟨5, _⟩ => ⟨S128, .f32⟩
  | .hbm, ⟨6, _⟩ => ⟨S64, .f32⟩
  | .hbm, ⟨7, _⟩ => ⟨S1x128, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S2048x512, .f32⟩
  | .hbm, ⟨13, _⟩ => ⟨S2048x512, .bf16⟩
  | .hbm, ⟨14, _⟩ => ⟨S2048x512, .f32⟩
  | .hbm, ⟨15, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x128, .f32⟩
  | .local _ .vmem, ⟨10, _⟩ => ⟨S1x128, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadsRefIdeal.lean ====
abbrev S2048x1024 : Shape := ⟨2, ![2048, 1024]⟩
abbrev S1024x1024 : Shape := ⟨2, ![1024, 1024]⟩
abbrev S2048x512 : Shape := ⟨2, ![2048, 512]⟩
abbrev S2048x3840 : Shape := ⟨2, ![2048, 3840]⟩
abbrev S128 : Shape := ⟨1, ![128]⟩
abbrev S64 : Shape := ⟨1, ![64]⟩
abbrev S1x64 : Shape := ⟨2, ![1, 64]⟩
abbrev S2x64 : Shape := ⟨2, ![2, 64]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S2048x4x2x64 : Shape := ⟨4, ![2048, 4, 2, 64]⟩
abbrev S2048x4x2 : Shape := ⟨3, ![2048, 4, 2]⟩
abbrev S2048x4x2x1 : Shape := ⟨4, ![2048, 4, 2, 1]⟩
abbrev S1x1x2x64 : Shape := ⟨4, ![1, 1, 2, 64]⟩
abbrev S1x128 : Shape := ⟨2, ![1, 128]⟩
abbrev S6x128 : Shape := ⟨2, ![6, 128]⟩
abbrev S8x128 : Shape := ⟨2, ![8, 128]⟩

abbrev nBuf : Space → Nat
  | .hbm => 146
  | .vmem => 0
  | .smem => 0
  | _ => 0

abbrev hbmTy0_0 (i : Nat) : BufTy := match i % 128 with
  | 0 => ⟨S2048x1024, .bf16⟩
  | 1 => ⟨S1024x1024, .bf16⟩
  | 2 => ⟨S2048x512, .f32⟩
  | 3 => ⟨S2048x3840, .f32⟩
  | 4 => ⟨S2048x512, .f32⟩
  | 5 => ⟨S128, .f32⟩
  | 6 => ⟨S64, .f32⟩
  | 7 => ⟨S2048x512, .f32⟩
  | 8 => ⟨S1x64, .f32⟩
  | 9 => ⟨S2x64, .f32⟩
  | 10 => ⟨S128, .f32⟩
  | 11 => ⟨S2048x4x128, .f32⟩
  | 12 => ⟨S2048x4x128, .f32⟩
  | 13 => ⟨S_, .f32⟩
  | 14 => ⟨S2048x4, .f32⟩
  | 15 => ⟨S2048x4x1, .f32⟩
  | 16 => ⟨S_, .f32⟩
  | 17 => ⟨S2048x4x1, .f32⟩
  | 18 => ⟨S2048x4x1, .f32⟩
  | 19 => ⟨S_, .f32⟩
  | 20 => ⟨S2048x4x1, .f32⟩
  | 21 => ⟨S2048x4x1, .f32⟩
  | 22 => ⟨S2048x4x1, .f32⟩
  | 23 => ⟨S2048x4x1, .f32⟩
  | 24 => ⟨S_, .f32⟩
  | 25 => ⟨S2048x4x1, .f32⟩
  | 26 => ⟨S2048x4x1, .f32⟩
  | 27 => ⟨S2048x4x128, .f32⟩
  | 28 => ⟨S2048x4x128, .f32⟩
  | 29 => ⟨S1x1x128, .f32⟩
  | 30 => ⟨S2048x4x128, .f32⟩
  | 31 => ⟨S2048x4x128, .f32⟩
  | 32 => ⟨S2048x4x128, .f32⟩
  | 33 => ⟨S2048x4x128, .f32⟩
  | 34 => ⟨S2048x4x128, .f32⟩
  | 35 => ⟨S_, .f32⟩
  | 36 => ⟨S2048x4x128, .f32⟩
  | 37 => ⟨S2048x4x128, .f32⟩
  | 38 => ⟨S_, .f32⟩
  | 39 => ⟨S2048x4x128, .f32⟩
  | 40 => ⟨S2048x4x128, .f32⟩
  | 41 => ⟨S_, .f32⟩
  | 42 => ⟨S2048x4x128, .f32⟩
  | 43 => ⟨S2048x4x128, .f32⟩
  | 44 => ⟨S2048x4x128, .f32⟩
  | 45 => ⟨S2048x4x128, .f32⟩
  | 46 => ⟨S2048x4x128, .f32⟩
  | 47 => ⟨S2048x4x2x64, .f32⟩
  | 48 => ⟨S2x64, .f32⟩
  | 49 => ⟨S2048x4x2x64, .f32⟩
  | 50 => ⟨S_, .f32⟩
  | 51 => ⟨S2048x4x2, .f32⟩
  | 52 => ⟨S2048x4x2x1, .f32⟩
  | 53 => ⟨S_, .f32⟩
  | 54 => ⟨S2048x4x2x1, .f32⟩
  | 55 => ⟨S2048x4x2x1, .f32⟩
  | 56 => ⟨S_, .f32⟩
  | 57 => ⟨S2048x4x2x1, .f32⟩
  | 58 => ⟨S2048x4x2x1, .f32⟩
  | 59 => ⟨S2048x4x2x1, .f32⟩
  | 60 => ⟨S2048x4x2x1, .f32⟩
  | 61 => ⟨S_, .f32⟩
  | 62 => ⟨S2048x4x2x1, .f32⟩
  | 63 => ⟨S2048x4x2x1, .f32⟩
  | 64 => ⟨S2048x4x2x64, .f32⟩
  | 65 => ⟨S2048x4x2x64, .f32⟩
  | 66 => ⟨S1x1x2x64, .f32⟩
  | 67 => ⟨S2048x4x2x64, .f32⟩
  | 68 => ⟨S2048x4x2x64, .f32⟩
  | 69 => ⟨S2048x512, .f32⟩
  | 70 => ⟨S2048x512, .f32⟩
  | 71 => ⟨S2048x1024, .f32⟩
  | 72 => ⟨S1024x1024, .f32⟩
  | 73 => ⟨S2048x1024, .f32⟩
  | 74 => ⟨S2048x1024, .f32⟩
  | 75 => ⟨S2048x1024, .f32⟩
  | 76 => ⟨S2048x512, .f32⟩
  | 77 => ⟨S2048x512, .f32⟩
  | 78 => ⟨S2048x4x2x64, .f32⟩
  | 79 => ⟨S2048x4x128, .f32⟩
  | 80 => ⟨S2048x4x2x64, .f32⟩
  | 81 => ⟨S_, .f32⟩
  | 82 => ⟨S2x64, .f32⟩
  | 83 => ⟨S1x1x2x64, .f32⟩
  | 84 => ⟨S2048x4x2x64, .f32⟩
  | 85 => ⟨S2048x4x2x64, .f32⟩
  | 86 => ⟨S_, .f32⟩
  | 87 => ⟨S2x64, .f32⟩
  | 88 => ⟨S2048x4x2x64, .f32⟩
  | 89 => ⟨S_, .f32⟩
  | 90 => ⟨S2048x4x2, .f32⟩
  | 91 => ⟨S2048x4x2x1, .f32⟩
  | 92 => ⟨S2048x4x2x64, .f32⟩
  | 93 => ⟨S2048x4x2x64, .f32⟩
  | 94 => ⟨S2048x4x2x1, .f32⟩
  | 95 => ⟨S_, .f32⟩
  | 96 => ⟨S2048x4x2x1, .f32⟩
  | 97 => ⟨S2048x4x2x1, .f32⟩
  | 98 => ⟨S_, .f32⟩
  | 99 => ⟨S2048x4x2, .f32⟩
  | 100 => ⟨S2048x4x2x64, .f32⟩
  | 101 => ⟨S2048x4x2x64, .f32⟩
  | 102 => ⟨S2048x4x2x64, .f32⟩
  | 103 => ⟨S2048x4x2x64, .f32⟩
  | 104 => ⟨S2048x4x2x64, .f32⟩
  | 105 => ⟨S128, .f32⟩
  | 106 => ⟨S2048x512, .f32⟩
  | 107 => ⟨S2048x4x128, .f32⟩
  | 108 => ⟨S2048x4x128, .f32⟩
  | 109 => ⟨S2048x4x128, .f32⟩
  | 110 => ⟨S2048x4x128, .f32⟩
  | 111 => ⟨S2048x4x128, .f32⟩
  | 112 => ⟨S2048x4x128, .f32⟩
  | 113 => ⟨S2048x512, .f32⟩
  | 114 => ⟨S2048x4x128, .f32⟩
  | 115 => ⟨S_, .f32⟩
  | 116 => ⟨S128, .f32⟩
  | 117 => ⟨S1x1x128, .f32⟩
  | 118 => ⟨S2048x4x128, .f32⟩
  | 119 => ⟨S2048x4x128, .f32⟩
  | 120 => ⟨S_, .f32⟩
  | 121 => ⟨S128, .f32⟩
  | 122 => ⟨S2048x4x128, .f32⟩
  | 123 => ⟨S_, .f32⟩
  | 124 => ⟨S2048x4, .f32⟩
  | 125 => ⟨S2048x4x1, .f32⟩
  | 126 => ⟨S2048x4x128, .f32⟩
  | 127 => ⟨S2048x4x128, .f32⟩
  | _ => ⟨S2048x1024, .bf16⟩

abbrev hbmTy0_1 (i : Nat) : BufTy := match i % 128 with
  | 0 => ⟨S2048x4x1, .f32⟩
  | 1 => ⟨S_, .f32⟩
  | 2 => ⟨S2048x4x1, .f32⟩
  | 3 => ⟨S2048x4x1, .f32⟩
  | 4 => ⟨S_, .f32⟩
  | 5 => ⟨S2048x4, .f32⟩
  | 6 => ⟨S2048x4x128, .f32⟩
  | 7 => ⟨S2048x4x128, .f32⟩
  | 8 => ⟨S2048x4x128, .f32⟩
  | 9 => ⟨S2048x4x128, .f32⟩
  | 10 => ⟨S2048x4x128, .f32⟩
  | 11 => ⟨S2048x512, .f32⟩
  | 12 => ⟨S2048x512, .bf16⟩
  | 13 => ⟨S1x128, .f32⟩
  | 14 => ⟨S1x128, .f32⟩
  | 15 => ⟨S_, .f32⟩
  | 16 => ⟨S6x128, .f32⟩
  | 17 => ⟨S8x128, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_v85 : Ref sig .tc := ⟨.hbm, 122, rfl⟩
abbrev main_cst_14 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_15 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_17 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== FoxD.lean ====
abbrev S2048x3840 : Shape := ⟨2, ![2048, 3840]⟩
abbrev S128x2048 : Shape := ⟨2, ![128, 2048]⟩
abbrev S512x512 : Shape := ⟨2, ![512, 512]⟩
abbrev S512x128 : Shape := ⟨2, ![512, 128]⟩
abbrev S256x512 : Shape := ⟨2, ![256, 512]⟩
abbrev S2048x512 : Shape := ⟨2, ![2048, 512]⟩
abbrev S256x128 : Shape := ⟨2, ![256, 128]⟩
abbrev S256x2048 : Shape := ⟨2, ![256, 2048]⟩
abbrev S2048x128 : Shape := ⟨2, ![2048, 128]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S2048x3840, .f32⟩
  | .hbm, ⟨1, _⟩ => ⟨S128x2048, .f32⟩
  | .hbm, ⟨2, _⟩ => ⟨S512x512, .f32⟩
  | .hbm, ⟨3, _⟩ => ⟨S512x128, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S128x2048, .f32⟩
  | .local _ .vmem, ⟨5, _⟩ => ⟨S256x512, .f32⟩
  | .local _ .vmem, ⟨6, _⟩ => ⟨S256x512, .f32⟩
  | .local _ .vmem, ⟨7, _⟩ => ⟨S256x128, .f32⟩
  | .local _ .vmem, ⟨8, _⟩ => ⟨S256x128, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let v0 : BitVec 32 := Scalar.addi c6_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FoxDIdeal.lean ====
variable {F : FTy → Type} [FloatOps F] [Named F]
def κ : String → Option EReal := fun
  | "mask" => some ⊥
  | _ => none
-- ==== FoxDRefIdeal.lean ====
abbrev S2048x3840 : Shape := ⟨2, ![2048, 3840]⟩
abbrev S128x2048 : Shape := ⟨2, ![128, 2048]⟩
abbrev S512x512 : Shape := ⟨2, ![512, 512]⟩
abbrev S2048x512 : Shape := ⟨2, ![2048, 512]⟩
abbrev S8x2048 : Shape := ⟨2, ![8, 2048]⟩
abbrev S8x512 : Shape := ⟨2, ![8, 512]⟩
abbrev S512x8x64 : Shape := ⟨3, ![512, 8, 64]⟩
abbrev S2048x8x64 : Shape := ⟨3, ![2048, 8, 64]⟩
abbrev S8x512x2048 : Shape := ⟨3, ![8, 512, 2048]⟩
abbrev S_ : Shape := ⟨0, ![]⟩
abbrev S8x512x1 : Shape := ⟨3, ![8, 512, 1]⟩
abbrev S8x1x2048 : Shape := ⟨3, ![8, 1, 2048]⟩
abbrev S512x2048 : Shape := ⟨2, ![512, 2048]⟩
abbrev S1x512x2048 : Shape := ⟨3, ![1, 512, 2048]⟩
abbrev S8x64x512 : Shape := ⟨3, ![8, 64, 512]⟩
abbrev S512x8 : Shape := ⟨2, ![512, 8]⟩
abbrev S512x128 : Shape := ⟨2, ![512, 128]⟩

abbrev nBuf : Space → Nat
  | .hbm => 84
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S128x2048, .f32⟩
  | .hbm, ⟨2, _⟩ => ⟨S512x512, .f32⟩
  | .hbm, ⟨3, _⟩ => ⟨S2048x512, .f32⟩
  | .hbm, ⟨4, _⟩ => ⟨S2048x512, .f32⟩
  | .hbm, ⟨5, _⟩ => ⟨S8x2048, .f32⟩
  | .hbm, ⟨6, _⟩ => ⟨S8x512, .f32⟩
  | .hbm, ⟨7, _⟩ => ⟨S512x8x64, .f32⟩
  | .hbm, ⟨8, _⟩ => ⟨S2048x8x64, .f32⟩
  | .hbm, ⟨9, _⟩ => ⟨S2048x8x64, .f32⟩
  | .hbm, ⟨10, _⟩ => ⟨S8x512x2048, .f32⟩
  | .hbm, ⟨11, _⟩ => ⟨S_, .f32⟩
  | .hbm, ⟨12, _⟩ => ⟨S8x512x2048, .f32⟩
  | .hbm, ⟨13, _⟩ => ⟨S8x512x2048, .f32⟩
  | .hbm, ⟨14, _⟩ => ⟨S8x512x1, .f32⟩
  | .hbm, ⟨15, _⟩ => ⟨S8x512x2048, .f32⟩
  | .hbm, ⟨16, _⟩ => ⟨S8x512x2048, .f32⟩
  | .hbm, ⟨17, _⟩ => ⟨S8x1x2048, .f32⟩
  | .hbm, ⟨18, _⟩ => ⟨S8x512x2048, .f32⟩
  | .hbm, ⟨19, _⟩ => ⟨S8x512x2048, .f32⟩
  | .hbm, ⟨20, _⟩ => ⟨S512x2048, .i32⟩
  | .hbm, ⟨21, _⟩ => ⟨S512x2048, .i32⟩
  | .hbm, ⟨22, _⟩ => ⟨S_, .i32⟩
  | .hbm, ⟨23, _⟩ => ⟨S512x2048, .i32⟩
  | .hbm, ⟨24, _⟩ => ⟨S512x2048, .i32⟩
  | .hbm, ⟨25, _⟩ => ⟨S512x2048, .i1⟩
  | .hbm, ⟨26, _⟩ => ⟨S1x512x2048, .i1⟩
  | .hbm, ⟨27, _⟩ => ⟨S_, .f32⟩
  | .hbm, ⟨28, _⟩ => ⟨S_, .f32⟩
  | .hbm, ⟨29, _⟩ => ⟨S8x512x2048, .i1⟩
  | .hbm, ⟨30, _⟩ => ⟨S8x512x2048, .f32⟩
  | .hbm, ⟨31, _⟩ => ⟨S8x512x2048, .f32⟩
  | .hbm, ⟨32, _⟩ => ⟨S_, .f32⟩
  | .hbm, ⟨33, _⟩ => ⟨S8x512, .f32⟩
  | .hbm, ⟨34, _⟩ => ⟨S_, .f32⟩
  | .hbm, ⟨35, _⟩ => ⟨S8x512, .f32⟩
  | .hbm, ⟨36, _⟩ => ⟨S8x512, .f32⟩
  | .hbm, ⟨37, _⟩ => ⟨S8x512x1, .f32⟩
  | .hbm, ⟨38, _⟩ => ⟨S8x512x2048, .f32⟩
  | .hbm, ⟨39, _⟩ => ⟨S8x512x2048, .f32⟩
  | .hbm, ⟨40, _⟩ => ⟨S8x512x2048, .f32⟩
  | .hbm, ⟨41, _⟩ => ⟨S_, .f32⟩
  | .hbm, ⟨42, _⟩ => ⟨S8x512, .f32⟩
  | .hbm, ⟨43, _⟩ => ⟨S8x512x1, .f32⟩
  | .hbm, ⟨44, _⟩ => ⟨S8x512x2048, .f32⟩
  | .hbm, ⟨45, _⟩ => ⟨S8x512x2048, .f32⟩
  | .hbm, ⟨46, _⟩ => ⟨S8x64x512, .f32⟩
  | .hbm, ⟨47, _⟩ => ⟨S512x8x64, .f32⟩
  | .hbm, ⟨48, _⟩ => ⟨S512x512, .f32⟩
  | .hbm, ⟨49, _⟩ => ⟨S512x8x64, .f32⟩
  | .hbm, ⟨50, _⟩ => ⟨S2048x8x64, .f32⟩
  | .hbm, ⟨51, _⟩ => ⟨S8x512x2048, .f32⟩
  | .hbm, ⟨52, _⟩ => ⟨S_, .f32⟩
  | .hbm, ⟨53, _⟩ => ⟨S8x512x2048, .f32⟩
  | .hbm, ⟨54, _⟩ => ⟨S8x512x2048, .f32⟩
  | .hbm, ⟨55, _⟩ => ⟨S8x1x2048, .f32⟩
  | .hbm, ⟨56, _⟩ => ⟨S8x512x2048, .f32⟩
  | .hbm, ⟨57, _⟩ => ⟨S8x512x2048, .f32⟩
  | .hbm, ⟨58, _⟩ => ⟨S512x2048, .i32⟩
  | .hbm, ⟨59, _⟩ => ⟨S512x2048, .i32⟩
  | .hbm, ⟨60, _⟩ => ⟨S_, .i32⟩
  | .hbm, ⟨61, _⟩ => ⟨S512x2048, .i32⟩
  | .hbm, ⟨62, _⟩ => ⟨S512x2048, .i32⟩
  | .hbm, ⟨63, _⟩ => ⟨S512x2048, .i1⟩
  | .hbm, ⟨64, _⟩ => ⟨S1x512x2048, .i1⟩
  | .hbm, ⟨65, _⟩ => ⟨S_, .f32⟩
  | .hbm, ⟨66, _⟩ => ⟨S_, .f32⟩
  | .hbm, ⟨67, _⟩ => ⟨S8x512x2048, .i1⟩
  | .hbm, ⟨68, _⟩ => ⟨S8x512x2048, .f32⟩
  | .hbm, ⟨69, _⟩ => ⟨S8x512x2048, .f32⟩
  | .hbm, ⟨70, _⟩ => ⟨S_, .f32⟩
  | .hbm, ⟨71, _⟩ => ⟨S8x512, .f32⟩
  | .hbm, ⟨72, _⟩ => ⟨S8x512x1, .f32⟩
  | .hbm, ⟨73, _⟩ => ⟨S8x512x2048, .f32⟩
  | .hbm, ⟨74, _⟩ => ⟨S8x512x2048, .f32⟩
  | .hbm, ⟨75, _⟩ => ⟨S8x512x2048, .f32⟩
  | .hbm, ⟨76, _⟩ => ⟨S_, .f32⟩
  | .hbm, ⟨77, _⟩ => ⟨S8x512, .f32⟩
  | .hbm, ⟨78, _⟩ => ⟨S8x512, .f32⟩
  | .hbm, ⟨79, _⟩ => ⟨S8x512, .f32⟩
  | .hbm, ⟨80, _⟩ => ⟨S512x8, .f32⟩
  | .hbm, ⟨81, _⟩ => ⟨S_, .i32⟩
  | .hbm, ⟨82, _⟩ => ⟨S_, .f32⟩
  | .hbm, ⟨83, _⟩ => ⟨S512x128, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_9 : Ref sig .tc := ⟨.hbm, 81, rfl⟩
abbrev main_call2_v0 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Stores.lean ====
module

public import Idealize.ShloMosaic.Lib.Pipeline.ValueKit
public import Idealize.ShloMosaic.Lib.Pipeline.ReadBack
public import Idealize.ShloMosaic.Lib.Writes
public import Idealize.ShloMosaic.Lib.Pointwise

/-! What a list of stores leaves, read at an index: the newest store that holds the index gives its payload. -/

@[expose] public section

noncomputable section

namespace Cert.Stores

open Idealize.ShloMosaic

variable {s : Shape} {Val : EltTy → Type} {e : EltTy}

/-- A way to read a list of stores, the newest first. -/
structure Reads (f : List (View.Piece Val s e) → s.Idx → Val e) : Prop where
  hit : ∀ (r : Rect s) (w : r.shape.Idx → Val e) L x, f (⟨r, w⟩ :: L) (r.emb x) = w x
  miss : ∀ (p : View.Piece Val s e) L y, y ∉ p.1.set → f (p :: L) y = f L y

theorem reads_canon [∀ e, Nonempty (Val e)] : Reads (View.canon (Val := Val) (s := s) (e := e)) :=
  ⟨View.canon_cons_emb, fun p L _ h => View.canon_cons_of_not_mem p L h⟩

theorem reads_writes {sig : RefSig} {κ : Kind} {sp : Space} (v : View sig κ sp s e) (b : v.ty.Contents Val) :
    Reads (fun L => v.read Val (v.writes Val b L)) :=
  ⟨fun r w L x => View.read_writes_cons_hit v b r w L x _ rfl, fun p L y h => View.read_writes_cons_miss v b p L y h⟩

variable {m n : ℕ} {f : List (View.Piece Val (⟨2, ![m, n]⟩ : Shape) e) → (⟨2, ![m, n]⟩ : Shape).Idx → Val e} (hf : Reads f)

include hf in
/-- The newest store is a block of `h` rows and `w` columns: an index inside reads its payload, and one outside the older stores. -/
theorem Reads.block {a b h w : ℕ} (inb : ∀ k, (![a, b] : Fin 2 → ℕ) k + (![h, w] : Fin 2 → ℕ) k ≤ (![m, n] : Fin 2 → ℕ) k)
    (p : (⟨2, ![h, w]⟩ : Shape).Idx → Val e) (L : List (View.Piece Val (⟨2, ![m, n]⟩ : Shape) e)) (i : Fin m) (j : Fin n) (v : Val e)
    (hin : ∀ (x : Fin h) (y : Fin w), i.val = a + x → j.val = b + y → p (ix2 x y) = v)
    (hout : ¬(a ≤ i.val ∧ i.val < a + h ∧ b ≤ j.val ∧ j.val < b + w) → f L (ix2 i j) = v) :
    f (⟨Rect.unit (s := ⟨2, ![m, n]⟩) ![a, b] ![h, w] inb, p⟩ :: L) (ix2 i j) = v := by
  by_cases hm : a ≤ i.val ∧ i.val < a + h ∧ b ≤ j.val ∧ j.val < b + w
  · have e : (Rect.unit (s := ⟨2, ![m, n]⟩) ![a, b] ![h, w] inb).emb (ix2 (⟨i.val - a, by omega⟩ : Fin h) (⟨j.val - b, by omega⟩ : Fin w)) = ix2 i j := by
      apply Rect.emb_eq_of_coords
      intro k
      fin_cases k
      · show i.val = a + 1 * (i.val - a); omega
      · show j.val = b + 1 * (j.val - b); omega
    rw [← e]
    exact (hf.hit (Rect.unit (s := ⟨2, ![m, n]⟩) ![a, b] ![h, w] inb) p L (ix2 (⟨i.val - a, by omega⟩ : Fin h) (⟨j.val - b, by omega⟩ : Fin w))).trans (hin ⟨i.val - a, by omega⟩ ⟨j.val - b, by omega⟩ (by show i.val = a + (i.val - a); omega) (by show j.val = b + (j.val - b); omega))
  · rw [hf.miss]
    · exact hout hm
    · rw [Rect.mem_set_unit]
      intro h
      exact hm ⟨(h 0).1, (h 0).2, (h 1).1, (h 1).2⟩

include hf in
/-- Two stores of the same block: the newer one hides the older. -/
theorem Reads.block_over {a b h w : ℕ} (inb inb' : ∀ k, (![a, b] : Fin 2 → ℕ) k + (![h, w] : Fin 2 → ℕ) k ≤ (![m, n] : Fin 2 → ℕ) k)
    (p p' : (⟨2, ![h, w]⟩ : Shape).Idx → Val e) (L : List (View.Piece Val (⟨2, ![m, n]⟩ : Shape) e)) (i : Fin m) (j : Fin n) (v : Val e)
    (hin : ∀ (x : Fin h) (y : Fin w), i.val = a + x → j.val = b + y → p (ix2 x y) = v)
    (hout : ¬(a ≤ i.val ∧ i.val < a + h ∧ b ≤ j.val ∧ j.val < b + w) → f L (ix2 i j) = v) :
    f (⟨Rect.unit (s := ⟨2, ![m, n]⟩) ![a, b] ![h, w] inb, p⟩ :: ⟨Rect.unit (s := ⟨2, ![m, n]⟩) ![a, b] ![h, w] inb', p'⟩ :: L) (ix2 i j) = v :=
  hf.block inb p _ i j v hin fun ho => hf.block inb' p' L i j v (fun x y hx hy => (ho ⟨by omega, by omega, by omega, by omega⟩).elim) hout

include hf in
/-- The newest store is a strip of `w` columns that ends where the index's bound does: the index is inside, or left of it. -/
theorem Reads.strip {b w : ℕ} (inb : ∀ k, (![0, b] : Fin 2 → ℕ) k + (![m, w] : Fin 2 → ℕ) k ≤ (![m, n] : Fin 2 → ℕ) k)
    (p : (⟨2, ![m, w]⟩ : Shape).Idx → Val e) (L : List (View.Piece Val (⟨2, ![m, n]⟩ : Shape) e)) (i : Fin m) (j : Fin n) (v : Val e)
    (hj : j.val < b + w) (hin : ∀ y : Fin w, j.val = b + y → p (ix2 i y) = v) (hout : j.val < b → f L (ix2 i j) = v) :
    f (⟨Rect.unit (s := ⟨2, ![m, n]⟩) ![0, b] ![m, w] inb, p⟩ :: L) (ix2 i j) = v := by
  refine hf.block inb p L i j v (fun x y hx hy => ?_) fun h => hout (by omega)
  obtain rfl : i = x := Fin.ext (by omega)
  exact hin y hy

/-- The same for a block with one leading plane. -/
theorem Reads.strip_plane {f : List (View.Piece Val (⟨3, ![1, m, n]⟩ : Shape) e) → (⟨3, ![1, m, n]⟩ : Shape).Idx → Val e} (hf : Reads f) {b w : ℕ}
    (inb : ∀ k, (![0, 0, b] : Fin 3 → ℕ) k + (![1, m, w] : Fin 3 → ℕ) k ≤ (![1, m, n] : Fin 3 → ℕ) k)
    (p : (⟨3, ![1, m, w]⟩ : Shape).Idx → Val e) (L : List (View.Piece Val (⟨3, ![1, m, n]⟩ : Shape) e)) (i : Fin m) (j : Fin n) (v : Val e)
    (hj : j.val < b + w) (hin : ∀ y : Fin w, j.val = b + y → p (ix3 0 i y) = v) (hout : j.val < b → f L (ix3 0 i j) = v) :
    f (⟨Rect.unit (s := ⟨3, ![1, m, n]⟩) ![0, 0, b] ![1, m, w] inb, p⟩ :: L) (ix3 0 i j) = v := by
  by_cases hb : b ≤ j.val
  · have e : (Rect.unit (s := ⟨3, ![1, m, n]⟩) ![0, 0, b] ![1, m, w] inb).emb (ix3 0 i (⟨j.val - b, by omega⟩ : Fin w)) = ix3 0 i j := by
      apply Rect.emb_eq_of_coords
      intro k
      fin_cases k
      · rfl
      · show i.val = 0 + 1 * i.val; omega
      · show j.val = b + 1 * (j.val - b); omega
    rw [← e]
    exact (hf.hit (Rect.unit (s := ⟨3, ![1, m, n]⟩) ![0, 0, b] ![1, m, w] inb) p L (ix3 0 i (⟨j.val - b, by omega⟩ : Fin w))).trans
      (hin ⟨j.val - b, by omega⟩ (by show j.val = b + (j.val - b); omega))
  · rw [hf.miss]
    · exact hout (by omega)
    · rw [Rect.mem_set_unit]
      intro h
      exact hb (h 2).1

/-- A load of a block reads the array at the block's place. -/
theorem ld_block {a b h w : ℕ} (X : FVec Ideal (⟨2, ![m, n]⟩ : Shape) .f32)
    (inb : ∀ k, (![a, b] : Fin 2 → ℕ) k + (![h, w] : Fin 2 → ℕ) k ≤ (![m, n] : Fin 2 → ℕ) k) (x : Fin h) (y : Fin w)
    (i : Fin m) (j : Fin n) (hi : i.val = a + x) (hj : j.val = b + y) :
    View.ld (Val := Elt Ideal) (e' := .f32) X (Rect.unit (s := ⟨2, ![m, n]⟩) ![a, b] ![h, w] inb) (ix2 x y) = X (ix2 i j) := by
  refine congrArg X (funext fun k => Fin.ext ?_)
  fin_cases k
  · show a + 1 * x.val = i.val; omega
  · show b + 1 * y.val = j.val; omega

end Cert.Stores

end

end
-- ==== Proof.Softmax.lean ====
module

public import Idealize.ShloMosaic.Lib.Pointwise
public import Mathlib.Data.Finset.Fold
public import Mathlib.Analysis.SpecialFunctions.Log.Basic

/-! One row of causal attention and its gradient over the real numbers, and the extended-real expressions that come to it.

A row has `n` scores; `ok j` says which of them the causal mask keeps. -/

@[expose] public section

noncomputable section

namespace Cert.Fox

open Idealize.ShloMosaic Finset

/-- A finite sum of real numbers, taken in the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

variable {n : ℕ} (ok : Fin n → Prop) [DecidablePred ok]

/-- The sum of the exponentials of the kept scores. -/
def total (a : Fin n → ℝ) : ℝ := ∑ j, if ok j then Real.exp (a j) else 0

/-- The attention weight of column `j`: the softmax over the kept scores, and zero elsewhere. -/
def weight (a : Fin n → ℝ) (j : Fin n) : ℝ := if ok j then Real.exp (a j) / total ok a else 0

/-- The gradient of the row's scores, from its weights and from `b j`, the gradient of the weight of column `j`. -/
def slope (a b : Fin n → ℝ) (j : Fin n) : ℝ := weight ok a j * (b j - ∑ i, weight ok a i * b i)

variable {ok} (hne : ∃ j, ok j)

include hne in
/-- With a kept column the sum of exponentials is positive. -/
theorem total_pos (a : Fin n → ℝ) : 0 < total ok a := by
  obtain ⟨j, hj⟩ := hne
  refine sum_pos' (fun i _ => ?_) ⟨j, mem_univ _, ?_⟩
  · split <;> positivity
  · rw [if_pos hj]; positivity

/-- Lowering every score by `M` divides the sum of exponentials by `exp M`. -/
theorem total_sub (a : Fin n → ℝ) (M : ℝ) : total ok (fun j => a j - M) = total ok a * Real.exp (-M) := by
  unfold total
  rw [sum_mul]
  refine sum_congr rfl fun j _ => ?_
  split
  · rw [← Real.exp_add, ← sub_eq_add_neg]
  · rw [zero_mul]

/-- The weights do not change when every score of the row is lowered by the same number. -/
theorem weight_sub (a : Fin n → ℝ) (M : ℝ) (j : Fin n) : weight ok (fun i => a i - M) j = weight ok a j := by
  unfold weight
  split
  · rw [total_sub]
    show Real.exp (a j - M) / _ = _
    rw [sub_eq_add_neg, Real.exp_add, mul_div_mul_right _ _ (Real.exp_pos _).ne']
  · rfl

/-- The score gradient does not change when every score of the row is lowered by the same number. -/
theorem slope_sub (a b : Fin n → ℝ) (M : ℝ) (j : Fin n) : slope ok (fun i => a i - M) b j = slope ok a b j := by
  unfold slope
  simp only [weight_sub]

/-- The masked score as an extended real: the score where it is kept and −∞ elsewhere. -/
def score (ok : Fin n → Prop) [DecidablePred ok] (a : Fin n → ℝ) (j : Fin n) : EReal := if ok j then (a j : EReal) else ⊥

include hne in
/-- The largest masked score of a row with a kept column is a real number. -/
theorem fold_max_score (a : Fin n → ℝ) : ∃ M : ℝ, (univ : Finset (Fin n)).fold max ⊥ (score ok a) = (M : EReal) := by
  obtain ⟨j, hj⟩ := hne
  have hlt : (univ : Finset (Fin n)).fold max ⊥ (score ok a) < ⊤ := by
    rw [Finset.fold_max_lt]
    refine ⟨bot_lt_top, fun i _ => ?_⟩
    unfold score; split
    · exact EReal.coe_lt_top _
    · exact bot_lt_top
  have hge : ((a j : ℝ) : EReal) ≤ (univ : Finset (Fin n)).fold max ⊥ (score ok a) := by
    rw [Finset.le_fold_max]
    exact .inr ⟨j, mem_univ _, by unfold score; rw [if_pos hj]⟩
  have hbot : (univ : Finset (Fin n)).fold max ⊥ (score ok a) ≠ ⊥ := fun h => by
    rw [h] at hge; exact absurd hge (not_le.2 (EReal.bot_lt_coe _))
  exact ⟨_, (EReal.coe_toReal hlt.ne hbot).symm⟩

/-- The greatest entry of a row of masked scores, for any writing of the maximum of two numbers and of −∞. -/
theorem fold_op_score {a : Fin n → ℝ} {M : EReal} (hM : (univ : Finset (Fin n)).fold max ⊥ (score ok a) = M)
    {op : EReal → EReal → EReal} [Std.Commutative op] [Std.Associative op] (hop : op = max) {b : EReal} (hb : b = ⊥)
    {f : Fin n → EReal} (hf : ∀ j, f j = score ok a j) : (univ : Finset (Fin n)).fold op b f = M := by
  subst hop hb
  obtain rfl : f = score ok a := funext hf
  exact hM

/-- A masked score less a real number is the masked score of the lowered row. -/
theorem score_sub (a : Fin n → ℝ) (M : ℝ) (j : Fin n) : score ok a j - (M : EReal) = score ok (fun i => a i - M) j := by
  unfold score; split
  · rw [EReal.coe_sub]
  · exact EReal.bot_sub _

/-- The exponential of a masked score is real, and zero where the mask drops it. -/
theorem exp_score (a : Fin n → ℝ) (j : Fin n) : Ideal.exp (score ok a j) = ((if ok j then Real.exp (a j) else 0 : ℝ) : EReal) := by
  unfold score; split
  · rfl
  · rfl

/-- The sum of the exponentials of the masked scores. -/
theorem sum_exp_score (a : Fin n → ℝ) : ∑ j, Ideal.exp (score ok a j) = (total ok a : EReal) := by
  simp only [exp_score, sum_coe]; rfl

include hne in
/-- An exponential divided by their sum is the weight. -/
theorem exp_div_total (a : Fin n → ℝ) (j : Fin n) :
    Ideal.div (Ideal.exp (score ok a j)) (total ok a : EReal) = (weight ok a j : EReal) := by
  rw [Ideal.div_coe (total_pos hne a).ne', exp_score, ← EReal.coe_mul]
  unfold weight; split
  · rw [mul_one_div]
  · rw [zero_mul]

include hne in
/-- The exponential of a masked score less its row's maximum and the logarithm of its lowered total is the weight. -/
theorem exp_sub_lse (a : Fin n → ℝ) (M : ℝ) (j : Fin n) :
    Ideal.exp (score ok a j - ((M : EReal) + Ideal.log (total ok (fun i => a i - M) : EReal))) = (weight ok a j : EReal) := by
  have hp := total_pos hne (fun i => a i - M)
  have hl : Ideal.log (total ok (fun i => a i - M) : EReal) = ((Real.log (total ok (fun i => a i - M)) : ℝ) : EReal) := by
    exact if_neg hp.not_ge
  rw [hl, ← EReal.coe_add, score_sub, exp_score]
  congr 1
  unfold weight; split
  · rw [total_sub] at hp ⊢
    rw [← sub_sub, Real.exp_sub, Real.exp_log hp, sub_eq_add_neg, Real.exp_add, mul_div_mul_right _ _ (Real.exp_pos _).ne']
  · rfl

/-- The gradient through the softmax as differentiation writes it, from the exponentials and their sum. -/
theorem slope_of_exp (a b : Fin n → ℝ) (hne : ∃ j, ok j) (j : Fin n) :
    (Ideal.div (b j : EReal) (total ok a : EReal) +
        -(∑ i, (b i : EReal) * Ideal.div 1 ((total ok a : EReal) * (total ok a : EReal)) * Ideal.exp (score ok a i))) *
      Ideal.exp (score ok a j) = (slope ok a b j : EReal) := by
  have hp := total_pos hne a
  simp only [← EReal.coe_mul, exp_score, Ideal.div_coe hp.ne', Ideal.div_coe (mul_pos hp hp).ne', one_mul, sum_coe, ← EReal.coe_neg,
    ← EReal.coe_add]
  congr 1
  have hs : ∑ i, b i * (1 / (total ok a * total ok a)) * (if ok i then Real.exp (a i) else 0) =
      (∑ i, weight ok a i * b i) * (1 / total ok a) := by
    rw [sum_mul]
    refine sum_congr rfl fun i _ => ?_
    unfold weight; split
    · field_simp
    · ring
  rw [hs]
  unfold slope
  generalize ∑ i, weight ok a i * b i = D
  unfold weight; split
  · field_simp; ring
  · ring

end Cert.Fox

end
-- ==== Proof.Spec.lean ====
module

public import proofs.«01_k».proof.Proof.Softmax

/-! The forgetting attention of one group of query rows and its gradient, over the real numbers.

The projections `p`, the cumulated decays `c` and the output's gradient `g` are tables of real numbers named by their row and
column; `n` is the number of keys, `h` the head, `r` the query's row and `j` the key's. Queries lie in the columns from 2048,
keys from 2560, values from 3072; head `h` holds 64 columns and the decays' row `8 + h`. -/

@[expose] public section

noncomputable section

namespace Cert.Fox

open Idealize.ShloMosaic Finset

variable (n : ℕ) (p c g : ℕ → ℕ → ℝ)

/-- The causal mask of query row `r`: the keys up to the row itself. -/
def causal {n : ℕ} (r : ℕ) (j : Fin n) : Prop := j.val ≤ r

instance (r : ℕ) : DecidablePred (causal (n := n) r) := fun j => inferInstanceAs (Decidable (j.val ≤ r))

/-- The score of query row `r` and key row `j`: the scaled product, less the key's cumulated decay. The query's own decay is
    the same for the whole row and does not change the weights. -/
def raw (h r j : ℕ) : ℝ := (∑ d : Fin 64, p r (2048 + (h * 64 + d)) * p j (2560 + (h * 64 + d))) * (1 / 8) - c (8 + h) j

/-- The gradient of the weight of query row `r` and key row `j`. -/
def gradW (h r j : ℕ) : ℝ := ∑ d : Fin 64, g r (h * 64 + d) * p j (3072 + (h * 64 + d))

/-- The attention weight of query row `r` and key row `j`. -/
def attn (h r : ℕ) (j : Fin n) : ℝ := weight (causal r) (fun i : Fin n => raw p c h r i) j

/-- The gradient of the score of query row `r` and key row `j`. -/
def gradS (h r : ℕ) (j : Fin n) : ℝ := slope (causal r) (fun i : Fin n => raw p c h r i) (fun i : Fin n => gradW p g h r i) j

/-- The gradient of query row `r` at column `l`. -/
def gradQ (r l : ℕ) : ℝ := ∑ j : Fin n, gradS n p c g (l / 64) r j * (1 / 8) * p j (2560 + l)

/-- The gradient of key row `j` at column `l`, from the 512 query rows that begin at row `R`. -/
def gradK (R : ℕ) (j : Fin n) (l : ℕ) : ℝ := ∑ i : Fin 512, gradS n p c g (l / 64) (R + i) j * (1 / 8) * p (R + i) (2048 + l)

/-- The gradient of value row `j` at column `l`, from the 512 query rows that begin at row `R`. -/
def gradV (R : ℕ) (j : Fin n) (l : ℕ) : ℝ := ∑ i : Fin 512, attn n p c (l / 64) (R + i) j * g (R + i) l

/-- The gradient of the cumulated decay of query row `r` and head `h`. -/
def gradRow (r h : ℕ) : ℝ := ∑ j : Fin n, gradS n p c g h r j

/-- The gradient of the cumulated decay of key row `j` and head `h`, from the 512 query rows that begin at row `R`. -/
def gradCol (R h : ℕ) (j : Fin n) : ℝ := -∑ i : Fin 512, gradS n p c g h (R + i) j

/-- One eighth, as the programs write it. -/
theorem ofBits_eighth : Ideal.ofBits .f32 0x3E000000#32 = ((1 / 8 : ℝ) : EReal) := by
  simp [Ideal.ofBits, Ideal.ieee, -EReal.coe_mul]; norm_num

/-- Negative infinity, as the programs write it. -/
theorem ofBits_neg_inf : Ideal.ofBits .f32 0xFF800000#32 = ⊥ := by
  simp [Ideal.ofBits, Ideal.ieee]

/-- A signed comparison of two small index words compares the indices. -/
theorem sle_ofNat {a b : ℕ} (ha : a < 2 ^ 16) (hb : b < 2 ^ 16) :
    IntOp.cmpi .sle (BitVec.ofNat 32 a) (BitVec.ofNat 32 b) = BitVec.ofBool (decide (a ≤ b)) := by
  unfold IntOp.cmpi
  congr 1
  rw [Bool.eq_iff_iff]
  simp [BitVec.sle, BitVec.toInt_eq_toNat_cond]
  omega

/-- A selection by a decided condition. -/
theorem select_decide {α : Type} (P : Prop) [Decidable P] (a b : α) :
    Scalar.select (BitVec.ofBool (decide P)) a b = if P then a else b := by
  by_cases h : P <;> simp [Scalar.select, h]

/-- A query row has a key that the causal mask keeps. -/
theorem causal_exists {n : ℕ} (hn : 0 < n) (r : ℕ) : ∃ j : Fin n, causal r j := ⟨⟨0, hn⟩, Nat.zero_le _⟩

end Cert.Fox

end

end
-- ==== Proof.Head.lean ====
module

public import proofs.«01_k».proof.Proof.Gen.KernelIdeal.Skeleton
public import Idealize.ShloMosaic.Lib.Pointwise
public import proofs.«01_k».proof.Proof.Spec

/-! One head of the kernel's body. Two heads share the 128 lanes that the body loads at once; a head's mask keeps its half. Each
    vector is named as the body writes it and then read at an index. -/

@[expose] public section

set_option maxRecDepth 16384

noncomputable section

namespace Cert.Head

open Idealize.ShloMosaic Cert.KernelIdeal Cert.KernelIdeal.Gen Cert.KernelIdeal.Facts Cert.Fox Finset

local instance : Cert.KernelIdeal.Facts := Cert.KernelIdeal.Gen.facts

abbrev Rows := FVec Ideal S256x128 .f32
abbrev Keys := FVec Ideal S2048x128 .f32
abbrev Square := FVec Ideal S256x2048 .f32

/-- The lanes from `a` up to `b`. -/
def lanes (a b : BitVec 32) : IVec S256x128 1 :=
  andi (cmpi .sge (iota .tc S256x128 32 [1] iota_S256x128_d1_w32) (broadcast S256x128 a))
    (cmpi .slt (iota .tc S256x128 32 [1] iota_S256x128_d1_w32) (broadcast S256x128 b))

/-- The head's scaled queries. -/
def queries (a b : BitVec 32) (q : Rows) : Rows :=
  select (lanes a b) (mulf q (broadcast S256x128 (Scalar.ofBits .f32 0x3E000000#32))) (broadcast S256x128 (Scalar.ofBits .f32 0x00000000#32))

/-- The head's part of the output's gradient. -/
def cots (a b : BitVec 32) (g : Rows) : Rows := select (lanes a b) g (broadcast S256x128 (Scalar.ofBits .f32 0x00000000#32))

/-- The head's weights. -/
def weights (i : grid0.Coords) (a b : BitVec 32) (q : Rows) (k : Keys) (c : FVec Ideal S1x2048 .f32) (l : FVec Ideal S256x1 .f32) : Square :=
  exp (subf
    (select (k0_pay2 i)
      (subf (matmul dot_S256x128_S2048x128_S256x2048_1_1_0_0_n_n none (truncf .bf16 (queries a b q) bitsLt_bf16_f32) (truncf .bf16 k bitsLt_bf16_f32) (constant S256x2048 .f32 0x00000000#32))
        (broadcastTo S256x2048 c broadcasts_S1x2048_S256x2048))
      (broadcast S256x2048 (Named.named κ "mask" 0xF149F2CA#32)))
    (broadcastTo S256x2048 (shapeCast S256x1 l shapeCasts_S256x1_S256x1) broadcasts_S256x1_S256x2048))

/-- The gradient of the head's scores, from its weights. -/
def slopes (P : Square) (a b : BitVec 32) (v : Keys) (o g : Rows) : Square :=
  mulf P (subf
    (matmul dot_S256x128_S2048x128_S256x2048_1_1_0_0_n_n none (truncf .bf16 (cots a b g) bitsLt_bf16_f32) (truncf .bf16 v bitsLt_bf16_f32) (constant S256x2048 .f32 0x00000000#32))
    (broadcastTo S256x2048
      (shapeCast S256x1
        (multiReduction .add [1] S256 (mulf (cots a b g) (shapeCast S256x128 o shapeCasts_S256x128_S256x128)) 0x00000000#32
          reduces_S256x128_S256 (.inl rfl) rfl)
        shapeCasts_S256_S256x1)
      broadcasts_S256x1_S256x2048))

/-- What the head adds to a gradient of the keys' rows: the product of a square, transposed, and rows. -/
def addRows (D : Square) (w : Rows) (acc : Keys) : Keys :=
  addf (shapeCast S2048x128 acc shapeCasts_S2048x128_S2048x128)
    (matmul dot_S256x2048_S256x128_S2048x128_0_0_1_1_n_n none (truncf .bf16 D bitsLt_bf16_f32) (truncf .bf16 w bitsLt_bf16_f32) (constant S2048x128 .f32 0x00000000#32))

/-- The gradient of the head's queries, put over the other head's. -/
def putQueries (D : Square) (a b : BitVec 32) (k : Keys) (old : Rows) : Rows :=
  select (lanes a b)
    (mulf (matmul dot_S256x2048_S2048x128_S256x128_1_0_0_1_n_n none (truncf .bf16 D bitsLt_bf16_f32) (truncf .bf16 k bitsLt_bf16_f32) (constant S256x128 .f32 0x00000000#32))
      (broadcast S256x128 (Scalar.ofBits .f32 0x3E000000#32)))
    old

/-- The head's row sums, put into its lane. -/
def putLane (D : Square) (h : BitVec 32) (old : Rows) : Rows :=
  select (cmpi .eq (iota .tc S256x128 32 [1] iota_S256x128_d1_w32) (broadcast S256x128 h))
    (broadcastTo S256x128
      (shapeCast S256x1
        (shapeCast S256x1 (multiReduction .add [1] S256 D 0x00000000#32 reduces_S256x2048_S256 (.inl rfl) rfl) shapeCasts_S256_S256x1)
        shapeCasts_S256x1_S256x1)
      broadcasts_S256x1_S256x128)
    old

/-- The head's column sums, taken from its row. -/
def subCols (D : Square) (old : FVec Ideal S1x2048 .f32) : FVec Ideal S1x2048 .f32 :=
  addf (shapeCast S1x2048 old shapeCasts_S1x2048_S1x2048)
    (subf (broadcast S1x2048 (Scalar.ofBits .f32 0x00000000#32))
      (shapeCast S1x2048 (multiReduction .add [0] S2048 D 0x00000000#32 reduces_S256x2048_S2048 (.inl rfl) rfl) shapeCasts_S2048_S1x2048))

/-- The scaled queries at an index. -/
theorem queries_apply (a b : BitVec 32) (q : Rows) (y : Fin 256) (d : Fin 128) :
    queries a b q (ix2 y d) = Scalar.select (lanes a b (ix2 y d)) (q (ix2 y d) * Ideal.ofBits .f32 0x3E000000#32) 0 := by
  pointwise [queries]

/-- The weights at an index. -/
theorem weights_apply (i : grid0.Coords) (a b : BitVec 32) (q : Rows) (k : Keys) (c : FVec Ideal S1x2048 .f32) (l : FVec Ideal S256x1 .f32)
    (y : Fin 256) (j : Fin 2048) :
    weights i a b q k c l (ix2 y j) = Ideal.exp (Scalar.select (k0_pay2 i (ix2 y j))
      (∑ d : Fin 128, queries a b q (ix2 y d) * k (ix2 j d) - c (ix2 0 j)) ⊥ - l (ix2 y 0)) := by
  pointwise [weights]
  rfl

/-- The gradient of the scores at an index. -/
theorem slopes_apply (P : Square) (a b : BitVec 32) (v : Keys) (o g : Rows) (y : Fin 256) (j : Fin 2048) :
    slopes P a b v o g (ix2 y j) =
      P (ix2 y j) * (∑ d : Fin 128, cots a b g (ix2 y d) * v (ix2 j d) - ∑ d : Fin 128, cots a b g (ix2 y d) * o (ix2 y d)) := by
  pointwise [slopes]

/-- The sum of a gradient and a head's part at an index. -/
theorem addRows_apply (D : Square) (w : Rows) (acc : Keys) (j : Fin 2048) (l : Fin 128) :
    addRows D w acc (ix2 j l) = acc (ix2 j l) + ∑ y : Fin 256, D (ix2 y j) * w (ix2 y l) := by
  pointwise [addRows]

/-- The gradient of the queries at an index. -/
theorem putQueries_apply (D : Square) (a b : BitVec 32) (k : Keys) (old : Rows) (y : Fin 256) (l : Fin 128) :
    putQueries D a b k old (ix2 y l) = Scalar.select (lanes a b (ix2 y l))
      ((∑ j : Fin 2048, D (ix2 y j) * k (ix2 j l)) * Ideal.ofBits .f32 0x3E000000#32) (old (ix2 y l)) := by
  pointwise [putQueries]

/-- The row sums at an index. -/
theorem putLane_apply (D : Square) (h : BitVec 32) (old : Rows) (y : Fin 256) (l : Fin 128) :
    putLane D h old (ix2 y l) = Scalar.select (IntOp.cmpi .eq (BitVec.ofNat 32 l.val) h) (∑ j : Fin 2048, D (ix2 y j)) (old (ix2 y l)) := by
  pointwise [putLane]

/-- The column sums at an index. -/
theorem subCols_apply (D : Square) (old : FVec Ideal S1x2048 .f32) (j : Fin 2048) :
    subCols D old (ix2 0 j) = old (ix2 0 j) + (0 - ∑ y : Fin 256, D (ix2 y j)) := by
  pointwise [subCols]

/-- The head's part of the output's gradient at an index. -/
theorem cots_apply (a b : BitVec 32) (g : Rows) (y : Fin 256) (d : Fin 128) :
    cots a b g (ix2 y d) = Scalar.select (lanes a b (ix2 y d)) (g (ix2 y d)) 0 := by
  pointwise [cots]

/-- The lanes of the first or the second head of a pair. -/
theorem lanes_apply (e : Fin 2) (y : Fin 256) (d : Fin 128) :
    lanes (BitVec.ofNat 32 (64 * e.val)) (BitVec.ofNat 32 (64 * e.val + 64)) (ix2 y d) = BitVec.ofBool (decide (d.val / 64 = e.val)) := by
  pointwise [lanes]
  revert e d
  decide +kernel

/-- Only a head's own lane is written. -/
theorem lane_eq (l : Fin 128) (h : Fin 16) : IntOp.cmpi .eq (BitVec.ofNat 32 l.val) (BitVec.ofNat 32 h.val) = BitVec.ofBool (decide (l.val = h.val)) := by
  revert l h
  decide +kernel

/-- The causal mask of the rows of grid point `i`. -/
theorem causal_apply (i : grid0.Coords) (R : ℕ) (hR : R = 256 * (6 + (i 0).val)) (y : Fin 256) (j : Fin 2048) :
    k0_pay2 i (ix2 y j) = BitVec.ofBool (decide (causal (R + y.val) j)) := by
  have hi : (i 0).val < 2 := (i 0).isLt
  unfold_payloads
  pointwise []
  have e : IntOp.addi (Scalar.muli (Scalar.addi 6#32 (BitVec.ofNat 32 (i 0).val)) 256#32) (BitVec.ofNat 32 y.val) = BitVec.ofNat 32 (R + y.val) := by
    show (6#32 + BitVec.ofNat 32 (i 0).val) * 256#32 + BitVec.ofNat 32 y.val = _
    apply BitVec.eq_of_toNat_eq
    simp
    omega
  rw [e, sle_ofNat (by omega) (by omega)]
  rfl

end Cert.Head

end

end
-- ==== Proof.Pair.lean ====
module

public import proofs.«01_k».proof.Proof.Head

/-! A pair of heads whose rows and lanes are those of the tables: its weights, the gradient of its scores, and what it adds to
    each result. -/

@[expose] public section

set_option maxRecDepth 16384

noncomputable section

namespace Cert.Pair

open Idealize.ShloMosaic Cert.KernelIdeal Cert.Head Cert.Fox Finset

/-- A sum over the lanes that a head's mask keeps is a sum over the head's 64 columns. -/
theorem sum_lanes (e : Fin 2) (pr : ℕ) (f : ℕ → ℝ) :
    (∑ d : Fin 128, if d.val / 64 = e.val then f (128 * pr + d) else 0) = ∑ d : Fin 64, f ((2 * pr + e) * 64 + d) := by
  rw [show (128 : ℕ) = 64 + 64 from rfl, Fin.sum_univ_add]
  have h0 : ∀ d : Fin 64, (Fin.castAdd 64 d).val / 64 = 0 := fun d => by simp
  have h1 : ∀ d : Fin 64, (Fin.natAdd 64 d).val / 64 = 1 := fun d => by simp
  simp only [h0, h1]
  fin_cases e
  · simp; refine sum_congr rfl fun d _ => congrArg f (by omega)
  · simp; refine sum_congr rfl fun d _ => congrArg f (by omega)

variable (p c g : ℕ → ℕ → ℝ) (R pr : ℕ)

/-- The 128 lanes of a pair of heads, at the 256 query rows that begin at `R`. -/
structure Tile (q : Rows) (k v : Keys) (o w : Rows) : Prop where
  q : ∀ (y : Fin 256) (d : Fin 128), q (ix2 y d) = (p (R + y) (2048 + (128 * pr + d)) : EReal)
  k : ∀ (j : Fin 2048) (d : Fin 128), k (ix2 j d) = (p j (2560 + (128 * pr + d)) : EReal)
  v : ∀ (j : Fin 2048) (d : Fin 128), v (ix2 j d) = (p j (3072 + (128 * pr + d)) : EReal)
  o : ∀ (y : Fin 256) (d : Fin 128), o (ix2 y d) =
    ((∑ j : Fin 2048, p j (3072 + (128 * pr + d)) * attn 2048 p c ((128 * pr + d) / 64) (R + y) j : ℝ) : EReal)
  w : ∀ (y : Fin 256) (d : Fin 128), w (ix2 y d) = (g (R + y) (128 * pr + d) : EReal)

/-- The decays of one head's keys and the log-sum-exp of its rows. -/
structure Line (h : ℕ) (dec : FVec Ideal S1x2048 .f32) (l : FVec Ideal S256x1 .f32) : Prop where
  dec : ∀ j : Fin 2048, dec (ix2 0 j) = (c (8 + h) j : EReal)
  l : ∀ (y : Fin 256) (j : Fin 2048), Ideal.exp (score (causal (R + y.val)) (fun j : Fin 2048 => raw p c h (R + y) j) j - l (ix2 y 0)) =
    (attn 2048 p c h (R + y) j : EReal)

variable {p c g R pr} {q : Rows} {k v : Keys} {o w : Rows} (hT : Tile p c g R pr q k v o w)

abbrev lo (e : Fin 2) : BitVec 32 := BitVec.ofNat 32 (64 * e.val)
abbrev hi (e : Fin 2) : BitVec 32 := BitVec.ofNat 32 (64 * e.val + 64)

include hT in
/-- The scaled queries of a head, zero outside its lanes. -/
theorem queries_eq (e : Fin 2) (y : Fin 256) (d : Fin 128) : queries (lo e) (hi e) q (ix2 y d) =
    ((if d.val / 64 = e.val then 1 / 8 * p (R + y) (2048 + (128 * pr + d)) else 0 : ℝ) : EReal) := by
  rw [queries_apply, lanes_apply, select_decide, hT.q, ofBits_eighth, ← EReal.coe_mul, mul_comm]
  split <;> simp

include hT in
/-- The head's part of the output's gradient, zero outside its lanes. -/
theorem cots_eq (e : Fin 2) (y : Fin 256) (d : Fin 128) : cots (lo e) (hi e) w (ix2 y d) =
    ((if d.val / 64 = e.val then g (R + y) (128 * pr + d) else 0 : ℝ) : EReal) := by
  rw [cots_apply, lanes_apply, select_decide, hT.w]
  split <;> simp

variable {i : grid0.Coords} (hR : R = 256 * (6 + (i 0).val)) {e : Fin 2} {dec : FVec Ideal S1x2048 .f32} {l : FVec Ideal S256x1 .f32}
  (hL : Line p c R (2 * pr + e) dec l)

include hT hR hL in
/-- The weights of a head. -/
theorem weights_eq (y : Fin 256) (j : Fin 2048) : weights i (lo e) (hi e) q k dec l (ix2 y j) =
    (attn 2048 p c (2 * pr + e) (R + y) j : EReal) := by
  rw [weights_apply, causal_apply i R hR, select_decide, ← hL.l]
  congr 2
  unfold score
  split
  · simp only [queries_eq hT, hT.k, hL.dec, ← EReal.coe_mul, sum_coe, ← EReal.coe_sub, ite_mul, zero_mul]
    rw [sum_lanes e pr fun d => 1 / 8 * p (R + y) (2048 + d) * p j (2560 + d)]
    unfold raw
    simp only [mul_comm _ (1 / 8 : ℝ), mul_sum, mul_assoc]
  · rfl

include hT in
/-- The inner product of a row's output and its gradient is the mean of the gradient of the weights. -/
theorem delta_eq (e : Fin 2) (y : Fin 256) : ∑ d : Fin 128, cots (lo e) (hi e) w (ix2 y d) * o (ix2 y d) =
    ((∑ j : Fin 2048, attn 2048 p c (2 * pr + e) (R + y) j * gradW p g (2 * pr + e) (R + y) j : ℝ) : EReal) := by
  simp only [cots_eq hT, hT.o, ← EReal.coe_mul, sum_coe, ite_mul, zero_mul]
  rw [sum_lanes e pr fun d => g (R + y) d * ∑ j : Fin 2048, p j (3072 + d) * attn 2048 p c (d / 64) (R + y) j]
  unfold gradW
  simp only [mul_sum]
  rw [sum_comm]
  refine congrArg _ (sum_congr rfl fun j _ => sum_congr rfl fun d _ => ?_)
  rw [show ((2 * pr + e) * 64 + d.val) / 64 = 2 * pr + e by omega]
  ring

include hT hR hL in
/-- The gradient of a head's scores. -/
theorem slopes_eq (y : Fin 256) (j : Fin 2048) : slopes (weights i (lo e) (hi e) q k dec l) (lo e) (hi e) v o w (ix2 y j) =
    (gradS 2048 p c g (2 * pr + e) (R + y) j : EReal) := by
  rw [slopes_apply, weights_eq hT hR hL, delta_eq hT]
  simp only [cots_eq hT, hT.v, ← EReal.coe_mul, sum_coe, ite_mul, zero_mul]
  rw [sum_lanes e pr fun d => g (R + y) d * p j (3072 + d), ← EReal.coe_sub, ← EReal.coe_mul]
  rfl

/-- What the two heads of a pair add to a gradient of the keys' rows, at one lane: only the lane's own head counts. -/
theorem add_pair (D0 D1 : Square) (w0 w1 : Rows) (acc : Keys) (T : ℕ → Fin 256 → Fin 2048 → ℝ) (W : Fin 256 → ℕ → ℝ)
    (hD0 : ∀ (y : Fin 256) (j : Fin 2048), D0 (ix2 y j) = (T (2 * pr) y j : EReal))
    (hD1 : ∀ (y : Fin 256) (j : Fin 2048), D1 (ix2 y j) = (T (2 * pr + 1) y j : EReal))
    (hw0 : ∀ (y : Fin 256) (d : Fin 128), w0 (ix2 y d) = ((if d.val / 64 = 0 then W y (128 * pr + d) else 0 : ℝ) : EReal))
    (hw1 : ∀ (y : Fin 256) (d : Fin 128), w1 (ix2 y d) = ((if d.val / 64 = 1 then W y (128 * pr + d) else 0 : ℝ) : EReal))
    (j : Fin 2048) (l : Fin 128) (A : ℝ) (hA : acc (ix2 j l) = (A : EReal)) :
    addRows D1 w1 (addRows D0 w0 acc) (ix2 j l) =
      ((A + ∑ y : Fin 256, T ((128 * pr + l) / 64) y j * W y (128 * pr + l) : ℝ) : EReal) := by
  rw [addRows_apply, addRows_apply, hA]
  simp only [hD0, hD1, hw0, hw1, ← EReal.coe_mul, sum_coe, ← EReal.coe_add]
  congr 1
  have hl : l.val / 64 = 0 ∨ l.val / 64 = 1 := by omega
  rcases hl with h | h
  · rw [show (128 * pr + l.val) / 64 = 2 * pr by omega]
    simp [h]
  · rw [show (128 * pr + l.val) / 64 = 2 * pr + 1 by omega]
    simp [h]

/-- The gradient of a pair's queries, at one lane. -/
theorem put_pair (D0 D1 : Square) (old : Rows) (T : ℕ → Fin 256 → Fin 2048 → ℝ) (K : Fin 2048 → ℕ → ℝ)
    (hD0 : ∀ (y : Fin 256) (j : Fin 2048), D0 (ix2 y j) = (T (2 * pr) y j : EReal))
    (hD1 : ∀ (y : Fin 256) (j : Fin 2048), D1 (ix2 y j) = (T (2 * pr + 1) y j : EReal))
    (hk : ∀ (j : Fin 2048) (d : Fin 128), k (ix2 j d) = (K j (128 * pr + d) : EReal)) (y : Fin 256) (l : Fin 128) :
    putQueries D1 (lo 1) (hi 1) k (putQueries D0 (lo 0) (hi 0) k old) (ix2 y l) =
      ((∑ j : Fin 2048, T ((128 * pr + l) / 64) y j * (1 / 8) * K j (128 * pr + l) : ℝ) : EReal) := by
  rw [putQueries_apply, putQueries_apply, lanes_apply, lanes_apply, select_decide, select_decide]
  simp only [hD0, hD1, hk, ofBits_eighth, ← EReal.coe_mul, sum_coe, sum_mul, mul_right_comm]
  have hl : l.val / 64 = 0 ∨ l.val / 64 = 1 := by omega
  rcases hl with h | h
  · rw [show (128 * pr + l.val) / 64 = 2 * pr by omega]
    simp [h]
  · rw [show (128 * pr + l.val) / 64 = 2 * pr + 1 by omega]
    simp [h]

/-- A head's row sums at an index. -/
theorem put_lane (D : Square) (h : Fin 16) (old : Rows) (T : Fin 2048 → ℝ) (y : Fin 256) (l : Fin 128)
    (hD : ∀ j : Fin 2048, D (ix2 y j) = (T j : EReal)) :
    putLane D (BitVec.ofNat 32 h.val) old (ix2 y l) = if l.val = h.val then ((∑ j : Fin 2048, T j : ℝ) : EReal) else old (ix2 y l) := by
  rw [putLane_apply, lane_eq, select_decide]
  simp only [hD, sum_coe]

/-- A head's column sums at an index. -/
theorem sub_cols (D : Square) (old : FVec Ideal S1x2048 .f32) (T : Fin 256 → ℝ) (j : Fin 2048) (A : ℝ) (hA : old (ix2 0 j) = (A : EReal))
    (hD : ∀ y : Fin 256, D (ix2 y j) = (T y : EReal)) : subCols D old (ix2 0 j) = ((A - ∑ y : Fin 256, T y : ℝ) : EReal) := by
  rw [subCols_apply, hA]
  simp only [hD, sum_coe]
  rw [EReal.coe_sub, sub_eq_add_neg, sub_eq_add_neg, zero_add]

end Cert.Pair

end

end
-- ==== Proof.Point.lean ====
module

public import proofs.«01_k».proof.Proof.Gen.KernelIdeal.Frame
public import proofs.«01_k».proof.Proof.Stores
public import proofs.«01_k».proof.Proof.Pair

/-! One grid point of the kernel: what it leaves in each output's block. -/

@[expose] public section

set_option maxRecDepth 16384

noncomputable section

namespace Cert.Point

open Idealize.ShloMosaic Idealize.SL.Sem Cert.KernelIdeal Cert.KernelIdeal.Gen Cert.KernelIdeal.Facts Cert.Head Cert.Pair Cert.Stores Cert.Fox Finset

local instance : Cert.KernelIdeal.Facts := Cert.KernelIdeal.Gen.facts

variable (p c g : ℕ → ℕ → ℝ) (R : ℕ)

/-- The blocks that a grid point reads, the query rows beginning at `R`. -/
structure Ins (q : FVec Ideal S256x512 .f32) (k v : FVec Ideal S2048x512 .f32) (dec : FVec Ideal S128x2048 .f32)
    (o : FVec Ideal S256x512 .f32) (l : FVec Ideal S256x128 .f32) (w : FVec Ideal S256x512 .f32) : Prop where
  q : ∀ (y : Fin 256) (d : Fin 512), q (ix2 y d) = (p (R + y) (2048 + d) : EReal)
  k : ∀ (j : Fin 2048) (d : Fin 512), k (ix2 j d) = (p j (2560 + d) : EReal)
  v : ∀ (j : Fin 2048) (d : Fin 512), v (ix2 j d) = (p j (3072 + d) : EReal)
  dec : ∀ (h : Fin 128) (j : Fin 2048), dec (ix2 h j) = (c h j : EReal)
  o : ∀ (y : Fin 256) (d : Fin 512), o (ix2 y d) =
    ((∑ j : Fin 2048, p j (3072 + d) * attn 2048 p c (d / 64) (R + y) j : ℝ) : EReal)
  l : ∀ (h : Fin 8) (y : Fin 256) (z : Fin 128), z.val = h.val → ∀ j : Fin 2048,
    Ideal.exp (score (causal (R + y.val)) (fun j : Fin 2048 => raw p c h (R + y) j) j - l (ix2 y z)) = (attn 2048 p c h (R + y) j : EReal)
  w : ∀ (y : Fin 256) (d : Fin 512), w (ix2 y d) = (g (R + y) d : EReal)

variable {p c g R} {q : FVec Ideal S256x512 .f32} {k v : FVec Ideal S2048x512 .f32} {dec : FVec Ideal S128x2048 .f32}
    {o : FVec Ideal S256x512 .f32} {l : FVec Ideal S256x128 .f32} {w : FVec Ideal S256x512 .f32} (hI : Ins p c g R q k v dec o l w)

/-! That a load stays inside its block: 128 columns of the queries' and of the keys' block, one row of decays, one lane. -/
abbrev In256 (a : ℕ) : Prop := ∀ i, (![0, a] : Fin 2 → ℕ) i + (![256, 128] : Fin 2 → ℕ) i ≤ (![256, 512] : Fin 2 → ℕ) i
abbrev In2048 (a : ℕ) : Prop := ∀ i, (![0, a] : Fin 2 → ℕ) i + (![2048, 128] : Fin 2 → ℕ) i ≤ (![2048, 512] : Fin 2 → ℕ) i
abbrev InDec (a : ℕ) : Prop := ∀ i, (![a, 0] : Fin 2 → ℕ) i + (![1, 2048] : Fin 2 → ℕ) i ≤ (![128, 2048] : Fin 2 → ℕ) i
abbrev InLse (a : ℕ) : Prop := ∀ i, (![0, a] : Fin 2 → ℕ) i + (![256, 1] : Fin 2 → ℕ) i ≤ (![256, 128] : Fin 2 → ℕ) i

abbrev rowsAt (x : FVec Ideal S256x512 .f32) (a : ℕ) (h : In256 a) : Rows :=
  View.ld (Val := Elt Ideal) (e' := .f32) x (Rect.unit (s := S256x512) ![0, a] ![256, 128] h)

abbrev keysAt (x : FVec Ideal S2048x512 .f32) (a : ℕ) (h : In2048 a) : Keys :=
  View.ld (Val := Elt Ideal) (e' := .f32) x (Rect.unit (s := S2048x512) ![0, a] ![2048, 128] h)

abbrev decAt (x : FVec Ideal S128x2048 .f32) (a : ℕ) (h : InDec a) : FVec Ideal S1x2048 .f32 :=
  View.ld (Val := Elt Ideal) (e' := .f32) x (Rect.unit (s := S128x2048) ![a, 0] ![1, 2048] h)

abbrev lseAt (x : FVec Ideal S256x128 .f32) (a : ℕ) (h : InLse a) : FVec Ideal S256x1 .f32 :=
  View.ld (Val := Elt Ideal) (e' := .f32) x (Rect.unit (s := S256x128) ![0, a] ![256, 1] h)

include hI in
/-- A pair's lanes of the blocks. -/
theorem tile {pr a : ℕ} (h256 h2048) (ha : a = 128 * pr) (hp : pr < 4) :
    Tile p c g R pr (rowsAt q a h256) (keysAt k a h2048) (keysAt v a h2048) (rowsAt o a h256) (rowsAt w a h256) := by
  subst ha
  constructor
  · intro y d
    exact (ld_block q h256 y d y ⟨128 * pr + d, by omega⟩ (by omega) rfl).trans (hI.q _ _)
  · intro y d
    exact (ld_block k h2048 y d y ⟨128 * pr + d, by omega⟩ (by omega) rfl).trans (hI.k _ _)
  · intro y d
    exact (ld_block v h2048 y d y ⟨128 * pr + d, by omega⟩ (by omega) rfl).trans (hI.v _ _)
  · intro y d
    exact (ld_block o h256 y d y ⟨128 * pr + d, by omega⟩ (by omega) rfl).trans (hI.o _ _)
  · intro y d
    exact (ld_block w h256 y d y ⟨128 * pr + d, by omega⟩ (by omega) rfl).trans (hI.w _ _)

include hI in
/-- A head's decays and log-sum-exp. -/
theorem line {h a : ℕ} (hd hl) (ha : a = 8 + h) (hh : h < 8) : Line p c R h (decAt dec a hd) (lseAt l h hl) := by
  subst ha
  constructor
  · intro j
    exact (ld_block dec hd 0 j ⟨8 + h, by omega⟩ j (by simp) (by omega)).trans (hI.dec _ _)
  · intro y j
    rw [show lseAt l h hl (ix2 y 0) = l (ix2 y ⟨h, by omega⟩) from ld_block l hl y 0 y ⟨h, by omega⟩ (by omega) (by simp)]
    exact hI.l ⟨h, hh⟩ y ⟨h, by omega⟩ rfl j

/-- A head's weights, from the blocks' loads at column `a`, row `b` and lane `e`. -/
abbrev headW (i : grid0.Coords) (z : Fin 2) (q : FVec Ideal S256x512 .f32) (k : FVec Ideal S2048x512 .f32) (dec : FVec Ideal S128x2048 .f32)
    (l : FVec Ideal S256x128 .f32) (a b e : ℕ) (h256 : In256 a) (h2048 : In2048 a) (hd : InDec b) (hl : InLse e) : Square :=
  weights i (lo z) (hi z) (rowsAt q a h256) (keysAt k a h2048) (decAt dec b hd) (lseAt l e hl)

/-- The gradient of a head's scores, from the blocks' loads. -/
abbrev headS (i : grid0.Coords) (z : Fin 2) (q : FVec Ideal S256x512 .f32) (k v : FVec Ideal S2048x512 .f32) (dec : FVec Ideal S128x2048 .f32)
    (o : FVec Ideal S256x512 .f32) (l : FVec Ideal S256x128 .f32) (w : FVec Ideal S256x512 .f32) (a b e : ℕ) (h256 : In256 a) (h2048 : In2048 a)
    (hd : InDec b) (hl : InLse e) : Square :=
  slopes (headW i z q k dec l a b e h256 h2048 hd hl) (lo z) (hi z) (keysAt v a h2048) (rowsAt o a h256) (rowsAt w a h256)

variable {i : grid0.Coords} (hR : R = 256 * (6 + (i 0).val)) {pr : ℕ} {a b e b' e' : ℕ} {h256 : In256 a} {h2048 : In2048 a} {hd : InDec b}
  {hl : InLse e} {hd' : InDec b'} {hl' : InLse e'}

include hI hR in
/-- The weights of a head at an index. -/
theorem headW_eq (z : Fin 2) (ha : a = 128 * pr) (hp : pr < 4) (he : e = 2 * pr + z) (hb : b = 8 + e) (y : Fin 256) (j : Fin 2048) :
    headW i z q k dec l a b e h256 h2048 hd hl (ix2 y j) = (attn 2048 p c e (R + y) j : EReal) := by
  subst he
  exact weights_eq (tile hI h256 h2048 ha hp) hR (line hI hd hl hb (by omega)) y j

include hI hR in
/-- The gradient of a head's scores at an index. -/
theorem headS_eq (z : Fin 2) (ha : a = 128 * pr) (hp : pr < 4) (he : e = 2 * pr + z) (hb : b = 8 + e) (y : Fin 256) (j : Fin 2048) :
    headS i z q k v dec o l w a b e h256 h2048 hd hl (ix2 y j) = (gradS 2048 p c g e (R + y) j : EReal) := by
  subst he
  exact slopes_eq (tile hI h256 h2048 ha hp) hR (line hI hd hl hb (by omega)) y j

include hI hR in
/-- What a pair adds to the gradient of the keys. -/
theorem pairK (ha : a = 128 * pr) (hp : pr < 4) (he : e = 2 * pr) (hb : b = 8 + e) (he' : e' = 2 * pr + 1) (hb' : b' = 8 + e')
    (X : FVec Ideal S2048x512 .f32) (A : ℝ) (j : Fin 2048) (n : Fin 512) (hA : X (ix2 j n) = (A : EReal)) (x : Fin 2048) (y : Fin 128)
    (hj : j.val = 0 + x.val) (hn : n.val = a + y.val) :
    addRows (headS i 1 q k v dec o l w a b' e' h256 h2048 hd' hl') (queries (lo 1) (hi 1) (rowsAt q a h256))
      (addRows (headS i 0 q k v dec o l w a b e h256 h2048 hd hl) (queries (lo 0) (hi 0) (rowsAt q a h256)) (keysAt X a h2048)) (ix2 x y) =
    ((A + ∑ y : Fin 256, gradS 2048 p c g (n / 64) (R + y) j * (1 / 8 * p (R + y) (2048 + n)) : ℝ) : EReal) := by
  obtain rfl : j = x := Fin.ext (by omega)
  rw [show n.val = 128 * pr + y.val by omega]
  exact add_pair _ _ _ _ _ (fun h y j => gradS 2048 p c g h (R + y) j) (fun y n => 1 / 8 * p (R + y) (2048 + n))
    (fun y j => he ▸ headS_eq hI hR 0 ha hp he hb y j) (fun y j => he' ▸ headS_eq hI hR 1 ha hp he' hb' y j)
    (fun y d => queries_eq (tile hI h256 h2048 ha hp) 0 y d) (fun y d => queries_eq (tile hI h256 h2048 ha hp) 1 y d) j y A ((ld_block X h2048 j y j n hj hn).trans hA)

include hI hR in
/-- What a pair adds to the gradient of the values. -/
theorem pairV (ha : a = 128 * pr) (hp : pr < 4) (he : e = 2 * pr) (hb : b = 8 + e) (he' : e' = 2 * pr + 1) (hb' : b' = 8 + e')
    (X : FVec Ideal S2048x512 .f32) (A : ℝ) (j : Fin 2048) (n : Fin 512) (hA : X (ix2 j n) = (A : EReal)) (x : Fin 2048) (y : Fin 128)
    (hj : j.val = 0 + x.val) (hn : n.val = a + y.val) :
    addRows (headW i 1 q k dec l a b' e' h256 h2048 hd' hl') (cots (lo 1) (hi 1) (rowsAt w a h256))
      (addRows (headW i 0 q k dec l a b e h256 h2048 hd hl) (cots (lo 0) (hi 0) (rowsAt w a h256)) (keysAt X a h2048)) (ix2 x y) =
    ((A + ∑ y : Fin 256, attn 2048 p c (n / 64) (R + y) j * g (R + y) n : ℝ) : EReal) := by
  obtain rfl : j = x := Fin.ext (by omega)
  rw [show n.val = 128 * pr + y.val by omega]
  exact add_pair _ _ _ _ _ (fun h y j => attn 2048 p c h (R + y) j) (fun y n => g (R + y) n)
    (fun y j => he ▸ headW_eq hI hR 0 ha hp he hb y j) (fun y j => he' ▸ headW_eq hI hR 1 ha hp he' hb' y j)
    (fun y d => cots_eq (tile hI h256 h2048 ha hp) 0 y d) (fun y d => cots_eq (tile hI h256 h2048 ha hp) 1 y d) j y A ((ld_block X h2048 j y j n hj hn).trans hA)

include hI hR in
/-- The gradient of a pair's queries. -/
theorem pairQ (ha : a = 128 * pr) (hp : pr < 4) (he : e = 2 * pr) (hb : b = 8 + e) (he' : e' = 2 * pr + 1) (hb' : b' = 8 + e')
    (old : Rows) (r x : Fin 256) (n : Fin 512) (y : Fin 128) (hr : r.val = 0 + x.val) (hn : n.val = a + y.val) :
    truncf .bf16 (putQueries (headS i 1 q k v dec o l w a b' e' h256 h2048 hd' hl') (lo 1) (hi 1) (keysAt k a h2048)
      (putQueries (headS i 0 q k v dec o l w a b e h256 h2048 hd hl) (lo 0) (hi 0) (keysAt k a h2048) old)) bitsLt_bf16_f32 (ix2 x y) =
    ((∑ j : Fin 2048, gradS 2048 p c g (n / 64) (R + r) j * (1 / 8) * p j (2560 + n) : ℝ) : EReal) := by
  obtain rfl : r = x := Fin.ext (by omega)
  rw [show n.val = 128 * pr + y.val by omega]
  exact put_pair _ _ old (fun h y j => gradS 2048 p c g h (R + y) j) (fun j n => p j (2560 + n))
    (fun y j => he ▸ headS_eq hI hR 0 ha hp he hb y j) (fun y j => he' ▸ headS_eq hI hR 1 ha hp he' hb' y j)
    (fun y d => (tile hI h256 h2048 ha hp).k y d) r y

include hI hR in
/-- What a head takes from its row of the gradient of the keys' decays. -/
theorem headCol (z : Fin 2) (ha : a = 128 * pr) (hp : pr < 4) (he : e = 2 * pr + z) (hb : b = 8 + e) (X : FVec Ideal S128x2048 .f32)
    (A : ℕ → Fin 2048 → ℝ) (hA : ∀ (r : Fin 128) (j : Fin 2048), X (ix2 r j) = (A r j : EReal)) (r : Fin 128) (j : Fin 2048) (x : Fin 1)
    (y : Fin 2048) (hr : r.val = b + x.val) (hj : j.val = 0 + y.val) :
    subCols (headS i z q k v dec o l w a b e h256 h2048 hd hl) (decAt X b hd) (ix2 x y) =
    ((if 8 ≤ r.val ∧ r.val < 16 then A r j - ∑ y : Fin 256, gradS 2048 p c g (r - 8) (R + y) j else A r j : ℝ) : EReal) := by
  obtain rfl : j = y := Fin.ext (by omega)
  obtain rfl : x = 0 := Subsingleton.elim _ _
  have hz : z.val < 2 := z.isLt
  have hr' : r.val = b := by simpa using hr
  rw [if_pos (by omega), show r.val - 8 = e by omega]
  exact sub_cols _ _ _ j _ ((ld_block X hd 0 j r j (by simpa using hr) hj).trans (hA r j)) fun y => headS_eq hI hR z ha hp he hb y j

/-- The lane of one head: its row sums there, and the older lanes elsewhere. -/
theorem lane_step (D : Square) (h : Fin 16) (old : Rows) (T : ℕ → Fin 256 → Fin 2048 → ℝ) (y : Fin 256) (n : Fin 128) (hh : 8 ≤ h.val)
    (hD : ∀ j : Fin 2048, D (ix2 y j) = (T (h - 8) y j : EReal))
    (ho : n.val ≠ h.val → old (ix2 y n) = ((if 8 ≤ n.val ∧ n.val < 16 then ∑ j : Fin 2048, T (n - 8) y j else 0 : ℝ) : EReal)) :
    putLane D (BitVec.ofNat 32 h.val) old (ix2 y n) =
    ((if 8 ≤ n.val ∧ n.val < 16 then ∑ j : Fin 2048, T (n - 8) y j else 0 : ℝ) : EReal) := by
  rw [put_lane D h old _ y n hD]
  split
  · rename_i e
    rw [if_pos (by omega), e]
  · rename_i e
    exact ho e

/-- The eight heads' row sums, each in its lane. -/
theorem lanes_all (D : Fin 8 → Square) (old : Rows) (T : ℕ → Fin 256 → Fin 2048 → ℝ) (y : Fin 256) (n : Fin 128)
    (hD : ∀ (h : Fin 8) (y : Fin 256) (j : Fin 2048), D h (ix2 y j) = (T h y j : EReal)) (h0 : old (ix2 y n) = 0) :
    putLane (D 7) 15#32 (putLane (D 6) 14#32 (putLane (D 5) 13#32 (putLane (D 4) 12#32 (putLane (D 3) 11#32 (putLane (D 2) 10#32
      (putLane (D 1) 9#32 (putLane (D 0) 8#32 old))))))) (ix2 y n) =
    ((if 8 ≤ n.val ∧ n.val < 16 then ∑ j : Fin 2048, T (n - 8) y j else 0 : ℝ) : EReal) := by
  refine lane_step _ 15 _ T y n (by decide) (hD 7 y) fun h7 => lane_step _ 14 _ T y n (by decide) (hD 6 y) fun h6 =>
    lane_step _ 13 _ T y n (by decide) (hD 5 y) fun h5 => lane_step _ 12 _ T y n (by decide) (hD 4 y) fun h4 =>
    lane_step _ 11 _ T y n (by decide) (hD 3 y) fun h3 => lane_step _ 10 _ T y n (by decide) (hD 2 y) fun h2 =>
    lane_step _ 9 _ T y n (by decide) (hD 1 y) fun h1 => lane_step _ 8 _ T y n (by decide) (hD 0 y) fun h0' => ?_
  rw [h0, if_neg]
  · rfl
  · simp at h7 h6 h5 h4 h3 h2 h1 h0'
    omega

end Cert.Point

end

end
-- ==== Proof.Leaves.lean ====
module

public import proofs.«01_k».proof.Proof.Point

/-! What each grid point leaves in each output's block, in terms of the tables. -/

@[expose] public section

set_option maxRecDepth 16384

noncomputable section

namespace Cert.Leaves

open Idealize.ShloMosaic Idealize.ShloMosaic.TcCoe Idealize.ShloMosaic.Tactic Idealize.SL.Sem
open Cert.KernelIdeal Cert.KernelIdeal.Gen Cert.KernelIdeal.Facts Cert.Head Cert.Pair Cert.Stores Cert.Point Cert.Fox Finset

local instance : Cert.KernelIdeal.Facts := Cert.KernelIdeal.Gen.facts

variable (m : (ℓ : Loc nD τ sig) → Buf (Elt Ideal) ℓ) (ch : Dev nD) (t : Fin cfg0.N) {p c g : ℕ → ℕ → ℝ} {R : ℕ}
  (hI : Ins p c g R (X0_0 m ch t) (X0_1 m ch t) (X0_2 m ch t) (iblk m ch 3 t) (iblk m ch 4 t) (iblk m ch 5 t) (iblk m ch 6 t))
  (hR : R = 256 * (6 + (cfg0.grid.coords t 0).val))

/-- The zeros that the first point begins with. -/
theorem zeros (j : Fin 2048) (n : Fin 512) : (k0_pay3 : FVec Ideal S2048x512 .f32) (ix2 j n) = ((0 : ℝ) : EReal) := by
  pointwise [k0_pay3]
  rfl

/-- The zeros that the first point begins with. -/
theorem zerosV (j : Fin 2048) (n : Fin 512) : (k0_pay4 : FVec Ideal S2048x512 .f32) (ix2 j n) = ((0 : ℝ) : EReal) := by
  pointwise [k0_pay4]
  rfl

/-- The zeros that the first point begins with. -/
theorem zerosCol (j : Fin 128) (n : Fin 2048) : (k0_pay5 : FVec Ideal S128x2048 .f32) (ix2 j n) = ((0 : ℝ) : EReal) := by
  pointwise [k0_pay5]
  rfl

include hI hR in
/-- The first point's gradient of the keys. -/
theorem keysA (h : t.val % 2 = 0) (j : Fin 2048) (n : Fin 512) : (outsAt0 m ch t.val t.isLt).2.1 (ix2 j n) =
    ((0 + ∑ y : Fin 256, gradS 2048 p c g (n / 64) (R + y) j * (1 / 8 * p (R + y) (2048 + n)) : ℝ) : EReal) := by
  rw [outsAt0_A m ch t h]
  dsimp only
  frame_open
  simp (disch := decide) only [↓ View.readCov_skip, ↓ View.readCov_cons_toLoadRect, ↓ View.readCov_fill]
  frame_out
  refine reads_canon.block_over _ _ _ _ _ _ _ _ (fun x y hx hy => pairK (pr := 3) hI hR rfl (by omega) rfl rfl rfl rfl _ _ _ _ (zeros j n) x y hx hy) fun h3 => ?_
  refine reads_canon.block_over _ _ _ _ _ _ _ _ (fun x y hx hy => pairK (pr := 2) hI hR rfl (by omega) rfl rfl rfl rfl _ _ _ _ (zeros j n) x y hx hy) fun h2 => ?_
  refine reads_canon.block_over _ _ _ _ _ _ _ _ (fun x y hx hy => pairK (pr := 1) hI hR rfl (by omega) rfl rfl rfl rfl _ _ _ _ (zeros j n) x y hx hy) fun h1 => ?_
  refine reads_canon.block_over _ _ _ _ _ _ _ _ (fun x y hx hy => pairK (pr := 0) hI hR rfl (by omega) rfl rfl rfl rfl _ _ _ _ (zeros j n) x y hx hy) fun h0 => ?_
  omega

include hI hR in
/-- The first point's gradient of the values. -/
theorem valuesA (h : t.val % 2 = 0) (j : Fin 2048) (n : Fin 512) : (outsAt0 m ch t.val t.isLt).2.2.1 (ix2 j n) =
    ((0 + ∑ y : Fin 256, attn 2048 p c (n / 64) (R + y) j * g (R + y) n : ℝ) : EReal) := by
  rw [outsAt0_A m ch t h]
  dsimp only
  frame_open
  simp (disch := decide) only [↓ View.readCov_skip, ↓ View.readCov_cons_toLoadRect, ↓ View.readCov_fill]
  frame_out
  refine reads_canon.block_over _ _ _ _ _ _ _ _ (fun x y hx hy => pairV (pr := 3) hI hR rfl (by omega) rfl rfl rfl rfl _ _ _ _ (zerosV j n) x y hx hy) fun h3 => ?_
  refine reads_canon.block_over _ _ _ _ _ _ _ _ (fun x y hx hy => pairV (pr := 2) hI hR rfl (by omega) rfl rfl rfl rfl _ _ _ _ (zerosV j n) x y hx hy) fun h2 => ?_
  refine reads_canon.block_over _ _ _ _ _ _ _ _ (fun x y hx hy => pairV (pr := 1) hI hR rfl (by omega) rfl rfl rfl rfl _ _ _ _ (zerosV j n) x y hx hy) fun h1 => ?_
  refine reads_canon.block_over _ _ _ _ _ _ _ _ (fun x y hx hy => pairV (pr := 0) hI hR rfl (by omega) rfl rfl rfl rfl _ _ _ _ (zerosV j n) x y hx hy) fun h0 => ?_
  omega

include hI hR in
/-- A point's gradient of the queries. -/
theorem queriesA (h : t.val % 2 = 0) (j : Fin 256) (n : Fin 512) : (outsAt0 m ch t.val t.isLt).1 (ix2 j n) =
    ((∑ i : Fin 2048, gradS 2048 p c g (n / 64) (R + j) i * (1 / 8) * p i (2560 + n) : ℝ) : EReal) := by
  rw [outsAt0_A m ch t h]
  dsimp only
  frame_open
  simp (disch := decide) only [↓ View.readCov_skip, ↓ View.readCov_cons_toLoadRect, ↓ View.readCov_fill]
  frame_out
  refine reads_canon.block _ _ _ _ _ _ (fun x y hx hy => pairQ (pr := 3) hI hR rfl (by omega) rfl rfl rfl rfl _ j x n y hx hy) fun h3 => ?_
  refine reads_canon.block _ _ _ _ _ _ (fun x y hx hy => pairQ (pr := 2) hI hR rfl (by omega) rfl rfl rfl rfl _ j x n y hx hy) fun h2 => ?_
  refine reads_canon.block _ _ _ _ _ _ (fun x y hx hy => pairQ (pr := 1) hI hR rfl (by omega) rfl rfl rfl rfl _ j x n y hx hy) fun h1 => ?_
  refine reads_canon.block _ _ _ _ _ _ (fun x y hx hy => pairQ (pr := 0) hI hR rfl (by omega) rfl rfl rfl rfl _ j x n y hx hy) fun h0 => ?_
  omega

include hI hR in
/-- A point's gradient of the queries. -/
theorem queriesB (h : ¬t.val % 2 = 0) (j : Fin 256) (n : Fin 512) : (outsAt0 m ch t.val t.isLt).1 (ix2 j n) =
    ((∑ i : Fin 2048, gradS 2048 p c g (n / 64) (R + j) i * (1 / 8) * p i (2560 + n) : ℝ) : EReal) := by
  rw [outsAt0_B m ch t h]
  dsimp only
  frame_open
  simp (disch := decide) only [↓ View.readCov_skip, ↓ View.readCov_cons_toLoadRect, ↓ View.readCov_fill]
  frame_out
  refine reads_canon.block _ _ _ _ _ _ (fun x y hx hy => pairQ (pr := 3) hI hR rfl (by omega) rfl rfl rfl rfl _ j x n y hx hy) fun h3 => ?_
  refine reads_canon.block _ _ _ _ _ _ (fun x y hx hy => pairQ (pr := 2) hI hR rfl (by omega) rfl rfl rfl rfl _ j x n y hx hy) fun h2 => ?_
  refine reads_canon.block _ _ _ _ _ _ (fun x y hx hy => pairQ (pr := 1) hI hR rfl (by omega) rfl rfl rfl rfl _ j x n y hx hy) fun h1 => ?_
  refine reads_canon.block _ _ _ _ _ _ (fun x y hx hy => pairQ (pr := 0) hI hR rfl (by omega) rfl rfl rfl rfl _ j x n y hx hy) fun h0 => ?_
  omega

include hI hR in
/-- A point's gradient of the queries' decays. -/
theorem lanesA (h : t.val % 2 = 0) (y : Fin 256) (n : Fin 128) : (outsAt0 m ch t.val t.isLt).2.2.2.1 (ix2 y n) =
    ((if 8 ≤ n.val ∧ n.val < 16 then ∑ j : Fin 2048, gradS 2048 p c g (n - 8) (R + y) j else 0 : ℝ) : EReal) := by
  rw [outsAt0_A m ch t h]
  dsimp only
  frame_open
  simp (disch := decide) only [↓ View.readCov_skip, ↓ View.readCov_cons_toLoadRect, ↓ View.readCov_fill]
  frame_out
  refine lane_step _ 15 _ (fun h y j => gradS 2048 p c g h (R + y) j) y n (by decide) (fun j => headS_eq (pr := 3) hI hR 1 rfl (by omega) rfl rfl y j) fun h7 => ?_
  refine lane_step _ 14 _ (fun h y j => gradS 2048 p c g h (R + y) j) y n (by decide) (fun j => headS_eq (pr := 3) hI hR 0 rfl (by omega) rfl rfl y j) fun h6 => ?_
  refine lane_step _ 13 _ (fun h y j => gradS 2048 p c g h (R + y) j) y n (by decide) (fun j => headS_eq (pr := 2) hI hR 1 rfl (by omega) rfl rfl y j) fun h5 => ?_
  refine lane_step _ 12 _ (fun h y j => gradS 2048 p c g h (R + y) j) y n (by decide) (fun j => headS_eq (pr := 2) hI hR 0 rfl (by omega) rfl rfl y j) fun h4 => ?_
  refine lane_step _ 11 _ (fun h y j => gradS 2048 p c g h (R + y) j) y n (by decide) (fun j => headS_eq (pr := 1) hI hR 1 rfl (by omega) rfl rfl y j) fun h3 => ?_
  refine lane_step _ 10 _ (fun h y j => gradS 2048 p c g h (R + y) j) y n (by decide) (fun j => headS_eq (pr := 1) hI hR 0 rfl (by omega) rfl rfl y j) fun h2 => ?_
  refine lane_step _ 9 _ (fun h y j => gradS 2048 p c g h (R + y) j) y n (by decide) (fun j => headS_eq (pr := 0) hI hR 1 rfl (by omega) rfl rfl y j) fun h1 => ?_
  refine lane_step _ 8 _ (fun h y j => gradS 2048 p c g h (R + y) j) y n (by decide) (fun j => headS_eq (pr := 0) hI hR 0 rfl (by omega) rfl rfl y j) fun h0 => ?_
  rw [if_neg (by simp at h7 h6 h5 h4 h3 h2 h1 h0; omega)]
  pointwise [k0_pay6]
  rfl

include hI hR in
/-- A point's gradient of the queries' decays. -/
theorem lanesB (h : ¬t.val % 2 = 0) (y : Fin 256) (n : Fin 128) : (outsAt0 m ch t.val t.isLt).2.2.2.1 (ix2 y n) =
    ((if 8 ≤ n.val ∧ n.val < 16 then ∑ j : Fin 2048, gradS 2048 p c g (n - 8) (R + y) j else 0 : ℝ) : EReal) := by
  rw [outsAt0_B m ch t h]
  dsimp only
  frame_open
  simp (disch := decide) only [↓ View.readCov_skip, ↓ View.readCov_cons_toLoadRect, ↓ View.readCov_fill]
  frame_out
  refine lane_step _ 15 _ (fun h y j => gradS 2048 p c g h (R + y) j) y n (by decide) (fun j => headS_eq (pr := 3) hI hR 1 rfl (by omega) rfl rfl y j) fun h7 => ?_
  refine lane_step _ 14 _ (fun h y j => gradS 2048 p c g h (R + y) j) y n (by decide) (fun j => headS_eq (pr := 3) hI hR 0 rfl (by omega) rfl rfl y j) fun h6 => ?_
  refine lane_step _ 13 _ (fun h y j => gradS 2048 p c g h (R + y) j) y n (by decide) (fun j => headS_eq (pr := 2) hI hR 1 rfl (by omega) rfl rfl y j) fun h5 => ?_
  refine lane_step _ 12 _ (fun h y j => gradS 2048 p c g h (R + y) j) y n (by decide) (fun j => headS_eq (pr := 2) hI hR 0 rfl (by omega) rfl rfl y j) fun h4 => ?_
  refine lane_step _ 11 _ (fun h y j => gradS 2048 p c g h (R + y) j) y n (by decide) (fun j => headS_eq (pr := 1) hI hR 1 rfl (by omega) rfl rfl y j) fun h3 => ?_
  refine lane_step _ 10 _ (fun h y j => gradS 2048 p c g h (R + y) j) y n (by decide) (fun j => headS_eq (pr := 1) hI hR 0 rfl (by omega) rfl rfl y j) fun h2 => ?_
  refine lane_step _ 9 _ (fun h y j => gradS 2048 p c g h (R + y) j) y n (by decide) (fun j => headS_eq (pr := 0) hI hR 1 rfl (by omega) rfl rfl y j) fun h1 => ?_
  refine lane_step _ 8 _ (fun h y j => gradS 2048 p c g h (R + y) j) y n (by decide) (fun j => headS_eq (pr := 0) hI hR 0 rfl (by omega) rfl rfl y j) fun h0 => ?_
  rw [if_neg (by simp at h7 h6 h5 h4 h3 h2 h1 h0; omega)]
  pointwise [k0_pay6]
  rfl

include hI hR in
/-- The second point's gradient of the keys, over the first point's. -/
theorem keysB (h : ¬t.val % 2 = 0) (hlt : t.val - 1 < cfg0.N) (j : Fin 2048) (n : Fin 512) (A : ℝ)
    (hA : (outsAt0 m ch (t.val - 1) hlt).2.1 (ix2 j n) = (A : EReal)) : (outsAt0 m ch t.val t.isLt).2.1 (ix2 j n) =
    ((A + ∑ y : Fin 256, gradS 2048 p c g (n / 64) (R + y) j * (1 / 8 * p (R + y) (2048 + n)) : ℝ) : EReal) := by
  rw [outsAt0_B m ch t h]
  dsimp only
  frame_open
  simp (disch := decide) only [↓ View.readCov_skip, ↓ View.readCov_cons_toLoadRect, ↓ View.readCov_fill]
  frame_out
  refine reads_canon.block_over _ _ _ _ _ _ _ _ (fun x y hx hy => pairK (pr := 3) hI hR rfl (by omega) rfl rfl rfl rfl _ _ _ _ hA x y hx hy) fun h3 => ?_
  refine reads_canon.block_over _ _ _ _ _ _ _ _ (fun x y hx hy => pairK (pr := 2) hI hR rfl (by omega) rfl rfl rfl rfl _ _ _ _ hA x y hx hy) fun h2 => ?_
  refine reads_canon.block_over _ _ _ _ _ _ _ _ (fun x y hx hy => pairK (pr := 1) hI hR rfl (by omega) rfl rfl rfl rfl _ _ _ _ hA x y hx hy) fun h1 => ?_
  refine reads_canon.block_over _ _ _ _ _ _ _ _ (fun x y hx hy => pairK (pr := 0) hI hR rfl (by omega) rfl rfl rfl rfl _ _ _ _ hA x y hx hy) fun h0 => ?_
  omega

include hI hR in
/-- The second point's gradient of the values, over the first point's. -/
theorem valuesB (h : ¬t.val % 2 = 0) (hlt : t.val - 1 < cfg0.N) (j : Fin 2048) (n : Fin 512) (A : ℝ)
    (hA : (outsAt0 m ch (t.val - 1) hlt).2.2.1 (ix2 j n) = (A : EReal)) : (outsAt0 m ch t.val t.isLt).2.2.1 (ix2 j n) =
    ((A + ∑ y : Fin 256, attn 2048 p c (n / 64) (R + y) j * g (R + y) n : ℝ) : EReal) := by
  rw [outsAt0_B m ch t h]
  dsimp only
  frame_open
  simp (disch := decide) only [↓ View.readCov_skip, ↓ View.readCov_cons_toLoadRect, ↓ View.readCov_fill]
  frame_out
  refine reads_canon.block_over _ _ _ _ _ _ _ _ (fun x y hx hy => pairV (pr := 3) hI hR rfl (by omega) rfl rfl rfl rfl _ _ _ _ hA x y hx hy) fun h3 => ?_
  refine reads_canon.block_over _ _ _ _ _ _ _ _ (fun x y hx hy => pairV (pr := 2) hI hR rfl (by omega) rfl rfl rfl rfl _ _ _ _ hA x y hx hy) fun h2 => ?_
  refine reads_canon.block_over _ _ _ _ _ _ _ _ (fun x y hx hy => pairV (pr := 1) hI hR rfl (by omega) rfl rfl rfl rfl _ _ _ _ hA x y hx hy) fun h1 => ?_
  refine reads_canon.block_over _ _ _ _ _ _ _ _ (fun x y hx hy => pairV (pr := 0) hI hR rfl (by omega) rfl rfl rfl rfl _ _ _ _ hA x y hx hy) fun h0 => ?_
  omega

include hI hR in
/-- What a point takes from the gradient of the keys' decays. -/
theorem colsA (h : t.val % 2 = 0) (r : Fin 128) (j : Fin 2048) : (outsAt0 m ch t.val t.isLt).2.2.2.2 (ix2 r j) =
    ((if 8 ≤ r.val ∧ r.val < 16 then 0 - ∑ y : Fin 256, gradS 2048 p c g (r - 8) (R + y) j else 0 : ℝ) : EReal) := by
  rw [outsAt0_A m ch t h]
  dsimp only
  frame_open
  simp (disch := decide) only [↓ View.readCov_skip, ↓ View.readCov_cons_toLoadRect, ↓ View.readCov_fill]
  frame_out
  refine reads_canon.block _ _ _ _ _ _ (fun x y hx hy => headCol (pr := 3) hI hR 1 rfl (by omega) rfl rfl _ (fun _ _ => 0) zerosCol r j x y hx hy) fun h7 => ?_
  refine reads_canon.block _ _ _ _ _ _ (fun x y hx hy => headCol (pr := 3) hI hR 0 rfl (by omega) rfl rfl _ (fun _ _ => 0) zerosCol r j x y hx hy) fun h6 => ?_
  refine reads_canon.block _ _ _ _ _ _ (fun x y hx hy => headCol (pr := 2) hI hR 1 rfl (by omega) rfl rfl _ (fun _ _ => 0) zerosCol r j x y hx hy) fun h5 => ?_
  refine reads_canon.block _ _ _ _ _ _ (fun x y hx hy => headCol (pr := 2) hI hR 0 rfl (by omega) rfl rfl _ (fun _ _ => 0) zerosCol r j x y hx hy) fun h4 => ?_
  refine reads_canon.block _ _ _ _ _ _ (fun x y hx hy => headCol (pr := 1) hI hR 1 rfl (by omega) rfl rfl _ (fun _ _ => 0) zerosCol r j x y hx hy) fun h3 => ?_
  refine reads_canon.block _ _ _ _ _ _ (fun x y hx hy => headCol (pr := 1) hI hR 0 rfl (by omega) rfl rfl _ (fun _ _ => 0) zerosCol r j x y hx hy) fun h2 => ?_
  refine reads_canon.block _ _ _ _ _ _ (fun x y hx hy => headCol (pr := 0) hI hR 1 rfl (by omega) rfl rfl _ (fun _ _ => 0) zerosCol r j x y hx hy) fun h1 => ?_
  refine reads_canon.block _ _ _ _ _ _ (fun x y hx hy => headCol (pr := 0) hI hR 0 rfl (by omega) rfl rfl _ (fun _ _ => 0) zerosCol r j x y hx hy) fun h0 => ?_
  refine reads_canon.block _ _ _ _ _ _ (fun x y hx hy => ?_) fun h => ?_
  · rw [if_neg (by omega)]
    exact zerosCol x y
  · omega

include hI hR in
/-- What a point takes from the gradient of the keys' decays. -/
theorem colsB (h : ¬t.val % 2 = 0) (hlt : t.val - 1 < cfg0.N) (A : ℕ → Fin 2048 → ℝ)
    (hA : ∀ (r : Fin 128) (j : Fin 2048), (outsAt0 m ch (t.val - 1) hlt).2.2.2.2 (ix2 r j) = (A r j : EReal)) (r : Fin 128) (j : Fin 2048) : (outsAt0 m ch t.val t.isLt).2.2.2.2 (ix2 r j) =
    ((if 8 ≤ r.val ∧ r.val < 16 then A r j - ∑ y : Fin 256, gradS 2048 p c g (r - 8) (R + y) j else A r j : ℝ) : EReal) := by
  rw [outsAt0_B m ch t h]
  dsimp only
  frame_open
  simp (disch := decide) only [↓ View.readCov_skip, ↓ View.readCov_cons_toLoadRect, ↓ View.readCov_fill]
  frame_out
  refine (reads_writes _ _).block _ _ _ _ _ _ (fun x y hx hy => headCol (pr := 3) hI hR 1 rfl (by omega) rfl rfl _ A hA r j x y hx hy) fun h7 => ?_
  refine (reads_writes _ _).block _ _ _ _ _ _ (fun x y hx hy => headCol (pr := 3) hI hR 0 rfl (by omega) rfl rfl _ A hA r j x y hx hy) fun h6 => ?_
  refine (reads_writes _ _).block _ _ _ _ _ _ (fun x y hx hy => headCol (pr := 2) hI hR 1 rfl (by omega) rfl rfl _ A hA r j x y hx hy) fun h5 => ?_
  refine (reads_writes _ _).block _ _ _ _ _ _ (fun x y hx hy => headCol (pr := 2) hI hR 0 rfl (by omega) rfl rfl _ A hA r j x y hx hy) fun h4 => ?_
  refine (reads_writes _ _).block _ _ _ _ _ _ (fun x y hx hy => headCol (pr := 1) hI hR 1 rfl (by omega) rfl rfl _ A hA r j x y hx hy) fun h3 => ?_
  refine (reads_writes _ _).block _ _ _ _ _ _ (fun x y hx hy => headCol (pr := 1) hI hR 0 rfl (by omega) rfl rfl _ A hA r j x y hx hy) fun h2 => ?_
  refine (reads_writes _ _).block _ _ _ _ _ _ (fun x y hx hy => headCol (pr := 0) hI hR 1 rfl (by omega) rfl rfl _ A hA r j x y hx hy) fun h1 => ?_
  refine (reads_writes _ _).block _ _ _ _ _ _ (fun x y hx hy => headCol (pr := 0) hI hR 0 rfl (by omega) rfl rfl _ A hA r j x y hx hy) fun h0 => ?_
  rw [if_neg (by omega)]
  rw [View.writes_nil]
  exact (congrFun (Memref.IsWhole.read_unread _ _) _).trans (hA r j)

end Cert.Leaves

end

end
-- ==== Proof.Saved.lean ====
module

public import proofs.«01_k».proof.Proof.Gen.KernelIdeal.Frame
public import Idealize.ShloMosaic.Lib.StableHlo.RunRead
public import Idealize.ShloMosaic.Lib.Tactic.CleanTypes
public import proofs.«01_k».proof.Proof.Spec

/-! The forward values that the kernel's host computes before the call: the attention's output and each row's log-sum-exp. -/

@[expose] public section

set_option maxRecDepth 16384

noncomputable section

namespace Cert.Saved

open Idealize.ShloMosaic Idealize.ShloMosaic.TcCoe Idealize.SL.Sem Cert.KernelIdeal Cert.KernelIdeal.Gen Cert.KernelIdeal.Facts Cert.Fox Finset

local instance : Cert.KernelIdeal.Facts := Cert.KernelIdeal.Gen.facts

abbrev Proj := FVec Ideal S2048x3840 .f32
abbrev Decay := FVec Ideal S128x2048 .f32

/-- The masked scores of every row. -/
def scores (x0 : Proj) (x1 : Decay) : FVec Ideal S8x2048x2048 .f32 :=
  select
    (broadcastInDim S8x2048x2048 ![0, 1, 2] bcast_S1x2048x2048_S8x2048x2048_0_1_2
      (broadcastInDim S1x2048x2048 ![1, 2] bcast_S2048x2048_S1x2048x2048_1_2
        (cmpi .sle (iotaInDim S2048x2048 32 1)
          (addi (broadcastInDim S2048x2048 ![] bcast_S_S2048x2048 (constantI S_ 32 0#32)) (iotaInDim S2048x2048 32 0)))))
    (subf
      (mulf
        (Host.dotGeneral dot_S2048x8x64_S2048x8x64_S8x2048x2048_2_2_0_0_1_1 none
          (shapeCast S2048x8x64 (extractStridedSlice S2048x512 ![0, 2048] x0 slices_S2048x3840_S2048x512_0_2048) shapeCasts_S2048x512_S2048x8x64)
          (shapeCast S2048x8x64 (extractStridedSlice S2048x512 ![0, 2560] x0 slices_S2048x3840_S2048x512_0_2560) shapeCasts_S2048x512_S2048x8x64))
        (broadcastInDim S8x2048x2048 ![] bcast_S_S8x2048x2048 (constant S_ .f32 0x3E000000#32)))
      (broadcastInDim S8x2048x2048 ![0, 1, 2] bcast_S8x1x2048_S8x2048x2048_0_1_2
        (broadcastInDim S8x1x2048 ![0, 2] bcast_S8x2048_S8x1x2048_0_2 (extractStridedSlice S8x2048 ![8, 0] x1 slices_S128x2048_S8x2048_8_0))))
    (broadcastInDim S8x2048x2048 ![] bcast_S_S8x2048x2048 (constant S_ .f32 0xFF800000#32))

/-- Each row's greatest score. -/
def rowMax (x0 : Proj) (x1 : Decay) : FVec Ideal S8x2048 .f32 :=
  Host.reduce FloatOps.maximumf (scores x0 x1) (constant S_ .f32 0xFF800000#32) reducesTo_S8x2048x2048_S8x2048_d2 h_S_

/-- The same, as a column. -/
def colMax (x0 : Proj) (x1 : Decay) : FVec Ideal S8x2048x1 .f32 := broadcastInDim S8x2048x1 ![0, 1] bcast_S8x2048_S8x2048x1_0_1 (rowMax x0 x1)

/-- The exponentials of the scores less their row's maximum. -/
def exps (x0 : Proj) (x1 : Decay) : FVec Ideal S8x2048x2048 .f32 :=
  Host.exp (subf (scores x0 x1) (broadcastInDim S8x2048x2048 ![0, 1, 2] bcast_S8x2048x1_S8x2048x2048_0_1_2 (colMax x0 x1)))

/-- Their sum along each row. -/
def sums (x0 : Proj) (x1 : Decay) : FVec Ideal S8x2048x1 .f32 :=
  broadcastInDim S8x2048x1 ![0, 1] bcast_S8x2048_S8x2048x1_0_1
    (Host.reduceAdd (exps x0 x1) (constant S_ .f32 0x00000000#32) reducesTo_S8x2048x2048_S8x2048_d2 h_S_)

/-- The attention's output. -/
def output (x0 : Proj) (x1 : Decay) : FVec Ideal S2048x512 .f32 :=
  shapeCast S2048x512
    (transpose S2048x8x64 [2, 0, 1]
      (Host.dotGeneral dot_S2048x8x64_S8x2048x2048_S8x64x2048_0_2_2_1_1_0 none
        (shapeCast S2048x8x64 (extractStridedSlice S2048x512 ![0, 3072] x0 slices_S2048x3840_S2048x512_0_3072) shapeCasts_S2048x512_S2048x8x64)
        (Host.divf (exps x0 x1) (broadcastInDim S8x2048x2048 ![0, 1, 2] bcast_S8x2048x1_S8x2048x2048_0_1_2 (sums x0 x1))))
      transposes_S8x64x2048_S2048x8x64_2_0_1)
    shapeCasts_S2048x8x64_S2048x512

/-- The log-sum-exp of every row: head `h` in lane `h`. -/
def lse (x0 : Proj) (x1 : Decay) : FVec Ideal S2048x128 .f32 :=
  pad S2048x128 ![0, 0] ![0, 120] ![0, 0]
    (transpose S2048x8 [1, 0]
      (shapeCast S8x2048 (addf (colMax x0 x1) (Host.log (sums x0 x1))) shapeCasts_S8x2048x1_S8x2048) transposes_S8x2048_S2048x8_1_0)
    (sitofp .f32 (constantI S_ 32 0#32)) pads_S2048x8_S2048x128_000_01200 h_S_

/-- The buffer of the output holds it when the call begins. -/
theorem V_output (m : (ℓ : Loc nD τ sig) → Buf (Elt Ideal) ℓ) (c : Dev nD) :
    V m c main_v31 = output (m ((c : Thread nD τ).loc main_arg0)) (m ((c : Thread nD τ).loc main_arg1)) := by
  unfold_abbrev_sides
  after_reads_simp
  simp -implicitDefEqProofs only [StableHlo.TRef.ofBuf_toBuf, StableHlo.TRef.ofBuf, StableHlo.TRef.toBuf, cast_eq, id_eq]
  clean_types
  unfold output exps sums colMax rowMax scores
  rfl

/-- The buffer of the log-sum-exp holds it when the call begins. -/
theorem V_lse (m : (ℓ : Loc nD τ sig) → Buf (Elt Ideal) ℓ) (c : Dev nD) :
    V m c main_v36 = lse (m ((c : Thread nD τ).loc main_arg0)) (m ((c : Thread nD τ).loc main_arg1)) := by
  unfold_abbrev_sides
  after_reads_simp
  simp -implicitDefEqProofs only [StableHlo.TRef.ofBuf_toBuf, StableHlo.TRef.ofBuf, StableHlo.TRef.toBuf, cast_eq, id_eq]
  clean_types
  unfold lse sums exps colMax rowMax scores
  rfl

variable {p c : ℕ → ℕ → ℝ}
variable {x0 : Proj} (hp : ∀ a b, x0 (ix2 a b) = ((p a.val b.val : ℝ) : EReal))
variable {x1 : Decay} (hc : ∀ a b, x1 (ix2 a b) = ((c a.val b.val : ℝ) : EReal))

include hp hc in
/-- A masked score. -/
theorem scores_apply (h : Fin 8) (r j : Fin 2048) :
    scores x0 x1 (ix3 h r j) = score (causal r.val) (fun j : Fin 2048 => raw p c h r j) j := by
  pointwise [scores]
  have e : IntOp.addi (0#32) (BitVec.ofNat 32 r.val) = BitVec.ofNat 32 r.val := BitVec.zero_add _
  rw [e, sle_ofNat (by omega) (by omega), select_decide]
  simp only [hp, hc, ofBits_eighth, ofBits_neg_inf, ← EReal.coe_mul, sum_coe, ← EReal.coe_sub]
  rfl

include hp hc in
/-- A row's maximum, its exponentials and their sum: those of its masked scores, lowered by one number. -/
theorem row_apply (h : Fin 8) (r : Fin 2048) : ∃ M : ℝ, (∀ k : Fin 1, colMax x0 x1 (ix3 h r k) = (M : EReal)) ∧
    (∀ j : Fin 2048, exps x0 x1 (ix3 h r j) =
      Ideal.exp (score (causal r.val) (fun j : Fin 2048 => raw p c h r j - M) j)) ∧
    ∀ k : Fin 1, sums x0 x1 (ix3 h r k) = (total (causal r.val) (fun j : Fin 2048 => raw p c h r j - M) : EReal) := by
  obtain ⟨M, hM⟩ := fold_max_score (causal_exists (by norm_num) r.val) (fun j : Fin 2048 => raw p c h r j)
  have e : rowMax x0 x1 (ix2 h r) = (M : EReal) := by
    pointwise [rowMax]
    exact fold_op_score hM rfl ofBits_neg_inf fun j => scores_apply hp hc h r j
  have e1 : ∀ k : Fin 1, colMax x0 x1 (ix3 h r k) = (M : EReal) := fun k => by
    pointwise [colMax]
    exact e
  have e2 : ∀ j : Fin 2048, exps x0 x1 (ix3 h r j) = Ideal.exp (score (causal r.val) (fun j : Fin 2048 => raw p c h r j - M) j) := by
    intro j
    pointwise [exps]
    rw [e1, scores_apply hp hc, score_sub]
  refine ⟨M, e1, e2, fun k => ?_⟩
  pointwise [sums]
  simp only [e2, sum_exp_score, zero_add]

include hp hc in
/-- The output of row `r` at head `h` and column `d` of the head. -/
theorem output_apply (r : Fin 2048) (l : Fin 512) :
    output x0 x1 (ix2 r l) = ((∑ j : Fin 2048, p j (3072 + l) * attn 2048 p c (l / 64) r j : ℝ) : EReal) := by
  obtain ⟨M, -, he, ht⟩ := row_apply hp hc ⟨l / 64, by omega⟩ r
  pointwise [output]
  simp only [hp, he, ht, exp_div_total (causal_exists (n := 2048) (by norm_num) _), weight_sub, ← EReal.coe_mul, sum_coe]
  rfl

/-- Lane `l` of the padded sum of a column and a column's logarithm. -/
theorem lse_read (A B : FVec Ideal S8x2048x1 .f32) (r : Fin 2048) (l : Fin 128) (hl : l.val < 8) :
    pad S2048x128 ![0, 0] ![0, 120] ![0, 0]
      (transpose S2048x8 [1, 0] (shapeCast S8x2048 (addf A (Host.log B)) shapeCasts_S8x2048x1_S8x2048) transposes_S8x2048_S2048x8_1_0)
      (sitofp .f32 (constantI S_ 32 0#32)) pads_S2048x8_S2048x128_000_01200 h_S_ (ix2 r l) =
    A (ix3 ⟨l.val, hl⟩ r 0) + Ideal.log (B (ix3 ⟨l.val, hl⟩ r 0)) := by
  pointwise
  exact dif_pos hl

include hp hc in
/-- The log-sum-exp of row `r` and head `l`: what turns a masked score into its weight. -/
theorem lse_apply (r : Fin 2048) (l : Fin 128) (hl : l.val < 8) (j : Fin 2048) :
    Ideal.exp (score (causal r.val) (fun j : Fin 2048 => raw p c l r j) j - lse x0 x1 (ix2 r l)) = (attn 2048 p c l r j : EReal) := by
  obtain ⟨M, hM, -, ht⟩ := row_apply hp hc ⟨l.val, hl⟩ r
  have e := lse_read (colMax x0 x1) (sums x0 x1) r l hl
  rw [hM, ht] at e
  have e' : lse x0 x1 (ix2 r l) = _ := e
  rw [e', exp_sub_lse (causal_exists (by norm_num) _)]
  rfl

end Cert.Saved

end

end
-- ==== Proof.RefRead.lean ====
module

public import proofs.«01_k».proof.Proof.Gen.ReferenceIdeal.Read
public import proofs.«01_k».proof.Proof.Spec

/-! The reference's stages read at an index, as real numbers. -/

@[expose] public section

set_option maxRecDepth 16384

noncomputable section

namespace Cert.RefRead

open Idealize.ShloMosaic Cert.ReferenceIdeal Cert.ReferenceIdeal.Gen Cert.ReferenceIdeal.Read Cert.Fox Finset

variable {p c g : ℕ → ℕ → ℝ}
variable {x0 : (⟨S2048x3840, .f32⟩ : BufTy).Contents (Elt Ideal)} (hp : ∀ a b, x0 (ix2 a b) = ((p a.val b.val : ℝ) : EReal))
variable {x1 : (⟨S128x2048, .f32⟩ : BufTy).Contents (Elt Ideal)} (hc : ∀ a b, x1 (ix2 a b) = ((c a.val b.val : ℝ) : EReal))
variable {x2 : (⟨S2048x512, .f32⟩ : BufTy).Contents (Elt Ideal)} (hg : ∀ a b, x2 (ix2 a b) = ((g a.val b.val : ℝ) : EReal))

include hp in
/-- The product of queries and keys. -/
theorem product (h : Fin 8) (r : Fin 512) (j : Fin 2048) : val_main_v8 (F := Ideal) x0 (ix3 h r j) =
    ((∑ d : Fin 64, p (1536 + r) (2048 + (h * 64 + d)) * p j (2560 + (h * 64 + d)) : ℝ) : EReal) := by
  pointwise [val_main_v8, val_main_v5, val_main_v6, val_main_v1, val_main_v2]
  simp only [hp, ← EReal.coe_mul, sum_coe]

include hp hc in
/-- The scores before the mask: `raw`, and the query's own cumulated decay added. -/
theorem scores (h : Fin 8) (r : Fin 512) (j : Fin 2048) : val_main_v16 (F := Ideal) x0 x1 (ix3 h r j) =
    ((raw p c h (1536 + r) j - -c (8 + h) (1536 + r) : ℝ) : EReal) := by
  pointwise [val_main_v16, val_main_v15, val_main_v14, val_main_v13, val_main_v12, val_main_v11, val_main_v10, val_main_v9,
    val_main_cst, val_main_v4, val_main_v0]
  simp only [product hp, hc, ofBits_eighth, ← EReal.coe_mul, ← EReal.coe_add, ← EReal.coe_sub]
  congr 1
  unfold raw
  ring

/-- The causal mask. -/
theorem mask (h : Fin 8) (r : Fin 512) (j : Fin 2048) : val_main_v23_1 (F := Ideal) (ix3 h r j) =
    BitVec.ofBool (decide (causal (1536 + r) j)) := by
  pointwise [val_main_v23_1, val_main_v22, val_main_v21, val_main_v20, val_main_v19, val_main_v18, val_main_v17, val_main_c]
  have e : IntOp.addi (1536#32) (BitVec.ofNat 32 r.val) = BitVec.ofNat 32 (1536 + r.val) := (BitVec.ofNat_add _ _).symm
  rw [e, sle_ofNat (by omega) (by omega)]
  rfl

include hp hc in
/-- The masked scores. -/
theorem masked (h : Fin 8) (r : Fin 512) (j : Fin 2048) : val_main_v23_0 (F := Ideal) x0 x1 (ix3 h r j) =
    score (causal (1536 + r.val)) (fun j : Fin 2048 => raw p c h (1536 + r) j - -c (8 + h) (1536 + r)) j := by
  pointwise [val_main_v23_0, val_main_call0_v2, val_main_call0_v0, val_main_cst_0]
  rw [mask, select_decide, scores hp hc]
  have e : id (constant (F := Ideal) S_ .f32 0xFF800000#32) ix0 = ⊥ := ofBits_neg_inf
  rw [e, score]

include hp hc in
/-- Each row's greatest masked score is a real number. -/
theorem rowMax (h : Fin 8) (r : Fin 512) : ∃ M : ℝ, val_main_v31 (F := Ideal) x0 x1 (ix2 h r) = (M : EReal) := by
  obtain ⟨M, hM⟩ := fold_max_score (causal_exists (by norm_num) (1536 + r.val))
    (fun j : Fin 2048 => raw p c h (1536 + r) j - -c (8 + h) (1536 + r))
  have e : val_main_v24 (F := Ideal) x0 x1 (ix2 h r) = (M : EReal) := by
    pointwise [val_main_v24, val_main_cst_1]
    exact fold_op_score hM rfl ofBits_neg_inf fun j => masked hp hc h r j
  refine ⟨M, ?_⟩
  rw [val_main_v31_apply, e, val_main_v30_apply, val_main_cst_3_apply]
  show max (Ideal.ofBits .f32 0xFF800000#32) _ = _
  rw [ofBits_neg_inf]
  exact max_eq_right bot_le

include hp hc in
/-- The exponentials of a row and their sum: those of its masked scores, lowered by one number. -/
theorem exps (h : Fin 8) (r : Fin 512) : ∃ M : ℝ,
    (∀ j : Fin 2048, val_main_v44 (F := Ideal) x0 x1 (ix3 h r j) =
      Ideal.exp (score (causal (1536 + r.val)) (fun j : Fin 2048 => raw p c h (1536 + r) j - M) j)) ∧
    ∀ k : Fin 1, val_main_v46 (F := Ideal) x0 x1 (ix3 h r k) =
      (total (causal (1536 + r.val)) (fun j : Fin 2048 => raw p c h (1536 + r) j - M) : EReal) := by
  obtain ⟨M, hM⟩ := rowMax hp hc h r
  have e : ∀ j : Fin 2048, val_main_v44 (F := Ideal) x0 x1 (ix3 h r j) =
      Ideal.exp (score (causal (1536 + r.val)) (fun j : Fin 2048 => raw p c h (1536 + r) j - (M - c (8 + h) (1536 + r))) j) := by
    intro j
    pointwise [val_main_v44, val_main_v43, val_main_v42, val_main_v41]
    rw [hM, masked hp hc, score_sub]
    simp only [sub_sub, neg_add_eq_sub]
  refine ⟨M - c (8 + h) (1536 + r), e, fun k => ?_⟩
  pointwise [val_main_v46, val_main_v45, val_main_cst_9]
  simp only [e, sum_exp_score, zero_add]

include hp hc in
/-- The attention weights. -/
theorem weights (h : Fin 8) (r : Fin 512) (j : Fin 2048) : val_main_v48 (F := Ideal) x0 x1 (ix3 h r j) =
    (attn 2048 p c h (1536 + r) j : EReal) := by
  obtain ⟨M, he, ht⟩ := exps hp hc h r
  pointwise [val_main_v48, val_main_v47]
  rw [he, ht, exp_div_total (causal_exists (by norm_num) _), weight_sub]
  rfl

include hp hg in
/-- The gradient of the weights. -/
theorem gradWeights (h : Fin 8) (r : Fin 512) (j : Fin 2048) : val_main_v58 (F := Ideal) x0 x2 (ix3 h r j) =
    (gradW p g h (1536 + r) j : EReal) := by
  pointwise [val_main_v58, val_main_v57, val_main_v56, val_main_v55, val_main_v7, val_main_v3]
  simp only [hp, hg, ← EReal.coe_mul, sum_coe]
  rfl

include hp hc hg in
/-- The gradient of the scores. -/
theorem gradScores (h : Fin 8) (r : Fin 512) (j : Fin 2048) : val_main_v73 (F := Ideal) x0 x1 x2 (ix3 h r j) =
    (gradS 2048 p c g h (1536 + r) j : EReal) := by
  obtain ⟨M, he, ht⟩ := exps hp hc h r
  pointwise [val_main_v73, val_main_call1_v0, val_main_v72, val_main_v71, val_main_v70, val_main_v69, val_main_v68, val_main_v67,
    val_main_v66, val_main_v65, val_main_v64, val_main_v63, val_main_v62, val_main_v61, val_main_v51, val_main_v50, val_main_v49,
    val_main_call1_cst, val_main_cst_10, val_main_cst_11, val_main_cst_12]
  rw [mask, select_decide, Fin.sum_univ_one, gradWeights hp hg, ht, he]
  simp only [gradWeights hp hg, he]
  rw [slope_of_exp _ (fun i : Fin 2048 => gradW p g h (1536 + r) i) (causal_exists (by norm_num) _), slope_sub]
  split
  · rfl
  · rename_i hn
    simp [gradS, Fox.slope, weight, hn]

include hp hc hg in
/-- The first result: the gradient of the group's queries. -/
theorem resultQ (i l : Fin 512) : val_main_v90 (F := Ideal) x0 x1 x2 (ix2 i l) = (gradQ 2048 p c g (1536 + i) l : EReal) := by
  pointwise [val_main_v90, val_main_v89, val_main_v86, val_main_v85, val_main_v82, val_main_v81, val_main_cst_17, val_main_v6, val_main_v2]
  simp only [gradScores hp hc hg, hp]
  simp only [ofBits_eighth, ← EReal.coe_mul, sum_coe]
  rfl

include hp hc hg in
/-- The second result: the gradient of the keys. -/
theorem resultK (j : Fin 2048) (l : Fin 512) : val_main_v88 (F := Ideal) x0 x1 x2 (ix2 j l) = (gradK 2048 p c g 1536 j l : EReal) := by
  pointwise [val_main_v88, val_main_v84, val_main_v83, val_main_v82, val_main_v81, val_main_cst_17, val_main_v5, val_main_v1]
  simp only [gradScores hp hc hg, hp]
  simp only [ofBits_eighth, ← EReal.coe_mul, sum_coe]
  rfl

include hp hc hg in
/-- The third result: the gradient of the values. -/
theorem resultV (j : Fin 2048) (l : Fin 512) : val_main_v87 (F := Ideal) x0 x1 x2 (ix2 j l) = (gradV 2048 p c g 1536 j l : EReal) := by
  pointwise [val_main_v87, val_main_v60, val_main_v59, val_main_v57, val_main_v56, val_main_v55]
  simp only [weights hp hc, hg]
  simp only [← EReal.coe_mul, sum_coe, mul_comm (g _ _)]
  rfl

include hp hc hg in
/-- The fourth result: the gradient of the group's cumulated decays as queries, in lanes 8 to 15. -/
theorem resultRow (i : Fin 512) (l : Fin 128) : val_main_v92 (F := Ideal) x0 x1 x2 (ix2 i l) =
    ((if 8 ≤ l.val ∧ l.val < 16 then gradRow 2048 p c g (1536 + i) (l - 8) else 0 : ℝ) : EReal) := by
  pointwise [val_main_v92, val_main_v91, val_main_v80, val_main_v79, val_main_v78, val_main_cst_15, val_main_cst_16]
  simp only [gradScores hp hc hg, sum_coe, zero_add, Fin.sum_univ_one]
  by_cases hl : 8 ≤ l.val ∧ l.val < 16
  · rw [if_pos hl, dif_pos ⟨hl.1, by omega⟩]
    rfl
  · rw [if_neg hl, dif_neg fun h => hl ⟨h.1, by omega⟩]
    show (((0#32).toInt : ℝ) : EReal) = _
    simp

include hp hc hg in
/-- The fifth result: the gradient of the cumulated decays as keys, in rows 8 to 15. -/
theorem resultCol (i : Fin 128) (j : Fin 2048) : val_main_v93 (F := Ideal) x0 x1 x2 (ix2 i j) =
    ((if 8 ≤ i.val ∧ i.val < 16 then gradCol 2048 p c g 1536 (i - 8) j else 0 : ℝ) : EReal) := by
  pointwise [val_main_v93, val_main_v77, val_main_v76, val_main_v75, val_main_v74, val_main_cst_13, val_main_cst_14]
  simp only [gradScores hp hc hg, ← EReal.coe_neg, sum_coe, zero_add, Fin.sum_univ_one]
  by_cases hl : 8 ≤ i.val ∧ i.val < 16
  · rw [if_pos hl, dif_pos ⟨hl.1, by omega⟩, sum_neg_distrib]
    rfl
  · rw [if_neg hl, dif_neg fun h => hl ⟨h.1, by omega⟩]
    show (((0#32).toInt : ℝ) : EReal) = _
    simp

end Cert.RefRead

end

end
-- ==== Proof.Arrays.lean ====
module

public import proofs.«01_k».proof.Proof.Leaves
public import proofs.«01_k».proof.Proof.Saved
public import proofs.«01_k».proof.Proof.RefRead

/-! The five arrays after the kernel's run are the reference's five results. -/

@[expose] public section

set_option maxRecDepth 16384

noncomputable section

namespace Cert.Arrays

open Idealize.ShloMosaic Idealize.ShloMosaic.TcCoe Idealize.ShloMosaic.Tactic Idealize.SL.Sem
open Cert.KernelIdeal Cert.KernelIdeal.Gen Cert.KernelIdeal.Facts Cert.Head Cert.Pair Cert.Stores Cert.Point Cert.Leaves Cert.Fox Finset

local instance : Cert.KernelIdeal.Facts := Cert.KernelIdeal.Gen.facts

variable (m : (ℓ : Loc nD τ sig) → Buf (Elt Ideal) ℓ) (ch : Dev nD) {p c g : ℕ → ℕ → ℝ}

/-- Every window's block at every point. -/
theorem idx : ∀ t : Fin cfg0.N, win0_0.index t = ![6 + t.val, 4] ∧ win0_1.index t = ![0, 5] ∧ win0_2.index t = ![0, 6] ∧ win0_3.index t = ![0, 0] ∧
    win0_4.index t = ![6 + t.val, 0] ∧ win0_5.index t = ![6 + t.val, 0] ∧ win0_6.index t = ![6 + t.val, 0] ∧ win0_7.index t = ![t.val, 0] ∧
    win0_10.index t = ![t.val, 0] ∧ (cfg0.grid.coords t 0).val = t.val :=
  (by decide +kernel : ∀ t : Fin grid0.N, _)

abbrev proj : FVec Ideal S2048x3840 .f32 := m ((ch : Thread nD τ).loc main_arg0)
abbrev decay : FVec Ideal S128x2048 .f32 := m ((ch : Thread nD τ).loc main_arg1)
abbrev cot : FVec Ideal S2048x512 .f32 := m ((ch : Thread nD τ).loc main_arg2)

/-- The queries' block. -/
theorem block_q (t : Fin cfg0.N) (y : Fin 256) (d : Fin 512) (hr : 256 * (6 + t.val) + y.val < 2048) :
    X0_0 m ch t (ix2 y d) = proj m ch (ix2 ⟨256 * (6 + t.val) + y, hr⟩ ⟨2048 + d, by omega⟩) := by
  unfold X0_0 Pipeline.Window.fill
  rw [dif_pos (moved0_0 t _)]
  blk_ext [iblk, V, idx t]

/-- The keys' block. -/
theorem block_k (t : Fin cfg0.N) (j : Fin 2048) (d : Fin 512) :
    X0_1 m ch t (ix2 j d) = proj m ch (ix2 j ⟨2560 + d, by omega⟩) := by
  unfold X0_1 Pipeline.Window.fill
  rw [dif_pos (moved0_1 t _)]
  blk_ext [iblk, V, idx t]

/-- The values' block. -/
theorem block_v (t : Fin cfg0.N) (j : Fin 2048) (d : Fin 512) :
    X0_2 m ch t (ix2 j d) = proj m ch (ix2 j ⟨3072 + d, by omega⟩) := by
  unfold X0_2 Pipeline.Window.fill
  rw [dif_pos (moved0_2 t _)]
  blk_ext [iblk, V, idx t]

/-- The decays' block. -/
theorem block_dec (t : Fin cfg0.N) (h : Fin 128) (j : Fin 2048) : iblk m ch 3 t (ix2 h j) = decay m ch (ix2 h j) := by
  blk_ext [iblk, V, idx t]

/-- The output's block. -/
theorem block_o (t : Fin cfg0.N) (y : Fin 256) (d : Fin 512) (hr : 256 * (6 + t.val) + y.val < 2048) :
    iblk m ch 4 t (ix2 y d) = Saved.output (proj m ch) (decay m ch) (ix2 ⟨256 * (6 + t.val) + y, hr⟩ d) := by
  rw [← Saved.V_output]
  blk_ext [iblk, idx t]

/-- The log-sum-exp's block. -/
theorem block_l (t : Fin cfg0.N) (y : Fin 256) (d : Fin 128) (hr : 256 * (6 + t.val) + y.val < 2048) :
    iblk m ch 5 t (ix2 y d) = Saved.lse (proj m ch) (decay m ch) (ix2 ⟨256 * (6 + t.val) + y, hr⟩ d) := by
  rw [← Saved.V_lse]
  blk_ext [iblk, idx t]

/-- The block of the output's gradient. -/
theorem block_w (t : Fin cfg0.N) (y : Fin 256) (d : Fin 512) (hr : 256 * (6 + t.val) + y.val < 2048) :
    iblk m ch 6 t (ix2 y d) = cot m ch (ix2 ⟨256 * (6 + t.val) + y, hr⟩ d) := by
  blk_ext [iblk, V, idx t]

variable {m ch} (hp : ∀ a b, proj m ch (ix2 a b) = ((p a.val b.val : ℝ) : EReal)) (hc : ∀ a b, decay m ch (ix2 a b) = ((c a.val b.val : ℝ) : EReal))
  (hg : ∀ a b, cot m ch (ix2 a b) = ((g a.val b.val : ℝ) : EReal))

include hp hc hg in
/-- What the point `t` reads. -/
theorem ins (t : Fin cfg0.N) : Ins p c g (256 * (6 + t.val)) (X0_0 m ch t) (X0_1 m ch t) (X0_2 m ch t) (iblk m ch 3 t) (iblk m ch 4 t)
    (iblk m ch 5 t) (iblk m ch 6 t) := by
  have ht : t.val < 2 := t.isLt
  constructor
  · intro y d
    exact (block_q m ch t y d (by omega)).trans (hp _ _)
  · intro j d
    exact (block_k m ch t j d).trans (hp _ _)
  · intro j d
    exact (block_v m ch t j d).trans (hp _ _)
  · intro h j
    exact (block_dec m ch t h j).trans (hc _ _)
  · intro y d
    exact (block_o m ch t y d (by omega)).trans (Saved.output_apply hp hc _ _)
  · intro h y z hz j
    rw [block_l m ch t y z (by omega), ← hz]
    exact Saved.lse_apply hp hc ⟨256 * (6 + t.val) + y, by omega⟩ z (by omega) j
  · intro y d
    exact (block_w m ch t y d (by omega)).trans (hg _ _)

/-- The first row of the point `t`. -/
theorem row (t : Fin cfg0.N) : 256 * (6 + t.val) = 256 * (6 + (cfg0.grid.coords t 0).val) := by rw [(idx t).2.2.2.2.2.2.2.2.2]

/-- A sum over the group's 512 rows is one over the first point's rows and one over the second's. -/
theorem sum_rows (f : ℕ → ℝ) : ∑ i : Fin 512, f (1536 + i) = ∑ y : Fin 256, f (1536 + y) + ∑ y : Fin 256, f (1792 + y) := by
  rw [show (512 : ℕ) = 256 + 256 from rfl, Fin.sum_univ_add]
  refine congrArg _ (sum_congr rfl fun y _ => congrArg f ?_)
  simp
  omega

abbrev t0 : Fin cfg0.N := ⟨0, by decide⟩
abbrev t1 : Fin cfg0.N := ⟨1, by decide⟩

include hp hc hg in
/-- The gradient of the keys after both points. -/
theorem keys (j : Fin 2048) (n : Fin 512) : (outsAt0 m ch 1 t1.isLt).2.1 (ix2 j n) = (gradK 2048 p c g 1536 j n : EReal) := by
  refine (keysB m ch t1 (ins hp hc hg t1) (row t1) (by decide) t0.isLt j n _ (keysA m ch t0 (ins hp hc hg t0) (row t0) rfl j n)).trans ?_
  refine congrArg _ (Eq.symm ?_)
  refine (sum_rows fun i => gradS 2048 p c g (n / 64) i j * (1 / 8) * p i (2048 + n)).trans ?_
  simp only [mul_assoc, zero_add]

include hp hc hg in
/-- The gradient of the values after both points. -/
theorem values (j : Fin 2048) (n : Fin 512) : (outsAt0 m ch 1 t1.isLt).2.2.1 (ix2 j n) = (gradV 2048 p c g 1536 j n : EReal) := by
  refine (valuesB m ch t1 (ins hp hc hg t1) (row t1) (by decide) t0.isLt j n _ (valuesA m ch t0 (ins hp hc hg t0) (row t0) rfl j n)).trans ?_
  refine congrArg _ (Eq.symm ?_)
  refine (sum_rows fun i => attn 2048 p c (n / 64) i j * g i n).trans ?_
  simp only [zero_add]

include hp hc hg in
/-- The gradient of the keys' decays after both points. -/
theorem cols (r : Fin 128) (j : Fin 2048) : (outsAt0 m ch 1 t1.isLt).2.2.2.2 (ix2 r j) =
    ((if 8 ≤ r.val ∧ r.val < 16 then gradCol 2048 p c g 1536 (r - 8) j else 0 : ℝ) : EReal) := by
  refine (colsB m ch t1 (ins hp hc hg t1) (row t1) (by decide) t0.isLt
    (fun r j => if 8 ≤ r ∧ r < 16 then 0 - ∑ y : Fin 256, gradS 2048 p c g (r - 8) (1536 + y) j else 0)
    (fun r j => colsA m ch t0 (ins hp hc hg t0) (row t0) rfl r j) r j).trans ?_
  refine congrArg _ ?_
  split
  · refine Eq.trans ?_ (congrArg Neg.neg (sum_rows fun i => gradS 2048 p c g (r - 8) i j)).symm
    rw [zero_sub, neg_add, sub_eq_add_neg]
    rfl
  · rfl

include hp hc hg in
/-- The gradient of the queries after the point `t`. -/
theorem queries (t : Fin cfg0.N) (y : Fin 256) (n : Fin 512) : (outsAt0 m ch t.val t.isLt).1 (ix2 y n) =
    (gradQ 2048 p c g (256 * (6 + t.val) + y) n : EReal) := by
  by_cases h : t.val % 2 = 0
  · exact queriesA m ch t (ins hp hc hg t) (row t) h y n
  · exact queriesB m ch t (ins hp hc hg t) (row t) h y n

include hp hc hg in
/-- The gradient of the queries' decays after the point `t`. -/
theorem rows (t : Fin cfg0.N) (y : Fin 256) (n : Fin 128) : (outsAt0 m ch t.val t.isLt).2.2.2.1 (ix2 y n) =
    ((if 8 ≤ n.val ∧ n.val < 16 then gradRow 2048 p c g (256 * (6 + t.val) + y) (n - 8) else 0 : ℝ) : EReal) := by
  by_cases h : t.val % 2 = 0
  · exact lanesA m ch t (ins hp hc hg t) (row t) h y n
  · exact lanesB m ch t (ins hp hc hg t) (row t) h y n

open Cert.ReferenceIdeal.Read in
include hp hc hg in
/-- The array of the gradient of the queries. -/
theorem array_q : (dats m 0 ch).arrAt 7 cfg0.N = val_main_v90 (F := Ideal) (proj m ch) (decay m ch) (cot m ch) := by
  refine (dats m 0 ch).arrAt_eq_of_covers 7 _ (by decide +kernel) fun t hf y => ?_
  have ht : t.val < 2 := t.isLt
  blk_simp
  rw [after0_7]
  obtain ⟨a, b, rfl⟩ : ∃ (a : Fin 256) (b : Fin 512), y = ix2 a b := ⟨y 0, y 1, (ix2_eta y).symm⟩
  have e : (win0_7.blk t).view.emb (ix2 a b) = ix2 (⟨256 * t.val + a, by omega⟩ : Fin 512) b := by blk_ext [idx t]
  rw [e]
  refine (queries hp hc hg t a b).trans (Eq.trans ?_ (RefRead.resultQ hp hc hg _ b).symm)
  rw [show 256 * (6 + t.val) + a.val = 1536 + (256 * t.val + a.val) by omega]

open Cert.ReferenceIdeal.Read in
include hp hc hg in
/-- The array of the gradient of the queries' decays. -/
theorem array_row : (dats m 0 ch).arrAt 10 cfg0.N = val_main_v92 (F := Ideal) (proj m ch) (decay m ch) (cot m ch) := by
  refine (dats m 0 ch).arrAt_eq_of_covers 10 _ (by decide +kernel) fun t hf y => ?_
  have ht : t.val < 2 := t.isLt
  blk_simp
  rw [after0_10]
  obtain ⟨a, b, rfl⟩ : ∃ (a : Fin 256) (b : Fin 128), y = ix2 a b := ⟨y 0, y 1, (ix2_eta y).symm⟩
  have e : (win0_10.blk t).view.emb (ix2 a b) = ix2 (⟨256 * t.val + a, by omega⟩ : Fin 512) b := by blk_ext [idx t]
  rw [e]
  refine (rows hp hc hg t a b).trans (Eq.trans ?_ (RefRead.resultRow hp hc hg _ b).symm)
  rw [show 256 * (6 + t.val) + a.val = 1536 + (256 * t.val + a.val) by omega]

open Cert.ReferenceIdeal.Read in
include hp hc hg in
/-- The array of the gradient of the keys. -/
theorem array_k : (dats m 0 ch).arrAt 8 cfg0.N = val_main_v88 (F := Ideal) (proj m ch) (decay m ch) (cot m ch) := by
  refine (dats m 0 ch).arrAt_eq_of_after_last 8 t1 (by decide +kernel) _ fun j => ?_
  blk_simp
  rw [after0_8]
  obtain ⟨a, b, rfl⟩ : ∃ (a : Fin 2048) (b : Fin 512), j = ix2 a b := ⟨j 0, j 1, (ix2_eta j).symm⟩
  exact (keys hp hc hg a b).trans (RefRead.resultK hp hc hg a b).symm

open Cert.ReferenceIdeal.Read in
include hp hc hg in
/-- The array of the gradient of the values. -/
theorem array_v : (dats m 0 ch).arrAt 9 cfg0.N = val_main_v87 (F := Ideal) (proj m ch) (decay m ch) (cot m ch) := by
  refine (dats m 0 ch).arrAt_eq_of_after_last 9 t1 (by decide +kernel) _ fun j => ?_
  blk_simp
  rw [after0_9]
  obtain ⟨a, b, rfl⟩ : ∃ (a : Fin 2048) (b : Fin 512), j = ix2 a b := ⟨j 0, j 1, (ix2_eta j).symm⟩
  exact (values hp hc hg a b).trans (RefRead.resultV hp hc hg a b).symm

open Cert.ReferenceIdeal.Read in
include hp hc hg in
/-- The array of the gradient of the keys' decays. -/
theorem array_col : (dats m 0 ch).arrAt 11 cfg0.N = val_main_v93 (F := Ideal) (proj m ch) (decay m ch) (cot m ch) := by
  refine (dats m 0 ch).arrAt_eq_of_after_last 11 t1 (by decide +kernel) _ fun j => ?_
  blk_simp
  rw [after0_11]
  obtain ⟨a, b, rfl⟩ : ∃ (a : Fin 128) (b : Fin 2048), j = ix2 a b := ⟨j 0, j 1, (ix2_eta j).symm⟩
  exact (cols hp hc hg a b).trans (RefRead.resultCol hp hc hg a b).symm

end Cert.Arrays

end

end
-- ==== Proof.Norm.lean ====
module

public import proofs.«01_k».proof.Proof.Softmax

/-! A row's layer norm and the gradient through it: the formula that differentiating the norm's definition gives, and
the one that is written in terms of the normalised row. On rows of real numbers they agree. -/

@[expose] public section

noncomputable section

namespace Cert.Norm

open Idealize.ShloMosaic Finset

/-- The number of columns, the constant that keeps the variance positive, and the derivative's two other constants. -/
abbrev wide : EReal := Ideal.ofBits .f32 0x44800000#32
abbrev eps : EReal := Ideal.ofBits .f32 0x3727C5AC#32
abbrev minusHalf : EReal := Ideal.ofBits .f32 0xBF000000#32
abbrev two : EReal := Ideal.ofBits .f32 0x40000000#32

/-- An extended real that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) {f : ι → EReal} (hf : ∀ i, IsReal (f i)) : IsReal (∑ i ∈ s, f i) := by
  choose g hg using hf
  exact ⟨∑ i ∈ s, g i, by simp only [hg, Cert.Fox.sum_coe]⟩

theorem wide_eq : wide = ((1024 : ℝ) : EReal) := by
  simp [wide, Ideal.ofBits, Ideal.ieee]
  rw [← EReal.coe_mul]
  norm_num

theorem minusHalf_eq : minusHalf = ((-(1 / 2) : ℝ) : EReal) := by
  simp [minusHalf, Ideal.ofBits, Ideal.ieee]
  rw [← EReal.coe_mul]
  norm_num

theorem two_eq : two = ((2 : ℝ) : EReal) := by
  simp [two, Ideal.ofBits, Ideal.ieee]
  rw [← EReal.coe_mul]
  norm_num

theorem eps_eq : ∃ e : ℝ, 0 < e ∧ eps = (e : EReal) := by
  refine ⟨10995116 / 2 ^ 40, by norm_num, ?_⟩
  simp [eps, Ideal.ofBits, Ideal.ieee]
  rw [← EReal.coe_mul]
  norm_num

/-- The factor of the residual path. -/
abbrev alpha : EReal := Ideal.ofBits .f32 0x3F9837F0#32

theorem alpha_real : IsReal alpha := by
  refine ⟨9975792 / 2 ^ 23, ?_⟩
  simp [alpha, Ideal.ofBits, Ideal.ieee]
  rw [← EReal.coe_mul]
  norm_num

/-- A sum over `n` blocks of `w` places each. -/
theorem sum_blocks {M : Type*} [AddCommMonoid M] {n w N : ℕ} (h : N = n * w) (f : Fin N → M) :
    ∑ i, f i = ∑ s : Fin n, ∑ y : Fin w, f ⟨w * s + y, by
      have := Nat.mul_le_mul_left w (Nat.succ_le_of_lt s.isLt)
      rw [Nat.mul_succ] at this
      rw [h, mul_comm n w]
      omega⟩ := by
  subst h
  rw [← Fintype.sum_prod_type', ← finProdFinEquiv.sum_comp]
  refine sum_congr rfl fun x _ => congrArg f (Fin.ext ?_)
  exact Nat.add_comm x.2.val (w * x.1.val)

variable (x w : Fin 1024 → EReal) (j : Fin 1024)

/-- The mean of a row. -/
def mean : EReal := Ideal.div (∑ k, x k) wide

/-- A row less its mean. -/
def centre : EReal := x j - mean x

/-- The variance of a row, with the small constant added. -/
def spread : EReal := mean (fun k => centre x k * centre x k) + eps

/-- One over the standard deviation. -/
def scale : EReal := Ideal.rsqrt (spread x)

/-- The normalised row. -/
def hat : EReal := centre x j * scale x

/-- The cotangent of the centred row that goes through the variance. -/
def through : EReal := Ideal.div ((∑ k, centre x k * w k) * (minusHalf * Ideal.div (scale x) (spread x))) wide * (two * centre x j)

/-- The gradient by the definition's derivative: `w` is the cotangent of the normalised row. -/
def derived : EReal :=
  w j * scale x + through x w j + Ideal.div (∑ k, -(w k * scale x) + ∑ k, -through x w k) wide

/-- The gradient in terms of the normalised row. -/
def direct : EReal := scale x * (w j - mean w - hat x j * mean (fun k => w k * hat x k))

variable {x w}

/-- On real rows the two gradients agree. -/
theorem derived_eq_direct (hx : ∀ k, IsReal (x k)) (hw : ∀ k, IsReal (w k)) : derived x w j = direct x w j := by
  choose a ha using hx
  choose b hb using hw
  obtain ⟨e, he, hE⟩ := eps_eq
  have hn : (1024 : ℝ) ≠ 0 := by norm_num
  have hmean : ∀ f : Fin 1024 → ℝ, mean (fun k => (f k : EReal)) = (((∑ k, f k) * (1 / 1024) : ℝ) : EReal) := fun f => by
    rw [mean, wide_eq, Ideal.div_coe hn, Cert.Fox.sum_coe, EReal.coe_mul]
  obtain rfl : x = fun k => (a k : EReal) := funext ha
  obtain rfl : w = fun k => (b k : EReal) := funext hb
  set μ : ℝ := (∑ k, a k) * (1 / 1024) with hμ
  have hc : ∀ k, centre (fun k => (a k : EReal)) k = ((a k - μ : ℝ) : EReal) := fun k => by
    rw [centre, hmean, EReal.coe_sub]
  set v : ℝ := (∑ k, (a k - μ) * (a k - μ)) * (1 / 1024) + e with hv
  have hv0 : 0 < v := add_pos_of_nonneg_of_pos (mul_nonneg (sum_nonneg fun k _ => mul_self_nonneg _) (by norm_num)) he
  have hs : spread (fun k => (a k : EReal)) = (v : EReal) := by
    simp only [spread, hc, ← EReal.coe_mul, hmean, hE, ← EReal.coe_add, hv]
  set r : ℝ := (Real.sqrt v)⁻¹ with hr
  have hr2 : 1 / v = r * r := by
    rw [hr, ← mul_inv, Real.mul_self_sqrt hv0.le, one_div]
  have hS : scale (fun k => (a k : EReal)) = (r : EReal) := by
    rw [scale, hs, Ideal.rsqrt_coe, if_neg hv0.not_gt, if_neg hv0.ne']
  have hz : ∑ k, (a k - μ) = 0 := by
    rw [sum_sub_distrib, sum_const, card_univ, Fintype.card_fin, hμ, nsmul_eq_mul]
    push_cast
    ring
  set p : ℝ := ∑ k, (a k - μ) * b k with hp
  have ht : ∀ k, through (fun k => (a k : EReal)) (fun k => (b k : EReal)) k =
      ((p * (-(1 / 2) * (r * (r * r))) * (1 / 1024) * (2 * (a k - μ)) : ℝ) : EReal) := fun k => by
    simp only [through, hc, hS, hs, wide_eq, minusHalf_eq, two_eq, Ideal.div_coe hn, Ideal.div_coe hv0.ne', hr2, ← EReal.coe_mul,
      Cert.Fox.sum_coe, hp]
  simp only [derived, direct, ht, hat, hS, hc, hmean, wide_eq, Ideal.div_coe hn, Cert.Fox.sum_coe, ← EReal.coe_mul, ← EReal.coe_add,
    ← EReal.coe_sub, ← EReal.coe_neg]
  refine congrArg _ ?_
  rw [sum_neg_distrib, sum_neg_distrib]
  have h1 : ∑ k, b k * r = (∑ k, b k) * r := (sum_mul _ _ _).symm
  have h2 : ∑ k, p * (-(1 / 2) * (r * (r * r))) * (1 / 1024) * (2 * (a k - μ)) = 0 := by
    rw [← mul_sum, ← mul_sum, hz]
    ring
  have h3 : ∑ k, b k * ((a k - μ) * r) = p * r := by
    rw [hp, sum_mul]
    exact sum_congr rfl fun k _ => by ring
  rw [h1, h2, h3]
  ring

/-- On a real row the norm's parts are real. -/
theorem scale_real (hx : ∀ k, IsReal (x k)) : IsReal (scale x) := by
  choose a ha using hx
  obtain ⟨e, he, hE⟩ := eps_eq
  obtain rfl : x = fun k => (a k : EReal) := funext ha
  have hmean : ∀ f : Fin 1024 → ℝ, mean (fun k => (f k : EReal)) = (((∑ k, f k) * (1 / 1024) : ℝ) : EReal) := fun f => by
    rw [mean, wide_eq, Ideal.div_coe (by norm_num), Cert.Fox.sum_coe, EReal.coe_mul]
  have hv0 : 0 < (∑ k, (a k - (∑ k, a k) * (1 / 1024)) * (a k - (∑ k, a k) * (1 / 1024))) * (1 / 1024) + e :=
    add_pos_of_nonneg_of_pos (mul_nonneg (sum_nonneg fun k _ => mul_self_nonneg _) (by norm_num)) he
  refine ⟨(Real.sqrt ((∑ k, (a k - (∑ k, a k) * (1 / 1024)) * (a k - (∑ k, a k) * (1 / 1024))) * (1 / 1024) + e))⁻¹, ?_⟩
  simp only [scale, spread, centre, hmean, hE, ← EReal.coe_sub, ← EReal.coe_mul, ← EReal.coe_add]
  rw [Ideal.rsqrt_coe, if_neg hv0.not_gt, if_neg hv0.ne']

theorem mean_real (hx : ∀ k, IsReal (x k)) : IsReal (mean x) := by
  obtain ⟨r, h⟩ := IsReal.sum univ hx
  exact ⟨r * (1 / 1024), by rw [mean, h, wide_eq, Ideal.div_coe (by norm_num), EReal.coe_mul]⟩

theorem IsReal.sub {y z : EReal} (hy : IsReal y) (hz : IsReal z) : IsReal (y - z) := by
  obtain ⟨a, rfl⟩ := hy
  obtain ⟨b, rfl⟩ := hz
  exact ⟨a - b, (EReal.coe_sub a b).symm⟩

theorem hat_real (hx : ∀ k, IsReal (x k)) (j : Fin 1024) : IsReal (hat x j) := .mul (.sub (hx j) (mean_real hx)) (scale_real hx)

end Cert.Norm

end

end
-- ==== Proof.Finite.lean ====
module

public import proofs.«01_k».proof.Proof.RefRead
public import proofs.«01_k».proof.Pre_finite
public import proofs.«01_k».proof.Proof.Norm

/-! Arrays whose entries are finite, read as tables of real numbers. -/

@[expose] public section

set_option maxRecDepth 16384

noncomputable section

namespace Cert.Finite

open Idealize.ShloMosaic Idealize.ShloMosaic.Tactic

/-- An extended real of magnitude below infinity is a real number. -/
theorem real_of_abs_lt {x : EReal} (h : FloatOps.cmpf (F := Ideal) (φ := .f32) .olt (FloatOps.absf (F := Ideal) (φ := .f32) x)
    (FloatOps.ofBits (F := Ideal) .f32 0x7F800000#32) = 1#1) : x = ((x.toReal : ℝ) : EReal) := by
  have hi : FloatOps.ofBits (F := Ideal) .f32 0x7F800000#32 = (⊤ : EReal) := by rfl
  rw [hi] at h
  have hlt : max x (-x) < (⊤ : EReal) := by
    by_contra hn
    have h0 : FloatOps.cmpf (F := Ideal) (φ := .f32) .olt (FloatOps.absf (F := Ideal) (φ := .f32) x) (⊤ : EReal) =
        BitVec.ofBool (decide (max x (-x) < (⊤ : EReal))) := rfl
    rw [h0, decide_eq_false hn] at h
    exact absurd h (by decide)
  refine (EReal.coe_toReal (fun hx => ?_) (fun hx => ?_)).symm <;> subst hx <;> simp at hlt

theorem isReal {x : EReal} (h : FloatOps.cmpf (F := Ideal) (φ := .f32) .olt (FloatOps.absf (F := Ideal) (φ := .f32) x)
    (FloatOps.ofBits (F := Ideal) .f32 0x7F800000#32) = 1#1) : Cert.Norm.IsReal x := ⟨_, real_of_abs_lt h⟩

theorem isReal_half {x : EReal} (h : FloatOps.cmpf (F := Ideal) (φ := .bf16) .olt (FloatOps.absf (F := Ideal) (φ := .bf16) x)
    (FloatOps.ofBits (F := Ideal) .bf16 0x7F80#16) = 1#1) : Cert.Norm.IsReal x := by
  have hi : FloatOps.ofBits (F := Ideal) .bf16 0x7F80#16 = FloatOps.ofBits (F := Ideal) .f32 0x7F800000#32 := by
    show Ideal.ofBits .bf16 0x7F80#16 = Ideal.ofBits .f32 0x7F800000#32
    rfl
  rw [hi] at h
  exact isReal h

/-- The real table of a matrix, zero outside it. -/
def table {r s : ℕ} (x : FVec Ideal ⟨2, ![r, s]⟩ .f32) (a b : ℕ) : ℝ :=
  if h : a < r ∧ b < s then EReal.toReal (x (ix2 ⟨a, h.1⟩ ⟨b, h.2⟩)) else 0

/-- A matrix that passes the finiteness test is its table. -/
theorem eq_table {r s : ℕ} (x : FVec Ideal ⟨2, ![r, s]⟩ .f32)
    (h : ∀ j, FloatOps.cmpf (F := Ideal) (φ := .f32) .olt (FloatOps.absf (F := Ideal) (φ := .f32) (x j))
      (FloatOps.ofBits (F := Ideal) .f32 0x7F800000#32) = 1#1) (a : Fin r) (b : Fin s) :
    x (ix2 a b) = ((table x a.val b.val : ℝ) : EReal) := by
  unfold table
  rw [dif_pos ⟨a.isLt, b.isLt⟩]
  exact real_of_abs_lt (h (ix2 a b))

/-- The side conditions the precondition's text states. -/
theorem facts : Cert.Pre_finite.Facts := ⟨by decide, by decide, by decide⟩

variable [Cert.Pre_finite.Facts] {p : FVec Ideal Cert.Pre_finite.S2048x3840 .f32} {c : FVec Ideal Cert.Pre_finite.S128x2048 .f32}
  {g : FVec Ideal Cert.Pre_finite.S2048x512 .f32}

theorem proj_table (h : (Cert.Pre_finite.fn (F := Ideal) p c g).1 = fun _ => 1#1) (a : Fin 2048) (b : Fin 3840) :
    p (ix2 a b) = ((table p a.val b.val : ℝ) : EReal) :=
  eq_table p (fun j => congrFun h j) a b

theorem decay_table (h : (Cert.Pre_finite.fn (F := Ideal) p c g).2.1 = fun _ => 1#1) (a : Fin 128) (b : Fin 2048) :
    c (ix2 a b) = ((table c a.val b.val : ℝ) : EReal) :=
  eq_table c (fun j => congrFun h j) a b

theorem cot_table (h : (Cert.Pre_finite.fn (F := Ideal) p c g).2.2 = fun _ => 1#1) (a : Fin 2048) (b : Fin 512) :
    g (ix2 a b) = ((table g a.val b.val : ℝ) : EReal) :=
  eq_table g (fun j => congrFun h j) a b

end Cert.Finite

end

end
-- ==== Proof.Act.lean ====
module

public import proofs.«01_k».proof.Defs
public import proofs.«01_k».proof.Proof.Gen.ActIdeal.Value
public import proofs.«01_k».proof.Proof.Gen.ActRefIdeal.Run
public import proofs.«01_k».proof.Proof.Gen.ActRefIdeal.Read
public import Idealize.ShloMosaic.Lib.StableHlo.RunRead
public import Idealize.ShloMosaic.Lib.Tactic.CleanTypes
public import proofs.«01_k».proof.Proof.Stores

/-! The gradient of the squared ReLU's argument through the down projection. -/

@[expose] public section

set_option maxRecDepth 16384

noncomputable section

namespace Cert.Proof.Act

open Idealize.ShloMosaic Idealize.ShloMosaic.TcCoe Idealize.ShloMosaic.Tactic Idealize.SL.Sem
open Cert.ActIdeal Cert.ActIdeal.Gen Cert.Stores Finset

local instance : Cert.ActIdeal.Facts := Cert.ActIdeal.Gen.facts
local instance : Cert.ActRefIdeal.Facts := Cert.ActRefIdeal.Gen.facts

/-- The factor of the square's derivative. -/
abbrev two : EReal := Ideal.ofBits .f32 0x40000000#32

/-- What one point leaves in its block. -/
theorem out (x0 : Vec Ideal S512x1024 .bf16) (x1 : Vec Ideal S2048x1024 .bf16) (x2 : Vec Ideal S512x2048 .bf16) (a : Fin 512) (b : Fin 2048) :
    out0_3 x0 x1 x2 (ix2 a b) = ((∑ k : Fin 1024, (x0 (ix2 a k) : EReal) * x1 (ix2 b k)) * (two * x2 (ix2 a b)) : EReal) := by
  obtain ⟨b, hb⟩ := b
  have hl := hb
  unfold out0_3
  iterate 4 (
    refine reads_canon.strip _ _ _ _ _ _ hl (fun y hy => ?_) fun hl => ?_
    · subst hy
      pointwise [k0_pay1, k0_pay2, k0_pay3, k0_pay4, k0_pay5, k0_pay6])
  exact absurd hl (Nat.not_lt_zero _)

/-- Every window's block at every point. -/
theorem idx : ∀ t : Fin cfg0.N, win0_0.index t = ![t.val % 4, 0] ∧ win0_1.index t = ![t.val / 4, 0] ∧
    win0_2.index t = ![t.val % 4, t.val / 4] ∧ win0_3.index t = ![t.val % 4, t.val / 4] :=
  (by decide +kernel : ∀ t : Fin grid0.N, _)

variable (m : (ℓ : Loc nD τ sig) → Buf (Elt Ideal) ℓ) (c : Dev nD)

/-- The ReLU of the up projection. -/
def relu (x : FVec Ideal S2048x4096 .f32) : FVec Ideal S2048x4096 .bf16 := fun j => max (x j : EReal) (Ideal.ofBits .f32 0x00000000#32)

/-- The host computes it before the call. -/
theorem V_relu : V m c main_v2 = relu (m ((c : Thread nD τ).loc main_arg0)) := by
  unfold_abbrev_sides
  after_reads_simp
  rfl

/-- The gradient passes where the argument is positive. -/
theorem relu_factor (s x : EReal) : s * (two * max x (Ideal.ofBits .f32 0x00000000#32)) =
    Scalar.select (FloatOps.cmpf (F := Ideal) (φ := .f32) .ogt x (Ideal.ofBits .f32 0x00000000#32)) (s * (two * max x (Ideal.ofBits .f32 0x00000000#32)))
      (Ideal.ofBits .f32 0x00000000#32) := by
  have hz : Ideal.ofBits .f32 0x00000000#32 = (0 : EReal) := Ideal.ofBits_zero_f32
  rw [hz]
  have hs : FloatOps.cmpf (F := Ideal) (φ := .f32) .ogt x (0 : EReal) = BitVec.ofBool (decide ((0 : EReal) < x)) := rfl
  rw [hs]
  by_cases h : (0 : EReal) < x
  · rw [decide_eq_true h]; rfl
  · rw [decide_eq_false h, max_eq_right (not_lt.1 h), mul_zero, mul_zero]; rfl

open Cert.ActRefIdeal.Read in
/-- The array after the kernel's run is the reference's result. -/
theorem array : (dats m 0 c).arrAt 3 cfg0.N = val_main_v14 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  have ht : t.val < 8 := t.isLt
  blk_simp
  rw [after0_3]
  obtain ⟨a, b, rfl⟩ : ∃ (a : Fin 512) (b : Fin 2048), y = ix2 a b := ⟨y 0, y 1, (ix2_eta y).symm⟩
  have e : (win0_3.blk t).view.emb (ix2 a b) = ix2 (⟨512 * (t.val % 4) + a, by omega⟩ : Fin 2048) (⟨2048 * (t.val / 4) + b, by omega⟩ : Fin 4096) := by
    blk_ext [idx t]
  have e0 : ∀ k : Fin 1024, iblk m c 0 t (ix2 a k) = m ((c : Thread nD τ).loc main_arg2) (ix2 (⟨512 * (t.val % 4) + a, by omega⟩ : Fin 2048) k) := fun k => by
    blk_ext [iblk, V, idx t]
  have e1 : ∀ k : Fin 1024, iblk m c 1 t (ix2 b k) = m ((c : Thread nD τ).loc main_arg1) (ix2 (⟨2048 * (t.val / 4) + b, by omega⟩ : Fin 4096) k) := fun k => by
    blk_ext [iblk, V, idx t]
  have e2 : iblk m c 2 t (ix2 a b) = V m c main_v2 (ix2 (⟨512 * (t.val % 4) + a, by omega⟩ : Fin 2048) (⟨2048 * (t.val / 4) + b, by omega⟩ : Fin 4096)) := by
    blk_ext [iblk, idx t]
  rw [e]
  refine (out _ _ _ a b).trans ?_
  rw [e2, V_relu]
  unfold relu
  simp only [e0, e1]
  rw [relu_factor]
  generalize m ((c : Thread nD τ).loc main_arg0) = x0
  generalize m ((c : Thread nD τ).loc main_arg1) = x1
  generalize m ((c : Thread nD τ).loc main_arg2) = x2
  pointwise [val_main_v14, val_main_v13, val_main_v12, val_main_v11, val_main_v10, val_main_v9, val_main_v7, val_main_v6, val_main_v5,
    val_main_v2, val_main_v1, val_main_v0, val_main_call0_v0, val_main_call0_cst, val_main_cst, val_main_cst_1, val_main_cst_2]

/-- The reference ends with its arguments kept. -/
theorem frame_reference : Cert.quiescent_ActRefIdeal := fun m ρ _ =>
  (θ_run Cert.ActRefIdeal.defs _ _).mono (fun r h => ⟨fun c => (h c).2, sem_eq_zero_of_no_sems (by decide) r.2⟩)
    (Cert.ActRefIdeal.Value.run (F := Ideal) m ρ)

/-- The ideal kernel computes what the reference does. -/
theorem algebraic : Cert.algebraic_ActIdeal_ActRefIdeal := by
  intro m g m' g' _ hargs
  refine ⟨fun c => Cert.ActRefIdeal.Read.val_main_v14 (F := Ideal) (m ((c : Thread nD τ).loc main_arg0)) (m ((c : Thread nD τ).loc main_arg1)) (m ((c : Thread nD τ).loc main_arg2)), ?_, ?_⟩
  · refine (θ_run Cert.ActIdeal.defs _ _).mono (fun r h c => ?_) (Cert.ActIdeal.Value.run_blocks (F := Ideal) m g)
    obtain ⟨h0, h⟩ := h c
    exact ⟨h0.trans (array m c), h⟩
  · refine (θ_run Cert.ActRefIdeal.defs _ _).mono (fun r h c => ?_) (Cert.ActRefIdeal.Value.run (F := Ideal) m' g')
    obtain ⟨h0, h⟩ := h c
    obtain ⟨e0, e1, e2⟩ := hargs c
    rw [Cert.ActRefIdeal.Read.val_main_v14_eq, e0, e1, e2] at h0
    exact ⟨h0, h⟩

end Cert.Proof.Act

end

end
-- ==== Proof.Down.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.StableHlo.RunRead
public import Idealize.ShloMosaic.Lib.Tactic.CleanTypes
public import proofs.«01_k».proof.Proof.Stores

/-! The gradient of the down projection's weights. -/

@[expose] public section

set_option maxRecDepth 16384

noncomputable section

namespace Cert.Proof.Down

open Idealize.ShloMosaic Idealize.ShloMosaic.TcCoe Idealize.ShloMosaic.Tactic Idealize.SL.Sem
open Cert.DownIdeal Cert.DownIdeal.Gen Cert.Stores Finset

local instance : Cert.DownIdeal.Facts := Cert.DownIdeal.Gen.facts
local instance : Cert.DownRefIdeal.Facts := Cert.DownRefIdeal.Gen.facts

/-- What one point leaves in its block. -/
theorem out (x0 : Vec Ideal S2048x1024 .bf16) (x1 : Vec Ideal S2048x1024 .bf16) (a : Fin 1024) (b : Fin 1024) :
    out0_2 x0 x1 (ix2 a b) = (∑ k : Fin 2048, (x0 (ix2 k a) : EReal) * x1 (ix2 k b) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![0, t.val % 4] ∧ win0_1.index t = ![0, t.val / 4] ∧ win0_2.index t = ![t.val % 4, t.val / 4] :=
  (by decide +kernel : ∀ t : Fin grid0.N, _)

variable (m : (ℓ : Loc nD τ sig) → Buf (Elt Ideal) ℓ) (c : Dev nD)

/-- The squared ReLU of the up projection. -/
def square (x : FVec Ideal S2048x4096 .f32) : FVec Ideal S2048x4096 .bf16 := fun j =>
  max (x j : EReal) (Ideal.ofBits .f32 0x00000000#32) * max (x j : EReal) (Ideal.ofBits .f32 0x00000000#32)

/-- The host computes it before the call. -/
theorem V_square : V m c main_v2 = square (m ((c : Thread nD τ).loc main_arg0)) := by
  unfold_abbrev_sides
  after_reads_simp
  rfl

open Cert.DownRefIdeal.Read in
/-- The array after the kernel's run is the reference's result. -/
theorem array : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨a, b, rfl⟩ : ∃ (a : Fin 1024) (b : Fin 1024), y = ix2 a b := ⟨y 0, y 1, (ix2_eta y).symm⟩
  have e : (win0_2.blk t).view.emb (ix2 a b) = ix2 (⟨1024 * (t.val % 4) + a, by omega⟩ : Fin 4096) (⟨1024 * (t.val / 4) + b, by omega⟩ : Fin 1024) := by
    blk_ext [idx t]
  have e0 : ∀ k : Fin 2048, iblk m c 0 t (ix2 k a) = square (m ((c : Thread nD τ).loc main_arg0)) (ix2 k (⟨1024 * (t.val % 4) + a, by omega⟩ : Fin 4096)) := fun k => by
    rw [← V_square]
    blk_ext [iblk, idx t]
  have e1 : ∀ k : Fin 2048, iblk m c 1 t (ix2 k b) = m ((c : Thread nD τ).loc main_arg1) (ix2 k (⟨1024 * (t.val / 4) + b, by omega⟩ : Fin 1024)) := fun k => by
    blk_ext [iblk, V, idx t]
  rw [e]
  refine (out _ _ a b).trans ?_
  simp only [e0, e1]
  unfold square
  generalize m ((c : Thread nD τ).loc main_arg0) = x0
  generalize m ((c : Thread nD τ).loc main_arg1) = x1
  pointwise [val_main_cst, val_main_v0, val_main_call0_cst, val_main_call0_v0, val_main_v1, val_main_v2, val_main_v3, val_main_v4, val_main_v5,
    val_main_v6]
  exact sum_congr rfl fun k _ => mul_comm _ _

/-- The reference ends with its arguments kept. -/
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The ideal kernel computes what the reference does. -/
theorem algebraic : Cert.algebraic_DownIdeal_DownRefIdeal := by
  intro m g m' g' _ hargs
  refine ⟨fun c => Cert.DownRefIdeal.Read.val_main_v6 (F := Ideal) (m ((c : Thread nD τ).loc main_arg0)) (m ((c : Thread nD τ).loc main_arg1)), ?_, ?_⟩
  · refine (θ_run Cert.DownIdeal.defs _ _).mono (fun r h c => ?_) (Cert.DownIdeal.Value.run_blocks (F := Ideal) m g)
    obtain ⟨h0, h⟩ := h c
    exact ⟨h0.trans (array m c), h⟩
  · refine (θ_run Cert.DownRefIdeal.defs _ _).mono (fun r h c => ?_) (Cert.DownRefIdeal.Value.run (F := Ideal) m' g')
    obtain ⟨h0, h⟩ := h c
    obtain ⟨e0, e1⟩ := hargs c
    rw [Cert.DownRefIdeal.Read.val_main_v6_eq, e0, e1] at h0
    exact ⟨h0, h⟩

end Cert.Proof.Down

end

end
-- ==== Proof.Up.lean ====
module

public import proofs.«01_k».proof.Defs
public import proofs.«01_k».proof.Proof.Gen.UpIdeal.Value
public import proofs.«01_k».proof.Proof.Gen.UpRefIdeal.Run
public import proofs.«01_k».proof.Proof.Gen.UpRefIdeal.Read
public import proofs.«01_k».proof.Proof.Stores

/-! The gradient of the up projection's weights, one plane for each chip. -/

@[expose] public section

set_option maxRecDepth 16384

noncomputable section

namespace Cert.Proof.Up

open Idealize.ShloMosaic Idealize.ShloMosaic.TcCoe Idealize.ShloMosaic.Tactic Idealize.SL.Sem
open Cert.UpIdeal Cert.UpIdeal.Gen Cert.Stores Finset

local instance : Cert.UpIdeal.Facts := Cert.UpIdeal.Gen.facts
local instance : Cert.UpRefIdeal.Facts := Cert.UpRefIdeal.Gen.facts

/-- What one point leaves in its block. -/
theorem out (x0 : Vec Ideal S2048x1024 .bf16) (x1 : Vec Ideal S2048x1024 .bf16) (a : Fin 1024) (b : Fin 1024) :
    out0_2 x0 x1 (ix3 0 a b) = (∑ k : Fin 2048, (x0 (ix2 k a) : EReal) * x1 (ix2 k b) : EReal) := by
  obtain ⟨b, hb⟩ := b
  have hl := hb
  unfold out0_2
  iterate 2 (
    refine reads_canon.strip_plane _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![0, t.val % 1] ∧ win0_1.index t = ![0, t.val / 1] ∧ win0_2.index t = ![t.val / 1, t.val % 1, 0] :=
  (by decide +kernel : ∀ t : Fin grid0.N, _)

variable (m : (ℓ : Loc nD τ sig) → Buf (Elt Ideal) ℓ) (c : Dev nD)

open Cert.UpRefIdeal.Read in
/-- The array after the kernel's run is the reference's result. -/
theorem array : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨z, a, b, rfl⟩ : ∃ (z : Fin 1) (a : Fin 1024) (b : Fin 1024), y = ix3 z a b := ⟨y 0, y 1, y 2, (ix3_eta y).symm⟩
  obtain rfl : z = 0 := Subsingleton.elim _ _
  have e : (win0_2.blk t).view.emb (ix3 0 a b) = ix3 (⟨t.val / 1, by omega⟩ : Fin 4) (⟨1024 * (t.val % 1) + a, by omega⟩ : Fin 1024) b := by
    blk_ext [idx t]
  have e0 : ∀ k : Fin 2048, iblk m c 0 t (ix2 k a) = m ((c : Thread nD τ).loc main_arg0) (ix2 k (⟨1024 * (t.val % 1) + a, by omega⟩ : Fin 1024)) := fun k => by
    blk_ext [iblk, V, idx t]
  have e1 : ∀ k : Fin 2048, iblk m c 1 t (ix2 k b) = m ((c : Thread nD τ).loc main_arg1) (ix2 k (⟨(t.val / 1) * 1024 + b, by omega⟩ : Fin 4096)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_cst, val_main_v0, val_main_v1, val_main_v2, val_main_v3, val_main_v4, val_main_v5, val_main_v6, val_main_v7]
  exact sum_congr rfl fun k _ => mul_comm _ _

/-- The reference ends with its arguments kept. -/
theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The ideal kernel computes what the reference does. -/
theorem algebraic : Cert.algebraic_UpIdeal_UpRefIdeal := by
  intro m g m' g' _ hargs
  refine ⟨fun c => Cert.UpRefIdeal.Read.val_main_v7 (F := Ideal) (m ((c : Thread nD τ).loc main_arg0)) (m ((c : Thread nD τ).loc main_arg1)), ?_, ?_⟩
  · refine (θ_run Cert.UpIdeal.defs _ _).mono (fun r h c => ?_) (Cert.UpIdeal.Value.run_blocks (F := Ideal) m g)
    obtain ⟨h0, h⟩ := h c
    exact ⟨h0.trans (array m c), h⟩
  · refine (θ_run Cert.UpRefIdeal.defs _ _).mono (fun r h c => ?_) (Cert.UpRefIdeal.Value.run (F := Ideal) m' g')
    obtain ⟨h0, h⟩ := h c
    obtain ⟨e0, e1⟩ := hargs c
    rw [Cert.UpRefIdeal.Read.val_main_v7_eq, e0, e1] at h0
    exact ⟨h0, h⟩

end Cert.Proof.Up

end

end
-- ==== Proof.Square.lean ====
module

public import proofs.«01_k».proof.Defs
public import proofs.«01_k».proof.Proof.Gen.SquareIdeal.Value
public import proofs.«01_k».proof.Proof.Gen.SquareRefIdeal.Run
public import proofs.«01_k».proof.Proof.Gen.SquareRefIdeal.Read
public import proofs.«01_k».proof.Proof.Stores

/-! The gradient of a square weight matrix. -/

@[expose] public section

set_option maxRecDepth 16384

noncomputable section

namespace Cert.Proof.Square

open Idealize.ShloMosaic Idealize.ShloMosaic.TcCoe Idealize.ShloMosaic.Tactic Idealize.SL.Sem
open Cert.SquareIdeal Cert.SquareIdeal.Gen Cert.Stores Finset

local instance : Cert.SquareIdeal.Facts := Cert.SquareIdeal.Gen.facts
local instance : Cert.SquareRefIdeal.Facts := Cert.SquareRefIdeal.Gen.facts

/-- What one point leaves in its block. -/
theorem out (x0 : Vec Ideal S2048x1024 .bf16) (x1 : Vec Ideal S2048x1024 .bf16) (a : Fin 1024) (b : Fin 1024) :
    out0_2 x0 x1 (ix2 a b) = (∑ k : Fin 2048, (x0 (ix2 k a) : EReal) * x1 (ix2 k b) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![0, t.val % 1] ∧ win0_1.index t = ![0, t.val / 1] ∧ win0_2.index t = ![t.val % 1, t.val / 1] :=
  (by decide +kernel : ∀ t : Fin grid0.N, _)

variable (m : (ℓ : Loc nD τ sig) → Buf (Elt Ideal) ℓ) (c : Dev nD)

open Cert.SquareRefIdeal.Read in
/-- The array after the kernel's run is the reference's result. -/
theorem array : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have ht : t.val < 1 := t.isLt
  blk_simp
  rw [after0_2]
  obtain ⟨a, b, rfl⟩ : ∃ (a : Fin 1024) (b : Fin 1024), y = ix2 a b := ⟨y 0, y 1, (ix2_eta y).symm⟩
  have e : (win0_2.blk t).view.emb (ix2 a b) = ix2 (⟨1024 * (t.val % 1) + a, by omega⟩ : Fin 1024) (⟨1024 * (t.val / 1) + b, by omega⟩ : Fin 1024) := by
    blk_ext [idx t]
  have e0 : ∀ k : Fin 2048, iblk m c 0 t (ix2 k a) = m ((c : Thread nD τ).loc main_arg0) (ix2 k (⟨1024 * (t.val % 1) + a, by omega⟩ : Fin 1024)) := fun k => by
    blk_ext [iblk, V, idx t]
  have e1 : ∀ k : Fin 2048, iblk m c 1 t (ix2 k b) = m ((c : Thread nD τ).loc main_arg1) (ix2 k (⟨1024 * (t.val / 1) + b, by omega⟩ : Fin 1024)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_cst, val_main_v0, val_main_v1, val_main_v2, val_main_v3, val_main_v4, val_main_v5]
  exact sum_congr rfl fun k _ => mul_comm _ _

/-- The reference ends with its arguments kept. -/
theorem frame_reference : Cert.quiescent_SquareRefIdeal := fun m ρ _ =>
  (θ_run Cert.SquareRefIdeal.defs _ _).mono (fun r h => ⟨fun c => (h c).2, sem_eq_zero_of_no_sems (by decide) r.2⟩)
    (Cert.SquareRefIdeal.Value.run (F := Ideal) m ρ)

/-- The ideal kernel computes what the reference does. -/
theorem algebraic : Cert.algebraic_SquareIdeal_SquareRefIdeal := by
  intro m g m' g' _ hargs
  refine ⟨fun c => Cert.SquareRefIdeal.Read.val_main_v5 (F := Ideal) (m ((c : Thread nD τ).loc main_arg0)) (m ((c : Thread nD τ).loc main_arg1)), ?_, ?_⟩
  · refine (θ_run Cert.SquareIdeal.defs _ _).mono (fun r h c => ?_) (Cert.SquareIdeal.Value.run_blocks (F := Ideal) m g)
    obtain ⟨h0, h⟩ := h c
    exact ⟨h0.trans (array m c), h⟩
  · refine (θ_run Cert.SquareRefIdeal.defs _ _).mono (fun r h c => ?_) (Cert.SquareRefIdeal.Value.run (F := Ideal) m' g')
    obtain ⟨h0, h⟩ := h c
    obtain ⟨e0, e1⟩ := hargs c
    rw [Cert.SquareRefIdeal.Read.val_main_v5_eq, e0, e1] at h0
    exact ⟨h0, h⟩

end Cert.Proof.Square

end

end
-- ==== Proof.Ple.lean ====
module

public import proofs.«01_k».proof.Defs
public import proofs.«01_k».proof.Proof.Gen.PleIdeal.Value
public import proofs.«01_k».proof.Proof.Gen.PleRefIdeal.Run
public import proofs.«01_k».proof.Proof.Gen.PleRefIdeal.Read
public import proofs.«01_k».proof.Proof.Stores

/-! The gradient of the per-layer embedding's weights, one plane for each chip. -/

@[expose] public section

set_option maxRecDepth 16384

noncomputable section

namespace Cert.Proof.Ple

open Idealize.ShloMosaic Idealize.ShloMosaic.TcCoe Idealize.ShloMosaic.Tactic Idealize.SL.Sem
open Cert.PleIdeal Cert.PleIdeal.Gen Cert.Stores Finset

local instance : Cert.PleIdeal.Facts := Cert.PleIdeal.Gen.facts
local instance : Cert.PleRefIdeal.Facts := Cert.PleRefIdeal.Gen.facts

/-- What one point leaves in its block. -/
theorem out (x0 : Vec Ideal S2048x256 .bf16) (x1 : Vec Ideal S2048x256 .bf16) (a : Fin 256) (b : Fin 256) :
    out0_2 x0 x1 (ix3 0 a b) = (∑ k : Fin 2048, (x0 (ix2 k a) : EReal) * x1 (ix2 k b) : EReal) := by
  obtain ⟨b, hb⟩ := b
  have hl := hb
  unfold out0_2
  iterate 1 (
    refine reads_canon.strip_plane _ _ _ _ _ _ hl (fun y hy => ?_) fun hl => ?_
    · subst hy
      pointwise [k0_pay1])
  exact absurd hl (Nat.not_lt_zero _)

/-- Every window's block at every point. -/
theorem idx : ∀ t : Fin cfg0.N, win0_0.index t = ![0, t.val % 1] ∧ win0_1.index t = ![0, t.val / 1] ∧ win0_2.index t = ![t.val / 1, t.val % 1, 0] :=
  (by decide +kernel : ∀ t : Fin grid0.N, _)

variable (m : (ℓ : Loc nD τ sig) → Buf (Elt Ideal) ℓ) (c : Dev nD)

open Cert.PleRefIdeal.Read in
/-- The array after the kernel's run is the reference's result. -/
theorem array : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨z, a, b, rfl⟩ : ∃ (z : Fin 1) (a : Fin 256) (b : Fin 256), y = ix3 z a b := ⟨y 0, y 1, y 2, (ix3_eta y).symm⟩
  obtain rfl : z = 0 := Subsingleton.elim _ _
  have e : (win0_2.blk t).view.emb (ix3 0 a b) = ix3 (⟨t.val / 1, by omega⟩ : Fin 4) (⟨256 * (t.val % 1) + a, by omega⟩ : Fin 256) b := by
    blk_ext [idx t]
  have e0 : ∀ k : Fin 2048, iblk m c 0 t (ix2 k a) = m ((c : Thread nD τ).loc main_arg0) (ix2 k (⟨256 * (t.val % 1) + a, by omega⟩ : Fin 256)) := fun k => by
    blk_ext [iblk, V, idx t]
  have e1 : ∀ k : Fin 2048, iblk m c 1 t (ix2 k b) = m ((c : Thread nD τ).loc main_arg1) (ix2 k (⟨(t.val / 1) * 256 + b, by omega⟩ : Fin 1024)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_cst, val_main_v0, val_main_v1, val_main_v2, val_main_v3, val_main_v4, val_main_v5, val_main_v6, val_main_v7]
  exact sum_congr rfl fun k _ => mul_comm _ _

/-- The reference ends with its arguments kept. -/
theorem frame_reference : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The ideal kernel computes what the reference does. -/
theorem algebraic : Cert.algebraic_PleIdeal_PleRefIdeal := by
  intro m g m' g' _ hargs
  refine ⟨fun c => Cert.PleRefIdeal.Read.val_main_v7 (F := Ideal) (m ((c : Thread nD τ).loc main_arg0)) (m ((c : Thread nD τ).loc main_arg1)), ?_, ?_⟩
  · refine (θ_run Cert.PleIdeal.defs _ _).mono (fun r h c => ?_) (Cert.PleIdeal.Value.run_blocks (F := Ideal) m g)
    obtain ⟨h0, h⟩ := h c
    exact ⟨h0.trans (array m c), h⟩
  · refine (θ_run Cert.PleRefIdeal.defs _ _).mono (fun r h c => ?_) (Cert.PleRefIdeal.Value.run (F := Ideal) m' g')
    obtain ⟨h0, h⟩ := h c
    obtain ⟨e0, e1⟩ := hargs c
    rw [Cert.PleRefIdeal.Read.val_main_v7_eq, e0, e1] at h0
    exact ⟨h0, h⟩

end Cert.Proof.Ple

end

end
-- ==== Proof.In.lean ====
module

public import proofs.«01_k».proof.Defs
public import proofs.«01_k».proof.Proof.Gen.InIdeal.Value
public import proofs.«01_k».proof.Proof.Gen.InRefIdeal.Run
public import proofs.«01_k».proof.Proof.Gen.InRefIdeal.Read
public import proofs.«01_k».proof.Proof.Stores

/-! The gradient of the input projections' weights. -/

@[expose] public section

set_option maxRecDepth 16384

noncomputable section

namespace Cert.Proof.In

open Idealize.ShloMosaic Idealize.ShloMosaic.TcCoe Idealize.ShloMosaic.Tactic Idealize.SL.Sem
open Cert.InIdeal Cert.InIdeal.Gen Cert.Stores Finset

local instance : Cert.InIdeal.Facts := Cert.InIdeal.Gen.facts
local instance : Cert.InRefIdeal.Facts := Cert.InRefIdeal.Gen.facts

/-- What one point leaves in its block. -/
theorem out (x0 : Vec Ideal S2048x1280 .bf16) (x1 : Vec Ideal S2048x1024 .bf16) (a : Fin 1280) (b : Fin 1024) :
    out0_2 x0 x1 (ix2 a b) = (∑ k : Fin 2048, (x0 (ix2 k a) : EReal) * x1 (ix2 k b) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![0, t.val % 3] ∧ win0_1.index t = ![0, t.val / 3] ∧ win0_2.index t = ![t.val % 3, t.val / 3] :=
  (by decide +kernel : ∀ t : Fin grid0.N, _)

variable (m : (ℓ : Loc nD τ sig) → Buf (Elt Ideal) ℓ) (c : Dev nD)

open Cert.InRefIdeal.Read in
/-- The array after the kernel's run is the reference's result. -/
theorem array : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val < 3 := t.isLt
  blk_simp
  rw [after0_2]
  obtain ⟨a, b, rfl⟩ : ∃ (a : Fin 1280) (b : Fin 1024), y = ix2 a b := ⟨y 0, y 1, (ix2_eta y).symm⟩
  have e : (win0_2.blk t).view.emb (ix2 a b) = ix2 (⟨1280 * (t.val % 3) + a, by omega⟩ : Fin 3840) (⟨1024 * (t.val / 3) + b, by omega⟩ : Fin 1024) := by
    blk_ext [idx t]
  have e0 : ∀ k : Fin 2048, iblk m c 0 t (ix2 k a) = m ((c : Thread nD τ).loc main_arg0) (ix2 k (⟨1280 * (t.val % 3) + a, by omega⟩ : Fin 3840)) := fun k => by
    blk_ext [iblk, V, idx t]
  have e1 : ∀ k : Fin 2048, iblk m c 1 t (ix2 k b) = m ((c : Thread nD τ).loc main_arg1) (ix2 k (⟨1024 * (t.val / 3) + b, by omega⟩ : Fin 1024)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_cst, val_main_v0, val_main_v1, val_main_v2, val_main_v3, val_main_v4, val_main_v5, val_main_v6]

/-- The reference ends with its arguments kept. -/
theorem frame_reference : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The ideal kernel computes what the reference does. -/
theorem algebraic : Cert.algebraic_InIdeal_InRefIdeal := by
  intro m g m' g' _ hargs
  refine ⟨fun c => Cert.InRefIdeal.Read.val_main_v6 (F := Ideal) (m ((c : Thread nD τ).loc main_arg0)) (m ((c : Thread nD τ).loc main_arg1)), ?_, ?_⟩
  · refine (θ_run Cert.InIdeal.defs _ _).mono (fun r h c => ?_) (Cert.InIdeal.Value.run_blocks (F := Ideal) m g)
    obtain ⟨h0, h⟩ := h c
    exact ⟨h0.trans (array m c), h⟩
  · refine (θ_run Cert.InRefIdeal.defs _ _).mono (fun r h c => ?_) (Cert.InRefIdeal.Value.run (F := Ideal) m' g')
    obtain ⟨h0, h⟩ := h c
    obtain ⟨e0, e1⟩ := hargs c
    rw [Cert.InRefIdeal.Read.val_main_v6_eq, e0, e1] at h0
    exact ⟨h0, h⟩

end Cert.Proof.In

end

end
-- ==== Proof.Stream.lean ====
module

public import proofs.«01_k».proof.Defs
public import proofs.«01_k».proof.Proof.Gen.StreamIdeal.Value
public import proofs.«01_k».proof.Proof.Gen.StreamRefIdeal.Run
public import proofs.«01_k».proof.Proof.Gen.StreamRefIdeal.Read
public import proofs.«01_k».proof.Proof.Stores

/-! The gradient of the normalised stream through the input projections. -/

@[expose] public section

set_option maxRecDepth 16384

noncomputable section

namespace Cert.Proof.Stream

open Idealize.ShloMosaic Idealize.ShloMosaic.TcCoe Idealize.ShloMosaic.Tactic Idealize.SL.Sem
open Cert.StreamIdeal Cert.StreamIdeal.Gen Cert.Stores Finset

local instance : Cert.StreamIdeal.Facts := Cert.StreamIdeal.Gen.facts
local instance : Cert.StreamRefIdeal.Facts := Cert.StreamRefIdeal.Gen.facts

/-- What one point leaves in its block. -/
theorem out (x0 : Vec Ideal S512x3840 .bf16) (x1 : Vec Ideal S3840x1024 .bf16) (a : Fin 512) (b : Fin 1024) :
    out0_2 x0 x1 (ix2 a b) = (∑ k : Fin 3840, (x0 (ix2 a k) : EReal) * x1 (ix2 k b) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![t.val % 4, 0] ∧ win0_1.index t = ![0, t.val / 4] ∧ win0_2.index t = ![t.val % 4, t.val / 4] :=
  (by decide +kernel : ∀ t : Fin grid0.N, _)

variable (m : (ℓ : Loc nD τ sig) → Buf (Elt Ideal) ℓ) (c : Dev nD)

open Cert.StreamRefIdeal.Read in
/-- The array after the kernel's run is the reference's result. -/
theorem array : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨a, b, rfl⟩ : ∃ (a : Fin 512) (b : Fin 1024), y = ix2 a b := ⟨y 0, y 1, (ix2_eta y).symm⟩
  have e : (win0_2.blk t).view.emb (ix2 a b) = ix2 (⟨512 * (t.val % 4) + a, by omega⟩ : Fin 2048) (⟨1024 * (t.val / 4) + b, by omega⟩ : Fin 1024) := by
    blk_ext [idx t]
  have e0 : ∀ k : Fin 3840, iblk m c 0 t (ix2 a k) = m ((c : Thread nD τ).loc main_arg0) (ix2 (⟨512 * (t.val % 4) + a, by omega⟩ : Fin 2048) k) := fun k => by
    blk_ext [iblk, V, idx t]
  have e1 : ∀ k : Fin 3840, iblk m c 1 t (ix2 k b) = m ((c : Thread nD τ).loc main_arg1) (ix2 k (⟨1024 * (t.val / 4) + b, by omega⟩ : Fin 1024)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_cst, val_main_v0, val_main_v1, val_main_v2, val_main_v3, val_main_v4, val_main_v5]

/-- The reference ends with its arguments kept. -/
theorem frame_reference : Cert.quiescent_StreamRefIdeal := fun m ρ _ =>
  (θ_run Cert.StreamRefIdeal.defs _ _).mono (fun r h => ⟨fun c => (h c).2, sem_eq_zero_of_no_sems (by decide) r.2⟩)
    (Cert.StreamRefIdeal.Value.run (F := Ideal) m ρ)

/-- The ideal kernel computes what the reference does. -/
theorem algebraic : Cert.algebraic_StreamIdeal_StreamRefIdeal := by
  intro m g m' g' _ hargs
  refine ⟨fun c => Cert.StreamRefIdeal.Read.val_main_v5 (F := Ideal) (m ((c : Thread nD τ).loc main_arg0)) (m ((c : Thread nD τ).loc main_arg1)), ?_, ?_⟩
  · refine (θ_run Cert.StreamIdeal.defs _ _).mono (fun r h c => ?_) (Cert.StreamIdeal.Value.run_blocks (F := Ideal) m g)
    obtain ⟨h0, h⟩ := h c
    exact ⟨h0.trans (array m c), h⟩
  · refine (θ_run Cert.StreamRefIdeal.defs _ _).mono (fun r h c => ?_) (Cert.StreamRefIdeal.Value.run (F := Ideal) m' g')
    obtain ⟨h0, h⟩ := h c
    obtain ⟨e0, e1⟩ := hargs c
    rw [Cert.StreamRefIdeal.Read.val_main_v5_eq, e0, e1] at h0
    exact ⟨h0, h⟩

end Cert.Proof.Stream

end

end
-- ==== Proof.Proj.lean ====
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.Stores

/-! The input projections. -/

@[expose] public section

set_option maxRecDepth 16384

noncomputable section

namespace Cert.Proof.Proj

open Idealize.ShloMosaic Idealize.ShloMosaic.TcCoe Idealize.ShloMosaic.Tactic Idealize.SL.Sem
open Cert.ProjIdeal Cert.ProjIdeal.Gen Cert.Stores Finset

local instance : Cert.ProjIdeal.Facts := Cert.ProjIdeal.Gen.facts
local instance : Cert.ProjRefIdeal.Facts := Cert.ProjRefIdeal.Gen.facts

/-- What one point leaves in its block. -/
theorem out (x0 : Vec Ideal S512x1024 .bf16) (x1 : Vec Ideal S3840x1024 .bf16) (a : Fin 512) (b : Fin 3840) :
    out0_2 x0 x1 (ix2 a b) = (∑ k : Fin 1024, (x0 (ix2 a k) : EReal) * x1 (ix2 b k) : EReal) := by
  obtain ⟨b, hb⟩ := b
  have hl := hb
  unfold out0_2
  iterate 15 (
    refine reads_canon.strip _ _ _ _ _ _ hl (fun y hy => ?_) fun hl => ?_
    · subst hy
      pointwise [k0_pay1, k0_pay2, k0_pay3, k0_pay4, k0_pay5, k0_pay6, k0_pay7, k0_pay8, k0_pay9, k0_pay10, k0_pay11, k0_pay12, k0_pay13, k0_pay14, k0_pay15])
  exact absurd hl (Nat.not_lt_zero _)

/-- Every window's block at every point. -/
theorem idx : ∀ t : Fin cfg0.N, win0_0.index t = ![t.val % 4, 0] ∧ win0_1.index t = ![t.val / 4, 0] ∧ win0_2.index t = ![t.val % 4, t.val / 4] :=
  (by decide +kernel : ∀ t : Fin grid0.N, _)

variable (m : (ℓ : Loc nD τ sig) → Buf (Elt Ideal) ℓ) (c : Dev nD)

open Cert.ProjRefIdeal.Read in
/-- The array after the kernel's run is the reference's result. -/
theorem array : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨a, b, rfl⟩ : ∃ (a : Fin 512) (b : Fin 3840), y = ix2 a b := ⟨y 0, y 1, (ix2_eta y).symm⟩
  have e : (win0_2.blk t).view.emb (ix2 a b) = ix2 (⟨512 * (t.val % 4) + a, by omega⟩ : Fin 2048) (⟨3840 * (t.val / 4) + b, by omega⟩ : Fin 3840) := by
    blk_ext [idx t]
  have e0 : ∀ k : Fin 1024, iblk m c 0 t (ix2 a k) = m ((c : Thread nD τ).loc main_arg0) (ix2 (⟨512 * (t.val % 4) + a, by omega⟩ : Fin 2048) k) := fun k => by
    blk_ext [iblk, V, idx t]
  have e1 : ∀ k : Fin 1024, iblk m c 1 t (ix2 b k) = m ((c : Thread nD τ).loc main_arg1) (ix2 (⟨3840 * (t.val / 4) + b, by omega⟩ : Fin 3840) k) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_v0, val_main_v1, val_main_v2, val_main_v3]

/-- The reference ends with its arguments kept. -/
theorem frame_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The ideal kernel computes what the reference does. -/
theorem algebraic : Cert.algebraic_ProjIdeal_ProjRefIdeal := by
  intro m g m' g' _ hargs
  refine ⟨fun c => Cert.ProjRefIdeal.Read.val_main_v3 (F := Ideal) (m ((c : Thread nD τ).loc main_arg0)) (m ((c : Thread nD τ).loc main_arg1)), ?_, ?_⟩
  · refine (θ_run Cert.ProjIdeal.defs _ _).mono (fun r h c => ?_) (Cert.ProjIdeal.Value.run_blocks (F := Ideal) m g)
    obtain ⟨h0, h⟩ := h c
    exact ⟨h0.trans (array m c), h⟩
  · refine (θ_run Cert.ProjRefIdeal.defs _ _).mono (fun r h c => ?_) (Cert.ProjRefIdeal.Value.run (F := Ideal) m' g')
    obtain ⟨h0, h⟩ := h c
    obtain ⟨e0, e1⟩ := hargs c
    rw [Cert.ProjRefIdeal.Read.val_main_v3_eq, e0, e1] at h0
    exact ⟨h0, h⟩

end Cert.Proof.Proj

end

end
-- ==== Proof.Mlp.lean ====
module

public import proofs.«01_k».proof.Defs
public import proofs.«01_k».proof.Proof.Gen.MlpIdeal.Value
public import proofs.«01_k».proof.Proof.Gen.MlpRefIdeal.Run
public import proofs.«01_k».proof.Proof.Gen.MlpRefIdeal.Read
public import proofs.«01_k».proof.Proof.Stores

/-! The up projection with its ReLU and the square of it. -/

@[expose] public section

set_option maxRecDepth 16384

noncomputable section

namespace Cert.Proof.Mlp

open Idealize.ShloMosaic Idealize.ShloMosaic.TcCoe Idealize.ShloMosaic.Tactic Idealize.SL.Sem
open Cert.MlpIdeal Cert.MlpIdeal.Gen Cert.Stores Finset

local instance : Cert.MlpIdeal.Facts := Cert.MlpIdeal.Gen.facts
local instance : Cert.MlpRefIdeal.Facts := Cert.MlpRefIdeal.Gen.facts

/-- What one point leaves in its block of this result. -/
theorem out_relu (x0 : Vec Ideal S512x1024 .bf16) (x1 : Vec Ideal S1x1024x1024 .bf16) (a : Fin 512) (b : Fin 1024) :
    out0_2 x0 x1 (ix2 a b) = (max (∑ k : Fin 1024, (x0 (ix2 a k) : EReal) * x1 (ix3 0 k b)) (Ideal.ofBits .f32 0x00000000#32) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2, k0_pay3, k0_pay4, k0_pay5, k0_pay6])
  exact absurd hl (Nat.not_lt_zero _)

/-- What one point leaves in its block of this result. -/
theorem out_square (x0 : Vec Ideal S512x1024 .bf16) (x1 : Vec Ideal S1x1024x1024 .bf16) (a : Fin 512) (b : Fin 1024) :
    out0_3 x0 x1 (ix2 a b) = (max (∑ k : Fin 1024, (x0 (ix2 a k) : EReal) * x1 (ix3 0 k b)) (Ideal.ofBits .f32 0x00000000#32) * max (∑ k : Fin 1024, (x0 (ix2 a k) : EReal) * x1 (ix3 0 k b)) (Ideal.ofBits .f32 0x00000000#32) : EReal) := by
  obtain ⟨b, hb⟩ := b
  have hl := hb
  unfold out0_3
  iterate 2 (
    refine reads_canon.strip _ _ _ _ _ _ hl (fun y hy => ?_) fun hl => ?_
    · subst hy
      pointwise [k0_pay1, k0_pay2, k0_pay3, k0_pay4, k0_pay5, k0_pay6])
  exact absurd hl (Nat.not_lt_zero _)

/-- Every window's block at every point. -/
theorem idx : ∀ t : Fin cfg0.N, win0_0.index t = ![t.val % 4, 0] ∧ win0_1.index t = ![t.val / 4, 0, 0] ∧ win0_2.index t = ![t.val % 4, t.val / 4] ∧ win0_3.index t = ![t.val % 4, t.val / 4] :=
  (by decide +kernel : ∀ t : Fin grid0.N, _)

variable (m : (ℓ : Loc nD τ sig) → Buf (Elt Ideal) ℓ) (c : Dev nD)

open Cert.MlpRefIdeal.Read in
/-- The array after the kernel's run is the reference's result. -/
theorem array_relu : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2]
  obtain ⟨a, b, rfl⟩ : ∃ (a : Fin 512) (b : Fin 1024), y = ix2 a b := ⟨y 0, y 1, (ix2_eta y).symm⟩
  have e : (win0_2.blk t).view.emb (ix2 a b) = ix2 (⟨512 * (t.val % 4) + a, by omega⟩ : Fin 2048) (⟨1024 * (t.val / 4) + b, by omega⟩ : Fin 4096) := by
    blk_ext [idx t]
  have e0 : ∀ k : Fin 1024, iblk m c 0 t (ix2 a k) = m ((c : Thread nD τ).loc main_arg0) (ix2 (⟨512 * (t.val % 4) + a, by omega⟩ : Fin 2048) k) := fun k => by
    blk_ext [iblk, V, idx t]
  have e1 : ∀ k : Fin 1024, iblk m c 1 t (ix3 0 k b) = m ((c : Thread nD τ).loc main_arg1) (ix3 (⟨t.val / 4, by omega⟩ : Fin 4) k b) := fun k => by
    blk_ext [iblk, V, idx t]
  have hq : (1024 * (t.val / 4) + b.val) / 1024 = t.val / 4 := by omega
  rw [e]
  refine (out_relu _ _ a b).trans ?_
  simp only [e0, e1]
  generalize m ((c : Thread nD τ).loc main_arg0) = x0
  generalize m ((c : Thread nD τ).loc main_arg1) = x1
  pointwise [val_main_v0, val_main_v1, val_main_v2, val_main_v3, val_main_v4, val_main_call0_cst, val_main_call0_v0, val_main_v5, val_main_v6,
    val_main_call1_cst, val_main_call1_v0, val_main_v7, val_main_v8, val_main_v9]
  simp only [hq]

open Cert.MlpRefIdeal.Read in
/-- The array after the kernel's run is the reference's result. -/
theorem array_square : (dats m 0 c).arrAt 3 cfg0.N = val_main_v9 (F := Ideal) (m ((c : Thread nD τ).loc main_arg0)) (m ((c : Thread nD τ).loc main_arg1)) := by
  refine (dats m 0 c).arrAt_eq_of_covers 3 _ (by decide +kernel) fun t hf y => ?_
  have ht : t.val < 16 := t.isLt
  blk_simp
  rw [after0_3]
  obtain ⟨a, b, rfl⟩ : ∃ (a : Fin 512) (b : Fin 1024), y = ix2 a b := ⟨y 0, y 1, (ix2_eta y).symm⟩
  have e : (win0_3.blk t).view.emb (ix2 a b) = ix2 (⟨512 * (t.val % 4) + a, by omega⟩ : Fin 2048) (⟨1024 * (t.val / 4) + b, by omega⟩ : Fin 4096) := by
    blk_ext [idx t]
  have e0 : ∀ k : Fin 1024, iblk m c 0 t (ix2 a k) = m ((c : Thread nD τ).loc main_arg0) (ix2 (⟨512 * (t.val % 4) + a, by omega⟩ : Fin 2048) k) := fun k => by
    blk_ext [iblk, V, idx t]
  have e1 : ∀ k : Fin 1024, iblk m c 1 t (ix3 0 k b) = m ((c : Thread nD τ).loc main_arg1) (ix3 (⟨t.val / 4, by omega⟩ : Fin 4) k b) := fun k => by
    blk_ext [iblk, V, idx t]
  have hq : (1024 * (t.val / 4) + b.val) / 1024 = t.val / 4 := by omega
  rw [e]
  refine (out_square _ _ a b).trans ?_
  simp only [e0, e1]
  generalize m ((c : Thread nD τ).loc main_arg0) = x0
  generalize m ((c : Thread nD τ).loc main_arg1) = x1
  pointwise [val_main_v0, val_main_v1, val_main_v2, val_main_v3, val_main_v4, val_main_call0_cst, val_main_call0_v0, val_main_v5, val_main_v6,
    val_main_call1_cst, val_main_call1_v0, val_main_v7, val_main_v8, val_main_v9]
  simp only [hq]

/-- The reference ends with its arguments kept. -/
theorem frame_reference : Cert.quiescent_MlpRefIdeal := fun m ρ _ =>
  (θ_run Cert.MlpRefIdeal.defs _ _).mono (fun r h => ⟨fun c => (h c).2.2, sem_eq_zero_of_no_sems (by decide) r.2⟩)
    (Cert.MlpRefIdeal.Value.run (F := Ideal) m ρ)

/-- The ideal kernel computes what the reference does. -/
theorem algebraic : Cert.algebraic_MlpIdeal_MlpRefIdeal := by
  intro m g m' g' _ hargs
  refine ⟨fun c => Cert.MlpRefIdeal.Read.val_main_v6 (F := Ideal) (m ((c : Thread nD τ).loc main_arg0)) (m ((c : Thread nD τ).loc main_arg1)), fun c => Cert.MlpRefIdeal.Read.val_main_v9 (F := Ideal) (m ((c : Thread nD τ).loc main_arg0)) (m ((c : Thread nD τ).loc main_arg1)), ?_, ?_⟩
  · refine (θ_run Cert.MlpIdeal.defs _ _).mono (fun r h c => ?_) (Cert.MlpIdeal.Value.run_blocks (F := Ideal) m g)
    obtain ⟨h0, h1, h⟩ := h c
    exact ⟨h0.trans (array_relu m c), h1.trans (array_square m c), h⟩
  · refine (θ_run Cert.MlpRefIdeal.defs _ _).mono (fun r h c => ?_) (Cert.MlpRefIdeal.Value.run (F := Ideal) m' g')
    obtain ⟨h0, h1, h⟩ := h c
    obtain ⟨e0, e1⟩ := hargs c
    rw [Cert.MlpRefIdeal.Read.val_main_v6_eq, e0, e1] at h0
    rw [Cert.MlpRefIdeal.Read.val_main_v9_eq, e0, e1] at h1
    exact ⟨h0, h1, h⟩

end Cert.Proof.Mlp

end

end
-- ==== Proof.Gate.lean ====
module

public import proofs.«01_k».proof.Defs
public import proofs.«01_k».proof.Proof.Gen.GateIdeal.Value
public import proofs.«01_k».proof.Proof.Gen.GateRefIdeal.Run
public import proofs.«01_k».proof.Proof.Gen.GateRefIdeal.Read
public import proofs.«01_k».proof.Proof.Stores

/-! The projection onto the gate of the token. -/

@[expose] public section

set_option maxRecDepth 16384

noncomputable section

namespace Cert.Proof.Gate

open Idealize.ShloMosaic Idealize.ShloMosaic.TcCoe Idealize.ShloMosaic.Tactic Idealize.SL.Sem
open Cert.GateIdeal Cert.GateIdeal.Gen Cert.Stores Finset

local instance : Cert.GateIdeal.Facts := Cert.GateIdeal.Gen.facts
local instance : Cert.GateRefIdeal.Facts := Cert.GateRefIdeal.Gen.facts

/-- What one point leaves in its block. -/
theorem out (x0 : Vec Ideal S512x1024 .bf16) (x1 : Vec Ideal S1024x1024 .bf16) (a : Fin 512) (b : Fin 1024) :
    out0_2 x0 x1 (ix2 a b) = (∑ k : Fin 1024, (x0 (ix2 a k) : EReal) * x1 (ix2 k b) : EReal) := by
  obtain ⟨b, hb⟩ := b
  have hl := hb
  unfold out0_2
  iterate 2 (
    refine reads_canon.strip _ _ _ _ _ _ hl (fun y hy => ?_) fun hl => ?_
    · subst hy
      pointwise [k0_pay1, k0_pay2])
  exact absurd hl (Nat.not_lt_zero _)

/-- Every window's block at every point. -/
theorem idx : ∀ t : Fin cfg0.N, win0_0.index t = ![t.val % 4, 0] ∧ win0_1.index t = ![0, t.val / 4] ∧ win0_2.index t = ![t.val % 4, t.val / 4] :=
  (by decide +kernel : ∀ t : Fin grid0.N, _)

variable (m : (ℓ : Loc nD τ sig) → Buf (Elt Ideal) ℓ) (c : Dev nD)

open Cert.GateRefIdeal.Read in
/-- The array after the kernel's run is the reference's result. -/
theorem array : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  blk_simp
  rw [after0_2]
  obtain ⟨a, b, rfl⟩ : ∃ (a : Fin 512) (b : Fin 1024), y = ix2 a b := ⟨y 0, y 1, (ix2_eta y).symm⟩
  have e : (win0_2.blk t).view.emb (ix2 a b) = ix2 (⟨512 * (t.val % 4) + a, by omega⟩ : Fin 2048) (⟨1024 * (t.val / 4) + b, by omega⟩ : Fin 1024) := by
    blk_ext [idx t]
  have e0 : ∀ k : Fin 1024, iblk m c 0 t (ix2 a k) = m ((c : Thread nD τ).loc main_arg0) (ix2 (⟨512 * (t.val % 4) + a, by omega⟩ : Fin 2048) k) := fun k => by
    blk_ext [iblk, V, idx t]
  have e1 : ∀ k : Fin 1024, iblk m c 1 t (ix2 k b) = m ((c : Thread nD τ).loc main_arg1) (ix2 k (⟨1024 * (t.val / 4) + b, by omega⟩ : Fin 1024)) := fun k => by
    blk_ext [iblk, V, idx t]
  rw [e]
  refine (out _ _ a b).trans ?_
  simp only [e0, e1]
  generalize m ((c : Thread nD τ).loc main_arg0) = x0
  generalize m ((c : Thread nD τ).loc main_arg1) = x1
  pointwise [val_main_v0, val_main_v1, val_main_v2]

/-- The reference ends with its arguments kept. -/
theorem frame_reference : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The ideal kernel computes what the reference does. -/
theorem algebraic : Cert.algebraic_GateIdeal_GateRefIdeal := by
  intro m g m' g' _ hargs
  refine ⟨fun c => Cert.GateRefIdeal.Read.val_main_v2 (F := Ideal) (m ((c : Thread nD τ).loc main_arg0)) (m ((c : Thread nD τ).loc main_arg1)), ?_, ?_⟩
  · refine (θ_run Cert.GateIdeal.defs _ _).mono (fun r h c => ?_) (Cert.GateIdeal.Value.run_blocks (F := Ideal) m g)
    obtain ⟨h0, h⟩ := h c
    exact ⟨h0.trans (array m c), h⟩
  · refine (θ_run Cert.GateRefIdeal.defs _ _).mono (fun r h c => ?_) (Cert.GateRefIdeal.Value.run (F := Ideal) m' g')
    obtain ⟨h0, h⟩ := h c
    obtain ⟨e0, e1⟩ := hargs c
    rw [Cert.GateRefIdeal.Read.val_main_v2_eq, e0, e1] at h0
    exact ⟨h0, h⟩

end Cert.Proof.Gate

end

end
-- ==== Proof.Join.lean ====
module

public import proofs.«01_k».proof.Defs
public import proofs.«01_k».proof.Proof.Gen.JoinIdeal.Value
public import proofs.«01_k».proof.Proof.Gen.JoinRefIdeal.Run
public import proofs.«01_k».proof.Proof.Gen.JoinRefIdeal.Read
public import proofs.«01_k».proof.Proof.Stores
public import proofs.«01_k».proof.Proof.Norm
public import Idealize.ShloMosaic.Lib.StableHlo.RunRead
public import Idealize.ShloMosaic.Lib.Tactic.CleanTypes

/-! The output projection, the residual and the norm after the heads, with what the norm saves. -/

@[expose] public section

set_option maxRecDepth 16384

noncomputable section

namespace Cert.Proof.Join

open Idealize.ShloMosaic Idealize.ShloMosaic.TcCoe Idealize.ShloMosaic.Tactic Idealize.SL.Sem
open Cert.JoinIdeal Cert.JoinIdeal.Gen Cert.Stores Cert.Norm Finset
open Cert.JoinRefIdeal.Read

local instance : Cert.JoinIdeal.Facts := Cert.JoinIdeal.Gen.facts
local instance : Cert.JoinRefIdeal.Facts := Cert.JoinRefIdeal.Gen.facts

/-- One row that is to be normalised: the residual and the projection of the heads. -/
def mixed (h0 o : Fin 1024 → EReal) (w : Fin 1024 → Fin 1024 → EReal) (k : Fin 1024) : EReal := alpha * h0 k + ∑ n, o n * w n k

section

variable (x0 : Vec Ideal S256x1024 .f32) (x1 : Vec Ideal S256x1024 .bf16) (x2 : Vec Ideal S1024x1024 .bf16) (x3 x4 : Vec Ideal S1x1024 .f32) (a : Fin 256)

/-- The row in a point's blocks. -/
def here : Fin 1024 → EReal := mixed (fun k => x0 (ix2 a k)) (fun n => x1 (ix2 a n)) fun n k => x2 (ix2 n k)

theorem pay2 (b : Fin 1024) : k0_pay2 (F := Ideal) x1 x2 x0 (ix2 a b) = centre (here x0 x1 x2 a) b := by
  pointwise [k0_pay2]
  rfl

theorem pay3 : k0_pay3 (F := Ideal) x1 x2 x0 (ix2 a 0) = scale (here x0 x1 x2 a) := by
  pointwise [k0_pay3, pay2]
  rfl

theorem pay4 (b : Fin 1024) : k0_pay4 (F := Ideal) x1 x2 x0 (ix2 a b) = hat (here x0 x1 x2 a) b := by
  pointwise [k0_pay4, pay2, pay3]
  rfl

theorem pay5 (b : Fin 1024) : k0_pay5 (F := Ideal) x1 x2 x0 x3 x4 (ix2 a b) = hat (here x0 x1 x2 a) b * x3 (ix2 0 b) + x4 (ix2 0 b) := by
  pointwise [k0_pay5, pay4]

/-- What one point leaves in the four blocks. -/
theorem out5 (b : Fin 1024) : out0_5 x0 x1 x2 x3 x4 (ix2 a b) = hat (here x0 x1 x2 a) b * x3 (ix2 0 b) + x4 (ix2 0 b) := by
  unfold out0_5
  refine reads_canon.strip _ _ _ _ _ _ (by omega) (fun y hy => ?_) fun hl => absurd hl (Nat.not_lt_zero _)
  obtain rfl : b = y := Fin.ext (by omega)
  simp (disch := decide) only [r0_0, r0_1, r0_2, View.ld_unit_lit]
  exact pay5 x0 x1 x2 x3 x4 a b

theorem out6 (b : Fin 1024) : out0_6 x0 x1 x2 x3 x4 (ix2 a b) = hat (here x0 x1 x2 a) b * x3 (ix2 0 b) + x4 (ix2 0 b) := by
  unfold out0_6
  refine reads_canon.strip _ _ _ _ _ _ (by omega) (fun y hy => ?_) fun hl => absurd hl (Nat.not_lt_zero _)
  obtain rfl : b = y := Fin.ext (by omega)
  simp (disch := decide) only [r0_0, r0_1, r0_2, View.ld_unit_lit]
  exact pay5 x0 x1 x2 x3 x4 a b

theorem out7 (b : Fin 1024) : out0_7 x0 x1 x2 x3 x4 (ix2 a b) = hat (here x0 x1 x2 a) b := by
  unfold out0_7
  refine reads_canon.strip _ _ _ _ _ _ (by omega) (fun y hy => ?_) fun hl => absurd hl (Nat.not_lt_zero _)
  obtain rfl : b = y := Fin.ext (by omega)
  simp (disch := decide) only [r0_0, r0_1, r0_2, View.ld_unit_lit]
  exact pay4 x0 x1 x2 a b

theorem out8 (b : Fin 128) : out0_8 x0 x1 x2 x3 x4 (ix2 a b) = scale (here x0 x1 x2 a) := by
  unfold out0_8
  refine reads_canon.strip _ _ _ _ _ _ (by omega) (fun y hy => ?_) fun hl => absurd hl (Nat.not_lt_zero _)
  simp (disch := decide) only [r0_0, r0_1, r0_2, View.ld_unit_lit]
  pointwise [k0_pay1, pay3]

end

section

variable (x0 : FVec Ideal S2048x1024 .f32) (x1 : FVec Ideal S2048x1024 .bf16) (x2 : FVec Ideal S1024x1024 .bf16) (x3 x4 : FVec Ideal S1024 .f32) (a : Fin 2048)

/-- The row in the whole arrays. -/
def there : Fin 1024 → EReal := mixed (fun k => x0 (ix2 a k)) (fun n => x1 (ix2 a n)) fun n k => x2 (ix2 n k)

theorem mixed_at (b : Fin 1024) : val_main_v5 (F := Ideal) x0 x1 x2 (ix2 a b) = there x0 x1 x2 a b := by
  pointwise [val_main_cst, val_main_v0, val_main_v1, val_main_v2, val_main_v3, val_main_v4, val_main_v5]
  rfl

theorem centre_at (b : Fin 1024) : val_main_v11 (F := Ideal) x0 x1 x2 (ix2 a b) = centre (there x0 x1 x2 a) b := by
  pointwise [val_main_cst_0, val_main_cst_1, val_main_v6, val_main_v7, val_main_v8, val_main_v9, val_main_v10, val_main_v11, mixed_at]
  rfl

theorem scale_at (z : Fin 1) : val_main_v21 (F := Ideal) x0 x1 x2 (ix2 a z) = scale (there x0 x1 x2 a) := by
  pointwise [val_main_cst_2, val_main_cst_3, val_main_cst_4, val_main_v12, val_main_v13, val_main_v14, val_main_v15, val_main_v16, val_main_v19, val_main_v20, val_main_v21, centre_at]
  rfl

theorem hat_at (b : Fin 1024) : val_main_v23 (F := Ideal) x0 x1 x2 (ix2 a b) = hat (there x0 x1 x2 a) b := by
  have h : val_main_v18 (F := Ideal) x0 x1 x2 = val_main_v11 (F := Ideal) x0 x1 x2 := rfl
  pointwise [val_main_v22, val_main_v23, h, centre_at, scale_at]
  rfl

/-- The reference's results at an index. -/
theorem norm_at (b : Fin 1024) : val_main_v29 (F := Ideal) x0 x1 x2 x3 x4 (ix2 a b) = hat (there x0 x1 x2 a) b * x3 (ix1 b) + x4 (ix1 b) := by
  pointwise [val_main_v24, val_main_v25, val_main_v26, val_main_v27, val_main_v28, val_main_v29, hat_at]

theorem lanes_at (b : Fin 128) : val_main_v49 (F := Ideal) x0 x1 x2 (ix2 a b) = scale (there x0 x1 x2 a) := by
  have h : val_main_v43 (F := Ideal) x0 x1 x2 = val_main_v21 (F := Ideal) x0 x1 x2 := rfl
  pointwise [val_main_v49, h, scale_at]

end

/-- Every window's block at every point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![t.val, 0] ∧ win0_6.index t = ![t.val, 0] ∧
    win0_7.index t = ![t.val, 0] ∧ win0_8.index t = ![t.val, 0] :=
  (by decide +kernel : ∀ t : Fin grid0.N, _)

variable (m : (ℓ : Loc nD τ sig) → Buf (Elt Ideal) ℓ) (c : Dev nD)

/-- A vector as one row. -/
abbrev row (x : FVec Ideal S1024 .f32) : FVec Ideal S1x1024 .f32 := broadcastInDim S1x1024 ![1] (by decide) x

theorem V_gain (b : Fin 1024) : V m c main_v0 (ix2 0 b) = (m ((c : Thread nD τ).loc main_arg3)) (ix1 b) := by
  have h : V m c main_v0 = row (m ((c : Thread nD τ).loc main_arg3)) := by
    unfold_abbrev_sides
    after_reads_simp
  rw [h]
  generalize (m ((c : Thread nD τ).loc main_arg3)) = x
  pointwise [row]

theorem V_bias (b : Fin 1024) : V m c main_v1 (ix2 0 b) = (m ((c : Thread nD τ).loc main_arg4)) (ix1 b) := by
  have h : V m c main_v1 = row (m ((c : Thread nD τ).loc main_arg4)) := by
    unfold_abbrev_sides
    after_reads_simp
  rw [h]
  generalize (m ((c : Thread nD τ).loc main_arg4)) = x
  pointwise [row]

/-- The row of the whole arrays that a point's row is. -/
abbrev place (t : Fin cfg0.N) (ht : t.val < 8) (a : Fin 256) : Fin 2048 := ⟨256 * t.val + a, by omega⟩

theorem block0 (t : Fin cfg0.N) (ht : t.val < 8) (a : Fin 256) (k : Fin 1024) : iblk m c 0 t (ix2 a k) = (m ((c : Thread nD τ).loc main_arg0)) (ix2 (place t ht a) k) := by
  blk_ext [iblk, V, idx t]

theorem block1 (t : Fin cfg0.N) (ht : t.val < 8) (a : Fin 256) (k : Fin 1024) : iblk m c 1 t (ix2 a k) = (m ((c : Thread nD τ).loc main_arg1)) (ix2 (place t ht a) k) := by
  blk_ext [iblk, V, idx t]

theorem block2 (t : Fin cfg0.N) (n k : Fin 1024) : iblk m c 2 t (ix2 n k) = (m ((c : Thread nD τ).loc main_arg2)) (ix2 n k) := by
  blk_ext [iblk, V, idx t]

theorem block3 (t : Fin cfg0.N) (b : Fin 1024) : iblk m c 3 t (ix2 0 b) = (m ((c : Thread nD τ).loc main_arg3)) (ix1 b) := by
  rw [← V_gain m c]
  blk_ext [iblk, idx t]

theorem block4 (t : Fin cfg0.N) (b : Fin 1024) : iblk m c 4 t (ix2 0 b) = (m ((c : Thread nD τ).loc main_arg4)) (ix1 b) := by
  rw [← V_bias m c]
  blk_ext [iblk, idx t]

theorem here_block (t : Fin cfg0.N) (ht : t.val < 8) (a : Fin 256) :
    here (iblk m c 0 t) (iblk m c 1 t) (iblk m c 2 t) a = there (m ((c : Thread nD τ).loc main_arg0)) (m ((c : Thread nD τ).loc main_arg1)) (m ((c : Thread nD τ).loc main_arg2)) (place t ht a) := by
  unfold here there
  simp only [block0 m c t ht, block1 m c t ht, block2]

/-- The arrays after the kernel's run are the reference's results. -/
theorem array5 : (dats m 0 c).arrAt 5 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 8 := t.isLt
  blk_simp
  rw [after0_5]
  obtain ⟨a, b, rfl⟩ : ∃ (a : Fin 256) (b : Fin 1024), y = ix2 a b := ⟨y 0, y 1, (ix2_eta y).symm⟩
  have e : (win0_5.blk t).view.emb (ix2 a b) = ix2 (place t ht a) b := by
    blk_ext [idx t]
  rw [e]
  rw [norm_at, ← here_block m c t ht]
  refine (out5 _ _ _ _ _ a b).trans ?_
  simp only [block3, block4]

theorem array6 : (dats m 0 c).arrAt 6 cfg0.N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 8 := t.isLt
  blk_simp
  rw [after0_6]
  obtain ⟨a, b, rfl⟩ : ∃ (a : Fin 256) (b : Fin 1024), y = ix2 a b := ⟨y 0, y 1, (ix2_eta y).symm⟩
  have e : (win0_6.blk t).view.emb (ix2 a b) = ix2 (place t ht a) b := by
    blk_ext [idx t]
  rw [e]
  refine Eq.trans ?_ (norm_at _ _ _ _ _ _ _).symm
  rw [← here_block m c t ht]
  refine (out6 _ _ _ _ _ a b).trans ?_
  simp only [block3, block4]

theorem array7 : (dats m 0 c).arrAt 7 cfg0.N = val_main_v47 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 8 := t.isLt
  blk_simp
  rw [after0_7]
  obtain ⟨a, b, rfl⟩ : ∃ (a : Fin 256) (b : Fin 1024), y = ix2 a b := ⟨y 0, y 1, (ix2_eta y).symm⟩
  have e : (win0_7.blk t).view.emb (ix2 a b) = ix2 (place t ht a) b := by
    blk_ext [idx t]
  rw [e]
  refine Eq.trans ?_ (hat_at (m ((c : Thread nD τ).loc main_arg0)) (m ((c : Thread nD τ).loc main_arg1)) (m ((c : Thread nD τ).loc main_arg2)) _ _).symm
  rw [← here_block m c t ht]
  exact out7 _ _ _ _ _ a b

theorem array8 : (dats m 0 c).arrAt 8 cfg0.N = val_main_v49 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht : t.val < 8 := t.isLt
  blk_simp
  rw [after0_8]
  obtain ⟨a, b, rfl⟩ : ∃ (a : Fin 256) (b : Fin 128), y = ix2 a b := ⟨y 0, y 1, (ix2_eta y).symm⟩
  have e : (win0_8.blk t).view.emb (ix2 a b) = ix2 (place t ht a) b := by
    blk_ext [idx t]
  rw [e]
  rw [lanes_at, ← here_block m c t ht]
  exact out8 _ _ _ _ _ a b

/-- The reference ends with its arguments kept. -/
theorem frame_reference : Cert.quiescent_JoinRefIdeal := fun m ρ _ =>
  (θ_run Cert.JoinRefIdeal.defs _ _).mono (fun r h => ⟨fun c => (h c).2.2.2.2, sem_eq_zero_of_no_sems (by decide) r.2⟩)
    (Cert.JoinRefIdeal.Value.run (F := Ideal) m ρ)

/-- The ideal kernel computes what the reference does. -/
theorem algebraic : Cert.algebraic_JoinIdeal_JoinRefIdeal := by
  intro m g m' g' _ hargs
  refine ⟨fun c => val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v47 (F := Ideal) (m ((c : Thread nD τ).loc main_arg0)) (m ((c : Thread nD τ).loc main_arg1)) (m ((c : Thread nD τ).loc main_arg2)), fun c => val_main_v49 (F := Ideal) (m ((c : Thread nD τ).loc main_arg0)) (m ((c : Thread nD τ).loc main_arg1)) (m ((c : Thread nD τ).loc main_arg2)), ?_, ?_⟩
  · refine (θ_run Cert.JoinIdeal.defs _ _).mono (fun r h c => ?_) (Cert.JoinIdeal.Value.run_blocks (F := Ideal) m g)
    obtain ⟨h5, h6, h7, h8, h⟩ := h c
    exact ⟨h5.trans (array5 m c), h6.trans (array6 m c), h7.trans (array7 m c), h8.trans (array8 m c), h⟩
  · refine (θ_run Cert.JoinRefIdeal.defs _ _).mono (fun r h c => ?_) (Cert.JoinRefIdeal.Value.run (F := Ideal) m' g')
    obtain ⟨h0, h1, h2, h3, h⟩ := h c
    obtain ⟨e0, e1, e2, e3, e4⟩ := hargs c
    rw [val_main_v29_eq, e0, e1, e2, e3, e4] at h0
    rw [val_main_v48_eq, e0, e1, e2, e3, e4] at h1
    rw [val_main_v47_eq, e0, e1, e2] at h2
    rw [val_main_v49_eq, e0, e1, e2] at h3
    exact ⟨h0, h1, h2, h3, h⟩

end Cert.Proof.Join

end

end
-- ==== Proof.Entry.lean ====
module

public import proofs.«01_k».proof.Defs
public import proofs.«01_k».proof.Proof.Gen.EntryIdeal.Value
public import proofs.«01_k».proof.Proof.Gen.EntryRefIdeal.Run
public import proofs.«01_k».proof.Proof.Gen.EntryRefIdeal.Read
public import proofs.«01_k».proof.Proof.Stores
public import proofs.«01_k».proof.Proof.Norm
public import Idealize.ShloMosaic.Lib.StableHlo.RunRead
public import Idealize.ShloMosaic.Lib.Tactic.CleanTypes

/-! The layer norm at the layer's entry. -/

@[expose] public section

set_option maxRecDepth 16384

noncomputable section

namespace Cert.Proof.Entry

open Idealize.ShloMosaic Idealize.ShloMosaic.TcCoe Idealize.ShloMosaic.Tactic Idealize.SL.Sem
open Cert.EntryIdeal Cert.EntryIdeal.Gen Cert.Stores Cert.Norm Finset

local instance : Cert.EntryIdeal.Facts := Cert.EntryIdeal.Gen.facts
local instance : Cert.EntryRefIdeal.Facts := Cert.EntryRefIdeal.Gen.facts

/-- What one point leaves in the two blocks. -/
theorem out3 (x0 : Vec Ideal S256x1024 .f32) (x1 x2 : Vec Ideal S1x1024 .f32) (a : Fin 256) (b : Fin 1024) :
    out0_3 x0 x1 x2 (ix2 a b) = (hat (fun k : Fin 1024 => x0 (ix2 a k)) b * x1 (ix2 0 b) + x2 (ix2 0 b) : EReal) := by
  unfold out0_3
  refine reads_canon.strip _ _ _ _ _ _ (by omega) (fun y hy => ?_) fun hl => absurd hl (Nat.not_lt_zero _)
  obtain rfl : b = y := Fin.ext (by omega)
  pointwise [k0_pay1]
  rfl

theorem out4 (x0 : Vec Ideal S256x1024 .f32) (x1 x2 : Vec Ideal S1x1024 .f32) (a : Fin 256) (b : Fin 1024) :
    out0_4 x0 x1 x2 (ix2 a b) = (hat (fun k : Fin 1024 => x0 (ix2 a k)) b * x1 (ix2 0 b) + x2 (ix2 0 b) : EReal) := by
  unfold out0_4
  refine reads_canon.strip _ _ _ _ _ _ (by omega) (fun y hy => ?_) fun hl => absurd hl (Nat.not_lt_zero _)
  obtain rfl : b = y := Fin.ext (by omega)
  pointwise [k0_pay1, k0_pay2]
  rfl

open Cert.EntryRefIdeal.Read in
/-- The reference's result at an index. -/
theorem reference (x0 : FVec Ideal S2048x1024 .f32) (x1 x2 : FVec Ideal S1024 .f32) (a : Fin 2048) (b : Fin 1024) :
    val_main_v23 (F := Ideal) x0 x1 x2 (ix2 a b) = (hat (fun k : Fin 1024 => x0 (ix2 a k)) b * x1 (ix1 b) + x2 (ix1 b) : EReal) := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23]
  rfl

/-- Every window's block at every point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] :=
  (by decide +kernel : ∀ t : Fin grid0.N, _)

variable (m : (ℓ : Loc nD τ sig) → Buf (Elt Ideal) ℓ) (c : Dev nD)

/-- A vector as one row. -/
abbrev row (x : FVec Ideal S1024 .f32) : FVec Ideal S1x1024 .f32 := broadcastInDim S1x1024 ![1] (by decide) x

theorem V_gain (b : Fin 1024) : V m c main_v0 (ix2 0 b) = m ((c : Thread nD τ).loc main_arg1) (ix1 b) := by
  have h : V m c main_v0 = row (m ((c : Thread nD τ).loc main_arg1)) := by
    unfold_abbrev_sides
    after_reads_simp
  rw [h]
  generalize m ((c : Thread nD τ).loc main_arg1) = x
  pointwise [row]

theorem V_bias (b : Fin 1024) : V m c main_v1 (ix2 0 b) = m ((c : Thread nD τ).loc main_arg2) (ix1 b) := by
  have h : V m c main_v1 = row (m ((c : Thread nD τ).loc main_arg2)) := by
    unfold_abbrev_sides
    after_reads_simp
  rw [h]
  generalize m ((c : Thread nD τ).loc main_arg2) = x
  pointwise [row]

theorem block0 (t : Fin cfg0.N) (ht : t.val < 8) (a : Fin 256) (k : Fin 1024) :
    iblk m c 0 t (ix2 a k) = m ((c : Thread nD τ).loc main_arg0) (ix2 (⟨256 * t.val + a, by omega⟩ : Fin 2048) k) := by
  blk_ext [iblk, V, idx t]

theorem block1 (t : Fin cfg0.N) (b : Fin 1024) : iblk m c 1 t (ix2 0 b) = m ((c : Thread nD τ).loc main_arg1) (ix1 b) := by
  rw [← V_gain m c]
  blk_ext [iblk, idx t]

theorem block2 (t : Fin cfg0.N) (b : Fin 1024) : iblk m c 2 t (ix2 0 b) = m ((c : Thread nD τ).loc main_arg2) (ix1 b) := by
  rw [← V_bias m c]
  blk_ext [iblk, idx t]

open Cert.EntryRefIdeal.Read in
/-- The arrays after the kernel's run are the reference's results. -/
theorem array3 : (dats m 0 c).arrAt 3 cfg0.N =
    val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  blk_simp
  rw [after0_3]
  obtain ⟨a, b, rfl⟩ : ∃ (a : Fin 256) (b : Fin 1024), y = ix2 a b := ⟨y 0, y 1, (ix2_eta y).symm⟩
  have e : (win0_3.blk t).view.emb (ix2 a b) = ix2 (⟨256 * t.val + a, by omega⟩ : Fin 2048) b := by
    blk_ext [idx t]
  rw [e, reference]
  refine (out3 _ _ _ a b).trans ?_
  simp only [block0 m c t ht, block1, block2]

open Cert.EntryRefIdeal.Read in
theorem array4 : (dats m 0 c).arrAt 4 cfg0.N =
    val_main_v24 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 8 := t.isLt
  blk_simp
  rw [after0_4]
  obtain ⟨a, b, rfl⟩ : ∃ (a : Fin 256) (b : Fin 1024), y = ix2 a b := ⟨y 0, y 1, (ix2_eta y).symm⟩
  have e : (win0_4.blk t).view.emb (ix2 a b) = ix2 (⟨256 * t.val + a, by omega⟩ : Fin 2048) b := by
    blk_ext [idx t]
  rw [e]
  refine Eq.trans ?_ (reference _ _ _ _ _).symm
  refine (out4 _ _ _ a b).trans ?_
  simp only [block0 m c t ht, block1, block2]

/-- The reference ends with its arguments kept. -/
theorem frame_reference : Cert.quiescent_EntryRefIdeal := fun m ρ _ =>
  (θ_run Cert.EntryRefIdeal.defs _ _).mono (fun r h => ⟨fun c => (h c).2.2, sem_eq_zero_of_no_sems (by decide) r.2⟩)
    (Cert.EntryRefIdeal.Value.run (F := Ideal) m ρ)

/-- The ideal kernel computes what the reference does. -/
theorem algebraic : Cert.algebraic_EntryIdeal_EntryRefIdeal := by
  intro m g m' g' _ hargs
  refine ⟨fun c => Cert.EntryRefIdeal.Read.val_main_v23 (F := Ideal) (m ((c : Thread nD τ).loc main_arg0)) (m ((c : Thread nD τ).loc main_arg1)) (m ((c : Thread nD τ).loc main_arg2)),
    fun c => Cert.EntryRefIdeal.Read.val_main_v24 (F := Ideal) (m ((c : Thread nD τ).loc main_arg0)) (m ((c : Thread nD τ).loc main_arg1)) (m ((c : Thread nD τ).loc main_arg2)), ?_, ?_⟩
  · refine (θ_run Cert.EntryIdeal.defs _ _).mono (fun r h c => ?_) (Cert.EntryIdeal.Value.run_blocks (F := Ideal) m g)
    obtain ⟨h3, h4, h⟩ := h c
    exact ⟨h3.trans (array3 m c), h4.trans (array4 m c), h⟩
  · refine (θ_run Cert.EntryRefIdeal.defs _ _).mono (fun r h c => ?_) (Cert.EntryRefIdeal.Value.run (F := Ideal) m' g')
    obtain ⟨h0, h1, h⟩ := h c
    obtain ⟨e0, e1, e2⟩ := hargs c
    rw [Cert.EntryRefIdeal.Read.val_main_v23_eq, e0, e1, e2] at h0
    rw [Cert.EntryRefIdeal.Read.val_main_v24_eq, e0, e1, e2] at h1
    exact ⟨h0, h1, h⟩

end Cert.Proof.Entry

end

end
-- ==== Proof.HeadsRow.lean ====
module

public import proofs.«01_k».proof.Proof.Norm

/-! A head's row divided by its root mean square, the gate on it, and the gradients through both: the formulas that
differentiating the definitions gives, and the ones the kernel evaluates. On real rows they agree. -/

@[expose] public section

noncomputable section

namespace Cert.Rms

open Idealize.ShloMosaic Cert.Norm Finset

/-- The two widths of a head, one over the smaller, and the constant that keeps the mean square positive. -/
abbrev long : EReal := Ideal.ofBits .f32 0x43000000#32
abbrev short : EReal := Ideal.ofBits .f32 0x42800000#32
abbrev perShort : EReal := Ideal.ofBits .f32 0x3C800000#32
abbrev tiny : EReal := Ideal.ofBits .f32 0x358637BD#32

theorem long_eq : long = ((128 : ℝ) : EReal) := by
  simp [long, Ideal.ofBits, Ideal.ieee]
  rw [← EReal.coe_mul]
  norm_num

theorem short_eq : short = ((64 : ℝ) : EReal) := by
  simp [short, Ideal.ofBits, Ideal.ieee]
  rw [← EReal.coe_mul]
  norm_num

theorem perShort_eq : perShort = ((1 / 64 : ℝ) : EReal) := by
  simp [perShort, Ideal.ofBits, Ideal.ieee]
  rw [← EReal.coe_mul]
  norm_num

theorem tiny_eq : ∃ e : ℝ, 0 < e ∧ tiny = (e : EReal) := by
  refine ⟨8796093 / 2 ^ 43, by norm_num, ?_⟩
  simp [tiny, Ideal.ofBits, Ideal.ieee]
  rw [← EReal.coe_mul]
  norm_num

/-- A division by the smaller width is a product. -/
theorem div_short (x : EReal) : Ideal.div x short = x * perShort := by
  rw [short_eq, perShort_eq, Ideal.div_coe (by norm_num)]

section

variable {n : ℕ} (N : EReal) (x w : Fin n → EReal) (j : Fin n)

/-- The mean square of a row, with the small constant added. -/
def spread : EReal := Ideal.div (∑ k, x k * x k) N + tiny

/-- One over the root mean square. -/
def scale : EReal := Ideal.rsqrt (spread N x)

/-- The part of the gradient that goes through the mean square, over the row's entry. -/
def pull : EReal := Ideal.div ((∑ k, x k * w k) * (minusHalf * Ideal.div (scale N x) (spread N x))) N

/-- The gradient by the definition's derivative: `w` is the cotangent of the divided row. -/
def derived : EReal := w j * scale N x + x j * pull N x w + pull N x w * x j

/-- The gradient as the kernel evaluates it. -/
def direct : EReal := scale N x * w j - x j * (scale N x * scale N x * scale N x) * Ideal.div (∑ k, x k * w k) N

variable {x w}

/-- On real rows the mean square is a positive real number. -/
theorem spread_pos {d : ℝ} (hd : 0 < d) (a : Fin n → ℝ) :
    ∃ v : ℝ, 0 < v ∧ spread (d : EReal) (fun k => (a k : EReal)) = (v : EReal) := by
  obtain ⟨e, he, hE⟩ := tiny_eq
  refine ⟨(∑ k, a k * a k) * (1 / d) + e, add_pos_of_nonneg_of_pos (mul_nonneg (sum_nonneg fun k _ => mul_self_nonneg _) (by positivity)) he, ?_⟩
  simp only [spread, ← EReal.coe_mul, Cert.Fox.sum_coe, Ideal.div_coe hd.ne', hE, ← EReal.coe_add]

/-- On real rows the two gradients agree. -/
theorem derived_eq_direct {d : ℝ} (hd : 0 < d) (hN : N = (d : EReal)) (hx : ∀ k, IsReal (x k)) (hw : ∀ k, IsReal (w k)) :
    derived N x w j = direct N x w j := by
  choose a ha using hx
  choose b hb using hw
  obtain rfl : x = fun k => (a k : EReal) := funext ha
  obtain rfl : w = fun k => (b k : EReal) := funext hb
  subst hN
  obtain ⟨v, hv0, hs⟩ := spread_pos hd a
  set r : ℝ := (Real.sqrt v)⁻¹ with hr
  have hr2 : 1 / v = r * r := by
    rw [hr, ← mul_inv, Real.mul_self_sqrt hv0.le, one_div]
  have hS : scale (d : EReal) (fun k => (a k : EReal)) = (r : EReal) := by
    rw [scale, hs, Ideal.rsqrt_coe, if_neg hv0.not_gt, if_neg hv0.ne']
  simp only [derived, direct, pull, hS, hs, minusHalf_eq, Ideal.div_coe hd.ne', Ideal.div_coe hv0.ne', hr2, ← EReal.coe_mul,
    Cert.Fox.sum_coe, ← EReal.coe_add, ← EReal.coe_sub]
  refine congrArg _ ?_
  ring

theorem scale_real {d : ℝ} (hd : 0 < d) (hN : N = (d : EReal)) (hx : ∀ k, IsReal (x k)) : IsReal (scale N x) := by
  choose a ha using hx
  obtain rfl : x = fun k => (a k : EReal) := funext ha
  subst hN
  obtain ⟨v, hv0, hs⟩ := spread_pos hd a
  exact ⟨(Real.sqrt v)⁻¹, by rw [scale, hs, Ideal.rsqrt_coe, if_neg hv0.not_gt, if_neg hv0.ne']⟩

end

/-- The logistic function and the gate. -/
def sig (z : EReal) : EReal := Ideal.div 1 (1 + Ideal.exp (-z))
def silu (z : EReal) : EReal := z * sig z

theorem sig_real {z : EReal} (hz : IsReal z) : IsReal (sig z) := by
  obtain ⟨r, rfl⟩ := hz
  have h : Ideal.exp (-(r : EReal)) = ((Real.exp (-r) : ℝ) : EReal) := by
    rw [← EReal.coe_neg]
    exact Ideal.exp_coe _
  have h0 : (1 + Real.exp (-r)) ≠ 0 := by positivity
  refine ⟨1 * (1 / (1 + Real.exp (-r))), ?_⟩
  rw [sig, h, show (1 : EReal) = ((1 : ℝ) : EReal) from rfl, ← EReal.coe_add, Ideal.div_coe h0, ← EReal.coe_mul]

/-- The gate's derivative, applied to a cotangent: the two forms agree on real numbers. -/
theorem gate_eq {w z : EReal} (hw : IsReal w) (hz : IsReal z) :
    w * sig z + z * w * (sig z * (1 - sig z)) = w * (sig z * (1 + z * (1 - sig z))) := by
  obtain ⟨s, hs⟩ := sig_real hz
  obtain ⟨p, rfl⟩ := hw
  obtain ⟨q, rfl⟩ := hz
  rw [hs, show (1 : EReal) = ((1 : ℝ) : EReal) from rfl]
  simp only [← EReal.coe_mul, ← EReal.coe_sub, ← EReal.coe_add]
  refine congrArg _ ?_
  ring

variable (x z d g : Fin 128 → EReal) (k : Fin 128)

/-- A gated head's results: the cotangent of the divided row, the gradients of the row and of the gate's argument, and what
the row adds to the gain's gradient. `d` is the cotangent of the head's output. -/
def inner (k : Fin 128) : EReal := d k * silu (z k) * g k
def rowGrad : EReal := direct long x (inner z d g) k
def gateGrad : EReal := d k * (x k * scale long x * g k) * (sig (z k) * (1 + z k * (1 - sig (z k))))
def gainPart : EReal := d k * silu (z k) * x k * scale long x

variable (y e f : Fin 64 → EReal) (l : Fin 64)

/-- A half-width head's results. -/
def halfGrad : EReal := direct short y (fun l => e l * f l) l
def halfPart : EReal := e l * y l * scale short y

/-- A sum over 128 lanes of which one half counts. -/
theorem sum_half (s : Fin 2) (F : Fin 128 → EReal) :
    ∑ j : Fin 128, (if j.val / 64 = s.val then F j else 0) = ∑ l : Fin 64, F ⟨64 * s.val + l.val, by omega⟩ := by
  rw [sum_blocks (n := 2) (w := 64) rfl fun j : Fin 128 => if j.val / 64 = s.val then F j else 0]
  rw [sum_eq_single s]
  · refine sum_congr rfl fun l _ => if_pos ?_
    show (64 * s.val + l.val) / 64 = s.val
    omega
  · intro t _ h
    refine sum_eq_zero fun l _ => if_neg ?_
    show ¬(64 * t.val + l.val) / 64 = s.val
    intro e
    exact h (Fin.ext (by omega))
  · exact fun h => absurd (mem_univ s) h

/-- The sum over the half that a lane is in, as a choice between the two halves' sums. -/
theorem own_half (s : Fin 2) (l : Fin 64) (F : Fin 128 → EReal) : (if 64 * s.val + l.val < 64 then ∑ j : Fin 128, (if j.val < 64 then F j else 0)
    else ∑ j : Fin 128, if j.val < 64 then 0 else F j) = ∑ l : Fin 64, F ⟨64 * s + l, by omega⟩ := by
  rw [← sum_half]
  by_cases h : 64 * s.val + l.val < 64
  · rw [if_pos h]
    exact sum_congr rfl fun j _ => if_congr (by omega) rfl rfl
  · rw [if_neg h]
    refine sum_congr rfl fun j _ => ?_
    by_cases hj : j.val < 64
    · rw [if_pos hj, if_neg (by omega)]
    · rw [if_neg hj, if_pos (by omega)]

/-- The norm of a full-width head, gated, and of a half-width head. -/
def wide (x z g : Fin 128 → EReal) (k : Fin 128) : EReal := x k * scale long x * g k * silu (z k)
def narrow (y f : Fin 64 → EReal) (l : Fin 64) : EReal := y l * scale short y * f l

end Cert.Rms

end

end
-- ==== Proof.MixPoint.lean ====
module

public import proofs.«01_k».proof.Proof.Gen.MixIdeal.Value
public import proofs.«01_k».proof.Proof.Stores
public import proofs.«01_k».proof.Proof.HeadsRow

/-! One point of the heads' norms and gate. -/

@[expose] public section

set_option maxRecDepth 16384

noncomputable section

namespace Cert.Proof.Mix

open Idealize.ShloMosaic Idealize.ShloMosaic.TcCoe Idealize.ShloMosaic.Tactic
open Cert.MixIdeal Cert.MixIdeal.Gen Cert.Stores Cert.Norm Cert.Rms Finset

local instance : Cert.MixIdeal.Facts := Cert.MixIdeal.Gen.facts

section

variable (x z y : Vec Ideal S256x128 .f32) (g f : Vec Ideal S1x128 .f32) (a : Fin 256) (k : Fin 128) (s : Fin 2) (l : Fin 64)

/-- A choice by the mask of the lower half. -/
theorem select_mask (v w : EReal) : Scalar.select (k0_pay9 (ix2 a k)) v w = if k.val < 64 then v else w := by
  have h : ∀ k : Fin 128, k0_pay9 (ix2 a k) = if k.val < 64 then 1#1 else 0#1 := by
    intro k
    pointwise [k0_pay9]
    exact (by decide : ∀ k : Fin 128, IntOp.cmpi .slt (BitVec.ofNat 32 k) 64#32 = if k.val < 64 then 1#1 else 0#1) k
  rw [h k]
  split_ifs <;> rfl

/-- A row of a strip and of a gain, and the halves of these. -/
abbrev row (x : Vec Ideal S256x128 .f32) (a : Fin 256) (k : Fin 128) : EReal := x (ix2 a k)
abbrev only (g : Vec Ideal S1x128 .f32) (k : Fin 128) : EReal := g (ix2 0 k)
abbrev half (r : Fin 128 → EReal) (s : Fin 2) (l : Fin 64) : EReal := r ⟨64 * s + l, by omega⟩

theorem wide0 : (k0_pay2 x z g : FVec Ideal S256x128 .bf16) (ix2 a k) = wide (row x a) (row z a) (only g) k := by
  pointwise [k0_pay2]
  simp only [zero_sub]
  rfl

theorem wide1 : (k0_pay4 x z (k0_pay3 x) g : FVec Ideal S256x128 .bf16) (ix2 a k) = wide (row x a) (row z a) (only g) k := by
  pointwise [k0_pay3, k0_pay4]
  simp only [zero_sub]
  rfl

theorem wide2 : (k0_pay7 z (k0_pay5 x g) (k0_pay6 z) : FVec Ideal S256x128 .bf16) (ix2 a k) = wide (row x a) (row z a) (only g) k := by
  pointwise [k0_pay5, k0_pay6, k0_pay7]
  simp only [zero_sub]
  rfl

theorem wide3 : (k0_pay8 x z g : FVec Ideal S256x128 .bf16) (ix2 a k) = wide (row x a) (row z a) (only g) k := by
  pointwise [k0_pay8]
  simp only [zero_sub]
  rfl

theorem narrow0 : (k0_pay12 k0_pay9 y (k0_pay10 y) (k0_pay11 y) f : FVec Ideal S256x128 .bf16) (ix2 a ⟨64 * s + l, by omega⟩) = narrow (half (row y a) s) (half (only f) s) l := by
  pointwise [k0_pay10, k0_pay11, k0_pay12]
  simp only [select_mask, own_half, ← div_short]
  rfl

theorem narrow1 : (k0_pay14 y (k0_pay13 k0_pay9 y) f : FVec Ideal S256x128 .bf16) (ix2 a ⟨64 * s + l, by omega⟩) = narrow (half (row y a) s) (half (only f) s) l := by
  pointwise [k0_pay13, k0_pay14]
  simp only [select_mask, own_half, ← div_short]
  rfl

theorem narrow2 : (k0_pay15 k0_pay9 y f : FVec Ideal S256x128 .bf16) (ix2 a ⟨64 * s + l, by omega⟩) = narrow (half (row y a) s) (half (only f) s) l := by
  pointwise [k0_pay15]
  simp only [select_mask, own_half, ← div_short]
  rfl

theorem narrow3 : (k0_pay1 k0_pay9 y (k0_pay16 y) (k0_pay17 k0_pay9 y) f : FVec Ideal S256x128 .bf16) (ix2 a ⟨64 * s + l, by omega⟩) = narrow (half (row y a) s) (half (only f) s) l := by
  pointwise [k0_pay1, k0_pay16, k0_pay17]
  simp only [select_mask, own_half, ← div_short]
  rfl

end

section

variable (x0 x1 x2 : Vec Ideal S256x512 .f32) (x3 x4 : Vec Ideal S1x128 .f32) (a : Fin 256) (h : Fin 4) (k : Fin 128) (s : Fin 2) (l : Fin 64)

/-- The four strips of a block, a head's row in the block, and a lane of a half. -/
abbrev ld0 (X : Vec Ideal S256x512 .f32) : Vec Ideal S256x128 .f32 := View.ld (Val := Elt Ideal) (e' := .f32) X (Rect.unit ![0, 0] ![256, 128] inb_S256x512_S256x128_0_0)
abbrev ld1 (X : Vec Ideal S256x512 .f32) : Vec Ideal S256x128 .f32 := View.ld (Val := Elt Ideal) (e' := .f32) X (Rect.unit ![0, 128] ![256, 128] inb_S256x512_S256x128_0_128)
abbrev ld2 (X : Vec Ideal S256x512 .f32) : Vec Ideal S256x128 .f32 := View.ld (Val := Elt Ideal) (e' := .f32) X (Rect.unit ![0, 256] ![256, 128] inb_S256x512_S256x128_0_256)
abbrev ld3 (X : Vec Ideal S256x512 .f32) : Vec Ideal S256x128 .f32 := View.ld (Val := Elt Ideal) (e' := .f32) X (Rect.unit ![0, 384] ![256, 128] inb_S256x512_S256x128_0_384)
def head (X : Vec Ideal S256x512 .f32) (a : Fin 256) (h : Fin 4) (k : Fin 128) : EReal := X (ix2 a ⟨h * 128 + k, by omega⟩)
abbrev lane (s : Fin 2) (l : Fin 64) : Fin 128 := ⟨64 * s + l, by omega⟩

theorem strip_head (X : Vec Ideal S256x512 .f32) (a : Fin 256) :
    row (ld0 X) a = head X a 0 ∧ row (ld1 X) a = head X a 1 ∧ row (ld2 X) a = head X a 2 ∧ row (ld3 X) a = head X a 3 :=
  ⟨funext fun k => ld_block X _ a k a _ (by omega) (by show 0 * 128 + k.val = 0 + k.val; omega),
    funext fun k => ld_block X _ a k a _ (by omega) (by show 1 * 128 + k.val = 128 + k.val; omega),
    funext fun k => ld_block X _ a k a _ (by omega) (by show 2 * 128 + k.val = 256 + k.val; omega),
    funext fun k => ld_block X _ a k a _ (by omega) (by show 3 * 128 + k.val = 384 + k.val; omega)⟩

/-- A column's head and lane are those of the strip that holds it. -/
theorem place {h : Fin 4} {k y : Fin 128} {b o : ℕ} (j : Fin 4) (ho : o = b + j.val * 128) (e : b + (h.val * 128 + k.val) = o + y.val) : h = j ∧ k = y :=
  ⟨Fin.ext (by omega), Fin.ext (by omega)⟩

/-- The eight strips' stores. -/
abbrev stores : List (View.Piece (Elt Ideal) S256x1024 .bf16) :=
    [⟨Rect.unit ![0, 896] ![256, 128] inb_S256x1024_S256x128_0_896, k0_pay1 k0_pay9 (ld3 x2) (k0_pay16 (ld3 x2)) (k0_pay17 k0_pay9 (ld3 x2)) x4⟩,
      ⟨Rect.unit ![0, 768] ![256, 128] inb_S256x1024_S256x128_0_768, k0_pay15 k0_pay9 (ld2 x2) x4⟩,
      ⟨Rect.unit ![0, 640] ![256, 128] inb_S256x1024_S256x128_0_640, k0_pay14 (ld1 x2) (k0_pay13 k0_pay9 (ld1 x2)) x4⟩,
      ⟨Rect.unit ![0, 512] ![256, 128] inb_S256x1024_S256x128_0_512, k0_pay12 k0_pay9 (ld0 x2) (k0_pay10 (ld0 x2)) (k0_pay11 (ld0 x2)) x4⟩,
      ⟨Rect.unit ![0, 384] ![256, 128] inb_S256x1024_S256x128_0_384, k0_pay8 (ld3 x0) (ld3 x1) x3⟩,
      ⟨Rect.unit ![0, 256] ![256, 128] inb_S256x1024_S256x128_0_256, k0_pay7 (ld2 x1) (k0_pay5 (ld2 x0) x3) (k0_pay6 (ld2 x1))⟩,
      ⟨Rect.unit ![0, 128] ![256, 128] inb_S256x1024_S256x128_0_128, k0_pay4 (ld1 x0) (ld1 x1) (k0_pay3 (ld1 x0)) x3⟩,
      ⟨Rect.unit ![0, 0] ![256, 128] inb_S256x1024_S256x128_0_0, k0_pay2 (ld0 x0) (ld0 x1) x3⟩]

theorem wides {f : List (View.Piece (Elt Ideal) S256x1024 .bf16) → S256x1024.Idx → Elt Ideal .bf16} (hf : Reads f) :
    f (stores x0 x1 x2 x3 x4) (ix2 a ⟨h * 128 + k, by omega⟩) = wide (head x0 a h) (head x1 a h) (only x3) k := by
  have hb : h.val * 128 + k.val < 512 := by omega
  refine hf.strip _ _ _ a _ _ (by omega) (fun y hy => by have e : h.val * 128 + k.val = _ := hy; omega) fun _ => hf.strip _ _ _ a _ _ (by omega) (fun y hy => by have e : h.val * 128 + k.val = _ := hy; omega) fun _ =>
    hf.strip _ _ _ a _ _ (by omega) (fun y hy => by have e : h.val * 128 + k.val = _ := hy; omega) fun _ => hf.strip _ _ _ a _ _ (by omega) (fun y hy => by have e : h.val * 128 + k.val = _ := hy; omega) fun _ =>
    hf.strip _ _ _ a _ _ (by omega) (fun y hy => ?_) fun h3 => hf.strip _ _ _ a _ _ (by omega) (fun y hy => ?_) fun h2 =>
    hf.strip _ _ _ a _ _ (by omega) (fun y hy => ?_) fun h1 => hf.strip _ _ _ a _ _ (by omega) (fun y hy => ?_) fun h0 => absurd h0 (Nat.not_lt_zero _)
  · obtain ⟨rfl, rfl⟩ := place (b := 0) 3 rfl ((Nat.zero_add _).trans hy)
    exact (wide3 _ _ _ _ _).trans (by rw [(strip_head _ _).2.2.2, (strip_head _ _).2.2.2])
  · obtain ⟨rfl, rfl⟩ := place (b := 0) 2 rfl ((Nat.zero_add _).trans hy)
    exact (wide2 _ _ _ _ _).trans (by rw [(strip_head _ _).2.2.1, (strip_head _ _).2.2.1])
  · obtain ⟨rfl, rfl⟩ := place (b := 0) 1 rfl ((Nat.zero_add _).trans hy)
    exact (wide1 _ _ _ _ _).trans (by rw [(strip_head _ _).2.1, (strip_head _ _).2.1])
  · obtain ⟨rfl, rfl⟩ := place (b := 0) 0 rfl ((Nat.zero_add _).trans hy)
    exact (wide0 _ _ _ _ _).trans (by rw [(strip_head _ _).1, (strip_head _ _).1])

theorem narrows {f : List (View.Piece (Elt Ideal) S256x1024 .bf16) → S256x1024.Idx → Elt Ideal .bf16} (hf : Reads f) :
    f (stores x0 x1 x2 x3 x4) (ix2 a ⟨512 + (h * 128 + (64 * s + l)), by omega⟩) = narrow (half (head x2 a h) s) (half (only x4) s) l := by
  have hb : 512 + (h.val * 128 + (64 * s.val + l.val)) < 1024 := by omega
  refine hf.strip _ _ _ a _ _ (by omega) (fun y hy => ?_) fun h3 => hf.strip _ _ _ a _ _ (by omega) (fun y hy => ?_) fun h2 =>
    hf.strip _ _ _ a _ _ (by omega) (fun y hy => ?_) fun h1 => hf.strip _ _ _ a _ _ (by omega) (fun y hy => ?_) fun h0 => absurd h0 (by show ¬512 + (h.val * 128 + (64 * s.val + l.val)) < 512; omega)
  · obtain ⟨rfl, rfl⟩ := place (b := 512) (k := lane s l) 3 rfl hy
    exact (narrow3 _ _ _ s l).trans (by rw [(strip_head _ _).2.2.2])
  · obtain ⟨rfl, rfl⟩ := place (b := 512) (k := lane s l) 2 rfl hy
    exact (narrow2 _ _ _ s l).trans (by rw [(strip_head _ _).2.2.1])
  · obtain ⟨rfl, rfl⟩ := place (b := 512) (k := lane s l) 1 rfl hy
    exact (narrow1 _ _ _ s l).trans (by rw [(strip_head _ _).2.1])
  · obtain ⟨rfl, rfl⟩ := place (b := 512) (k := lane s l) 0 rfl hy
    exact (narrow0 _ _ _ s l).trans (by rw [(strip_head _ _).1])

end

variable (m : (ℓ : Loc nD τ sig) → Buf (Elt Ideal) ℓ) (c : Dev nD) (t : Fin cfg0.N) (a : Fin 256) (h : Fin 4)

theorem wide_here (k : Fin 128) : outsAt0 m c t (ix2 a ⟨h * 128 + k, by omega⟩) = wide (head (iblk m c 0 t) a h) (head (X0_1 m c t) a h) (only (iblk m c 3 t)) k := by
  rw [outsAt0]
  frame_open
  frame_out
  exact wides _ _ _ _ _ a h k reads_canon

theorem narrow_here (s : Fin 2) (l : Fin 64) : outsAt0 m c t (ix2 a ⟨512 + (h * 128 + (64 * s + l)), by omega⟩) =
    narrow (half (head (iblk m c 2 t) a h) s) (half (only (iblk m c 4 t)) s) l := by
  rw [outsAt0]
  frame_open
  frame_out
  exact narrows _ _ _ _ _ a h s l reads_canon

end Cert.Proof.Mix

end

end
-- ==== Proof.MixRef.lean ====
module

public import proofs.«01_k».proof.Proof.Gen.MixRefIdeal.Read
public import proofs.«01_k».proof.Proof.HeadsRow
public import Idealize.ShloMosaic.Lib.Pointwise

/-! The reference's heads' norms and gate, read at an index. -/

@[expose] public section

set_option maxRecDepth 16384

noncomputable section

namespace Cert.Proof.MixRef

open Idealize.ShloMosaic Idealize.ShloMosaic.TcCoe Idealize.ShloMosaic.Tactic
open Cert.MixRefIdeal Cert.MixRefIdeal.Gen Cert.MixRefIdeal.Read Cert.Norm Cert.Rms Finset

local instance : Cert.MixRefIdeal.Facts := Cert.MixRefIdeal.Gen.facts

variable (x0 : FVec Ideal S2048x512 .f32) (x1 : FVec Ideal S2048x3840 .f32) (x2 : FVec Ideal S2048x512 .f32) (x3 : FVec Ideal S128 .f32) (x4 : FVec Ideal S64 .f32)
  (a : Fin 2048) (h : Fin 4) (k : Fin 128) (s : Fin 2) (l : Fin 64)

/-- The rows of a head: its values, the gate's argument, and a half-width head's values. -/
def head (k : Fin 128) : EReal := x0 (ix2 a ⟨h * 128 + k, by omega⟩)
def arg (k : Fin 128) : EReal := x1 (ix2 a ⟨1536 + (h * 128 + k), by omega⟩)
def half (l : Fin 64) : EReal := x2 (ix2 a ⟨h * 128 + s * 64 + l, by omega⟩)

theorem head_at : val_main_v4 (F := Ideal) x0 (ix3 a h k) = head x0 a h k := by
  pointwise [val_main_v4]
  rfl

theorem arg_at : val_main_v18 (F := Ideal) x1 (ix3 a h k) = arg x1 a h k := by
  pointwise [val_main_v0, val_main_v18]
  rfl

theorem half_at : val_main_v21 (F := Ideal) x2 (ix4 a h s l) = half x2 a h s l := by
  pointwise [val_main_v21]
  rfl

theorem gain_at : val_main_v22 (F := Ideal) x4 (ix2 s l) = x4 (ix1 l) := by
  pointwise [val_main_v1, val_main_v2, val_main_v3, val_main_v22]

theorem scale_at (z : Fin 1) : val_main_v12 (F := Ideal) x0 (ix3 a h z) = scale long (head x0 a h) := by
  pointwise [val_main_v5, val_main_cst, val_main_v6, val_main_v7, val_main_cst_0, val_main_v8, val_main_v9, val_main_cst_1, val_main_v10, val_main_v11, val_main_v12, head_at]
  rfl

theorem sig_at : val_main_call0_v5 (F := Ideal) x1 (ix3 a h k) = sig (arg x1 a h k) := by
  pointwise [val_main_call0_v0, val_main_call0_v1, val_main_call0_cst, val_main_call0_v2, val_main_call0_v3, val_main_call0_cst_0, val_main_call0_v4, val_main_call0_v5, arg_at]
  rfl

theorem wide_at : val_main_v20 (F := Ideal) x0 x1 x3 (ix3 a h k) = wide (head x0 a h) (arg x1 a h) (fun k => x3 (ix1 k)) k := by
  pointwise [val_main_v13, val_main_v14, val_main_v15, val_main_v16, val_main_v17, val_main_v19, val_main_v20, scale_at, sig_at, head_at, arg_at]
  rfl

theorem halfScale_at (z : Fin 1) : val_main_v30 (F := Ideal) x2 (ix4 a h s z) = scale short (half x2 a h s) := by
  pointwise [val_main_v23, val_main_cst_2, val_main_v24, val_main_v25, val_main_cst_3, val_main_v26, val_main_v27, val_main_cst_4, val_main_v28, val_main_v29, val_main_v30, half_at]
  rfl

theorem narrow_at : val_main_v35 (F := Ideal) x2 x4 (ix4 a h s l) = narrow (half x2 a h s) (fun l => x4 (ix1 l)) l := by
  pointwise [val_main_v31, val_main_v32, val_main_v33, val_main_v34, val_main_v35, halfScale_at, half_at, gain_at]
  rfl

/-- The heads at their places in the result. -/
theorem wide_place : val_main_v39 (F := Ideal) x0 x1 x2 x3 x4 (ix2 a ⟨h * 128 + k, by omega⟩) = val_main_v20 (F := Ideal) x0 x1 x3 (ix3 a h k) := by
  pointwise [val_main_v36, val_main_v38, val_main_v39]
  rw [dif_pos (by omega)]

theorem narrow_place : val_main_v39 (F := Ideal) x0 x1 x2 x3 x4 (ix2 a ⟨512 + (h * 128 + s * 64 + l), by omega⟩) = val_main_v35 (F := Ideal) x2 x4 (ix4 a h s l) := by
  have e : val_main_v37 (F := Ideal) x2 x4 (ix2 a ⟨h * 128 + s * 64 + l, by omega⟩) = val_main_v35 (F := Ideal) x2 x4 (ix4 a h s l) := by
    pointwise [val_main_v37]
  rw [← e]
  pointwise [val_main_v38, val_main_v39]

end Cert.Proof.MixRef

end

end
-- ==== Proof.Mix.lean ====
module

public import proofs.«01_k».proof.Defs
public import proofs.«01_k».proof.Proof.Gen.MixRefIdeal.Run
public import proofs.«01_k».proof.Proof.MixPoint
public import proofs.«01_k».proof.Proof.MixRef
public import Idealize.ShloMosaic.Lib.StableHlo.RunRead
public import Idealize.ShloMosaic.Lib.Tactic.CleanTypes

/-! The heads' norms and gate: what the kernel's run leaves is what the reference gives. -/

@[expose] public section

set_option maxRecDepth 16384

noncomputable section

namespace Cert.Proof.Mix

open Idealize.ShloMosaic Idealize.ShloMosaic.TcCoe Idealize.ShloMosaic.Tactic Idealize.SL.Sem
open Cert.MixIdeal Cert.MixIdeal.Gen Cert.Stores Cert.Norm Cert.Rms Finset
open Cert.MixRefIdeal.Read (val_main_v39)

local instance : Cert.MixIdeal.Facts := Cert.MixIdeal.Gen.facts
local instance : Cert.MixRefIdeal.Facts := Cert.MixRefIdeal.Gen.facts

/-- Every window's block at every point. -/
theorem idx : ∀ t : Fin cfg0.N, win0_0.index t = ![t.val, 0] ∧ win0_1.index t = ![t.val, 3] ∧ win0_2.index t = ![t.val, 0] ∧
    win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- The program's arguments. -/
abbrev arg0 : FVec Ideal S2048x512 .f32 := m ((c : Thread nD τ).loc main_arg0)
abbrev arg1 : FVec Ideal S2048x3840 .f32 := m ((c : Thread nD τ).loc main_arg1)
abbrev arg2 : FVec Ideal S2048x512 .f32 := m ((c : Thread nD τ).loc main_arg2)
abbrev arg3 : FVec Ideal S128 .f32 := m ((c : Thread nD τ).loc main_arg3)
abbrev arg4 : FVec Ideal S64 .f32 := m ((c : Thread nD τ).loc main_arg4)

/-- The gains as one row of 128 lanes, as the host gives them: the shorter one twice. -/
abbrev line (x : FVec Ideal S128 .f32) : FVec Ideal S1x128 .f32 := broadcastInDim S1x128 ![1] (by decide) x
abbrev twice (x : FVec Ideal S64 .f32) : FVec Ideal S1x128 .f32 :=
  line (shapeCast S128 (broadcastInDim S2x64 ![0, 1] (by decide) (shapeCast S1x64 x (by decide) : FVec Ideal S1x64 .f32) : FVec Ideal S2x64 .f32) (by decide))

theorem line_at (x : FVec Ideal S128 .f32) (k : Fin 128) : line x (ix2 0 k) = x (ix1 k) := by
  pointwise [line]

theorem twice_at (x : FVec Ideal S64 .f32) (s : Fin 2) (l : Fin 64) : twice x (ix2 0 (lane s l)) = x (ix1 l) := by
  pointwise [twice, line]

theorem V_3 : V m c main_v0 = line (arg3 m c) := by
  unfold_abbrev_sides
  after_reads_simp

theorem V_4 : V m c main_v4 = twice (arg4 m c) := by
  unfold_abbrev_sides
  after_reads_simp
  rfl

/-- A column of the result is a lane of a full-width head or of a half-width one. -/
theorem column (b : Fin 1024) : (∃ (h : Fin 4) (k : Fin 128), b = ⟨h * 128 + k, by omega⟩) ∨
    ∃ (h : Fin 4) (s : Fin 2) (l : Fin 64), b = ⟨512 + (h * 128 + (64 * s + l)), by omega⟩ := by
  by_cases hb : b.val < 512
  · exact .inl ⟨⟨b / 128, by omega⟩, ⟨b % 128, by omega⟩, Fin.ext (by show b.val = b.val / 128 * 128 + b.val % 128; omega)⟩
  · exact .inr ⟨⟨(b - 512) / 128, by omega⟩, ⟨b % 128 / 64, by omega⟩, ⟨b % 64, by omega⟩, Fin.ext (by
      show b.val = 512 + ((b.val - 512) / 128 * 128 + (64 * (b.val % 128 / 64) + b.val % 64)); omega)⟩

variable (t : Fin cfg0.N) (ht : t.val < 8) (a : Fin 256) (h : Fin 4) (s : Fin 2)

theorem gain_block : only (iblk m c 3 t) = fun k => arg3 m c (ix1 k) := by
  funext k
  have h : iblk m c 3 t (ix2 0 k) = V m c main_v0 (ix2 0 k) := by blk_ext [iblk, idx t]
  exact h.trans ((congrFun (V_3 m c) _).trans (line_at _ k))

theorem half_gain_block : half (only (iblk m c 4 t)) s = fun l => arg4 m c (ix1 l) := by
  funext l
  have h : iblk m c 4 t (ix2 0 (lane s l)) = V m c main_v4 (ix2 0 (lane s l)) := by blk_ext [iblk, idx t]
  exact h.trans ((congrFun (V_4 m c) _).trans (twice_at _ s l))

include ht

/-- The row of the whole arrays that a point's row is. -/
abbrev spot : Fin 2048 := ⟨256 * t.val + a, by omega⟩

theorem head_block : head (iblk m c 0 t) a h = MixRef.head (arg0 m c) (spot t ht a) h := by
  funext k
  rw [head, MixRef.head]
  blk_ext [iblk, V, idx t]

theorem arg_block : head (X0_1 m c t) a h = MixRef.arg (arg1 m c) (spot t ht a) h := by
  funext k
  rw [head, MixRef.arg]
  unfold X0_1 Pipeline.Window.fill
  rw [dif_pos (moved0_1 t _)]
  blk_ext [iblk, V, idx t]

theorem half_block : half (head (iblk m c 2 t) a h) s = MixRef.half (arg2 m c) (spot t ht a) h s := by
  funext l
  rw [half, head, MixRef.half]
  blk_ext [iblk, V, idx t]

/-- The point's result is the reference's. -/
theorem wide_out (k : Fin 128) : outsAt0 m c t (ix2 a ⟨h * 128 + k, by omega⟩) = val_main_v39 (F := Ideal) (arg0 m c) (arg1 m c) (arg2 m c) (arg3 m c) (arg4 m c) (ix2 (spot t ht a) ⟨h * 128 + k, by omega⟩) := by
  rw [MixRef.wide_place, MixRef.wide_at, wide_here, gain_block, head_block m c t ht, arg_block m c t ht]

theorem narrow_out (l : Fin 64) : outsAt0 m c t (ix2 a ⟨512 + (h * 128 + (64 * s + l)), by omega⟩) =
    val_main_v39 (F := Ideal) (arg0 m c) (arg1 m c) (arg2 m c) (arg3 m c) (arg4 m c) (ix2 (spot t ht a) ⟨512 + (h * 128 + s * 64 + l), by omega⟩) := by
  rw [MixRef.narrow_place, MixRef.narrow_at, narrow_here, half_gain_block, half_block m c t ht]

omit ht

/-- The array after the kernel's run. -/
theorem array5 : (dats m 0 c).arrAt 5 cfg0.N = val_main_v39 (F := Ideal) (arg0 m c) (arg1 m c) (arg2 m c) (arg3 m c) (arg4 m c) := by
  refine (dats m 0 c).arrAt_eq_of_covers 5 _ (by decide +kernel) fun t hf y => ?_
  have ht : t.val < 8 := t.isLt
  blk_simp
  rw [after0_5]
  obtain ⟨a, b, rfl⟩ : ∃ (a : Fin 256) (b : Fin 1024), y = ix2 a b := ⟨y 0, y 1, (ix2_eta y).symm⟩
  obtain ⟨h, k, rfl⟩ | ⟨h, s, l, rfl⟩ := column b
  · refine (wide_out m c t ht a h k).trans (congrArg _ ?_)
    blk_ext [idx t]
  · refine (narrow_out m c t ht a h s l).trans (congrArg _ ?_)
    blk_ext [idx t]

/-- The reference ends with its arguments kept. -/
theorem frame_reference : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The ideal kernel computes what the reference does. -/
theorem algebraic : Cert.algebraic_MixIdeal_MixRefIdeal := by
  intro m g m' g' _ hargs
  refine ⟨fun c => val_main_v39 (F := Ideal) (arg0 m c) (arg1 m c) (arg2 m c) (arg3 m c) (arg4 m c), ?_, ?_⟩
  · refine (θ_run Cert.MixIdeal.defs _ _).mono (fun r h c => ?_) (Cert.MixIdeal.Value.run_blocks (F := Ideal) m g)
    obtain ⟨h5, h⟩ := h c
    exact ⟨h5.trans (array5 m c), h⟩
  · refine (θ_run Cert.MixRefIdeal.defs _ _).mono (fun r h c => ?_) (Cert.MixRefIdeal.Value.run (F := Ideal) m' g')
    obtain ⟨h0, h⟩ := h c
    obtain ⟨e0, e1, e2, e3, e4⟩ := hargs c
    replace h0 := h0.trans (Cert.MixRefIdeal.Read.val_main_v39_eq _ _ _ _ _)
    rw [e0, e1, e2, e3, e4] at h0
    exact ⟨h0, h⟩

end Cert.Proof.Mix

end

end
-- ==== Proof.MidPoint.lean ====
module

public import proofs.«01_k».proof.Proof.Gen.MidIdeal.Value
public import proofs.«01_k».proof.Proof.Stores
public import proofs.«01_k».proof.Proof.Norm

/-! One point of the gradient through the norm in the middle of the layer. -/

@[expose] public section

set_option maxRecDepth 16384

noncomputable section

namespace Cert.Proof.Mid

open Idealize.ShloMosaic Idealize.ShloMosaic.TcCoe Idealize.ShloMosaic.Tactic Idealize.SL.Sem
open Cert.MidIdeal Cert.MidIdeal.Gen Cert.Stores Cert.Norm Finset

local instance : Cert.MidIdeal.Facts := Cert.MidIdeal.Gen.facts

section

variable (x0 : Vec Ideal S256x1024 .f32) (x1 : Vec Ideal S256x4096 .bf16) (x2 : Vec Ideal S4x1024x1024 .bf16) (x3 : Vec Ideal S256x1024 .bf16)
  (x4 : Vec Ideal S1024x1024 .bf16)

/-- The cotangent of the norm's output, from one point's blocks. -/
def cot (a : Fin 256) (b : Fin 1024) : EReal :=
  alpha * x0 (ix2 a b) + ∑ k : Fin 1024, x3 (ix2 a k) * x4 (ix2 b k) + ∑ k : Fin 1024, x1 (ix2 a (⟨k, by omega⟩ : Fin 4096)) * x2 (ix3 0 b k)
    + ∑ k : Fin 1024, x1 (ix2 a (⟨1024 + k, by omega⟩ : Fin 4096)) * x2 (ix3 1 b k) + ∑ k : Fin 1024, x1 (ix2 a (⟨2048 + k, by omega⟩ : Fin 4096)) * x2 (ix3 2 b k)
    + ∑ k : Fin 1024, x1 (ix2 a (⟨3072 + k, by omega⟩ : Fin 4096)) * x2 (ix3 3 b k)

/-- The gradient in terms of the normalised row that the host gave. -/
def grad (x5 : Vec Ideal S256x1024 .f32) (x6 : Vec Ideal S256x128 .f32) (x7 : Vec Ideal S1x1024 .f32) (a : Fin 256) (b : Fin 1024) : EReal :=
  x6 (ix2 a 0) * (cot x0 x1 x2 x3 x4 a b * x7 (ix2 0 b) - mean (fun k => cot x0 x1 x2 x3 x4 a k * x7 (ix2 0 k))
    - x5 (ix2 a b) * mean (fun k => cot x0 x1 x2 x3 x4 a k * x7 (ix2 0 k) * x5 (ix2 a k)))

/-- The kernel's cotangent: the products are added one after the other. -/
abbrev sums : FVec Ideal S256x1024 .f32 :=
  k0_pay4 (k0_pay3 x0 x3 x4 (View.ld (Val := Elt Ideal) (e' := .bf16) x1 (Rect.unit ![0, 0] ![256, 1024] inb_S256x4096_S256x1024_0_0))
        (View.ld (Val := Elt Ideal) (e' := .bf16) x2 (Rect.unit ![0, 0, 0] ![1, 1024, 1024] inb_S4x1024x1024_S1x1024x1024_0_0_0))
        (View.ld (Val := Elt Ideal) (e' := .bf16) x1 (Rect.unit ![0, 1024] ![256, 1024] inb_S256x4096_S256x1024_0_1024))
        (View.ld (Val := Elt Ideal) (e' := .bf16) x2 (Rect.unit ![1, 0, 0] ![1, 1024, 1024] inb_S4x1024x1024_S1x1024x1024_1_0_0))
        (View.ld (Val := Elt Ideal) (e' := .bf16) x1 (Rect.unit ![0, 2048] ![256, 1024] inb_S256x4096_S256x1024_0_2048))
        (View.ld (Val := Elt Ideal) (e' := .bf16) x2 (Rect.unit ![2, 0, 0] ![1, 1024, 1024] inb_S4x1024x1024_S1x1024x1024_2_0_0)))
      (View.ld (Val := Elt Ideal) (e' := .bf16) x1 (Rect.unit ![0, 3072] ![256, 1024] inb_S256x4096_S256x1024_0_3072))
      (View.ld (Val := Elt Ideal) (e' := .bf16) x2 (Rect.unit ![3, 0, 0] ![1, 1024, 1024] inb_S4x1024x1024_S1x1024x1024_3_0_0))

theorem sums_apply (a : Fin 256) (b : Fin 1024) : sums x0 x1 x2 x3 x4 (ix2 a b) = cot x0 x1 x2 x3 x4 a b := by
  unfold sums cot
  pointwise [k0_pay3, k0_pay4]

theorem pay6 (x5 : Vec Ideal S256x1024 .f32) (x6 : Vec Ideal S256x128 .f32) (x7 : Vec Ideal S1x1024 .f32) (a : Fin 256) (b : Fin 1024) :
    k0_pay6 (k0_pay3 x0 x3 x4 (View.ld (Val := Elt Ideal) (e' := .bf16) x1 (Rect.unit ![0, 0] ![256, 1024] inb_S256x4096_S256x1024_0_0))
        (View.ld (Val := Elt Ideal) (e' := .bf16) x2 (Rect.unit ![0, 0, 0] ![1, 1024, 1024] inb_S4x1024x1024_S1x1024x1024_0_0_0))
        (View.ld (Val := Elt Ideal) (e' := .bf16) x1 (Rect.unit ![0, 1024] ![256, 1024] inb_S256x4096_S256x1024_0_1024))
        (View.ld (Val := Elt Ideal) (e' := .bf16) x2 (Rect.unit ![1, 0, 0] ![1, 1024, 1024] inb_S4x1024x1024_S1x1024x1024_1_0_0))
        (View.ld (Val := Elt Ideal) (e' := .bf16) x1 (Rect.unit ![0, 2048] ![256, 1024] inb_S256x4096_S256x1024_0_2048))
        (View.ld (Val := Elt Ideal) (e' := .bf16) x2 (Rect.unit ![2, 0, 0] ![1, 1024, 1024] inb_S4x1024x1024_S1x1024x1024_2_0_0)))
      (View.ld (Val := Elt Ideal) (e' := .bf16) x1 (Rect.unit ![0, 3072] ![256, 1024] inb_S256x4096_S256x1024_0_3072))
      (View.ld (Val := Elt Ideal) (e' := .bf16) x2 (Rect.unit ![3, 0, 0] ![1, 1024, 1024] inb_S4x1024x1024_S1x1024x1024_3_0_0))
      x5 (View.ld (Val := Elt Ideal) (e' := .f32) x6 (Rect.unit ![0, 0] ![256, 1] inb_S256x128_S256x1_0_0)) x7 (ix2 a b) = grad x0 x1 x2 x3 x4 x5 x6 x7 a b := by
  simp only [grad, ← sums_apply]
  pointwise [k0_pay5, k0_pay6]
  rfl

/-- What the point adds to a row of the block of sums: the gain's gradient in row 0, the bias's in row 1, nothing in the others. -/
def added (x5 : Vec Ideal S256x1024 .f32) (r : Fin 8) (b : Fin 1024) : EReal :=
  if r.val = 0 then ∑ y : Fin 256, cot x0 x1 x2 x3 x4 y b * x5 (ix2 y b) else if r.val = 1 then ∑ y : Fin 256, cot x0 x1 x2 x3 x4 y b else 0

/-- The two rows that a point stores, over a block `X`. -/
theorem rows (x5 : Vec Ideal S256x1024 .f32) {f : List (View.Piece (Elt Ideal) S8x1024 .f32) → S8x1024.Idx → Elt Ideal .f32} (hf : Reads f)
    (X : FVec Ideal S8x1024 .f32) (L : List (View.Piece (Elt Ideal) S8x1024 .f32)) (hL : ∀ (r : Fin 8) (b : Fin 1024), f L (ix2 r b) = X (ix2 r b))
    (r : Fin 8) (b : Fin 1024) :
    f (⟨Rect.unit ![1, 0] ![1, 1024] inb_S8x1024_S1x1024_1_0, k0_pay1 (sums x0 x1 x2 x3 x4)
        (View.ld (Val := Elt Ideal) (e' := .f32) X (Rect.unit ![1, 0] ![1, 1024] inb_S8x1024_S1x1024_1_0))⟩ ::
      ⟨Rect.unit ![0, 0] ![1, 1024] inb_S8x1024_S1x1024_0_0, k0_pay8 (k0_pay3 x0 x3 x4 (View.ld (Val := Elt Ideal) (e' := .bf16) x1 (Rect.unit ![0, 0] ![256, 1024] inb_S256x4096_S256x1024_0_0))
        (View.ld (Val := Elt Ideal) (e' := .bf16) x2 (Rect.unit ![0, 0, 0] ![1, 1024, 1024] inb_S4x1024x1024_S1x1024x1024_0_0_0))
        (View.ld (Val := Elt Ideal) (e' := .bf16) x1 (Rect.unit ![0, 1024] ![256, 1024] inb_S256x4096_S256x1024_0_1024))
        (View.ld (Val := Elt Ideal) (e' := .bf16) x2 (Rect.unit ![1, 0, 0] ![1, 1024, 1024] inb_S4x1024x1024_S1x1024x1024_1_0_0))
        (View.ld (Val := Elt Ideal) (e' := .bf16) x1 (Rect.unit ![0, 2048] ![256, 1024] inb_S256x4096_S256x1024_0_2048))
        (View.ld (Val := Elt Ideal) (e' := .bf16) x2 (Rect.unit ![2, 0, 0] ![1, 1024, 1024] inb_S4x1024x1024_S1x1024x1024_2_0_0)))
      (View.ld (Val := Elt Ideal) (e' := .bf16) x1 (Rect.unit ![0, 3072] ![256, 1024] inb_S256x4096_S256x1024_0_3072))
      (View.ld (Val := Elt Ideal) (e' := .bf16) x2 (Rect.unit ![3, 0, 0] ![1, 1024, 1024] inb_S4x1024x1024_S1x1024x1024_3_0_0))
        x5 (View.ld (Val := Elt Ideal) (e' := .f32) X (Rect.unit ![0, 0] ![1, 1024] inb_S8x1024_S1x1024_0_0))⟩ :: L) (ix2 r b) =
    X (ix2 r b) + added x0 x1 x2 x3 x4 x5 r b := by
  refine hf.block _ _ _ r b _ (fun x y hr hb => ?_) fun h1 => hf.block _ _ _ r b _ (fun x y hr hb => ?_) fun h0 => ?_
  · obtain rfl : b = y := Fin.ext (by omega)
    obtain rfl : x = 0 := Subsingleton.elim _ _
    obtain rfl : r = 1 := Fin.ext hr
    rw [added, if_neg (by decide), if_pos (by rfl)]
    simp only [← sums_apply]
    generalize sums x0 x1 x2 x3 x4 = D
    pointwise [k0_pay1]
  · obtain rfl : b = y := Fin.ext (by omega)
    obtain rfl : x = 0 := Subsingleton.elim _ _
    obtain rfl : r = 0 := Fin.ext hr
    rw [added, if_pos (by rfl)]
    simp only [← sums_apply]
    pointwise [k0_pay5, k0_pay8]
  · rw [added, if_neg (by omega), if_neg (by omega), add_zero]
    exact hL r b

end

variable (m : (ℓ : Loc nD τ sig) → Buf (Elt Ideal) ℓ) (c : Dev nD) (t : Fin cfg0.N)

/-- The point's cotangent and gradient. -/
abbrev cotAt (a : Fin 256) (b : Fin 1024) : EReal := cot (iblk m c 0 t) (iblk m c 1 t) (iblk m c 2 t) (iblk m c 3 t) (iblk m c 4 t) a b
abbrev gradAt (a : Fin 256) (b : Fin 1024) : EReal :=
  grad (iblk m c 0 t) (iblk m c 1 t) (iblk m c 2 t) (iblk m c 3 t) (iblk m c 4 t) (iblk m c 5 t) (iblk m c 6 t) (iblk m c 7 t) a b

theorem gradA (h : t.val % 8 = 0) (a : Fin 256) (b : Fin 1024) : (outsAt0 m c t.val t.isLt).1 (ix2 a b) = gradAt m c t a b := by
  rw [outsAt0_A m c t h]
  dsimp only
  frame_open
  frame_out
  exact pay6 _ _ _ _ _ _ _ _ a b

theorem gradHalfA (h : t.val % 8 = 0) (a : Fin 256) (b : Fin 1024) : (outsAt0 m c t.val t.isLt).2.1 (ix2 a b) = gradAt m c t a b := by
  rw [outsAt0_A m c t h]
  dsimp only
  frame_open
  frame_out
  exact pay6 _ _ _ _ _ _ _ _ a b

theorem gradB (h : ¬t.val % 8 = 0) (a : Fin 256) (b : Fin 1024) : (outsAt0 m c t.val t.isLt).1 (ix2 a b) = gradAt m c t a b := by
  rw [outsAt0_B m c t h]
  dsimp only
  frame_open
  frame_out
  exact pay6 _ _ _ _ _ _ _ _ a b

theorem gradHalfB (h : ¬t.val % 8 = 0) (a : Fin 256) (b : Fin 1024) : (outsAt0 m c t.val t.isLt).2.1 (ix2 a b) = gradAt m c t a b := by
  rw [outsAt0_B m c t h]
  dsimp only
  frame_open
  frame_out
  exact pay6 _ _ _ _ _ _ _ _ a b

abbrev addedAt (r : Fin 8) (b : Fin 1024) : EReal :=
  added (iblk m c 0 t) (iblk m c 1 t) (iblk m c 2 t) (iblk m c 3 t) (iblk m c 4 t) (iblk m c 5 t) r b

theorem sumsA (h : t.val % 8 = 0) (r : Fin 8) (b : Fin 1024) : (outsAt0 m c t.val t.isLt).2.2 (ix2 r b) = addedAt m c t r b := by
  rw [outsAt0_A m c t h]
  dsimp only
  frame_open
  simp (disch := decide) only [↓ View.readCov_skip, ↓ View.readCov_cons_toLoadRect, ↓ View.readCov_fill]
  frame_out
  refine (rows _ _ _ _ _ _ reads_canon k0_pay2 _ (fun r b => reads_canon.strip _ _ _ _ _ _ (by omega)
    (fun y hy => by rw [show b = y from Fin.ext (by omega)]) fun hl => absurd hl (Nat.not_lt_zero _)) r b).trans ?_
  rw [show (k0_pay2 : FVec Ideal S8x1024 .f32) (ix2 r b) = 0 by pointwise [k0_pay2], zero_add]

theorem sumsB (h : ¬t.val % 8 = 0) (hlt : t.val - 1 < cfg0.N) (r : Fin 8) (b : Fin 1024) :
    (outsAt0 m c t.val t.isLt).2.2 (ix2 r b) = (outsAt0 m c (t.val - 1) hlt).2.2 (ix2 r b) + addedAt m c t r b := by
  rw [outsAt0_B m c t h]
  dsimp only
  frame_open
  simp (disch := decide) only [↓ View.readCov_skip, ↓ View.readCov_cons_toLoadRect, ↓ View.readCov_fill]
  frame_out
  refine rows _ _ _ _ _ _ (reads_writes _ _) _ _ (fun r b => ?_) r b
  rw [View.writes_nil]
  exact congrFun (Memref.IsWhole.read_unread _ _) _

end Cert.Proof.Mid

end

end
-- ==== Proof.MidRef.lean ====
module

public import proofs.«01_k».proof.Proof.Gen.MidRefIdeal.Read
public import proofs.«01_k».proof.Proof.Norm
public import Idealize.ShloMosaic.Lib.Pointwise

/-! The reference's gradient through the norm in the middle of the layer, read at an index. -/

@[expose] public section

set_option maxRecDepth 16384

noncomputable section

namespace Cert.Proof.MidRef

open Idealize.ShloMosaic Cert.MidRefIdeal Cert.MidRefIdeal.Read Cert.Norm Finset

local instance : Cert.MidRefIdeal.Facts := Cert.MidRefIdeal.Gen.facts

variable (x0 : FVec Ideal S2048x1024 .f32) (x1 : FVec Ideal S1024 .f32) (x2 : FVec Ideal S2048x1024 .f32) (x3 : FVec Ideal S2048x4096 .bf16)
  (x4 : FVec Ideal S4x1024x1024 .bf16) (x5 : FVec Ideal S2048x1024 .bf16) (x6 : FVec Ideal S1024x1024 .bf16) (a : Fin 2048) (b : Fin 1024)

/-- The row of the residual and the cotangent of the normalised row. -/
abbrev line : Fin 1024 → EReal := fun k => x0 (ix2 a k)
abbrev weight : Fin 1024 → EReal := fun k => val_main_v45 (F := Ideal) x2 x3 x4 x5 x6 (ix2 a k) * x1 (ix1 k)

theorem mean_at (z : Fin 1) : val_main_v4 (F := Ideal) x0 (ix2 a z) = mean (line x0 a) := by
  pointwise [val_main_cst_0, val_main_v1, val_main_v2, val_main_cst_1, val_main_v3, val_main_v4]
  rfl

theorem centre_at : val_main_v15 (F := Ideal) x0 (ix2 a b) = centre (line x0 a) b := by
  pointwise [val_main_v14, val_main_v15, mean_at]
  rfl

theorem spread_at (z : Fin 1) : val_main_v17 (F := Ideal) x0 (ix2 a z) = spread (line x0 a) := by
  pointwise [val_main_v5, val_main_v6, val_main_v7, val_main_cst_3, val_main_v10, val_main_v11, val_main_cst_4, val_main_v12, val_main_v13,
    val_main_cst_5, val_main_v16, val_main_v17, mean_at]
  rfl

theorem scale_at (z : Fin 1) : val_main_v18 (F := Ideal) x0 (ix2 a z) = scale (line x0 a) := by
  pointwise [val_main_v18, spread_at]
  rfl

theorem hat_at : val_main_v23 (F := Ideal) x0 (ix2 a b) = hat (line x0 a) b := by
  pointwise [val_main_v22, val_main_v23, centre_at, scale_at]
  rfl

theorem weight_at : val_main_v53 (F := Ideal) x1 x2 x3 x4 x5 x6 (ix2 a b) = weight x1 x2 x3 x4 x5 x6 a b := by
  pointwise [val_main_v24, val_main_v52, val_main_v53]

theorem scaled_at : val_main_v59 (F := Ideal) x0 x1 x2 x3 x4 x5 x6 (ix2 a b) = weight x1 x2 x3 x4 x5 x6 a b * scale (line x0 a) := by
  pointwise [val_main_v58, val_main_v59, weight_at, scale_at]

theorem through_at : val_main_v68 (F := Ideal) x0 x1 x2 x3 x4 x5 x6 (ix2 a b) = through (line x0 a) (weight x1 x2 x3 x4 x5 x6 a) b := by
  pointwise [val_main_cst_2, val_main_v5, val_main_v6, val_main_v8, val_main_v9, val_main_v19, val_main_cst_6, val_main_v20, val_main_v21,
    val_main_v55, val_main_cst_13, val_main_v56, val_main_v57, val_main_v60, val_main_cst_15, val_main_v64, val_main_v65, val_main_cst_16,
    val_main_v66, val_main_v67, val_main_v68, mean_at, spread_at, scale_at, centre_at, weight_at]
  simp only [univ_unique, sum_singleton]
  rfl

theorem derived_at : val_main_v78 (F := Ideal) x0 x1 x2 x3 x4 x5 x6 (ix2 a b) = derived (line x0 a) (weight x1 x2 x3 x4 x5 x6 a) b := by
  pointwise [val_main_v61, val_main_cst_14, val_main_v62, val_main_v63, val_main_v69, val_main_cst_17, val_main_v70, val_main_v71, val_main_v72,
    val_main_v73, val_main_cst_18, val_main_v74, val_main_v75, val_main_cst_19, val_main_v76, val_main_v77, val_main_v78, scaled_at, through_at]
  simp only [univ_unique, sum_singleton]
  rfl

/-- The cotangent of the norm's output: the residual path, the gate's product, the four shards of the up projection. -/
theorem cot_at : val_main_v45 (F := Ideal) x2 x3 x4 x5 x6 (ix2 a b) =
    (alpha * x2 (ix2 a b) + ∑ k : Fin 1024, x5 (ix2 a k) * x6 (ix2 b k) + ∑ k : Fin 1024, x3 (ix2 a (⟨k, by omega⟩ : Fin 4096)) * x4 (ix3 0 b k)
      + ∑ k : Fin 1024, x3 (ix2 a (⟨1024 + k, by omega⟩ : Fin 4096)) * x4 (ix3 1 b k)
      + ∑ k : Fin 1024, x3 (ix2 a (⟨2048 + k, by omega⟩ : Fin 4096)) * x4 (ix3 2 b k)
      + ∑ k : Fin 1024, x3 (ix2 a (⟨3072 + k, by omega⟩ : Fin 4096)) * x4 (ix3 3 b k) : EReal) := by
  have hw : ∀ k : Fin 4096, val_main_v34 (F := Ideal) x4 (ix2 b k) = x4 (ix3 (⟨k.val / 1024, by omega⟩ : Fin 4) b (⟨k.val % 1024, by omega⟩ : Fin 1024)) := fun k => by
    pointwise [val_main_v32, val_main_v33, val_main_v34]
  pointwise [val_main_v36, val_main_v38, val_main_v39, val_main_v40, val_main_v41, val_main_v42, val_main_cst_8, val_main_v43, val_main_v44, val_main_v45, hw]
  have hq : ∀ (s : Fin 4) (k : Fin 1024), x4 (ix3 (⟨(1024 * s.val + k.val) / 1024, by omega⟩ : Fin 4) b (⟨(1024 * s.val + k.val) % 1024, by omega⟩ : Fin 1024)) =
      x4 (ix3 s b k) := fun s k => by
    congr 2
    · exact Fin.ext (by show (1024 * s.val + k.val) / 1024 = s.val; omega)
    · exact Fin.ext (by show (1024 * s.val + k.val) % 1024 = k.val; omega)
  rw [sum_blocks (n := 4) (w := 1024) (N := 4096) rfl]
  simp only [hq]
  rw [Fin.sum_univ_four]
  simp only [Fin.val_zero, Fin.val_one, Fin.val_two, mul_zero, zero_add, mul_one, show 1024 * 2 = 2048 from rfl,
    show 1024 * (3 : Fin 4).val = 3072 from rfl]
  rw [add_comm _ (Ideal.ofBits .f32 0x3F9837F0#32 * _)]
  simp only [add_assoc]

/-- The gradients of the gain and of the bias: columns summed over all the rows. -/
theorem gain_at : val_main_v54 (F := Ideal) x0 x2 x3 x4 x5 x6 (ix1 b) =
    ∑ y : Fin 2048, val_main_v45 (F := Ideal) x2 x3 x4 x5 x6 (ix2 y b) * hat (line x0 y) b := by
  pointwise [val_main_v49, val_main_cst_11, val_main_v50, val_main_v51, val_main_cst_12, val_main_v54, hat_at]
  simp only [univ_unique, sum_singleton, mul_comm]

theorem bias_at : val_main_v48 (F := Ideal) x2 x3 x4 x5 x6 (ix1 b) = ∑ y : Fin 2048, val_main_v45 (F := Ideal) x2 x3 x4 x5 x6 (ix2 y b) := by
  pointwise [val_main_cst_9, val_main_v46, val_main_v47, val_main_cst_10, val_main_v48]
  simp only [univ_unique, sum_singleton]

theorem rows_at (r : Fin 8) : val_main_v83 (F := Ideal) x0 x2 x3 x4 x5 x6 (ix2 r b) =
    if r.val = 0 then val_main_v54 (F := Ideal) x0 x2 x3 x4 x5 x6 (ix1 b) else if r.val = 1 then val_main_v48 (F := Ideal) x2 x3 x4 x5 x6 (ix1 b) else 0 := by
  pointwise [val_main_v80, val_main_v81, val_main_cst_20, val_main_v82, val_main_v83]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]

end Cert.Proof.MidRef

end

end
-- ==== Proof.Mid.lean ====
module

public import proofs.«01_k».proof.Defs
public import proofs.«01_k».proof.Proof.Gen.MidRefIdeal.Run
public import proofs.«01_k».proof.Proof.MidPoint
public import proofs.«01_k».proof.Proof.MidRef
public import proofs.«01_k».proof.Proof.Finite
public import Idealize.ShloMosaic.Lib.StableHlo.RunRead
public import Idealize.ShloMosaic.Lib.Tactic.CleanTypes

/-! The gradient through the norm in the middle of the layer: what the kernel's run leaves is what the reference gives. -/

@[expose] public section

set_option maxRecDepth 16384

noncomputable section

namespace Cert.Proof.Mid

open Idealize.ShloMosaic Idealize.ShloMosaic.TcCoe Idealize.ShloMosaic.Tactic Idealize.SL.Sem
open Cert.MidIdeal Cert.MidIdeal.Gen Cert.Stores Cert.Norm Cert.Proof.MidRef Finset
open Cert.MidRefIdeal.Read (val_main_v23 val_main_v45 val_main_v48 val_main_v54 val_main_v78 val_main_v79 val_main_v83)

local instance : Cert.MidIdeal.Facts := Cert.MidIdeal.Gen.facts
local instance : Cert.MidRefIdeal.Facts := Cert.MidRefIdeal.Gen.facts

/-- Every window's block at every point. -/
theorem idx : ∀ t : Fin cfg0.N, win0_0.index t = ![t.val, 0] ∧ win0_1.index t = ![t.val, 0] ∧ win0_2.index t = ![0, 0, 0] ∧
    win0_3.index t = ![t.val, 0] ∧ win0_4.index t = ![0, 0] ∧ win0_5.index t = ![t.val, 0] ∧ win0_6.index t = ![t.val, 0] ∧
    win0_7.index t = ![0, 0] ∧ win0_8.index t = ![t.val, 0] ∧ win0_9.index t = ![t.val, 0] ∧ win0_10.index t = ![0, 0] :=
  (by decide +kernel : ∀ t : Fin grid0.N, _)

variable (m : (ℓ : Loc nD τ sig) → Buf (Elt Ideal) ℓ) (c : Dev nD)

/-- The inverse deviations over 128 lanes, and a vector as one row, as the host gives them. -/
abbrev lanes (x : FVec Ideal S2048x1024 .f32) : FVec Ideal S2048x128 .f32 :=
  broadcastInDim S2048x128 ![0, 1] (by decide) (Cert.MidRefIdeal.Read.val_main_v18 (F := Ideal) x)
abbrev row (x : FVec Ideal S1024 .f32) : FVec Ideal S1x1024 .f32 := broadcastInDim S1x1024 ![1] (by decide) x

theorem V_hat : V m c main_v17 = val_main_v23 (F := Ideal) (m ((c : Thread nD τ).loc main_arg0)) := by
  unfold_abbrev_sides
  after_reads_simp
  rfl

theorem V_scale : V m c main_v18 = lanes (m ((c : Thread nD τ).loc main_arg0)) := by
  unfold_abbrev_sides
  after_reads_simp
  rfl

theorem V_gain : V m c main_v19 = row (m ((c : Thread nD τ).loc main_arg1)) := by
  unfold_abbrev_sides
  after_reads_simp

section

variable (t : Fin cfg0.N) (ht : t.val < 8) (a : Fin 256) (b k : Fin 1024)

include ht

/-- The row of the whole arrays that a point's row is. -/
abbrev place : Fin 2048 := ⟨256 * t.val + a, by omega⟩

theorem block0 : iblk m c 0 t (ix2 a k) = (m ((c : Thread nD τ).loc main_arg2)) (ix2 (place t ht a) k) := by
  blk_ext [iblk, V, idx t]

theorem block1 (n : Fin 4096) : iblk m c 1 t (ix2 a n) = (m ((c : Thread nD τ).loc main_arg3)) (ix2 (place t ht a) n) := by
  blk_ext [iblk, V, idx t]

omit ht in
theorem block2 (s : Fin 4) : iblk m c 2 t (ix3 s b k) = (m ((c : Thread nD τ).loc main_arg4)) (ix3 s b k) := by
  blk_ext [iblk, V, idx t]

theorem block3 : iblk m c 3 t (ix2 a k) = (m ((c : Thread nD τ).loc main_arg5)) (ix2 (place t ht a) k) := by
  blk_ext [iblk, V, idx t]

omit ht in
theorem block4 : iblk m c 4 t (ix2 b k) = (m ((c : Thread nD τ).loc main_arg6)) (ix2 b k) := by
  blk_ext [iblk, V, idx t]

theorem block5 : iblk m c 5 t (ix2 a k) = hat (line (m ((c : Thread nD τ).loc main_arg0)) (place t ht a)) k := by
  rw [← hat_at, ← V_hat m c]
  blk_ext [iblk, idx t]

theorem block6 : iblk m c 6 t (ix2 a 0) = scale (line (m ((c : Thread nD τ).loc main_arg0)) (place t ht a)) := by
  have h : iblk m c 6 t (ix2 a 0) = V m c main_v18 (ix2 (place t ht a) 0) := by blk_ext [iblk, idx t]
  rw [h, V_scale, ← scale_at _ _ 0]
  generalize (m ((c : Thread nD τ).loc main_arg0)) = x
  pointwise [lanes]

omit ht in
theorem block7 : iblk m c 7 t (ix2 0 k) = (m ((c : Thread nD τ).loc main_arg1)) (ix1 k) := by
  have h : iblk m c 7 t (ix2 0 k) = V m c main_v19 (ix2 0 k) := by blk_ext [iblk, idx t]
  rw [h, V_gain]
  generalize (m ((c : Thread nD τ).loc main_arg1)) = x
  pointwise [row]

/-- The point's cotangent is the reference's. -/
theorem cot_block : cotAt m c t a b = val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 (place t ht a) b) := by
  rw [cot_at]
  simp only [cotAt, cot, block0 m c t ht, block1 m c t ht, block2, block3 m c t ht, block4]

end

/-- Every entry that the gradient reads is a real number. -/
structure Reals : Prop where
  h0 : ∀ i, IsReal ((m ((c : Thread nD τ).loc main_arg0)) i)
  h1 : ∀ i, IsReal ((m ((c : Thread nD τ).loc main_arg1)) i)
  h2 : ∀ i, IsReal ((m ((c : Thread nD τ).loc main_arg2)) i)
  h3 : ∀ i, IsReal ((m ((c : Thread nD τ).loc main_arg3)) i)
  h4 : ∀ i, IsReal ((m ((c : Thread nD τ).loc main_arg4)) i)
  h5 : ∀ i, IsReal ((m ((c : Thread nD τ).loc main_arg5)) i)
  h6 : ∀ i, IsReal ((m ((c : Thread nD τ).loc main_arg6)) i)

variable {m c} (hR : Reals m c)

include hR

theorem cot_real (a : Fin 2048) (b : Fin 1024) : IsReal (val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 a b)) := by
  rw [cot_at]
  exact .add (.add (.add (.add (.add (.mul alpha_real (hR.h2 _)) (.sum _ fun k => .mul (hR.h5 _) (hR.h6 _))) (.sum _ fun k => .mul (hR.h3 _) (hR.h4 _)))
    (.sum _ fun k => .mul (hR.h3 _) (hR.h4 _))) (.sum _ fun k => .mul (hR.h3 _) (hR.h4 _))) (.sum _ fun k => .mul (hR.h3 _) (hR.h4 _))

/-- The point's gradient is the reference's. -/
theorem grad_block (t : Fin cfg0.N) (ht : t.val < 8) (a : Fin 256) (b : Fin 1024) :
    gradAt m c t a b = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (place t ht a) b) := by
  rw [derived_at, derived_eq_direct b (fun k => hR.h0 _) fun k => .mul (cot_real hR _ _) (hR.h1 _)]
  have hc := cot_block m c t ht a
  simp only [cotAt] at hc
  simp only [gradAt, grad, hc, block5 m c t ht, block6 m c t ht, block7, direct]

theorem grad_out (t : Fin cfg0.N) (ht : t.val < 8) (a : Fin 256) (b : Fin 1024) :
    (outsAt0 m c t.val t.isLt).1 (ix2 a b) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (place t ht a) b) := by
  refine Eq.trans ?_ (grad_block hR t ht a b)
  by_cases h : t.val % 8 = 0
  · exact gradA m c t h a b
  · exact gradB m c t h a b

theorem half_out (t : Fin cfg0.N) (ht : t.val < 8) (a : Fin 256) (b : Fin 1024) :
    (outsAt0 m c t.val t.isLt).2.1 (ix2 a b) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (place t ht a) b) := by
  refine Eq.trans ?_ (grad_block hR t ht a b)
  by_cases h : t.val % 8 = 0
  · exact gradHalfA m c t h a b
  · exact gradHalfB m c t h a b

omit hR

variable (m c)

/-- What the point `s` adds to the block of sums. -/
def share (r : Fin 8) (b : Fin 1024) (s : ℕ) : EReal := if h : s < cfg0.N then addedAt m c ⟨s, h⟩ r b else 0

theorem sums_upto (r : Fin 8) (b : Fin 1024) : ∀ (n : ℕ) (hn : n < cfg0.N), (outsAt0 m c n hn).2.2 (ix2 r b) = ∑ s ∈ range (n + 1), share m c r b s
  | 0, hn => by
    rw [sum_range_one, share, dif_pos hn]
    exact sumsA m c ⟨0, hn⟩ rfl r b
  | n + 1, hn => by
    have h8 : n + 1 < 8 := hn
    rw [sum_range_succ, ← sums_upto r b n (by omega), share, dif_pos hn]
    exact sumsB m c ⟨n + 1, hn⟩ (by show ¬(n + 1) % 8 = 0; omega) _ r b

/-- The block of sums after the last point. -/
theorem sums_out (r : Fin 8) (b : Fin 1024) (n : ℕ) (h7 : n = 7) (hn : n < cfg0.N) : (outsAt0 m c n hn).2.2 (ix2 r b) =
    val_main_v83 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix2 r b) := by
  subst h7
  have h5 : ∀ (s : Fin 8) (y : Fin 256) (k : Fin 1024), iblk m c 5 s (ix2 y k) = hat (line (m ((c : Thread nD τ).loc main_arg0)) (place s s.isLt y)) k := fun s y k => block5 m c s s.isLt y k
  have hc : ∀ (s : Fin 8) (y : Fin 256), cotAt m c s y b = val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 (place s s.isLt y) b) :=
    fun s y => cot_block m c s s.isLt y b
  have hs : ∀ s : Fin 8, share m c r b s = addedAt m c s r b := fun s => dif_pos s.isLt
  rw [sums_upto, rows_at, gain_at, bias_at, sum_range (n := 8)]
  simp only [cotAt] at hc
  simp only [hs, addedAt, added, h5, hc]
  split_ifs
  · exact (sum_blocks (n := 8) (w := 256) rfl fun y : Fin 2048 => val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 y b) * hat (line (m ((c : Thread nD τ).loc main_arg0)) y) b).symm
  · exact (sum_blocks (n := 8) (w := 256) rfl fun y : Fin 2048 => val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 y b)).symm
  · exact sum_const_zero

/-- The array of the sums after the kernel's run. -/
theorem array10 : (dats m 0 c).arrAt 10 cfg0.N = val_main_v83 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have ht : t.val < 8 := t.isLt
  have h7 : t.val % 8 = 7 := (flush0_10 t).mp hf
  blk_simp
  rw [after0_10]
  obtain ⟨a, b, rfl⟩ : ∃ (a : Fin 8) (b : Fin 1024), y = ix2 a b := ⟨y 0, y 1, (ix2_eta y).symm⟩
  refine (sums_out m c a b t.val (by omega) t.isLt).trans (congrArg _ ?_)
  blk_ext [idx t]

variable {m c}

include hR

/-- The arrays of the gradient after the kernel's run. -/
theorem array8 : (dats m 0 c).arrAt 8 cfg0.N = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht : t.val < 8 := t.isLt
  blk_simp
  rw [after0_8]
  obtain ⟨a, b, rfl⟩ : ∃ (a : Fin 256) (b : Fin 1024), y = ix2 a b := ⟨y 0, y 1, (ix2_eta y).symm⟩
  refine (grad_out hR t ht a b).trans (congrArg _ ?_)
  blk_ext [idx t]

theorem array9 : (dats m 0 c).arrAt 9 cfg0.N = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht : t.val < 8 := t.isLt
  blk_simp
  rw [after0_9]
  obtain ⟨a, b, rfl⟩ : ∃ (a : Fin 256) (b : Fin 1024), y = ix2 a b := ⟨y 0, y 1, (ix2_eta y).symm⟩
  refine (half_out hR t ht a b).trans (congrArg (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ?_)
  blk_ext [idx t]

omit hR

/-- The reference ends with its arguments kept. -/
theorem frame_reference : Cert.quiescent_MidRefIdeal := fun m ρ _ =>
  (θ_run Cert.MidRefIdeal.defs _ _).mono (fun r h => ⟨fun c => (h c).2.2.2, sem_eq_zero_of_no_sems (by decide) r.2⟩)
    (Cert.MidRefIdeal.Value.run (F := Ideal) m ρ)

/-- The side conditions the precondition's text states. -/
theorem facts : Cert.Pre_finite_mid.Facts := ⟨by decide, by decide, by decide, by decide, by decide⟩

theorem reals [Cert.Pre_finite_mid.Facts] (h : Cert.Pre_MidIdeal_finite_mid m) : Reals m c :=
  ⟨fun i => Finite.isReal (congrFun (h c).1 i), fun i => Finite.isReal (congrFun (h c).2.1 i), fun i => Finite.isReal (congrFun (h c).2.2.1 i),
    fun i => Finite.isReal_half (congrFun (h c).2.2.2.1 i), fun i => Finite.isReal_half (congrFun (h c).2.2.2.2.1 i),
    fun i => Finite.isReal_half (congrFun (h c).2.2.2.2.2.1 i), fun i => Finite.isReal_half (congrFun (h c).2.2.2.2.2.2 i)⟩

/-- The ideal kernel computes what the reference does, on finite arrays. -/
theorem algebraic [Cert.Pre_finite_mid.Facts] : Cert.algebraic_MidIdeal_MidRefIdeal_pre_finite_mid := by
  intro m g m' g' hpre hargs
  refine ⟨fun c => val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => val_main_v83 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run Cert.MidIdeal.defs _ _).mono (fun r h c => ?_) (Cert.MidIdeal.Value.run_blocks (F := Ideal) m g)
    obtain ⟨h8, h9, h10, h⟩ := h c
    exact ⟨h8.trans (array8 (reals hpre)), h9.trans (array9 (reals hpre)), h10.trans (array10 m c), h⟩
  · refine (θ_run Cert.MidRefIdeal.defs _ _).mono (fun r h c => ?_) (Cert.MidRefIdeal.Value.run (F := Ideal) m' g')
    obtain ⟨h0, h1, h2, h⟩ := h c
    obtain ⟨e0, e1, e2, e3, e4, e5, e6⟩ := hargs c
    rw [Cert.MidRefIdeal.Read.val_main_v78_eq, e0, e1, e2, e3, e4, e5, e6] at h0
    rw [Cert.MidRefIdeal.Read.val_main_v79_eq, e0, e1, e2, e3, e4, e5, e6] at h1
    rw [Cert.MidRefIdeal.Read.val_main_v83_eq, e0, e2, e3, e4, e5, e6] at h2
    exact ⟨h0, h1, h2, h⟩

end Cert.Proof.Mid

end

end
-- ==== Proof.LeavePoint.lean ====
module

public import proofs.«01_k».proof.Proof.Gen.LeaveIdeal.Value
public import proofs.«01_k».proof.Proof.Stores
public import proofs.«01_k».proof.Proof.Norm

/-! One point of the gradient through the norm at the layer's entry. -/

@[expose] public section

set_option maxRecDepth 16384

noncomputable section

namespace Cert.Proof.Leave

open Idealize.ShloMosaic Idealize.ShloMosaic.TcCoe Idealize.ShloMosaic.Tactic
open Cert.LeaveIdeal Cert.LeaveIdeal.Gen Cert.Stores Cert.Norm Finset

local instance : Cert.LeaveIdeal.Facts := Cert.LeaveIdeal.Gen.facts

section

variable (x0 x1 x2 : Vec Ideal S256x1024 .f32) (x3 : Vec Ideal S1x1024 .f32) (a : Fin 256) (b : Fin 1024)

/-- The cotangent of the norm's output, a row of the input, and the cotangent of the normalised row, in one point's blocks. -/
abbrev cot : EReal := alpha * x1 (ix2 a b) + x2 (ix2 a b)
abbrev line : Fin 1024 → EReal := fun k => x0 (ix2 a k)
abbrev weight : Fin 1024 → EReal := fun k => cot x1 x2 a k * x3 (ix2 0 k)

theorem cot_here : k0_pay5 (F := Ideal) x1 x2 (ix2 a b) = cot x1 x2 a b := by
  pointwise [k0_pay5]

theorem centre_here : k0_pay6 (F := Ideal) x0 (ix2 a b) = centre (line x0 a) b := by
  pointwise [k0_pay6]
  rfl

theorem scale_here : k0_pay7 (F := Ideal) x0 (ix2 a 0) = scale (line x0 a) := by
  pointwise [k0_pay7, centre_here]
  rfl

theorem hat_here : k0_pay8 (F := Ideal) x0 (ix2 a b) = hat (line x0 a) b := by
  pointwise [k0_pay8, centre_here, scale_here]
  rfl

theorem weight_here : k0_pay9 (F := Ideal) x1 x2 x3 (ix2 a b) = weight x1 x2 x3 a b := by
  pointwise [k0_pay9, cot_here]

theorem mean_here : k0_pay10 (F := Ideal) x1 x2 x3 (ix2 a 0) = mean (weight x1 x2 x3 a) := by
  pointwise [k0_pay10, weight_here]
  rfl

theorem cross_here : k0_pay11 (F := Ideal) x1 x2 x0 x3 (ix2 a 0) = mean (fun k => weight x1 x2 x3 a k * hat (line x0 a) k) := by
  pointwise [k0_pay11, weight_here, hat_here]
  rfl

/-- What the point leaves in the gradient's block. -/
theorem grad_here : k0_pay1 (F := Ideal) (k0_pay7 x0) (k0_pay8 x0) (k0_pay9 x1 x2 x3) (k0_pay10 x1 x2 x3) (k0_pay11 x1 x2 x0 x3) (ix2 a b) =
    direct (line x0 a) (weight x1 x2 x3 a) b := by
  pointwise [k0_pay1, scale_here, hat_here, weight_here, mean_here, cross_here]
  rfl

/-- What the point adds to a row of the block of sums: the gain's gradient in row 0, the bias's in row 1, nothing in the others. -/
def added (r : Fin 8) (b : Fin 1024) : EReal :=
  if r.val = 0 then ∑ y : Fin 256, cot x1 x2 y b * hat (line x0 y) b else if r.val = 1 then ∑ y : Fin 256, cot x1 x2 y b else 0

/-- The two rows that a point stores, over a block `X`. -/
theorem rows {f : List (View.Piece (Elt Ideal) S8x1024 .f32) → S8x1024.Idx → Elt Ideal .f32} (hf : Reads f)
    (X : FVec Ideal S8x1024 .f32) (L : List (View.Piece (Elt Ideal) S8x1024 .f32)) (hL : ∀ (r : Fin 8) (b : Fin 1024), f L (ix2 r b) = X (ix2 r b))
    (r : Fin 8) (b : Fin 1024) :
    f (⟨Rect.unit ![1, 0] ![1, 1024] inb_S8x1024_S1x1024_1_0, k0_pay3 (k0_pay5 x1 x2)
        (View.ld (Val := Elt Ideal) (e' := .f32) X (Rect.unit ![1, 0] ![1, 1024] inb_S8x1024_S1x1024_1_0))⟩ ::
      ⟨Rect.unit ![0, 0] ![1, 1024] inb_S8x1024_S1x1024_0_0, k0_pay2 (k0_pay5 x1 x2) (k0_pay8 x0)
        (View.ld (Val := Elt Ideal) (e' := .f32) X (Rect.unit ![0, 0] ![1, 1024] inb_S8x1024_S1x1024_0_0))⟩ :: L) (ix2 r b) =
    X (ix2 r b) + added x0 x1 x2 r b := by
  refine hf.block _ _ _ r b _ (fun x y hr hb => ?_) fun h1 => hf.block _ _ _ r b _ (fun x y hr hb => ?_) fun h0 => ?_
  · obtain rfl : b = y := Fin.ext (by omega)
    obtain rfl : x = 0 := Subsingleton.elim _ _
    obtain rfl : r = 1 := Fin.ext hr
    rw [added, if_neg (by decide), if_pos (by rfl)]
    pointwise [k0_pay3, cot_here]
  · obtain rfl : b = y := Fin.ext (by omega)
    obtain rfl : x = 0 := Subsingleton.elim _ _
    obtain rfl : r = 0 := Fin.ext hr
    rw [added, if_pos (by rfl)]
    pointwise [k0_pay2, cot_here, hat_here]
  · rw [added, if_neg (by omega), if_neg (by omega), add_zero]
    exact hL r b

end

variable (m : (ℓ : Loc nD τ sig) → Buf (Elt Ideal) ℓ) (c : Dev nD) (t : Fin cfg0.N)

abbrev gradAt (a : Fin 256) (b : Fin 1024) : EReal :=
  direct (line (iblk m c 0 t) a) (weight (iblk m c 1 t) (iblk m c 2 t) (iblk m c 3 t) a) b

theorem gradA (h : t.val % 8 = 0) (a : Fin 256) (b : Fin 1024) : (outsAt0 m c t.val t.isLt).1 (ix2 a b) = gradAt m c t a b := by
  rw [outsAt0_A m c t h]
  dsimp only
  frame_open
  frame_out
  exact grad_here _ _ _ _ a b

theorem gradB (h : ¬t.val % 8 = 0) (a : Fin 256) (b : Fin 1024) : (outsAt0 m c t.val t.isLt).1 (ix2 a b) = gradAt m c t a b := by
  rw [outsAt0_B m c t h]
  dsimp only
  frame_open
  frame_out
  exact grad_here _ _ _ _ a b

abbrev addedAt (r : Fin 8) (b : Fin 1024) : EReal := added (iblk m c 0 t) (iblk m c 1 t) (iblk m c 2 t) r b

theorem sumsA (h : t.val % 8 = 0) (r : Fin 8) (b : Fin 1024) : (outsAt0 m c t.val t.isLt).2 (ix2 r b) = addedAt m c t r b := by
  rw [outsAt0_A m c t h]
  dsimp only
  frame_open
  simp (disch := decide) only [↓ View.readCov_skip, ↓ View.readCov_cons_toLoadRect, ↓ View.readCov_fill]
  frame_out
  refine (rows _ _ _ reads_canon k0_pay4 _ (fun r b => reads_canon.strip _ _ _ _ _ _ (by omega)
    (fun y hy => by rw [show b = y from Fin.ext (by omega)]) fun hl => absurd hl (Nat.not_lt_zero _)) r b).trans ?_
  rw [show (k0_pay4 : FVec Ideal S8x1024 .f32) (ix2 r b) = 0 by pointwise [k0_pay4], zero_add]

theorem sumsB (h : ¬t.val % 8 = 0) (hlt : t.val - 1 < cfg0.N) (r : Fin 8) (b : Fin 1024) :
    (outsAt0 m c t.val t.isLt).2 (ix2 r b) = (outsAt0 m c (t.val - 1) hlt).2 (ix2 r b) + addedAt m c t r b := by
  rw [outsAt0_B m c t h]
  dsimp only
  frame_open
  simp (disch := decide) only [↓ View.readCov_skip, ↓ View.readCov_cons_toLoadRect, ↓ View.readCov_fill]
  frame_out
  refine rows _ _ _ (reads_writes _ _) _ _ (fun r b => ?_) r b
  rw [View.writes_nil]
  exact congrFun (Memref.IsWhole.read_unread _ _) _

end Cert.Proof.Leave

end

end
-- ==== Proof.LeaveRef.lean ====
module

public import proofs.«01_k».proof.Proof.Gen.LeaveRefIdeal.Read
public import proofs.«01_k».proof.Proof.Norm
public import Idealize.ShloMosaic.Lib.Pointwise

/-! The reference's gradient through the norm at the layer's entry, read at an index. -/

@[expose] public section

set_option maxRecDepth 16384

noncomputable section

namespace Cert.Proof.LeaveRef

open Idealize.ShloMosaic Idealize.ShloMosaic.TcCoe Idealize.ShloMosaic.Tactic
open Cert.LeaveRefIdeal Cert.LeaveRefIdeal.Gen Cert.LeaveRefIdeal.Read Cert.Norm Finset

local instance : Cert.LeaveRefIdeal.Facts := Cert.LeaveRefIdeal.Gen.facts

variable (x0 : FVec Ideal S2048x1024 .f32) (x1 : FVec Ideal S1024 .f32) (x2 x3 : FVec Ideal S2048x1024 .f32) (a : Fin 2048) (b : Fin 1024)

/-- The cotangent of the norm's output, a row of the input, and the cotangent of the normalised row. -/
abbrev cot : EReal := alpha * x2 (ix2 a b) + x3 (ix2 a b)
abbrev line : Fin 1024 → EReal := fun k => x0 (ix2 a k)
abbrev weight : Fin 1024 → EReal := fun k => cot x2 x3 a k * x1 (ix1 k)

theorem mean_at (z : Fin 1) : val_main_v4 (F := Ideal) x0 (ix2 a z) = mean (line x0 a) := by
  pointwise [val_main_cst_0, val_main_v1, val_main_v2, val_main_cst_1, val_main_v3, val_main_v4]
  rfl

theorem centre_at : val_main_v15 (F := Ideal) x0 (ix2 a b) = centre (line x0 a) b := by
  pointwise [val_main_v14, val_main_v15, mean_at]
  rfl

theorem spread_at (z : Fin 1) : val_main_v17 (F := Ideal) x0 (ix2 a z) = spread (line x0 a) := by
  pointwise [val_main_v5, val_main_v6, val_main_v7, val_main_cst_3, val_main_v10, val_main_v11, val_main_cst_4, val_main_v12, val_main_v13,
    val_main_cst_5, val_main_v16, val_main_v17, mean_at]
  rfl

theorem scale_at (z : Fin 1) : val_main_v18 (F := Ideal) x0 (ix2 a z) = scale (line x0 a) := by
  pointwise [val_main_v18, spread_at]
  rfl

theorem hat_at : val_main_v23 (F := Ideal) x0 (ix2 a b) = hat (line x0 a) b := by
  pointwise [val_main_v22, val_main_v23, centre_at, scale_at]
  rfl

theorem cot_at : val_main_v35 (F := Ideal) x2 x3 (ix2 a b) = cot x2 x3 a b := by
  pointwise [val_main_cst_8, val_main_v32, val_main_v33, val_main_v34, val_main_v35]
  rw [add_comm]

theorem cot_at' : val_main_v34 (F := Ideal) x2 x3 (ix2 a b) = cot x2 x3 a b := by
  pointwise [val_main_cst_8, val_main_v32, val_main_v33, val_main_v34]
  rw [add_comm]

theorem weight_at : val_main_v43 (F := Ideal) x1 x2 x3 (ix2 a b) = weight x1 x2 x3 a b := by
  pointwise [val_main_v24, val_main_v42, val_main_v43, cot_at]

theorem scaled_at : val_main_v49 (F := Ideal) x0 x1 x2 x3 (ix2 a b) = weight x1 x2 x3 a b * scale (line x0 a) := by
  pointwise [val_main_v48, val_main_v49, weight_at, scale_at]

theorem through_at : val_main_v58 (F := Ideal) x0 x1 x2 x3 (ix2 a b) = through (line x0 a) (weight x1 x2 x3 a) b := by
  pointwise [val_main_cst_2, val_main_v5, val_main_v6, val_main_v8, val_main_v9, val_main_v19, val_main_cst_6, val_main_v20, val_main_v21,
    val_main_v45, val_main_cst_13, val_main_v46, val_main_v47, val_main_v50, val_main_cst_15, val_main_v54, val_main_v55, val_main_cst_16,
    val_main_v56, val_main_v57, val_main_v58, mean_at, spread_at, scale_at, centre_at, weight_at]
  simp only [univ_unique, sum_singleton]
  rfl

theorem derived_at : val_main_v68 (F := Ideal) x0 x1 x2 x3 (ix2 a b) = derived (line x0 a) (weight x1 x2 x3 a) b := by
  pointwise [val_main_v51, val_main_cst_14, val_main_v52, val_main_v53, val_main_v59, val_main_cst_17, val_main_v60, val_main_v61, val_main_v62,
    val_main_v63, val_main_cst_18, val_main_v64, val_main_v65, val_main_cst_19, val_main_v66, val_main_v67, val_main_v68, scaled_at, through_at]
  simp only [univ_unique, sum_singleton]
  rfl

/-- The gradients of the gain and of the bias: columns summed over all the rows. -/
theorem gain_at : val_main_v44 (F := Ideal) x0 x2 x3 (ix1 b) = ∑ y : Fin 2048, cot x2 x3 y b * hat (line x0 y) b := by
  pointwise [val_main_v39, val_main_cst_11, val_main_v40, val_main_v41, val_main_cst_12, val_main_v44, hat_at, cot_at]
  simp only [univ_unique, sum_singleton, mul_comm (hat _ _)]

theorem bias_at : val_main_v38 (F := Ideal) x2 x3 (ix1 b) = ∑ y : Fin 2048, cot x2 x3 y b := by
  pointwise [val_main_cst_9, val_main_v36, val_main_v37, val_main_cst_10, val_main_v38, cot_at']
  simp only [univ_unique, sum_singleton]

theorem rows_at (r : Fin 8) : val_main_v72 (F := Ideal) x0 x2 x3 (ix2 r b) =
    if r.val = 0 then ∑ y : Fin 2048, cot x2 x3 y b * hat (line x0 y) b else if r.val = 1 then ∑ y : Fin 2048, cot x2 x3 y b else 0 := by
  rw [← gain_at, ← bias_at]
  pointwise [val_main_v69, val_main_v70, val_main_cst_20, val_main_v71, val_main_v72]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]

end Cert.Proof.LeaveRef

end

end
-- ==== Proof.Leave.lean ====
module

public import proofs.«01_k».proof.Defs
public import proofs.«01_k».proof.Proof.Gen.LeaveRefIdeal.Run
public import proofs.«01_k».proof.Proof.LeavePoint
public import proofs.«01_k».proof.Proof.LeaveRef
public import proofs.«01_k».proof.Proof.Finite
public import Idealize.ShloMosaic.Lib.StableHlo.RunRead
public import Idealize.ShloMosaic.Lib.Tactic.CleanTypes

/-! The gradient through the norm at the layer's entry: what the kernel's run leaves is what the reference gives. -/

@[expose] public section

set_option maxRecDepth 16384

noncomputable section

namespace Cert.Proof.Leave

open Idealize.ShloMosaic Idealize.ShloMosaic.TcCoe Idealize.ShloMosaic.Tactic Idealize.SL.Sem
open Cert.LeaveIdeal Cert.LeaveIdeal.Gen Cert.Stores Cert.Norm Finset
open Cert.LeaveRefIdeal.Read (val_main_v68 val_main_v72)

local instance : Cert.LeaveIdeal.Facts := Cert.LeaveIdeal.Gen.facts
local instance : Cert.LeaveRefIdeal.Facts := Cert.LeaveRefIdeal.Gen.facts

/-- Every window's block at every point. -/
theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- A vector as one row, as the host gives it. -/
abbrev row (x : FVec Ideal S1024 .f32) : FVec Ideal S1x1024 .f32 := broadcastInDim S1x1024 ![1] (by decide) x

theorem V_gain : V m c main_v0 = row (m ((c : Thread nD τ).loc main_arg1)) := by
  unfold_abbrev_sides
  after_reads_simp

section

variable (t : Fin cfg0.N) (ht : t.val < 8) (a : Fin 256) (k : Fin 1024)

include ht

/-- The row of the whole arrays that a point's row is. -/
abbrev place : Fin 2048 := ⟨256 * t.val + a, by omega⟩

theorem block0 : iblk m c 0 t (ix2 a k) = (m ((c : Thread nD τ).loc main_arg0)) (ix2 (place t ht a) k) := by
  blk_ext [iblk, V, idx t]

theorem block1 : iblk m c 1 t (ix2 a k) = (m ((c : Thread nD τ).loc main_arg2)) (ix2 (place t ht a) k) := by
  blk_ext [iblk, V, idx t]

theorem block2 : iblk m c 2 t (ix2 a k) = (m ((c : Thread nD τ).loc main_arg3)) (ix2 (place t ht a) k) := by
  blk_ext [iblk, V, idx t]

theorem line_block : line (iblk m c 0 t) a = LeaveRef.line (m ((c : Thread nD τ).loc main_arg0)) (place t ht a) := funext fun k => block0 m c t ht a k

theorem cot_block : cot (iblk m c 1 t) (iblk m c 2 t) a k = LeaveRef.cot (m ((c : Thread nD τ).loc main_arg2)) (m ((c : Thread nD τ).loc main_arg3)) (place t ht a) k := by
  simp only [cot, LeaveRef.cot, block1 m c t ht, block2 m c t ht]

omit ht in
theorem block3 : iblk m c 3 t (ix2 0 k) = (m ((c : Thread nD τ).loc main_arg1)) (ix1 k) := by
  have h : iblk m c 3 t (ix2 0 k) = V m c main_v0 (ix2 0 k) := by blk_ext [iblk, idx t]
  rw [h, V_gain]
  generalize (m ((c : Thread nD τ).loc main_arg1)) = x
  pointwise [row]

end

theorem weight_block (t : Fin cfg0.N) (ht : t.val < 8) (a : Fin 256) :
    weight (iblk m c 1 t) (iblk m c 2 t) (iblk m c 3 t) a = LeaveRef.weight (m ((c : Thread nD τ).loc main_arg1)) (m ((c : Thread nD τ).loc main_arg2)) (m ((c : Thread nD τ).loc main_arg3)) (place t ht a) := by
  refine funext fun k => ?_
  show cot (iblk m c 1 t) (iblk m c 2 t) a k * iblk m c 3 t (ix2 0 k) = _
  rw [cot_block m c t ht, block3]

/-- Every entry that the gradient reads is a real number. -/
structure Reals : Prop where
  h0 : ∀ i, IsReal ((m ((c : Thread nD τ).loc main_arg0)) i)
  h1 : ∀ i, IsReal ((m ((c : Thread nD τ).loc main_arg1)) i)
  h2 : ∀ i, IsReal ((m ((c : Thread nD τ).loc main_arg2)) i)
  h3 : ∀ i, IsReal ((m ((c : Thread nD τ).loc main_arg3)) i)

variable {m c} (hR : Reals m c)

include hR

/-- The point's gradient is the reference's. -/
theorem grad_block (t : Fin cfg0.N) (ht : t.val < 8) (a : Fin 256) (b : Fin 1024) :
    gradAt m c t a b = val_main_v68 (F := Ideal) (m ((c : Thread nD τ).loc main_arg0)) (m ((c : Thread nD τ).loc main_arg1)) (m ((c : Thread nD τ).loc main_arg2)) (m ((c : Thread nD τ).loc main_arg3)) (ix2 (place t ht a) b) := by
  rw [LeaveRef.derived_at, derived_eq_direct b (fun k => hR.h0 _) fun k => .mul (.add (.mul alpha_real (hR.h2 _)) (hR.h3 _)) (hR.h1 _)]
  rw [gradAt, line_block m c t ht, weight_block m c t ht]

theorem grad_out (t : Fin cfg0.N) (ht : t.val < 8) (a : Fin 256) (b : Fin 1024) :
    (outsAt0 m c t.val t.isLt).1 (ix2 a b) = val_main_v68 (F := Ideal) (m ((c : Thread nD τ).loc main_arg0)) (m ((c : Thread nD τ).loc main_arg1)) (m ((c : Thread nD τ).loc main_arg2)) (m ((c : Thread nD τ).loc main_arg3)) (ix2 (place t ht a) b) := by
  refine Eq.trans ?_ (grad_block hR t ht a b)
  by_cases h : t.val % 8 = 0
  · exact gradA m c t h a b
  · exact gradB m c t h a b

omit hR

variable (m c)

/-- What the point `s` adds to the block of sums. -/
def share (r : Fin 8) (b : Fin 1024) (s : ℕ) : EReal := if h : s < cfg0.N then addedAt m c ⟨s, h⟩ r b else 0

theorem sums_upto (r : Fin 8) (b : Fin 1024) : ∀ (n : ℕ) (hn : n < cfg0.N), (outsAt0 m c n hn).2 (ix2 r b) = ∑ s ∈ range (n + 1), share m c r b s
  | 0, hn => by
    rw [sum_range_one, share, dif_pos hn]
    exact sumsA m c ⟨0, hn⟩ rfl r b
  | n + 1, hn => by
    have h8 : n + 1 < 8 := hn
    rw [sum_range_succ, ← sums_upto r b n (by omega), share, dif_pos hn]
    exact sumsB m c ⟨n + 1, hn⟩ (by show ¬(n + 1) % 8 = 0; omega) _ r b

/-- The block of sums after the last point. -/
theorem sums_out (r : Fin 8) (b : Fin 1024) (n : ℕ) (h7 : n = 7) (hn : n < cfg0.N) : (outsAt0 m c n hn).2 (ix2 r b) =
    val_main_v72 (F := Ideal) (m ((c : Thread nD τ).loc main_arg0)) (m ((c : Thread nD τ).loc main_arg2)) (m ((c : Thread nD τ).loc main_arg3)) (ix2 r b) := by
  subst h7
  have hs : ∀ s : Fin 8, share m c r b s = addedAt m c s r b := fun s => dif_pos s.isLt
  have hl : ∀ (s : Fin 8) (y : Fin 256), line (iblk m c 0 s) y = LeaveRef.line (m ((c : Thread nD τ).loc main_arg0)) (place s s.isLt y) := fun s y => line_block m c s s.isLt y
  have hc : ∀ (s : Fin 8) (y : Fin 256), cot (iblk m c 1 s) (iblk m c 2 s) y b = LeaveRef.cot (m ((c : Thread nD τ).loc main_arg2)) (m ((c : Thread nD τ).loc main_arg3)) (place s s.isLt y) b := fun s y => cot_block m c s s.isLt y b
  rw [sums_upto, LeaveRef.rows_at, sum_range (n := 8)]
  simp only [hs, addedAt, added, hl, hc]
  split_ifs
  · exact (sum_blocks (n := 8) (w := 256) rfl fun y : Fin 2048 => LeaveRef.cot (m ((c : Thread nD τ).loc main_arg2)) (m ((c : Thread nD τ).loc main_arg3)) y b * hat (LeaveRef.line (m ((c : Thread nD τ).loc main_arg0)) y) b).symm
  · exact (sum_blocks (n := 8) (w := 256) rfl fun y : Fin 2048 => LeaveRef.cot (m ((c : Thread nD τ).loc main_arg2)) (m ((c : Thread nD τ).loc main_arg3)) y b).symm
  · exact sum_const_zero

/-- The array of the sums after the kernel's run. -/
theorem array5 : (dats m 0 c).arrAt 5 cfg0.N = val_main_v72 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  have ht : t.val < 8 := t.isLt
  have h7 : t.val % 8 = 7 := (flush0_5 t).mp hf
  blk_simp
  rw [after0_5]
  obtain ⟨a, b, rfl⟩ : ∃ (a : Fin 8) (b : Fin 1024), y = ix2 a b := ⟨y 0, y 1, (ix2_eta y).symm⟩
  refine (sums_out m c a b t.val (by omega) t.isLt).trans (congrArg _ ?_)
  blk_ext [idx t]

variable {m c}

include hR

/-- The array of the gradient after the kernel's run. -/
theorem array4 : (dats m 0 c).arrAt 4 cfg0.N = val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 8 := t.isLt
  blk_simp
  rw [after0_4]
  obtain ⟨a, b, rfl⟩ : ∃ (a : Fin 256) (b : Fin 1024), y = ix2 a b := ⟨y 0, y 1, (ix2_eta y).symm⟩
  refine (grad_out hR t ht a b).trans (congrArg _ ?_)
  blk_ext [idx t]

omit hR

/-- The reference ends with its arguments kept. -/
theorem frame_reference : Cert.quiescent_LeaveRefIdeal := fun m ρ _ =>
  (θ_run Cert.LeaveRefIdeal.defs _ _).mono (fun r h => ⟨fun c => (h c).2.2, sem_eq_zero_of_no_sems (by decide) r.2⟩)
    (Cert.LeaveRefIdeal.Value.run (F := Ideal) m ρ)

/-- The side conditions the precondition's text states. -/
theorem facts : Cert.Pre_finite_leave.Facts := ⟨by decide, by decide⟩

theorem reals [Cert.Pre_finite_leave.Facts] (h : Cert.Pre_LeaveIdeal_finite_leave m) : Reals m c :=
  ⟨fun i => Finite.isReal (congrFun (h c).1 i), fun i => Finite.isReal (congrFun (h c).2.1 i), fun i => Finite.isReal (congrFun (h c).2.2.1 i),
    fun i => Finite.isReal (congrFun (h c).2.2.2 i)⟩

/-- The ideal kernel computes what the reference does, on finite arrays. -/
theorem algebraic [Cert.Pre_finite_leave.Facts] : Cert.algebraic_LeaveIdeal_LeaveRefIdeal_pre_finite_leave := by
  intro m g m' g' hpre hargs
  refine ⟨fun c => val_main_v68 (F := Ideal) (m ((c : Thread nD τ).loc main_arg0)) (m ((c : Thread nD τ).loc main_arg1)) (m ((c : Thread nD τ).loc main_arg2)) (m ((c : Thread nD τ).loc main_arg3)), fun c => val_main_v72 (F := Ideal) (m ((c : Thread nD τ).loc main_arg0)) (m ((c : Thread nD τ).loc main_arg2)) (m ((c : Thread nD τ).loc main_arg3)), ?_, ?_⟩
  · refine (θ_run Cert.LeaveIdeal.defs _ _).mono (fun r h c => ?_) (Cert.LeaveIdeal.Value.run_blocks (F := Ideal) m g)
    obtain ⟨h4, h5, h⟩ := h c
    exact ⟨h4.trans (array4 (reals hpre)), h5.trans (array5 m c), h⟩
  · refine (θ_run Cert.LeaveRefIdeal.defs _ _).mono (fun r h c => ?_) (Cert.LeaveRefIdeal.Value.run (F := Ideal) m' g')
    obtain ⟨h0, h1, h⟩ := h c
    obtain ⟨e0, e1, e2, e3⟩ := hargs c
    rw [Cert.LeaveRefIdeal.Read.val_main_v68_eq, e0, e1, e2, e3] at h0
    replace h1 := h1.trans (Cert.LeaveRefIdeal.Read.val_main_v72_eq _ _ _)
    rw [e0, e2, e3] at h1
    exact ⟨h0, h1, h⟩

end Cert.Proof.Leave

end

end
-- ==== Proof.TailRow.lean ====
module

public import proofs.«01_k».proof.Proof.Norm

/-! The layer's last row: the gated embedding, the error of the normalised row, and its gradient, as functions of the rows they are made of. -/

@[expose] public section

set_option maxRecDepth 16384

noncomputable section

namespace Cert.Last

open Idealize.ShloMosaic Cert.Norm Finset

/-- The constants of the program: a half, and the mean's factor. -/
abbrev half : EReal := Ideal.ofBits .f32 0x3F000000#32
abbrev part : EReal := Ideal.ofBits .f32 0x3A800000#32

theorem half_eq : half = ((1 / 2 : ℝ) : EReal) := by
  simp [half, Ideal.ofBits, Ideal.ieee]
  rw [← EReal.coe_mul]
  norm_num

theorem part_eq : part = ((1 / 1024 : ℝ) : EReal) := by
  simp [part, Ideal.ofBits, Ideal.ieee]
  rw [← EReal.coe_mul]
  norm_num

/-- The derivative of half the mean square is the error times the mean's factor. -/
theorem factor (e : EReal) : Ideal.div (half * 1) wide * (two * e) = e * part := by
  rw [half_eq, ← EReal.coe_one, wide_eq, two_eq, part_eq, ← EReal.coe_mul, Ideal.div_coe (by norm_num), ← EReal.coe_mul, ← mul_assoc, ← EReal.coe_mul, mul_comm]
  norm_num

/-- The token's embedding, its gate, and the row that is normalised. -/
def embed (p : Fin 256 → EReal) (w : Fin 4 → Fin 256 → Fin 256 → EReal) (b : Fin 1024) : EReal :=
  ∑ k, p k * w ⟨b.val / 256, by omega⟩ k ⟨b.val % 256, by omega⟩
def gate (z : EReal) : EReal := Ideal.div 1 (1 + Ideal.exp (-z))

section

variable (x g bias target : Fin 1024 → EReal) (b : Fin 1024)

/-- The error of the normalised row, its scaled form, the cotangent of the normalised row, and the gradient. -/
def err : EReal := hat x b * g b + bias b - target b
def cot : EReal := err x g bias target b * part
def weight : EReal := cot x g bias target b * g b
def grad : EReal := direct x (weight x g bias target) b

end

theorem exp_real {x : EReal} (h : IsReal x) : ∃ r : ℝ, 0 < r ∧ Ideal.exp x = r := by
  obtain ⟨a, rfl⟩ := h
  exact ⟨Real.exp a, Real.exp_pos a, rfl⟩

theorem gate_real {z : EReal} (h : IsReal z) : IsReal (gate z) := by
  obtain ⟨a, rfl⟩ := h
  obtain ⟨r, hr, e⟩ := exp_real ⟨-a, (EReal.coe_neg a).symm⟩
  refine ⟨1 * (1 / (1 + r)), ?_⟩
  rw [gate, e, ← EReal.coe_one, ← EReal.coe_add, Ideal.div_coe (by positivity), ← EReal.coe_mul]

/-- A real factor goes into a sum of real numbers. -/
theorem half_sum {n : ℕ} {f : Fin n → EReal} (hf : ∀ i, IsReal (f i)) : ∑ i, half * f i = half * ∑ i, f i := by
  choose g hg using hf
  simp only [half_eq, hg, Cert.Fox.sum_coe, ← EReal.coe_mul, mul_sum]

section

variable {x g bias target : Fin 1024 → EReal} (hx : ∀ k, IsReal (x k)) (hg : ∀ k, IsReal (g k)) (hb : ∀ k, IsReal (bias k)) (ht : ∀ k, IsReal (target k))

include hx hg hb ht

theorem err_real (j : Fin 1024) : IsReal (err x g bias target j) := .sub (.add (.mul (hat_real hx j) (hg j)) (hb j)) (ht j)

theorem weight_real (j : Fin 1024) : IsReal (weight x g bias target j) := .mul (.mul (err_real hx hg hb ht j) ⟨_, part_eq⟩) (hg j)

theorem loss_real : IsReal (mean fun k => err x g bias target k * err x g bias target k) :=
  mean_real fun k => .mul (err_real hx hg hb ht k) (err_real hx hg hb ht k)

end

end Cert.Last

end

end
-- ==== Proof.TailPoint.lean ====
module

public import proofs.«01_k».proof.Proof.Gen.TailIdeal.Value
public import proofs.«01_k».proof.Proof.Stores
public import proofs.«01_k».proof.Proof.TailRow

/-! One point of the loss and its gradient. -/

@[expose] public section

set_option maxRecDepth 16384

noncomputable section

namespace Cert.Proof.Tail

open Idealize.ShloMosaic Idealize.ShloMosaic.TcCoe Idealize.ShloMosaic.Tactic
open Cert.TailIdeal Cert.TailIdeal.Gen Cert.Stores Cert.Norm Cert.Last Finset

local instance : Cert.TailIdeal.Facts := Cert.TailIdeal.Gen.facts

section

variable (x0 : Vec Ideal S256x1024 .f32) (x1 : Vec Ideal S256x4096 .bf16) (x2 : Vec Ideal S4096x1024 .bf16) (x3 : Vec Ideal S256x256 .bf16)
  (x4 : Vec Ideal S4x256x256 .bf16) (x5 : Vec Ideal S256x1024 .f32) (x6 x7 x8 : Vec Ideal S1x1024 .f32) (x9 : Vec Ideal S256x1024 .f32)
  (a : Fin 256) (b : Fin 1024)

/-- The four blocks of the embedding's weight. -/
abbrev slab0 : Vec Ideal S1x256x256 .bf16 := View.ld (Val := Elt Ideal) (e' := .bf16) x4 (Rect.unit ![0, 0, 0] ![1, 256, 256] inb_S4x256x256_S1x256x256_0_0_0)
abbrev slab1 : Vec Ideal S1x256x256 .bf16 := View.ld (Val := Elt Ideal) (e' := .bf16) x4 (Rect.unit ![1, 0, 0] ![1, 256, 256] inb_S4x256x256_S1x256x256_1_0_0)
abbrev slab2 : Vec Ideal S1x256x256 .bf16 := View.ld (Val := Elt Ideal) (e' := .bf16) x4 (Rect.unit ![2, 0, 0] ![1, 256, 256] inb_S4x256x256_S1x256x256_2_0_0)
abbrev slab3 : Vec Ideal S1x256x256 .bf16 := View.ld (Val := Elt Ideal) (e' := .bf16) x4 (Rect.unit ![3, 0, 0] ![1, 256, 256] inb_S4x256x256_S1x256x256_3_0_0)

/-- The parts of a row of one point's blocks. -/
def embedAt : EReal := embed (fun k => x3 (ix2 a k)) (fun s k j => x4 (ix3 s k j)) b
def gateAt : EReal := gate (x5 (ix2 a b) + x6 (ix2 0 b))
def line (b : Fin 1024) : EReal := alpha * x0 (ix2 a b) + ∑ n : Fin 4096, x1 (ix2 a n) * x2 (ix2 n b) + embedAt x3 x4 a b * gateAt x5 x6 a b
def errAt : EReal := err (line x0 x1 x2 x3 x4 x5 x6 a) (fun k => x7 (ix2 0 k)) (fun k => x8 (ix2 0 k)) (fun k => x9 (ix2 a k)) b
def cotAt : EReal := cot (line x0 x1 x2 x3 x4 x5 x6 a) (fun k => x7 (ix2 0 k)) (fun k => x8 (ix2 0 k)) (fun k => x9 (ix2 a k)) b
def weightAt (b : Fin 1024) : EReal := weight (line x0 x1 x2 x3 x4 x5 x6 a) (fun k => x7 (ix2 0 k)) (fun k => x8 (ix2 0 k)) (fun k => x9 (ix2 a k)) b
def gradAt : EReal := direct (line x0 x1 x2 x3 x4 x5 x6 a) (weightAt x0 x1 x2 x3 x4 x5 x6 x7 x8 x9 a) b
def dembedAt : EReal := gradAt x0 x1 x2 x3 x4 x5 x6 x7 x8 x9 a b * gateAt x5 x6 a b
def dgateAt : EReal := gradAt x0 x1 x2 x3 x4 x5 x6 x7 x8 x9 a b * embedAt x3 x4 a b * gateAt x5 x6 a b * (1 - gateAt x5 x6 a b)

theorem embed_here : k0_pay10 (F := Ideal) (k0_pay8 x3 (slab0 x4)) (k0_pay9 x3 (slab1 x4)) x3 (slab2 x4) x3 (slab3 x4) (ix2 a b) = embedAt x3 x4 a b := by
  pointwise [k0_pay8, k0_pay9, k0_pay10, slab0, slab1, slab2, slab3]
  have h : ∀ (s : Fin 4) (j : Fin 256), b.val = 256 * s.val + j.val → ∑ k, x3 (ix2 a k) * x4 (ix3 s k j) = embedAt x3 x4 a b := fun s j e => by
    obtain ⟨hs, hj⟩ : s = ⟨b.val / 256, Nat.div_lt_of_lt_mul b.isLt⟩ ∧ j = ⟨b.val % 256, Nat.mod_lt _ (by decide)⟩ :=
      ⟨Fin.ext (by show _ = b.val / 256; omega), Fin.ext (by show _ = b.val % 256; omega)⟩
    clear e
    subst hs hj
    rfl
  by_cases h0 : b.val < 256
  · rw [dif_pos h0]
    exact h 0 ⟨b.val, h0⟩ (by show b.val = 256 * 0 + b.val; omega)
  · rw [dif_neg h0]
    by_cases h1 : b.val - 256 < 256
    · rw [dif_pos h1]
      exact h 1 ⟨b.val - 256, h1⟩ (by show b.val = 256 * 1 + (b.val - 256); omega)
    · rw [dif_neg h1]
      by_cases h2 : b.val - 256 - 256 < 256
      · rw [dif_pos h2]
        exact h 2 ⟨b.val - 256 - 256, h2⟩ (by show b.val = 256 * 2 + (b.val - 256 - 256); omega)
      · rw [dif_neg h2]
        exact h 3 ⟨b.val - 256 - 256 - 256, by omega⟩ (by show b.val = 256 * 3 + (b.val - 256 - 256 - 256); omega)

theorem gate_here : k0_pay7 (F := Ideal) x5 x6 (ix2 a b) = gateAt x5 x6 a b := by
  pointwise [k0_pay7]
  try rw [zero_sub]
  rfl

theorem product_here : k0_pay6 (F := Ideal) x1 x2 (ix2 a b) = ∑ n : Fin 4096, x1 (ix2 a n) * x2 (ix2 n b) := by
  pointwise [k0_pay6]

theorem centre_here : k0_pay11 (F := Ideal) (k0_pay6 x1 x2) (k0_pay7 x5 x6) (k0_pay8 x3 (slab0 x4)) (k0_pay9 x3 (slab1 x4)) x3 (slab2 x4) x3 (slab3 x4) x0 (ix2 a b) = centre (line x0 x1 x2 x3 x4 x5 x6 a) b := by
  pointwise [k0_pay11, embed_here, gate_here, product_here]
  rfl

theorem scale_here : k0_pay12 (F := Ideal) (k0_pay6 x1 x2) (k0_pay7 x5 x6) (k0_pay8 x3 (slab0 x4)) (k0_pay9 x3 (slab1 x4)) x3 (slab2 x4) x3 (slab3 x4) x0 (ix2 a 0) = scale (line x0 x1 x2 x3 x4 x5 x6 a) := by
  pointwise [k0_pay12, centre_here]
  rfl

theorem hat_here : k0_pay13 (F := Ideal) (k0_pay6 x1 x2) (k0_pay7 x5 x6) (k0_pay8 x3 (slab0 x4)) (k0_pay9 x3 (slab1 x4)) x3 (slab2 x4) x3 (slab3 x4) x0 (ix2 a b) = hat (line x0 x1 x2 x3 x4 x5 x6 a) b := by
  pointwise [k0_pay13, centre_here, scale_here]
  rfl

theorem err_here : k0_pay15 (F := Ideal) (k0_pay14 (k0_pay6 x1 x2) (k0_pay7 x5 x6) (k0_pay8 x3 (slab0 x4)) (k0_pay9 x3 (slab1 x4)) x3 (slab2 x4) x3 (slab3 x4) x0 x7 x8) x9 (ix2 a b) = errAt x0 x1 x2 x3 x4 x5 x6 x7 x8 x9 a b := by
  pointwise [k0_pay14, k0_pay15, hat_here]
  rfl

theorem cot_here : k0_pay16 (F := Ideal) (k0_pay14 (k0_pay6 x1 x2) (k0_pay7 x5 x6) (k0_pay8 x3 (slab0 x4)) (k0_pay9 x3 (slab1 x4)) x3 (slab2 x4) x3 (slab3 x4) x0 x7 x8) x9 (ix2 a b) = cotAt x0 x1 x2 x3 x4 x5 x6 x7 x8 x9 a b := by
  pointwise [k0_pay16, err_here]
  rfl

/-- What the point leaves in the blocks of the gradients. -/
theorem gradHere_here : k0_pay17 (F := Ideal) (k0_pay12 (k0_pay6 x1 x2) (k0_pay7 x5 x6) (k0_pay8 x3 (slab0 x4)) (k0_pay9 x3 (slab1 x4)) x3 (slab2 x4) x3 (slab3 x4) x0) (k0_pay13 (k0_pay6 x1 x2) (k0_pay7 x5 x6) (k0_pay8 x3 (slab0 x4)) (k0_pay9 x3 (slab1 x4)) x3 (slab2 x4) x3 (slab3 x4) x0) (k0_pay14 (k0_pay6 x1 x2) (k0_pay7 x5 x6) (k0_pay8 x3 (slab0 x4)) (k0_pay9 x3 (slab1 x4)) x3 (slab2 x4) x3 (slab3 x4) x0 x7 x8) x9 x7 (ix2 a b) = gradAt x0 x1 x2 x3 x4 x5 x6 x7 x8 x9 a b := by
  pointwise [k0_pay17, cot_here, hat_here, scale_here]
  rfl

theorem dembedHere_here : k0_pay19 (F := Ideal) (k0_pay7 x5 x6) (k0_pay12 (k0_pay6 x1 x2) (k0_pay7 x5 x6) (k0_pay8 x3 (slab0 x4)) (k0_pay9 x3 (slab1 x4)) x3 (slab2 x4) x3 (slab3 x4) x0) (k0_pay13 (k0_pay6 x1 x2) (k0_pay7 x5 x6) (k0_pay8 x3 (slab0 x4)) (k0_pay9 x3 (slab1 x4)) x3 (slab2 x4) x3 (slab3 x4) x0) (k0_pay14 (k0_pay6 x1 x2) (k0_pay7 x5 x6) (k0_pay8 x3 (slab0 x4)) (k0_pay9 x3 (slab1 x4)) x3 (slab2 x4) x3 (slab3 x4) x0 x7 x8) x9 x7 (ix2 a b) = dembedAt x0 x1 x2 x3 x4 x5 x6 x7 x8 x9 a b := by
  pointwise [k0_pay19, gradHere_here, gate_here]
  rfl

theorem dgateHere_here : k0_pay20 (F := Ideal) (k0_pay7 x5 x6) (k0_pay10 (k0_pay8 x3 (slab0 x4)) (k0_pay9 x3 (slab1 x4)) x3 (slab2 x4) x3 (slab3 x4)) (k0_pay12 (k0_pay6 x1 x2) (k0_pay7 x5 x6) (k0_pay8 x3 (slab0 x4)) (k0_pay9 x3 (slab1 x4)) x3 (slab2 x4) x3 (slab3 x4) x0) (k0_pay13 (k0_pay6 x1 x2) (k0_pay7 x5 x6) (k0_pay8 x3 (slab0 x4)) (k0_pay9 x3 (slab1 x4)) x3 (slab2 x4) x3 (slab3 x4) x0) (k0_pay14 (k0_pay6 x1 x2) (k0_pay7 x5 x6) (k0_pay8 x3 (slab0 x4)) (k0_pay9 x3 (slab1 x4)) x3 (slab2 x4) x3 (slab3 x4) x0 x7 x8) x9 x7 (ix2 a b) = dgateAt x0 x1 x2 x3 x4 x5 x6 x7 x8 x9 a b := by
  pointwise [k0_pay20, gradHere_here, gate_here, embed_here]
  rfl

/-- What the point adds to a row of the block of sums: the gradients of the gain, of the bias and of the gate's bias, and the loss. -/
def added (r : Fin 8) (b : Fin 1024) : EReal :=
  if r.val = 0 then ∑ y : Fin 256, cotAt x0 x1 x2 x3 x4 x5 x6 x7 x8 x9 y b * hat (line x0 x1 x2 x3 x4 x5 x6 y) b else if r.val = 1 then ∑ y : Fin 256, cotAt x0 x1 x2 x3 x4 x5 x6 x7 x8 x9 y b
    else if r.val = 2 then ∑ y : Fin 256, dgateAt x0 x1 x2 x3 x4 x5 x6 x7 x8 x9 y b
    else if r.val = 3 then half * ∑ y : Fin 256, mean (fun k => errAt x0 x1 x2 x3 x4 x5 x6 x7 x8 x9 y k * errAt x0 x1 x2 x3 x4 x5 x6 x7 x8 x9 y k) else 0

/-- The four rows that a point stores, over a block `X`. -/
theorem rows {f : List (View.Piece (Elt Ideal) S8x1024 .f32) → S8x1024.Idx → Elt Ideal .f32} (hf : Reads f)
    (X : FVec Ideal S8x1024 .f32) (L : List (View.Piece (Elt Ideal) S8x1024 .f32)) (hL : ∀ (r : Fin 8) (b : Fin 1024), f L (ix2 r b) = X (ix2 r b))
    (r : Fin 8) (b : Fin 1024) :
    f (⟨Rect.unit ![3, 0] ![1, 1024] inb_S8x1024_S1x1024_3_0, k0_pay4 (k0_pay15 (k0_pay14 (k0_pay6 x1 x2) (k0_pay7 x5 x6) (k0_pay8 x3 (slab0 x4)) (k0_pay9 x3 (slab1 x4)) x3 (slab2 x4) x3 (slab3 x4) x0 x7 x8) x9)
        (View.ld (Val := Elt Ideal) (e' := .f32) X (Rect.unit ![3, 0] ![1, 1024] inb_S8x1024_S1x1024_3_0))⟩ ::
      ⟨Rect.unit ![2, 0] ![1, 1024] inb_S8x1024_S1x1024_2_0, k0_pay3 (k0_pay20 (k0_pay7 x5 x6) (k0_pay10 (k0_pay8 x3 (slab0 x4)) (k0_pay9 x3 (slab1 x4)) x3 (slab2 x4) x3 (slab3 x4)) (k0_pay12 (k0_pay6 x1 x2) (k0_pay7 x5 x6) (k0_pay8 x3 (slab0 x4)) (k0_pay9 x3 (slab1 x4)) x3 (slab2 x4) x3 (slab3 x4) x0) (k0_pay13 (k0_pay6 x1 x2) (k0_pay7 x5 x6) (k0_pay8 x3 (slab0 x4)) (k0_pay9 x3 (slab1 x4)) x3 (slab2 x4) x3 (slab3 x4) x0) (k0_pay14 (k0_pay6 x1 x2) (k0_pay7 x5 x6) (k0_pay8 x3 (slab0 x4)) (k0_pay9 x3 (slab1 x4)) x3 (slab2 x4) x3 (slab3 x4) x0 x7 x8) x9 x7)
        (View.ld (Val := Elt Ideal) (e' := .f32) X (Rect.unit ![2, 0] ![1, 1024] inb_S8x1024_S1x1024_2_0))⟩ ::
      ⟨Rect.unit ![1, 0] ![1, 1024] inb_S8x1024_S1x1024_1_0, k0_pay2 (k0_pay16 (k0_pay14 (k0_pay6 x1 x2) (k0_pay7 x5 x6) (k0_pay8 x3 (slab0 x4)) (k0_pay9 x3 (slab1 x4)) x3 (slab2 x4) x3 (slab3 x4) x0 x7 x8) x9)
        (View.ld (Val := Elt Ideal) (e' := .f32) X (Rect.unit ![1, 0] ![1, 1024] inb_S8x1024_S1x1024_1_0))⟩ ::
      ⟨Rect.unit ![0, 0] ![1, 1024] inb_S8x1024_S1x1024_0_0, k0_pay1 (k0_pay13 (k0_pay6 x1 x2) (k0_pay7 x5 x6) (k0_pay8 x3 (slab0 x4)) (k0_pay9 x3 (slab1 x4)) x3 (slab2 x4) x3 (slab3 x4) x0) (k0_pay16 (k0_pay14 (k0_pay6 x1 x2) (k0_pay7 x5 x6) (k0_pay8 x3 (slab0 x4)) (k0_pay9 x3 (slab1 x4)) x3 (slab2 x4) x3 (slab3 x4) x0 x7 x8) x9)
        (k0_pay22 (View.ld (Val := Elt Ideal) (e' := .f32) X (Rect.unit ![0, 0] ![1, 1024] inb_S8x1024_S1x1024_0_0)))⟩ :: L) (ix2 r b) =
    X (ix2 r b) + added x0 x1 x2 x3 x4 x5 x6 x7 x8 x9 r b := by
  refine hf.block _ _ _ r b _ (fun x y hr hb => ?_) fun h3 => hf.block _ _ _ r b _ (fun x y hr hb => ?_) fun h2 =>
    hf.block _ _ _ r b _ (fun x y hr hb => ?_) fun h1 => hf.block _ _ _ r b _ (fun x y hr hb => ?_) fun h0 => ?_
  · obtain rfl : b = y := Fin.ext (by omega)
    obtain rfl : x = 0 := Subsingleton.elim _ _
    obtain rfl : r = 3 := Fin.ext hr
    rw [added, if_neg (by decide), if_neg (by decide), if_neg (by decide), if_pos (by rfl)]
    pointwise [k0_pay4, err_here]
    rfl
  · obtain rfl : b = y := Fin.ext (by omega)
    obtain rfl : x = 0 := Subsingleton.elim _ _
    obtain rfl : r = 2 := Fin.ext hr
    rw [added, if_neg (by decide), if_neg (by decide), if_pos (by rfl)]
    pointwise [k0_pay3, dgateHere_here]
  · obtain rfl : b = y := Fin.ext (by omega)
    obtain rfl : x = 0 := Subsingleton.elim _ _
    obtain rfl : r = 1 := Fin.ext hr
    rw [added, if_neg (by decide), if_pos (by rfl)]
    pointwise [k0_pay2, cot_here]
  · obtain rfl : b = y := Fin.ext (by omega)
    obtain rfl : x = 0 := Subsingleton.elim _ _
    obtain rfl : r = 0 := Fin.ext hr
    rw [added, if_pos (by rfl)]
    pointwise [k0_pay1, k0_pay22, cot_here, hat_here]
  · rw [added, if_neg (by omega), if_neg (by omega), if_neg (by omega), if_neg (by omega), add_zero]
    exact hL r b

end

variable (m : (ℓ : Loc nD τ sig) → Buf (Elt Ideal) ℓ) (c : Dev nD) (t : Fin cfg0.N)

theorem gradA (h : t.val % 8 = 0) (a : Fin 256) (b : Fin 1024) : (outsAt0 m c t.val t.isLt).1 (ix2 a b) = gradAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_A m c t h]
  dsimp only
  frame_open
  frame_out
  exact gradHere_here _ _ _ _ _ _ _ _ _ _ a b

theorem gradB (h : ¬t.val % 8 = 0) (a : Fin 256) (b : Fin 1024) : (outsAt0 m c t.val t.isLt).1 (ix2 a b) = gradAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_B m c t h]
  dsimp only
  frame_open
  frame_out
  exact gradHere_here _ _ _ _ _ _ _ _ _ _ a b

theorem castA (h : t.val % 8 = 0) (a : Fin 256) (b : Fin 1024) : (outsAt0 m c t.val t.isLt).2.1 (ix2 a b) = gradAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_A m c t h]
  dsimp only
  frame_open
  frame_out
  exact gradHere_here _ _ _ _ _ _ _ _ _ _ a b

theorem castB (h : ¬t.val % 8 = 0) (a : Fin 256) (b : Fin 1024) : (outsAt0 m c t.val t.isLt).2.1 (ix2 a b) = gradAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_B m c t h]
  dsimp only
  frame_open
  frame_out
  exact gradHere_here _ _ _ _ _ _ _ _ _ _ a b

theorem dembedA (h : t.val % 8 = 0) (a : Fin 256) (b : Fin 1024) : (outsAt0 m c t.val t.isLt).2.2.1 (ix2 a b) = dembedAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_A m c t h]
  dsimp only
  frame_open
  frame_out
  exact dembedHere_here _ _ _ _ _ _ _ _ _ _ a b

theorem dembedB (h : ¬t.val % 8 = 0) (a : Fin 256) (b : Fin 1024) : (outsAt0 m c t.val t.isLt).2.2.1 (ix2 a b) = dembedAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_B m c t h]
  dsimp only
  frame_open
  frame_out
  exact dembedHere_here _ _ _ _ _ _ _ _ _ _ a b

theorem dgateA (h : t.val % 8 = 0) (a : Fin 256) (b : Fin 1024) : (outsAt0 m c t.val t.isLt).2.2.2.1 (ix2 a b) = dgateAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_A m c t h]
  dsimp only
  frame_open
  frame_out
  exact dgateHere_here _ _ _ _ _ _ _ _ _ _ a b

theorem dgateB (h : ¬t.val % 8 = 0) (a : Fin 256) (b : Fin 1024) : (outsAt0 m c t.val t.isLt).2.2.2.1 (ix2 a b) = dgateAt (iblk m c 0 t) (iblk m c 1 t) (iblk m c 2 t) (iblk m c 3 t) (iblk m c 4 t) (iblk m c 5 t) (iblk m c 6 t) (iblk m c 7 t) (iblk m c 8 t) (iblk m c 9 t) a b := by
  rw [outsAt0_B m c t h]
  dsimp only
  frame_open
  frame_out
  exact dgateHere_here _ _ _ _ _ _ _ _ _ _ a b

abbrev addedAt (r : Fin 8) (b : Fin 1024) : EReal := added (iblk m c 0 t) (iblk m c 1 t) (iblk m c 2 t) (iblk m c 3 t) (iblk m c 4 t) (iblk m c 5 t) (iblk m c 6 t) (iblk m c 7 t) (iblk m c 8 t) (iblk m c 9 t) r b

theorem sumsA (h : t.val % 8 = 0) (r : Fin 8) (b : Fin 1024) : (outsAt0 m c t.val t.isLt).2.2.2.2 (ix2 r b) = addedAt m c t r b := by
  rw [outsAt0_A m c t h]
  dsimp only
  frame_open
  simp (disch := decide) only [↓ View.readCov_skip, ↓ View.readCov_cons_toLoadRect, ↓ View.readCov_fill]
  frame_out
  refine (rows _ _ _ _ _ _ _ _ _ _ reads_canon k0_pay5 _ (fun r b => reads_canon.strip _ _ _ _ _ _ (by omega)
    (fun y hy => by rw [show b = y from Fin.ext (by omega)]) fun hl => absurd hl (Nat.not_lt_zero _)) r b).trans ?_
  rw [show (k0_pay5 : FVec Ideal S8x1024 .f32) (ix2 r b) = 0 by pointwise [k0_pay5], zero_add]

theorem sumsB (h : ¬t.val % 8 = 0) (hlt : t.val - 1 < cfg0.N) (r : Fin 8) (b : Fin 1024) :
    (outsAt0 m c t.val t.isLt).2.2.2.2 (ix2 r b) = (outsAt0 m c (t.val - 1) hlt).2.2.2.2 (ix2 r b) + addedAt m c t r b := by
  rw [outsAt0_B m c t h]
  dsimp only
  frame_open
  simp (disch := decide) only [↓ View.readCov_skip, ↓ View.readCov_cons_toLoadRect, ↓ View.readCov_fill]
  frame_out
  refine rows _ _ _ _ _ _ _ _ _ _ (reads_writes _ _) _ _ (fun r b => ?_) r b
  rw [View.writes_nil]
  exact congrFun (Memref.IsWhole.read_unread _ _) _

end Cert.Proof.Tail

end

end
-- ==== Proof.TailRef.lean ====
module

public import proofs.«01_k».proof.Proof.Gen.TailRefIdeal.Read
public import proofs.«01_k».proof.Proof.TailRow
public import Idealize.ShloMosaic.Lib.Pointwise

/-! The reference's loss and its gradient, read at an index. -/

@[expose] public section

set_option maxRecDepth 16384

noncomputable section

namespace Cert.Proof.TailRef

open Idealize.ShloMosaic Idealize.ShloMosaic.TcCoe Idealize.ShloMosaic.Tactic
open Cert.TailRefIdeal Cert.TailRefIdeal.Gen Cert.TailRefIdeal.Read Cert.Norm Cert.Last Finset

local instance : Cert.TailRefIdeal.Facts := Cert.TailRefIdeal.Gen.facts

variable (x0 : FVec Ideal S2048x1024 .f32) (x1 : FVec Ideal S2048x4096 .bf16) (x2 : FVec Ideal S4096x1024 .bf16) (x3 : FVec Ideal S2048x256 .bf16)
  (x4 : FVec Ideal S4x256x256 .bf16) (x5 : FVec Ideal S2048x1024 .f32) (x6 x7 x8 : FVec Ideal S1024 .f32) (x9 : FVec Ideal S2048x1024 .f32)
  (a : Fin 2048) (b : Fin 1024)

/-- The parts of a row of the arrays. -/
def embedAt : EReal := embed (fun k => x3 (ix2 a k)) (fun s k j => x4 (ix3 s k j)) b
def gateAt : EReal := gate (x5 (ix2 a b) + x6 (ix1 b))
def line (b : Fin 1024) : EReal := alpha * x0 (ix2 a b) + ∑ n : Fin 4096, x1 (ix2 a n) * x2 (ix2 n b) + embedAt x3 x4 a b * gateAt x5 x6 a b
def errAt : EReal := err (line x0 x1 x2 x3 x4 x5 x6 a) (fun k => x7 (ix1 k)) (fun k => x8 (ix1 k)) (fun k => x9 (ix2 a k)) b
def cotAt : EReal := cot (line x0 x1 x2 x3 x4 x5 x6 a) (fun k => x7 (ix1 k)) (fun k => x8 (ix1 k)) (fun k => x9 (ix2 a k)) b
def weightAt (b : Fin 1024) : EReal := weight (line x0 x1 x2 x3 x4 x5 x6 a) (fun k => x7 (ix1 k)) (fun k => x8 (ix1 k)) (fun k => x9 (ix2 a k)) b

theorem embed_at : val_main_v10 (F := Ideal) x3 x4 (ix2 a b) = embedAt x3 x4 a b := by
  pointwise [val_main_v6, val_main_v7, val_main_v8, val_main_v9, val_main_v10]
  rfl

theorem gate_at : val_main_v19 (F := Ideal) x5 x6 (ix2 a b) = gateAt x5 x6 a b := by
  pointwise [val_main_v11, val_main_v12, val_main_v13, val_main_v14, val_main_v15, val_main_cst_0, val_main_v16, val_main_v17, val_main_cst_1, val_main_v18, val_main_v19]
  rfl

theorem line_at : val_main_v24 (F := Ideal) x0 x1 x2 x3 x4 x5 x6 (ix2 a b) = line x0 x1 x2 x3 x4 x5 x6 a b := by
  pointwise [val_main_cst, val_main_v0, val_main_v1, val_main_v2, val_main_v3, val_main_v4, val_main_v5, val_main_v23, val_main_v24, embed_at, gate_at]
  rfl

theorem mean_at (z : Fin 1) : val_main_v28 (F := Ideal) x0 x1 x2 x3 x4 x5 x6 (ix2 a z) = mean (line x0 x1 x2 x3 x4 x5 x6 a) := by
  pointwise [val_main_cst_3, val_main_v25, val_main_v26, val_main_cst_4, val_main_v27, val_main_v28, line_at]
  rfl

theorem centre_at : val_main_v39 (F := Ideal) x0 x1 x2 x3 x4 x5 x6 (ix2 a b) = centre (line x0 x1 x2 x3 x4 x5 x6 a) b := by
  pointwise [val_main_v38, val_main_v39, line_at, mean_at]
  rfl

theorem spread_at (z : Fin 1) : val_main_v41 (F := Ideal) x0 x1 x2 x3 x4 x5 x6 (ix2 a z) = spread (line x0 x1 x2 x3 x4 x5 x6 a) := by
  pointwise [val_main_v29, val_main_v30, val_main_v31, val_main_cst_6, val_main_v34, val_main_v35, val_main_cst_7, val_main_v36, val_main_v37, val_main_cst_8, val_main_v40, val_main_v41, line_at, mean_at]
  rfl

theorem scale_at (z : Fin 1) : val_main_v42 (F := Ideal) x0 x1 x2 x3 x4 x5 x6 (ix2 a z) = scale (line x0 x1 x2 x3 x4 x5 x6 a) := by
  pointwise [val_main_v42, spread_at]
  rfl

theorem hat_at : val_main_v47 (F := Ideal) x0 x1 x2 x3 x4 x5 x6 (ix2 a b) = hat (line x0 x1 x2 x3 x4 x5 x6 a) b := by
  pointwise [val_main_v46, val_main_v47, centre_at, scale_at]
  rfl

theorem err_at : val_main_v54 (F := Ideal) x0 x1 x2 x3 x4 x5 x6 x7 x8 x9 (ix2 a b) = errAt x0 x1 x2 x3 x4 x5 x6 x7 x8 x9 a b := by
  pointwise [val_main_v48, val_main_v49, val_main_v50, val_main_v51, val_main_v52, val_main_v53, val_main_v54, hat_at]
  rfl

theorem cot_at : val_main_v68 (F := Ideal) x0 x1 x2 x3 x4 x5 x6 x7 x8 x9 (ix2 a b) = cotAt x0 x1 x2 x3 x4 x5 x6 x7 x8 x9 a b := by
  refine Eq.trans ?_ (factor (errAt x0 x1 x2 x3 x4 x5 x6 x7 x8 x9 a b))
  pointwise [val_main_cst_10, val_main_v56, val_main_v57, val_main_cst_15, val_main_cst_16, val_main_v63, val_main_v64, val_main_cst_17, val_main_v65, val_main_v66, val_main_v67, val_main_v68, err_at]

theorem weight_at : val_main_v76 (F := Ideal) x0 x1 x2 x3 x4 x5 x6 x7 x8 x9 (ix2 a b) = weightAt x0 x1 x2 x3 x4 x5 x6 x7 x8 x9 a b := by
  pointwise [val_main_v48, val_main_v75, val_main_v76, cot_at]
  rfl

theorem scaled_at : val_main_v82 (F := Ideal) x0 x1 x2 x3 x4 x5 x6 x7 x8 x9 (ix2 a b) = weightAt x0 x1 x2 x3 x4 x5 x6 x7 x8 x9 a b * scale (line x0 x1 x2 x3 x4 x5 x6 a) := by
  pointwise [val_main_v81, val_main_v82, weight_at, scale_at]

theorem through_at : val_main_v91 (F := Ideal) x0 x1 x2 x3 x4 x5 x6 x7 x8 x9 (ix2 a b) = through (line x0 x1 x2 x3 x4 x5 x6 a) (weightAt x0 x1 x2 x3 x4 x5 x6 x7 x8 x9 a) b := by
  pointwise [val_main_cst_5, val_main_v29, val_main_v30, val_main_v32, val_main_v33, val_main_v43, val_main_cst_9, val_main_v44, val_main_v45, val_main_v78, val_main_cst_22, val_main_v79, val_main_v80, val_main_v83, val_main_cst_24, val_main_v87, val_main_v88, val_main_cst_25, val_main_v89, val_main_v90, val_main_v91, line_at, mean_at, spread_at, scale_at, centre_at, weight_at]
  simp only [univ_unique, sum_singleton]
  rfl

theorem derived_at : val_main_v101 (F := Ideal) x0 x1 x2 x3 x4 x5 x6 x7 x8 x9 (ix2 a b) = derived (line x0 x1 x2 x3 x4 x5 x6 a) (weightAt x0 x1 x2 x3 x4 x5 x6 x7 x8 x9 a) b := by
  pointwise [val_main_v84, val_main_cst_23, val_main_v85, val_main_v86, val_main_v92, val_main_cst_26, val_main_v93, val_main_v94, val_main_v95, val_main_v96, val_main_cst_27, val_main_v97, val_main_v98, val_main_cst_28, val_main_v99, val_main_v100, val_main_v101, scaled_at, through_at]
  simp only [univ_unique, sum_singleton]
  rfl

/-- The gradients of the embedding and of the gate's argument. -/
theorem dembed_at : val_main_v103 (F := Ideal) x0 x1 x2 x3 x4 x5 x6 x7 x8 x9 (ix2 a b) = val_main_v101 (F := Ideal) x0 x1 x2 x3 x4 x5 x6 x7 x8 x9 (ix2 a b) * gateAt x5 x6 a b := by
  pointwise [val_main_v103, gate_at]

theorem dgate_at : val_main_v104 (F := Ideal) x0 x1 x2 x3 x4 x5 x6 x7 x8 x9 (ix2 a b) =
    val_main_v101 (F := Ideal) x0 x1 x2 x3 x4 x5 x6 x7 x8 x9 (ix2 a b) * embedAt x3 x4 a b * gateAt x5 x6 a b * (1 - gateAt x5 x6 a b) := by
  pointwise [val_main_cst_2, val_main_v20, val_main_v21, val_main_v22, val_main_v102, val_main_v104, gate_at, embed_at]
  rw [mul_comm (embedAt x3 x4 a b), mul_assoc (_ * embedAt x3 x4 a b)]

/-- The gradients kept in half the width. -/
theorem kept_at : val_main_v108 (F := Ideal) x0 x1 x2 x3 x4 x5 x6 x7 x8 x9 (ix2 a b) = val_main_v101 (F := Ideal) x0 x1 x2 x3 x4 x5 x6 x7 x8 x9 (ix2 a b) := by
  pointwise [val_main_v108]

theorem dembed_kept_at : val_main_v109 (F := Ideal) x0 x1 x2 x3 x4 x5 x6 x7 x8 x9 (ix2 a b) = val_main_v103 (F := Ideal) x0 x1 x2 x3 x4 x5 x6 x7 x8 x9 (ix2 a b) := by
  pointwise [val_main_v109]

theorem dgate_kept_at : val_main_v110 (F := Ideal) x0 x1 x2 x3 x4 x5 x6 x7 x8 x9 (ix2 a b) = val_main_v104 (F := Ideal) x0 x1 x2 x3 x4 x5 x6 x7 x8 x9 (ix2 a b) := by
  pointwise [val_main_v110]

/-- The sums over all the rows. -/
theorem gain_at : val_main_v77 (F := Ideal) x0 x1 x2 x3 x4 x5 x6 x7 x8 x9 (ix1 b) = ∑ y : Fin 2048, cotAt x0 x1 x2 x3 x4 x5 x6 x7 x8 x9 y b * hat (line x0 x1 x2 x3 x4 x5 x6 y) b := by
  pointwise [val_main_v72, val_main_cst_20, val_main_v73, val_main_v74, val_main_cst_21, val_main_v77, hat_at, cot_at]
  simp only [univ_unique, sum_singleton, mul_comm (hat _ _)]

theorem bias_at : val_main_v71 (F := Ideal) x0 x1 x2 x3 x4 x5 x6 x7 x8 x9 (ix1 b) = ∑ y : Fin 2048, cotAt x0 x1 x2 x3 x4 x5 x6 x7 x8 x9 y b := by
  pointwise [val_main_cst_18, val_main_v69, val_main_v70, val_main_cst_19, val_main_v71, cot_at]
  simp only [univ_unique, sum_singleton]

theorem dgate_sum_at : val_main_v107 (F := Ideal) x0 x1 x2 x3 x4 x5 x6 x7 x8 x9 (ix1 b) = ∑ y : Fin 2048, val_main_v104 (F := Ideal) x0 x1 x2 x3 x4 x5 x6 x7 x8 x9 (ix2 y b) := by
  pointwise [val_main_cst_29, val_main_v105, val_main_v106, val_main_cst_30, val_main_v107]
  simp only [univ_unique, sum_singleton]

theorem loss_at (i : S_.Idx) : val_main_v62 (F := Ideal) x0 x1 x2 x3 x4 x5 x6 x7 x8 x9 i = half * ∑ y : Fin 2048, mean (fun k => errAt x0 x1 x2 x3 x4 x5 x6 x7 x8 x9 y k * errAt x0 x1 x2 x3 x4 x5 x6 x7 x8 x9 y k) := by
  pointwise [val_main_v55, val_main_cst_11, val_main_v58, val_main_cst_12, val_main_v59, val_main_v60, val_main_cst_13, val_main_v61, val_main_cst_14, val_main_v62, err_at]
  rfl

theorem rows_at (r : Fin 8) : val_main_v117 (F := Ideal) x0 x1 x2 x3 x4 x5 x6 x7 x8 x9 (ix2 r b) =
    if r.val = 0 then ∑ y : Fin 2048, cotAt x0 x1 x2 x3 x4 x5 x6 x7 x8 x9 y b * hat (line x0 x1 x2 x3 x4 x5 x6 y) b else if r.val = 1 then ∑ y : Fin 2048, cotAt x0 x1 x2 x3 x4 x5 x6 x7 x8 x9 y b
      else if r.val = 2 then ∑ y : Fin 2048, val_main_v104 (F := Ideal) x0 x1 x2 x3 x4 x5 x6 x7 x8 x9 (ix2 y b)
      else if r.val = 3 then half * ∑ y : Fin 2048, mean (fun k => errAt x0 x1 x2 x3 x4 x5 x6 x7 x8 x9 y k * errAt x0 x1 x2 x3 x4 x5 x6 x7 x8 x9 y k) else 0 := by
  rw [← gain_at, ← bias_at, ← dgate_sum_at]
  pointwise [val_main_v111, val_main_v112, val_main_v113, val_main_v114, val_main_v115, val_main_cst_31, val_main_v116, val_main_v117, loss_at]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]
      by_cases h2 : r.val = 2
      · rw [dif_pos (by omega), if_pos h2]
      · rw [dif_neg (by omega), if_neg h2]
        by_cases h3 : r.val = 3
        · rw [dif_pos (by omega), if_pos h3]
        · rw [dif_neg (by omega), if_neg h3]

end Cert.Proof.TailRef

end

end
-- ==== Proof.Tail.lean ====
module

public import proofs.«01_k».proof.Defs
public import proofs.«01_k».proof.Proof.Gen.TailRefIdeal.Run
public import proofs.«01_k».proof.Proof.TailPoint
public import proofs.«01_k».proof.Proof.TailRef
public import proofs.«01_k».proof.Proof.Finite
public import Idealize.ShloMosaic.Lib.StableHlo.RunRead
public import Idealize.ShloMosaic.Lib.Tactic.CleanTypes

/-! The loss and its gradient: what the kernel's run leaves is what the reference gives. -/

@[expose] public section

set_option maxRecDepth 16384

noncomputable section

namespace Cert.Proof.Tail

open Idealize.ShloMosaic Idealize.ShloMosaic.TcCoe Idealize.ShloMosaic.Tactic Idealize.SL.Sem
open Cert.TailIdeal Cert.TailIdeal.Gen Cert.Stores Cert.Norm Cert.Last Finset
open Cert.TailRefIdeal.Read (val_main_v101 val_main_v103 val_main_v104 val_main_v108 val_main_v109 val_main_v110 val_main_v117)

local instance : Cert.TailIdeal.Facts := Cert.TailIdeal.Gen.facts
local instance : Cert.TailRefIdeal.Facts := Cert.TailRefIdeal.Gen.facts

/-- Every window's block at every point. -/
theorem idx : ∀ t : Fin cfg0.N, win0_0.index t = ![t.val, 0] ∧ win0_1.index t = ![t.val, 0] ∧ win0_2.index t = ![0, 0] ∧
    win0_3.index t = ![t.val, 0] ∧ win0_4.index t = ![0, 0, 0] ∧ win0_5.index t = ![t.val, 0] ∧ win0_6.index t = ![0, 0] ∧
    win0_7.index t = ![0, 0] ∧ win0_8.index t = ![0, 0] ∧ win0_9.index t = ![t.val, 0] ∧ win0_10.index t = ![t.val, 0] ∧
    win0_11.index t = ![t.val, 0] ∧ win0_12.index t = ![t.val, 0] ∧ win0_13.index t = ![t.val, 0] ∧ win0_14.index t = ![0, 0] :=
  (by decide +kernel : ∀ t : Fin grid0.N, _)

variable (m : (ℓ : Loc nD τ sig) → Buf (Elt Ideal) ℓ) (c : Dev nD)

/-- The program's arguments. -/
abbrev arg0 : FVec Ideal S2048x1024 .f32 := m ((c : Thread nD τ).loc main_arg0)
abbrev arg1 : FVec Ideal S2048x4096 .bf16 := m ((c : Thread nD τ).loc main_arg1)
abbrev arg2 : FVec Ideal S4096x1024 .bf16 := m ((c : Thread nD τ).loc main_arg2)
abbrev arg3 : FVec Ideal S2048x256 .bf16 := m ((c : Thread nD τ).loc main_arg3)
abbrev arg4 : FVec Ideal S4x256x256 .bf16 := m ((c : Thread nD τ).loc main_arg4)
abbrev arg5 : FVec Ideal S2048x1024 .f32 := m ((c : Thread nD τ).loc main_arg5)
abbrev arg6 : FVec Ideal S1024 .f32 := m ((c : Thread nD τ).loc main_arg6)
abbrev arg7 : FVec Ideal S1024 .f32 := m ((c : Thread nD τ).loc main_arg7)
abbrev arg8 : FVec Ideal S1024 .f32 := m ((c : Thread nD τ).loc main_arg8)
abbrev arg9 : FVec Ideal S2048x1024 .f32 := m ((c : Thread nD τ).loc main_arg9)

/-- A vector as one row, as the host gives it. -/
abbrev row (x : FVec Ideal S1024 .f32) : FVec Ideal S1x1024 .f32 := broadcastInDim S1x1024 ![1] (by decide) x

theorem row_at (x : FVec Ideal S1024 .f32) (k : Fin 1024) : row x (ix2 0 k) = x (ix1 k) := by
  pointwise [row]

theorem V_6 : V m c main_v0 = row (arg6 m c) := by
  unfold_abbrev_sides
  after_reads_simp

theorem V_7 : V m c main_v1 = row (arg7 m c) := by
  unfold_abbrev_sides
  after_reads_simp

theorem V_8 : V m c main_v2 = row (arg8 m c) := by
  unfold_abbrev_sides
  after_reads_simp

section

variable (t : Fin cfg0.N) (ht : t.val < 8) (a : Fin 256) (b : Fin 1024)

theorem block2 (k : Fin 4096) (j : Fin 1024) : iblk m c 2 t (ix2 k j) = arg2 m c (ix2 k j) := by
  blk_ext [iblk, V, idx t]

theorem block4 (s : Fin 4) (k j : Fin 256) : iblk m c 4 t (ix3 s k j) = arg4 m c (ix3 s k j) := by
  blk_ext [iblk, V, idx t]

theorem block6 (k : Fin 1024) : iblk m c 6 t (ix2 0 k) = arg6 m c (ix1 k) := by
  have h : iblk m c 6 t (ix2 0 k) = V m c main_v0 (ix2 0 k) := by blk_ext [iblk, idx t]
  rw [h, V_6]
  exact row_at _ k

theorem block7 (k : Fin 1024) : iblk m c 7 t (ix2 0 k) = arg7 m c (ix1 k) := by
  have h : iblk m c 7 t (ix2 0 k) = V m c main_v1 (ix2 0 k) := by blk_ext [iblk, idx t]
  rw [h, V_7]
  exact row_at _ k

theorem block8 (k : Fin 1024) : iblk m c 8 t (ix2 0 k) = arg8 m c (ix1 k) := by
  have h : iblk m c 8 t (ix2 0 k) = V m c main_v2 (ix2 0 k) := by blk_ext [iblk, idx t]
  rw [h, V_8]
  exact row_at _ k

include ht

/-- The row of the whole arrays that a point's row is. -/
abbrev place : Fin 2048 := ⟨256 * t.val + a, by omega⟩

theorem block0 (k : Fin 1024) : iblk m c 0 t (ix2 a k) = arg0 m c (ix2 (place t ht a) k) := by
  blk_ext [iblk, V, idx t]

theorem block1 (k : Fin 4096) : iblk m c 1 t (ix2 a k) = arg1 m c (ix2 (place t ht a) k) := by
  blk_ext [iblk, V, idx t]

theorem block3 (k : Fin 256) : iblk m c 3 t (ix2 a k) = arg3 m c (ix2 (place t ht a) k) := by
  blk_ext [iblk, V, idx t]

theorem block5 (k : Fin 1024) : iblk m c 5 t (ix2 a k) = arg5 m c (ix2 (place t ht a) k) := by
  blk_ext [iblk, V, idx t]

theorem block9 (k : Fin 1024) : iblk m c 9 t (ix2 a k) = arg9 m c (ix2 (place t ht a) k) := by
  blk_ext [iblk, V, idx t]

theorem embed_block : embedAt (iblk m c 3 t) (iblk m c 4 t) a b = TailRef.embedAt (arg3 m c) (arg4 m c) (place t ht a) b := by
  simp only [embedAt, TailRef.embedAt, block3 m c t ht, block4]

theorem gate_block : gateAt (iblk m c 5 t) (iblk m c 6 t) a b = TailRef.gateAt (arg5 m c) (arg6 m c) (place t ht a) b := by
  simp only [gateAt, TailRef.gateAt, block5 m c t ht, block6]

theorem line_block : line (iblk m c 0 t) (iblk m c 1 t) (iblk m c 2 t) (iblk m c 3 t) (iblk m c 4 t) (iblk m c 5 t) (iblk m c 6 t) a = TailRef.line (arg0 m c) (arg1 m c) (arg2 m c) (arg3 m c) (arg4 m c) (arg5 m c) (arg6 m c) (place t ht a) := by
  funext b
  simp only [line, TailRef.line, block0 m c t ht, block1 m c t ht, block2, embed_block m c t ht, gate_block m c t ht]

theorem err_block : errAt (iblk m c 0 t) (iblk m c 1 t) (iblk m c 2 t) (iblk m c 3 t) (iblk m c 4 t) (iblk m c 5 t) (iblk m c 6 t) (iblk m c 7 t) (iblk m c 8 t) (iblk m c 9 t) a b = TailRef.errAt (arg0 m c) (arg1 m c) (arg2 m c) (arg3 m c) (arg4 m c) (arg5 m c) (arg6 m c) (arg7 m c) (arg8 m c) (arg9 m c) (place t ht a) b := by
  simp only [errAt, TailRef.errAt, line_block m c t ht, block7, block8, block9 m c t ht]

theorem cot_block : cotAt (iblk m c 0 t) (iblk m c 1 t) (iblk m c 2 t) (iblk m c 3 t) (iblk m c 4 t) (iblk m c 5 t) (iblk m c 6 t) (iblk m c 7 t) (iblk m c 8 t) (iblk m c 9 t) a b = TailRef.cotAt (arg0 m c) (arg1 m c) (arg2 m c) (arg3 m c) (arg4 m c) (arg5 m c) (arg6 m c) (arg7 m c) (arg8 m c) (arg9 m c) (place t ht a) b := by
  simp only [cotAt, TailRef.cotAt, line_block m c t ht, block7, block8, block9 m c t ht]

theorem weight_block : weightAt (iblk m c 0 t) (iblk m c 1 t) (iblk m c 2 t) (iblk m c 3 t) (iblk m c 4 t) (iblk m c 5 t) (iblk m c 6 t) (iblk m c 7 t) (iblk m c 8 t) (iblk m c 9 t) a = TailRef.weightAt (arg0 m c) (arg1 m c) (arg2 m c) (arg3 m c) (arg4 m c) (arg5 m c) (arg6 m c) (arg7 m c) (arg8 m c) (arg9 m c) (place t ht a) := by
  funext b
  simp only [weightAt, TailRef.weightAt, line_block m c t ht, block7, block8, block9 m c t ht]

end

/-- Every entry that the gradient reads is a real number. -/
structure Reals : Prop where
  h0 : ∀ i, IsReal (arg0 m c i)
  h1 : ∀ i, IsReal (arg1 m c i)
  h2 : ∀ i, IsReal (arg2 m c i)
  h3 : ∀ i, IsReal (arg3 m c i)
  h4 : ∀ i, IsReal (arg4 m c i)
  h5 : ∀ i, IsReal (arg5 m c i)
  h6 : ∀ i, IsReal (arg6 m c i)
  h7 : ∀ i, IsReal (arg7 m c i)
  h8 : ∀ i, IsReal (arg8 m c i)
  h9 : ∀ i, IsReal (arg9 m c i)

variable {m c} (hR : Reals m c)

include hR

theorem line_real (a : Fin 2048) (b : Fin 1024) : IsReal (TailRef.line (arg0 m c) (arg1 m c) (arg2 m c) (arg3 m c) (arg4 m c) (arg5 m c) (arg6 m c) a b) := by
  have he : IsReal (TailRef.embedAt (arg3 m c) (arg4 m c) a b) := by
    rw [TailRef.embedAt, embed]
    exact .sum _ fun k => .mul (hR.h3 _) (hR.h4 _)
  have hg : IsReal (TailRef.gateAt (arg5 m c) (arg6 m c) a b) := gate_real (.add (hR.h5 _) (hR.h6 _))
  exact .add (.add (.mul alpha_real (hR.h0 _)) (.sum _ fun n => .mul (hR.h1 _) (hR.h2 _))) (.mul he hg)

theorem weightAt_real (a : Fin 2048) (b : Fin 1024) : IsReal (TailRef.weightAt (arg0 m c) (arg1 m c) (arg2 m c) (arg3 m c) (arg4 m c) (arg5 m c) (arg6 m c) (arg7 m c) (arg8 m c) (arg9 m c) a b) :=
  weight_real (line_real hR a) (fun k => hR.h7 _) (fun k => hR.h8 _) (fun k => hR.h9 _) b

/-- The point's gradients are the reference's. -/
theorem grad_block (t : Fin cfg0.N) (ht : t.val < 8) (a : Fin 256) (b : Fin 1024) :
    gradAt (iblk m c 0 t) (iblk m c 1 t) (iblk m c 2 t) (iblk m c 3 t) (iblk m c 4 t) (iblk m c 5 t) (iblk m c 6 t) (iblk m c 7 t) (iblk m c 8 t) (iblk m c 9 t) a b = val_main_v101 (F := Ideal) (arg0 m c) (arg1 m c) (arg2 m c) (arg3 m c) (arg4 m c) (arg5 m c) (arg6 m c) (arg7 m c) (arg8 m c) (arg9 m c) (ix2 (place t ht a) b) := by
  rw [TailRef.derived_at, derived_eq_direct b (line_real hR _) (weightAt_real hR _)]
  rw [gradAt, line_block m c t ht, weight_block m c t ht]

theorem dembed_block (t : Fin cfg0.N) (ht : t.val < 8) (a : Fin 256) (b : Fin 1024) :
    dembedAt (iblk m c 0 t) (iblk m c 1 t) (iblk m c 2 t) (iblk m c 3 t) (iblk m c 4 t) (iblk m c 5 t) (iblk m c 6 t) (iblk m c 7 t) (iblk m c 8 t) (iblk m c 9 t) a b = val_main_v103 (F := Ideal) (arg0 m c) (arg1 m c) (arg2 m c) (arg3 m c) (arg4 m c) (arg5 m c) (arg6 m c) (arg7 m c) (arg8 m c) (arg9 m c) (ix2 (place t ht a) b) := by
  rw [TailRef.dembed_at, ← grad_block hR t ht, ← gate_block m c t ht, dembedAt]

theorem dgate_block (t : Fin cfg0.N) (ht : t.val < 8) (a : Fin 256) (b : Fin 1024) :
    dgateAt (iblk m c 0 t) (iblk m c 1 t) (iblk m c 2 t) (iblk m c 3 t) (iblk m c 4 t) (iblk m c 5 t) (iblk m c 6 t) (iblk m c 7 t) (iblk m c 8 t) (iblk m c 9 t) a b = val_main_v104 (F := Ideal) (arg0 m c) (arg1 m c) (arg2 m c) (arg3 m c) (arg4 m c) (arg5 m c) (arg6 m c) (arg7 m c) (arg8 m c) (arg9 m c) (ix2 (place t ht a) b) := by
  rw [TailRef.dgate_at, ← grad_block hR t ht, ← gate_block m c t ht, ← embed_block m c t ht, dgateAt]

theorem grad_out (t : Fin cfg0.N) (ht : t.val < 8) (a : Fin 256) (b : Fin 1024) :
    (outsAt0 m c t.val t.isLt).1 (ix2 a b) = val_main_v101 (F := Ideal) (arg0 m c) (arg1 m c) (arg2 m c) (arg3 m c) (arg4 m c) (arg5 m c) (arg6 m c) (arg7 m c) (arg8 m c) (arg9 m c) (ix2 (place t ht a) b) := by
  refine Eq.trans ?_ (grad_block hR t ht a b)
  by_cases h : t.val % 8 = 0
  · exact gradA m c t h a b
  · exact gradB m c t h a b

theorem cast_out (t : Fin cfg0.N) (ht : t.val < 8) (a : Fin 256) (b : Fin 1024) :
    (outsAt0 m c t.val t.isLt).2.1 (ix2 a b) = val_main_v108 (F := Ideal) (arg0 m c) (arg1 m c) (arg2 m c) (arg3 m c) (arg4 m c) (arg5 m c) (arg6 m c) (arg7 m c) (arg8 m c) (arg9 m c) (ix2 (place t ht a) b) := by
  rw [TailRef.kept_at]
  refine Eq.trans ?_ (grad_block hR t ht a b)
  by_cases h : t.val % 8 = 0
  · exact castA m c t h a b
  · exact castB m c t h a b

theorem dembed_out (t : Fin cfg0.N) (ht : t.val < 8) (a : Fin 256) (b : Fin 1024) :
    (outsAt0 m c t.val t.isLt).2.2.1 (ix2 a b) = val_main_v109 (F := Ideal) (arg0 m c) (arg1 m c) (arg2 m c) (arg3 m c) (arg4 m c) (arg5 m c) (arg6 m c) (arg7 m c) (arg8 m c) (arg9 m c) (ix2 (place t ht a) b) := by
  rw [TailRef.dembed_kept_at]
  refine Eq.trans ?_ (dembed_block hR t ht a b)
  by_cases h : t.val % 8 = 0
  · exact dembedA m c t h a b
  · exact dembedB m c t h a b

theorem dgate_out (t : Fin cfg0.N) (ht : t.val < 8) (a : Fin 256) (b : Fin 1024) :
    (outsAt0 m c t.val t.isLt).2.2.2.1 (ix2 a b) = val_main_v110 (F := Ideal) (arg0 m c) (arg1 m c) (arg2 m c) (arg3 m c) (arg4 m c) (arg5 m c) (arg6 m c) (arg7 m c) (arg8 m c) (arg9 m c) (ix2 (place t ht a) b) := by
  rw [TailRef.dgate_kept_at]
  refine Eq.trans ?_ (dgate_block hR t ht a b)
  by_cases h : t.val % 8 = 0
  · exact dgateA m c t h a b
  · exact dgateB m c t h a b

omit hR

variable (m c)

/-- What the point `s` adds to the block of sums. -/
def share (r : Fin 8) (b : Fin 1024) (s : ℕ) : EReal := if h : s < cfg0.N then addedAt m c ⟨s, h⟩ r b else 0

theorem sums_upto (r : Fin 8) (b : Fin 1024) : ∀ (n : ℕ) (hn : n < cfg0.N), (outsAt0 m c n hn).2.2.2.2 (ix2 r b) = ∑ s ∈ range (n + 1), share m c r b s
  | 0, hn => by
    rw [sum_range_one, share, dif_pos hn]
    exact sumsA m c ⟨0, hn⟩ rfl r b
  | n + 1, hn => by
    have h8 : n + 1 < 8 := hn
    rw [sum_range_succ, ← sums_upto r b n (by omega), share, dif_pos hn]
    exact sumsB m c ⟨n + 1, hn⟩ (by show ¬(n + 1) % 8 = 0; omega) _ r b

variable {m c}

include hR

/-- The block of sums after the last point. -/
theorem sums_out (r : Fin 8) (b : Fin 1024) (n : ℕ) (h7 : n = 7) (hn : n < cfg0.N) : (outsAt0 m c n hn).2.2.2.2 (ix2 r b) =
    val_main_v117 (F := Ideal) (arg0 m c) (arg1 m c) (arg2 m c) (arg3 m c) (arg4 m c) (arg5 m c) (arg6 m c) (arg7 m c) (arg8 m c) (arg9 m c) (ix2 r b) := by
  subst h7
  have hs : ∀ s : Fin 8, share m c r b s = addedAt m c s r b := fun s => dif_pos s.isLt
  have hl (s : Fin 8) (y : Fin 256) := line_block m c s s.isLt y
  have hc (s : Fin 8) (y : Fin 256) := cot_block m c s s.isLt y b
  have hd (s : Fin 8) (y : Fin 256) := dgate_block hR s s.isLt y b
  have he (s : Fin 8) (y : Fin 256) (k : Fin 1024) := err_block m c s s.isLt y k
  rw [sums_upto, TailRef.rows_at, sum_range (n := 8)]
  simp only [hs, addedAt, added, hl, hc, hd, he]
  split_ifs
  · exact (sum_blocks (n := 8) (w := 256) rfl fun y : Fin 2048 => TailRef.cotAt (arg0 m c) (arg1 m c) (arg2 m c) (arg3 m c) (arg4 m c) (arg5 m c) (arg6 m c) (arg7 m c) (arg8 m c) (arg9 m c) y b * hat (TailRef.line (arg0 m c) (arg1 m c) (arg2 m c) (arg3 m c) (arg4 m c) (arg5 m c) (arg6 m c) y) b).symm
  · exact (sum_blocks (n := 8) (w := 256) rfl fun y : Fin 2048 => TailRef.cotAt (arg0 m c) (arg1 m c) (arg2 m c) (arg3 m c) (arg4 m c) (arg5 m c) (arg6 m c) (arg7 m c) (arg8 m c) (arg9 m c) y b).symm
  · exact (sum_blocks (n := 8) (w := 256) rfl fun y : Fin 2048 => val_main_v104 (F := Ideal) (arg0 m c) (arg1 m c) (arg2 m c) (arg3 m c) (arg4 m c) (arg5 m c) (arg6 m c) (arg7 m c) (arg8 m c) (arg9 m c) (ix2 y b)).symm
  · rw [sum_blocks (n := 8) (w := 256) rfl fun y : Fin 2048 => mean (fun k => TailRef.errAt (arg0 m c) (arg1 m c) (arg2 m c) (arg3 m c) (arg4 m c) (arg5 m c) (arg6 m c) (arg7 m c) (arg8 m c) (arg9 m c) y k * TailRef.errAt (arg0 m c) (arg1 m c) (arg2 m c) (arg3 m c) (arg4 m c) (arg5 m c) (arg6 m c) (arg7 m c) (arg8 m c) (arg9 m c) y k)]
    exact half_sum fun s => .sum _ fun y => loss_real (line_real hR _) (fun k => hR.h7 _) (fun k => hR.h8 _) fun k => hR.h9 _
  · exact sum_const_zero

/-- The arrays after the kernel's run. -/
theorem array14 : (dats m 0 c).arrAt 14 cfg0.N = val_main_v117 (F := Ideal) (arg0 m c) (arg1 m c) (arg2 m c) (arg3 m c) (arg4 m c) (arg5 m c) (arg6 m c) (arg7 m c) (arg8 m c) (arg9 m c) := by
  refine (dats m 0 c).arrAt_eq_of_covers 14 _ (by decide +kernel) fun t hf y => ?_
  have ht : t.val < 8 := t.isLt
  have h7 : t.val % 8 = 7 := (flush0_14 t).mp hf
  blk_simp
  rw [after0_14]
  obtain ⟨a, b, rfl⟩ : ∃ (a : Fin 8) (b : Fin 1024), y = ix2 a b := ⟨y 0, y 1, (ix2_eta y).symm⟩
  refine (sums_out hR a b t.val (by omega) t.isLt).trans (congrArg _ ?_)
  blk_ext [idx t]

theorem array10 : (dats m 0 c).arrAt 10 cfg0.N = val_main_v101 (F := Ideal) (arg0 m c) (arg1 m c) (arg2 m c) (arg3 m c) (arg4 m c) (arg5 m c) (arg6 m c) (arg7 m c) (arg8 m c) (arg9 m c) := by
  refine (dats m 0 c).arrAt_eq_of_covers 10 _ (by decide +kernel) fun t hf y => ?_
  have ht : t.val < 8 := t.isLt
  blk_simp
  rw [after0_10]
  obtain ⟨a, b, rfl⟩ : ∃ (a : Fin 256) (b : Fin 1024), y = ix2 a b := ⟨y 0, y 1, (ix2_eta y).symm⟩
  refine (grad_out hR t ht a b).trans (congrArg _ ?_)
  blk_ext [idx t]

theorem array11 : (dats m 0 c).arrAt 11 cfg0.N = val_main_v108 (F := Ideal) (arg0 m c) (arg1 m c) (arg2 m c) (arg3 m c) (arg4 m c) (arg5 m c) (arg6 m c) (arg7 m c) (arg8 m c) (arg9 m c) := by
  refine (dats m 0 c).arrAt_eq_of_covers 11 _ (by decide +kernel) fun t hf y => ?_
  have ht : t.val < 8 := t.isLt
  blk_simp
  rw [after0_11]
  obtain ⟨a, b, rfl⟩ : ∃ (a : Fin 256) (b : Fin 1024), y = ix2 a b := ⟨y 0, y 1, (ix2_eta y).symm⟩
  refine (cast_out hR t ht a b).trans (congrArg _ ?_)
  blk_ext [idx t]

theorem array12 : (dats m 0 c).arrAt 12 cfg0.N = val_main_v109 (F := Ideal) (arg0 m c) (arg1 m c) (arg2 m c) (arg3 m c) (arg4 m c) (arg5 m c) (arg6 m c) (arg7 m c) (arg8 m c) (arg9 m c) := by
  refine (dats m 0 c).arrAt_eq_of_covers 12 _ (by decide +kernel) fun t hf y => ?_
  have ht : t.val < 8 := t.isLt
  blk_simp
  rw [after0_12]
  obtain ⟨a, b, rfl⟩ : ∃ (a : Fin 256) (b : Fin 1024), y = ix2 a b := ⟨y 0, y 1, (ix2_eta y).symm⟩
  refine (dembed_out hR t ht a b).trans (congrArg _ ?_)
  blk_ext [idx t]

theorem array13 : (dats m 0 c).arrAt 13 cfg0.N = val_main_v110 (F := Ideal) (arg0 m c) (arg1 m c) (arg2 m c) (arg3 m c) (arg4 m c) (arg5 m c) (arg6 m c) (arg7 m c) (arg8 m c) (arg9 m c) := by
  refine (dats m 0 c).arrAt_eq_of_covers 13 _ (by decide +kernel) fun t hf y => ?_
  have ht : t.val < 8 := t.isLt
  blk_simp
  rw [after0_13]
  obtain ⟨a, b, rfl⟩ : ∃ (a : Fin 256) (b : Fin 1024), y = ix2 a b := ⟨y 0, y 1, (ix2_eta y).symm⟩
  refine (dgate_out hR t ht a b).trans (congrArg _ ?_)
  blk_ext [idx t]

omit hR

/-- The reference ends with its arguments kept. -/
theorem frame_reference : Cert.quiescent_TailRefIdeal := fun m ρ _ =>
  (θ_run Cert.TailRefIdeal.defs _ _).mono (fun r h => ⟨fun c => (h c).2.2.2.2.2, sem_eq_zero_of_no_sems (by decide) r.2⟩)
    (Cert.TailRefIdeal.Value.run (F := Ideal) m ρ)

/-- The side conditions the precondition's text states. -/
theorem facts : Cert.Pre_finite_tail.Facts := ⟨by decide, by decide, by decide, by decide, by decide, by decide⟩

theorem reals [Cert.Pre_finite_tail.Facts] (h : Cert.Pre_TailIdeal_finite_tail m) : Reals m c :=
  ⟨fun i => Finite.isReal (congrFun (h c).1 i), fun i => Finite.isReal_half (congrFun (h c).2.1 i), fun i => Finite.isReal_half (congrFun (h c).2.2.1 i), fun i => Finite.isReal_half (congrFun (h c).2.2.2.1 i), fun i => Finite.isReal_half (congrFun (h c).2.2.2.2.1 i), fun i => Finite.isReal (congrFun (h c).2.2.2.2.2.1 i), fun i => Finite.isReal (congrFun (h c).2.2.2.2.2.2.1 i), fun i => Finite.isReal (congrFun (h c).2.2.2.2.2.2.2.1 i), fun i => Finite.isReal (congrFun (h c).2.2.2.2.2.2.2.2.1 i), fun i => Finite.isReal (congrFun (h c).2.2.2.2.2.2.2.2.2 i)⟩

/-- The ideal kernel computes what the reference does, on finite arrays. -/
theorem algebraic [Cert.Pre_finite_tail.Facts] : Cert.algebraic_TailIdeal_TailRefIdeal_pre_finite_tail := by
  intro m g m' g' hpre hargs
  refine ⟨fun c => val_main_v101 (F := Ideal) (arg0 m c) (arg1 m c) (arg2 m c) (arg3 m c) (arg4 m c) (arg5 m c) (arg6 m c) (arg7 m c) (arg8 m c) (arg9 m c), fun c => val_main_v108 (F := Ideal) (arg0 m c) (arg1 m c) (arg2 m c) (arg3 m c) (arg4 m c) (arg5 m c) (arg6 m c) (arg7 m c) (arg8 m c) (arg9 m c), fun c => val_main_v109 (F := Ideal) (arg0 m c) (arg1 m c) (arg2 m c) (arg3 m c) (arg4 m c) (arg5 m c) (arg6 m c) (arg7 m c) (arg8 m c) (arg9 m c), fun c => val_main_v110 (F := Ideal) (arg0 m c) (arg1 m c) (arg2 m c) (arg3 m c) (arg4 m c) (arg5 m c) (arg6 m c) (arg7 m c) (arg8 m c) (arg9 m c), fun c => val_main_v117 (F := Ideal) (arg0 m c) (arg1 m c) (arg2 m c) (arg3 m c) (arg4 m c) (arg5 m c) (arg6 m c) (arg7 m c) (arg8 m c) (arg9 m c), ?_, ?_⟩
  · refine (θ_run Cert.TailIdeal.defs _ _).mono (fun r h c => ?_) (Cert.TailIdeal.Value.run_blocks (F := Ideal) m g)
    obtain ⟨h10, h11, h12, h13, h14, h⟩ := h c
    have hR : Reals m c := reals hpre
    exact ⟨h10.trans (array10 hR), h11.trans (array11 hR), h12.trans (array12 hR), h13.trans (array13 hR), h14.trans (array14 hR), h⟩
  · refine (θ_run Cert.TailRefIdeal.defs _ _).mono (fun r h c => ?_) (Cert.TailRefIdeal.Value.run (F := Ideal) m' g')
    obtain ⟨h0, h1, h2, h3, h4, h⟩ := h c
    obtain ⟨e0, e1, e2, e3, e4, e5, e6, e7, e8, e9⟩ :
        StableHlo.launchContents m' c (Proc.devRef .tc Cert.TailRefIdeal.main_arg0) = arg0 m c ∧
        StableHlo.launchContents m' c (Proc.devRef .tc Cert.TailRefIdeal.main_arg1) = arg1 m c ∧
        StableHlo.launchContents m' c (Proc.devRef .tc Cert.TailRefIdeal.main_arg2) = arg2 m c ∧
        StableHlo.launchContents m' c (Proc.devRef .tc Cert.TailRefIdeal.main_arg3) = arg3 m c ∧
        StableHlo.launchContents m' c (Proc.devRef .tc Cert.TailRefIdeal.main_arg4) = arg4 m c ∧
        StableHlo.launchContents m' c (Proc.devRef .tc Cert.TailRefIdeal.main_arg5) = arg5 m c ∧
        StableHlo.launchContents m' c (Proc.devRef .tc Cert.TailRefIdeal.main_arg6) = arg6 m c ∧
        StableHlo.launchContents m' c (Proc.devRef .tc Cert.TailRefIdeal.main_arg7) = arg7 m c ∧
        StableHlo.launchContents m' c (Proc.devRef .tc Cert.TailRefIdeal.main_arg8) = arg8 m c ∧
        StableHlo.launchContents m' c (Proc.devRef .tc Cert.TailRefIdeal.main_arg9) = arg9 m c := hargs c
    rw [Cert.TailRefIdeal.Read.val_main_v101_eq, e0, e1, e2, e3, e4, e5, e6, e7, e8, e9] at h0
    rw [Cert.TailRefIdeal.Read.val_main_v108_eq, e0, e1, e2, e3, e4, e5, e6, e7, e8, e9] at h1
    rw [Cert.TailRefIdeal.Read.val_main_v109_eq, e0, e1, e2, e3, e4, e5, e6, e7, e8, e9] at h2
    rw [Cert.TailRefIdeal.Read.val_main_v110_eq, e0, e1, e2, e3, e4, e5, e6, e7, e8, e9] at h3
    replace h4 := h4.trans (Cert.TailRefIdeal.Read.val_main_v117_eq _)
    rw [e0, e1, e2, e3, e4, e5, e6, e7, e8, e9] at h4
    exact ⟨h0, h1, h2, h3, h4, h⟩

end Cert.Proof.Tail

end

end
-- ==== Proof.HeadsPoint.lean ====
module

public import proofs.«01_k».proof.Proof.Gen.HeadsIdeal.Value
public import proofs.«01_k».proof.Proof.Stores
public import proofs.«01_k».proof.Proof.HeadsRow

/-! One point of the gradients of the heads' norms and gate. -/

@[expose] public section

set_option maxRecDepth 16384

noncomputable section

namespace Cert.Proof.Heads

open Idealize.ShloMosaic Idealize.ShloMosaic.TcCoe Idealize.ShloMosaic.Tactic
open Cert.HeadsIdeal Cert.HeadsIdeal.Gen Cert.Stores Cert.Norm Cert.Rms Finset

local instance : Cert.HeadsIdeal.Facts := Cert.HeadsIdeal.Gen.facts

section

variable (x z y : Vec Ideal S256x128 .f32) (D : FVec Ideal S256x1024 .f32) (g f : Vec Ideal S1x128 .f32) (u v : FVec Ideal S1x128 .f32)
  (p : Vec Ideal S256x1024 .bf16) (q : Vec Ideal S1024x1024 .bf16) (a : Fin 256) (k : Fin 128) (s : Fin 2) (l : Fin 64)

/-- The product with the transposed weight. -/
theorem product_here (j : Fin 1024) : k0_pay3 (F := Ideal) p q (ix2 a j) = ∑ n : Fin 1024, p (ix2 a n) * q (ix2 j n) := by
  pointwise [k0_pay3]

/-- A choice by the mask of the lower half, and the sum over the half that a lane is in. -/
theorem select_mask (v w : EReal) : Scalar.select (k0_pay43 (ix2 a k)) v w = if k.val < 64 then v else w := by
  have h : ∀ k : Fin 128, k0_pay43 (ix2 a k) = if k.val < 64 then 1#1 else 0#1 := by
    intro k
    pointwise [k0_pay43]
    exact (by decide : ∀ k : Fin 128, IntOp.cmpi .slt (BitVec.ofNat 32 k) 64#32 = if k.val < 64 then 1#1 else 0#1) k
  rw [h k]
  split_ifs <;> rfl

/-- A row of a strip, of the cotangents' first columns and of those from a later column on, and of the gain; and the halves of these. -/
abbrev row (x : Vec Ideal S256x128 .f32) (a : Fin 256) (k : Fin 128) : EReal := x (ix2 a k)
abbrev low (D : FVec Ideal S256x1024 .f32) (a : Fin 256) (k : Fin 128) : EReal := D (ix2 a ⟨k, by omega⟩)
abbrev cut (D : FVec Ideal S256x1024 .f32) (o : ℕ) (h : o + 128 ≤ 1024) (a : Fin 256) (k : Fin 128) : EReal := D (ix2 a ⟨o + k, by omega⟩)
abbrev only (g : Vec Ideal S1x128 .f32) (k : Fin 128) : EReal := g (ix2 0 k)
abbrev half (r : Fin 128 → EReal) (s : Fin 2) (l : Fin 64) : EReal := r ⟨64 * s + l, by omega⟩

theorem gate0 : k0_pay12 (F := Ideal) (k0_pay8 z) (k0_pay10 p q x g) (k0_pay11 z) (ix2 a k) = gateGrad (row x a) (row z a) (low (k0_pay3 p q) a) (only g) k := by
  pointwise [k0_pay5, k0_pay6, k0_pay7, k0_pay8, k0_pay10, k0_pay11, k0_pay12]
  simp only [zero_sub]
  rfl

theorem row0 : k0_pay14 (F := Ideal) x (k0_pay6 g) (k0_pay7 x) (k0_pay9 p q z) (ix2 a k) = rowGrad (row x a) (row z a) (low (k0_pay3 p q) a) (only g) k := by
  pointwise [k0_pay5, k0_pay6, k0_pay7, k0_pay8, k0_pay9, k0_pay14]
  simp only [zero_sub]
  rfl

theorem gain0 : k0_pay13 (F := Ideal) u x (k0_pay7 x) (k0_pay9 p q z) (ix2 0 k) = u (ix2 0 k) + ∑ y : Fin 256, gainPart (row x y) (row z y) (low (k0_pay3 p q) y) k := by
  pointwise [k0_pay5, k0_pay7, k0_pay8, k0_pay9, k0_pay13]
  simp only [zero_sub]
  rfl

theorem gate1 : k0_pay21 (F := Ideal) x z (k0_pay15 D) (k0_pay16 g) (k0_pay17 x) (ix2 a k) = gateGrad (row x a) (row z a) (cut D 128 (by decide) a) (only g) k := by
  pointwise [k0_pay15, k0_pay16, k0_pay17, k0_pay18, k0_pay19, k0_pay21]
  simp only [zero_sub]
  rfl

theorem row1 : k0_pay23 (F := Ideal) x z (k0_pay15 D) (k0_pay16 g) (k0_pay17 x) (ix2 a k) = rowGrad (row x a) (row z a) (cut D 128 (by decide) a) (only g) k := by
  pointwise [k0_pay15, k0_pay16, k0_pay17, k0_pay18, k0_pay19, k0_pay20, k0_pay23]
  simp only [zero_sub]
  rfl

theorem gain1 : k0_pay22 (F := Ideal) u x z (k0_pay15 D) (k0_pay17 x) (ix2 0 k) = u (ix2 0 k) + ∑ y : Fin 256, gainPart (row x y) (row z y) (cut D 128 (by decide) y) k := by
  pointwise [k0_pay15, k0_pay17, k0_pay18, k0_pay19, k0_pay20, k0_pay22]
  simp only [zero_sub]
  rfl

theorem gate2 : k0_pay29 (F := Ideal) D x z g (ix2 a k) = gateGrad (row x a) (row z a) (cut D 256 (by decide) a) (only g) k := by
  pointwise [k0_pay24, k0_pay25, k0_pay26, k0_pay27, k0_pay29]
  simp only [zero_sub]
  rfl

theorem row2 : k0_pay32 (F := Ideal) x (k0_pay25 g) (k0_pay26 x) (k0_pay28 D z) (ix2 a k) = rowGrad (row x a) (row z a) (cut D 256 (by decide) a) (only g) k := by
  pointwise [k0_pay24, k0_pay25, k0_pay26, k0_pay27, k0_pay28, k0_pay32]
  simp only [zero_sub]
  rfl

theorem gain2 : k0_pay31 (F := Ideal) u (k0_pay30 D x z) (ix2 0 k) = u (ix2 0 k) + ∑ y : Fin 256, gainPart (row x y) (row z y) (cut D 256 (by decide) y) k := by
  pointwise [k0_pay24, k0_pay26, k0_pay27, k0_pay28, k0_pay30, k0_pay31]
  simp only [zero_sub]
  rfl

theorem gate3 : k0_pay40 (F := Ideal) z (k0_pay33 D) (k0_pay36 z) (k0_pay38 x g) (ix2 a k) = gateGrad (row x a) (row z a) (cut D 384 (by decide) a) (only g) k := by
  pointwise [k0_pay33, k0_pay34, k0_pay35, k0_pay36, k0_pay38, k0_pay40]
  simp only [zero_sub]
  rfl

theorem row3 : k0_pay41 (F := Ideal) x (k0_pay33 D) (k0_pay34 g) (k0_pay35 x) (k0_pay37 z) (ix2 a k) = rowGrad (row x a) (row z a) (cut D 384 (by decide) a) (only g) k := by
  pointwise [k0_pay33, k0_pay34, k0_pay35, k0_pay36, k0_pay37, k0_pay39, k0_pay41]
  simp only [zero_sub]
  rfl

theorem gain3 : k0_pay42 (F := Ideal) u x (k0_pay33 D) (k0_pay35 x) (k0_pay37 z) v (ix2 0 k) = v (ix2 0 k) + (u (ix2 0 k) + ∑ y : Fin 256, gainPart (row x y) (row z y) (cut D 384 (by decide) y) k) := by
  pointwise [k0_pay33, k0_pay35, k0_pay36, k0_pay37, k0_pay39, k0_pay42]
  simp only [zero_sub]
  rfl

theorem half0 : k0_pay54 (F := Ideal) k0_pay43 (k0_pay50 D k0_pay43 y f) (k0_pay51 D k0_pay43 y f) (k0_pay52 k0_pay43 y) (k0_pay53 D k0_pay43 y f) (ix2 a ⟨64 * s + l, by omega⟩) =
    halfGrad (half (row y a) s) (half (cut D 512 (by decide) a) s) (half (only f) s) l := by
  pointwise [k0_pay45, k0_pay46, k0_pay48, k0_pay49, k0_pay50, k0_pay51, k0_pay52, k0_pay53, k0_pay54]
  simp only [select_mask, own_half, ← div_short]
  rfl

theorem halfGain0 : k0_pay47 (F := Ideal) D k0_pay43 u y (ix2 0 ⟨64 * s + l, by omega⟩) =
    u (ix2 0 ⟨64 * s + l, by omega⟩) + ∑ r : Fin 256, halfPart (half (row y r) s) (half (cut D 512 (by decide) r) s) l := by
  pointwise [k0_pay45, k0_pay46, k0_pay47]
  simp only [select_mask, own_half, ← div_short]
  rfl

theorem half1 : k0_pay61 (F := Ideal) k0_pay43 y (k0_pay56 k0_pay43 y) (k0_pay58 D f) (k0_pay59 D y f) (k0_pay60 D k0_pay43 y f) (ix2 a ⟨64 * s + l, by omega⟩) =
    halfGrad (half (row y a) s) (half (cut D 640 (by decide) a) s) (half (only f) s) l := by
  pointwise [k0_pay55, k0_pay56, k0_pay58, k0_pay59, k0_pay60, k0_pay61]
  simp only [select_mask, own_half, ← div_short]
  rfl

theorem halfGain1 : k0_pay57 (F := Ideal) D k0_pay43 u y (ix2 0 ⟨64 * s + l, by omega⟩) =
    u (ix2 0 ⟨64 * s + l, by omega⟩) + ∑ r : Fin 256, halfPart (half (row y r) s) (half (cut D 640 (by decide) r) s) l := by
  pointwise [k0_pay55, k0_pay56, k0_pay57]
  simp only [select_mask, own_half, ← div_short]
  rfl

theorem half2 : k0_pay67 (F := Ideal) k0_pay43 y (k0_pay62 D) (k0_pay63 f) (k0_pay64 k0_pay43 y) (ix2 a ⟨64 * s + l, by omega⟩) =
    halfGrad (half (row y a) s) (half (cut D 768 (by decide) a) s) (half (only f) s) l := by
  pointwise [k0_pay62, k0_pay63, k0_pay64, k0_pay67]
  simp only [select_mask, own_half, ← div_short]
  rfl

theorem halfGain2 : k0_pay66 (F := Ideal) u (k0_pay65 D k0_pay43 y) (ix2 0 ⟨64 * s + l, by omega⟩) =
    u (ix2 0 ⟨64 * s + l, by omega⟩) + ∑ r : Fin 256, halfPart (half (row y r) s) (half (cut D 768 (by decide) r) s) l := by
  pointwise [k0_pay62, k0_pay64, k0_pay65, k0_pay66]
  simp only [select_mask, own_half, ← div_short]
  rfl

theorem half3 : k0_pay75 (F := Ideal) k0_pay43 y (k0_pay68 D) (k0_pay69 f) (k0_pay71 k0_pay43 y) (k0_pay72 k0_pay43 y) (ix2 a ⟨64 * s + l, by omega⟩) =
    halfGrad (half (row y a) s) (half (cut D 896 (by decide) a) s) (half (only f) s) l := by
  pointwise [k0_pay68, k0_pay69, k0_pay70, k0_pay71, k0_pay72, k0_pay73, k0_pay75]
  simp only [select_mask, own_half, ← div_short]
  rfl

theorem halfGain3 : k0_pay74 (F := Ideal) k0_pay43 u y (k0_pay68 D) (k0_pay71 k0_pay43 y) (k0_pay72 k0_pay43 y) (ix2 0 ⟨64 * s + l, by omega⟩) =
    u (ix2 0 ⟨64 * s + l, by omega⟩) + ∑ r : Fin 256, halfPart (half (row y r) s) (half (cut D 896 (by decide) r) s) l := by
  pointwise [k0_pay68, k0_pay70, k0_pay71, k0_pay72, k0_pay73, k0_pay74]
  simp only [select_mask, own_half, ← div_short]
  rfl

end

section

variable (x0 : Vec Ideal S256x1024 .bf16) (x1 : Vec Ideal S1024x1024 .bf16) (x2 x3 x4 : Vec Ideal S256x512 .f32) (x5 x6 : Vec Ideal S1x128 .f32)
  (a : Fin 256) (h : Fin 4) (k : Fin 128) (s : Fin 2) (l : Fin 64)

/-- The four strips of a block. -/
abbrev ld0 (X : Vec Ideal S256x512 .f32) : Vec Ideal S256x128 .f32 := View.ld (Val := Elt Ideal) (e' := .f32) X (Rect.unit ![0, 0] ![256, 128] inb_S256x512_S256x128_0_0)
abbrev ld1 (X : Vec Ideal S256x512 .f32) : Vec Ideal S256x128 .f32 := View.ld (Val := Elt Ideal) (e' := .f32) X (Rect.unit ![0, 128] ![256, 128] inb_S256x512_S256x128_0_128)
abbrev ld2 (X : Vec Ideal S256x512 .f32) : Vec Ideal S256x128 .f32 := View.ld (Val := Elt Ideal) (e' := .f32) X (Rect.unit ![0, 256] ![256, 128] inb_S256x512_S256x128_0_256)
abbrev ld3 (X : Vec Ideal S256x512 .f32) : Vec Ideal S256x128 .f32 := View.ld (Val := Elt Ideal) (e' := .f32) X (Rect.unit ![0, 384] ![256, 128] inb_S256x512_S256x128_0_384)

/-- The rows of a head in the point's blocks: its values, and the cotangents of a full-width and of a half-width head. -/
def head (X : Vec Ideal S256x512 .f32) (a : Fin 256) (h : Fin 4) (k : Fin 128) : EReal := X (ix2 a ⟨h * 128 + k, by omega⟩)
def cot (a : Fin 256) (h : Fin 4) (k : Fin 128) : EReal := ∑ n : Fin 1024, x0 (ix2 a n) * x1 (ix2 ⟨h * 128 + k, by omega⟩ n)
def halfCot (a : Fin 256) (h : Fin 4) (k : Fin 128) : EReal := ∑ n : Fin 1024, x0 (ix2 a n) * x1 (ix2 ⟨512 + (h * 128 + k), by omega⟩ n)

theorem strip_head (X : Vec Ideal S256x512 .f32) (a : Fin 256) :
    row (ld0 X) a = head X a 0 ∧ row (ld1 X) a = head X a 1 ∧ row (ld2 X) a = head X a 2 ∧ row (ld3 X) a = head X a 3 :=
  ⟨funext fun k => ld_block X _ a k a _ (by omega) (by show 0 * 128 + k.val = 0 + k.val; omega),
    funext fun k => ld_block X _ a k a _ (by omega) (by show 1 * 128 + k.val = 128 + k.val; omega),
    funext fun k => ld_block X _ a k a _ (by omega) (by show 2 * 128 + k.val = 256 + k.val; omega),
    funext fun k => ld_block X _ a k a _ (by omega) (by show 3 * 128 + k.val = 384 + k.val; omega)⟩

theorem low_cot : low (k0_pay3 x0 x1) a = cot x0 x1 a 0 := by
  funext k
  rw [low, product_here, cot]
  exact sum_congr rfl fun n _ => congrArg (fun j => x0 (ix2 a n) * x1 (ix2 j n)) (Fin.ext (by show k.val = 0 * 128 + k.val; omega))

theorem cut_cot {o : ℕ} (ho : o + 128 ≤ 1024) (e : o = h.val * 128) : cut (k0_pay3 x0 x1) o ho a = cot x0 x1 a h := by
  subst e
  funext k
  rw [cut, product_here, cot]

theorem cut_halfCot {o : ℕ} (ho : o + 128 ≤ 1024) (e : o = 512 + h.val * 128) : cut (k0_pay3 x0 x1) o ho a = halfCot x0 x1 a h := by
  subst e
  funext k
  rw [cut, product_here, halfCot]
  exact sum_congr rfl fun n _ => congrArg (fun j => x0 (ix2 a n) * x1 (ix2 j n)) (Fin.ext (Nat.add_assoc _ _ _))

/-- A lane of a half. -/
abbrev lane (s : Fin 2) (l : Fin 64) : Fin 128 := ⟨64 * s + l, by omega⟩

/-- A column's head and lane are those of the strip that holds it. -/
theorem place {h : Fin 4} {k y : Fin 128} {o : ℕ} (j : Fin 4) (ho : o = j.val * 128) (e : h.val * 128 + k.val = o + y.val) : h = j ∧ k = y :=
  ⟨Fin.ext (by omega), Fin.ext (by omega)⟩

/-- The gradient of the gate's argument, as the four strips' stores leave it. -/
theorem gates {f : List (View.Piece (Elt Ideal) S256x512 .bf16) → S256x512.Idx → Elt Ideal .bf16} (hf : Reads f) (L : List (View.Piece (Elt Ideal) S256x512 .bf16)) :
    f (⟨Rect.unit ![0, 384] ![256, 128] inb_S256x512_S256x128_0_384, k0_pay40 (ld3 x3) (k0_pay33 (k0_pay3 x0 x1)) (k0_pay36 (ld3 x3)) (k0_pay38 (ld3 x2) x5)⟩ ::
      ⟨Rect.unit ![0, 256] ![256, 128] inb_S256x512_S256x128_0_256, k0_pay29 (k0_pay3 x0 x1) (ld2 x2) (ld2 x3) x5⟩ ::
      ⟨Rect.unit ![0, 128] ![256, 128] inb_S256x512_S256x128_0_128, k0_pay21 (ld1 x2) (ld1 x3) (k0_pay15 (k0_pay3 x0 x1)) (k0_pay16 x5) (k0_pay17 (ld1 x2))⟩ ::
      ⟨Rect.unit ![0, 0] ![256, 128] inb_S256x512_S256x128_0_0, k0_pay12 (k0_pay8 (ld0 x3)) (k0_pay10 x0 x1 (ld0 x2) x5) (k0_pay11 (ld0 x3))⟩ :: L) (ix2 a ⟨h * 128 + k, by omega⟩) = gateGrad (head x2 a h) (head x3 a h) (cot x0 x1 a h) (only x5) k := by
  refine hf.strip _ _ _ a _ _ (by show h.val * 128 + k.val < 384 + 128; omega) (fun y hy => ?_) fun h3 =>
    hf.strip _ _ _ a _ _ (by omega) (fun y hy => ?_) fun h2 => hf.strip _ _ _ a _ _ (by omega) (fun y hy => ?_) fun h1 =>
    hf.strip _ _ _ a _ _ (by omega) (fun y hy => ?_) fun h0 => absurd h0 (Nat.not_lt_zero _)
  · obtain ⟨rfl, rfl⟩ := place 3 rfl hy
    exact (gate3 _ _ _ _ _ _).trans (by rw [(strip_head _ _).2.2.2, (strip_head _ _).2.2.2, cut_cot (o := 384) x0 x1 _ 3 _ rfl])
  · obtain ⟨rfl, rfl⟩ := place 2 rfl hy
    exact (gate2 _ _ _ _ _ _).trans (by rw [(strip_head _ _).2.2.1, (strip_head _ _).2.2.1, cut_cot (o := 256) x0 x1 _ 2 _ rfl])
  · obtain ⟨rfl, rfl⟩ := place 1 rfl hy
    exact (gate1 _ _ _ _ _ _).trans (by rw [(strip_head _ _).2.1, (strip_head _ _).2.1, cut_cot (o := 128) x0 x1 _ 1 _ rfl])
  · obtain ⟨rfl, rfl⟩ := place 0 rfl hy
    exact (gate0 _ _ _ _ _ _ _).trans (by rw [(strip_head _ _).1, (strip_head _ _).1, low_cot])

/-- The gradient of the full-width heads. -/
theorem grads {f : List (View.Piece (Elt Ideal) S256x512 .f32) → S256x512.Idx → Elt Ideal .f32} (hf : Reads f) (L : List (View.Piece (Elt Ideal) S256x512 .f32)) :
    f (⟨Rect.unit ![0, 384] ![256, 128] inb_S256x512_S256x128_0_384, k0_pay41 (ld3 x2) (k0_pay33 (k0_pay3 x0 x1)) (k0_pay34 x5) (k0_pay35 (ld3 x2)) (k0_pay37 (ld3 x3))⟩ ::
      ⟨Rect.unit ![0, 256] ![256, 128] inb_S256x512_S256x128_0_256, k0_pay32 (ld2 x2) (k0_pay25 x5) (k0_pay26 (ld2 x2)) (k0_pay28 (k0_pay3 x0 x1) (ld2 x3))⟩ ::
      ⟨Rect.unit ![0, 128] ![256, 128] inb_S256x512_S256x128_0_128, k0_pay23 (ld1 x2) (ld1 x3) (k0_pay15 (k0_pay3 x0 x1)) (k0_pay16 x5) (k0_pay17 (ld1 x2))⟩ ::
      ⟨Rect.unit ![0, 0] ![256, 128] inb_S256x512_S256x128_0_0, k0_pay14 (ld0 x2) (k0_pay6 x5) (k0_pay7 (ld0 x2)) (k0_pay9 x0 x1 (ld0 x3))⟩ :: L) (ix2 a ⟨h * 128 + k, by omega⟩) = rowGrad (head x2 a h) (head x3 a h) (cot x0 x1 a h) (only x5) k := by
  refine hf.strip _ _ _ a _ _ (by show h.val * 128 + k.val < 384 + 128; omega) (fun y hy => ?_) fun h3 =>
    hf.strip _ _ _ a _ _ (by omega) (fun y hy => ?_) fun h2 => hf.strip _ _ _ a _ _ (by omega) (fun y hy => ?_) fun h1 =>
    hf.strip _ _ _ a _ _ (by omega) (fun y hy => ?_) fun h0 => absurd h0 (Nat.not_lt_zero _)
  · obtain ⟨rfl, rfl⟩ := place 3 rfl hy
    exact (row3 _ _ _ _ _ _).trans (by rw [(strip_head _ _).2.2.2, (strip_head _ _).2.2.2, cut_cot (o := 384) x0 x1 _ 3 _ rfl])
  · obtain ⟨rfl, rfl⟩ := place 2 rfl hy
    exact (row2 _ _ _ _ _ _).trans (by rw [(strip_head _ _).2.2.1, (strip_head _ _).2.2.1, cut_cot (o := 256) x0 x1 _ 2 _ rfl])
  · obtain ⟨rfl, rfl⟩ := place 1 rfl hy
    exact (row1 _ _ _ _ _ _).trans (by rw [(strip_head _ _).2.1, (strip_head _ _).2.1, cut_cot (o := 128) x0 x1 _ 1 _ rfl])
  · obtain ⟨rfl, rfl⟩ := place 0 rfl hy
    exact (row0 _ _ _ _ _ _ _).trans (by rw [(strip_head _ _).1, (strip_head _ _).1, low_cot])

/-- The gradient of the half-width heads. -/
theorem halves {f : List (View.Piece (Elt Ideal) S256x512 .f32) → S256x512.Idx → Elt Ideal .f32} (hf : Reads f) (L : List (View.Piece (Elt Ideal) S256x512 .f32)) :
    f (⟨Rect.unit ![0, 384] ![256, 128] inb_S256x512_S256x128_0_384, k0_pay75 k0_pay43 (ld3 x4) (k0_pay68 (k0_pay3 x0 x1)) (k0_pay69 x6) (k0_pay71 k0_pay43 (ld3 x4)) (k0_pay72 k0_pay43 (ld3 x4))⟩ ::
      ⟨Rect.unit ![0, 256] ![256, 128] inb_S256x512_S256x128_0_256, k0_pay67 k0_pay43 (ld2 x4) (k0_pay62 (k0_pay3 x0 x1)) (k0_pay63 x6) (k0_pay64 k0_pay43 (ld2 x4))⟩ ::
      ⟨Rect.unit ![0, 128] ![256, 128] inb_S256x512_S256x128_0_128, k0_pay61 k0_pay43 (ld1 x4) (k0_pay56 k0_pay43 (ld1 x4)) (k0_pay58 (k0_pay3 x0 x1) x6) (k0_pay59 (k0_pay3 x0 x1) (ld1 x4) x6) (k0_pay60 (k0_pay3 x0 x1) k0_pay43 (ld1 x4) x6)⟩ ::
      ⟨Rect.unit ![0, 0] ![256, 128] inb_S256x512_S256x128_0_0, k0_pay54 k0_pay43 (k0_pay50 (k0_pay3 x0 x1) k0_pay43 (ld0 x4) x6) (k0_pay51 (k0_pay3 x0 x1) k0_pay43 (ld0 x4) x6) (k0_pay52 k0_pay43 (ld0 x4)) (k0_pay53 (k0_pay3 x0 x1) k0_pay43 (ld0 x4) x6)⟩ :: L) (ix2 a ⟨h * 128 + (64 * s + l), by omega⟩) = halfGrad (half (head x4 a h) s) (half (halfCot x0 x1 a h) s) (half (only x6) s) l := by
  refine hf.strip _ _ _ a _ _ (by show h.val * 128 + (64 * s.val + l.val) < 384 + 128; omega) (fun y hy => ?_) fun h3 =>
    hf.strip _ _ _ a _ _ (by omega) (fun y hy => ?_) fun h2 => hf.strip _ _ _ a _ _ (by omega) (fun y hy => ?_) fun h1 =>
    hf.strip _ _ _ a _ _ (by omega) (fun y hy => ?_) fun h0 => absurd h0 (Nat.not_lt_zero _)
  · obtain ⟨rfl, rfl⟩ := place (k := lane s l) 3 rfl hy
    exact (half3 _ _ _ _ s l).trans (by rw [(strip_head _ _).2.2.2, cut_halfCot (o := 896) x0 x1 _ 3 _ rfl])
  · obtain ⟨rfl, rfl⟩ := place (k := lane s l) 2 rfl hy
    exact (half2 _ _ _ _ s l).trans (by rw [(strip_head _ _).2.2.1, cut_halfCot (o := 768) x0 x1 _ 2 _ rfl])
  · obtain ⟨rfl, rfl⟩ := place (k := lane s l) 1 rfl hy
    exact (half1 _ _ _ _ s l).trans (by rw [(strip_head _ _).2.1, cut_halfCot (o := 640) x0 x1 _ 1 _ rfl])
  · obtain ⟨rfl, rfl⟩ := place (k := lane s l) 0 rfl hy
    exact (half0 _ _ _ _ s l).trans (by rw [(strip_head _ _).1, cut_halfCot (o := 512) x0 x1 _ 0 _ rfl])

/-- What the point adds to a row of the block of sums: the gradients of the two gains. -/
def added (r : Fin 8) (b : Fin 128) : EReal :=
  if r.val = 0 then ∑ h : Fin 4, ∑ y : Fin 256, gainPart (head x2 y h) (head x3 y h) (cot x0 x1 y h) b
    else if r.val = 1 then ∑ h : Fin 4, ∑ y : Fin 256, halfPart (half (head x4 y h) ⟨b / 64, by omega⟩) (half (halfCot x0 x1 y h) ⟨b / 64, by omega⟩) ⟨b % 64, by omega⟩
    else 0

theorem gain_sum (v : Vec Ideal S1x128 .f32) : k0_pay42 (k0_pay31 (k0_pay22 (k0_pay13 k0_pay4 (ld0 x2) (k0_pay7 (ld0 x2)) (k0_pay9 x0 x1 (ld0 x3))) (ld1 x2) (ld1 x3) (k0_pay15 (k0_pay3 x0 x1)) (k0_pay17 (ld1 x2))) (k0_pay30 (k0_pay3 x0 x1) (ld2 x2) (ld2 x3))) (ld3 x2) (k0_pay33 (k0_pay3 x0 x1)) (k0_pay35 (ld3 x2)) (k0_pay37 (ld3 x3))
        v (ix2 0 k) =
    v (ix2 0 k) + ∑ h : Fin 4, ∑ y : Fin 256, gainPart (head x2 y h) (head x3 y h) (cot x0 x1 y h) k := by
  rw [gain3, gain2, gain1, gain0, Fin.sum_univ_four, show (k0_pay4 : FVec Ideal S1x128 .f32) (ix2 0 k) = 0 by pointwise [k0_pay4], zero_add]
  simp only [(strip_head _ _).1, (strip_head _ _).2.1, (strip_head _ _).2.2.1, (strip_head _ _).2.2.2, low_cot, cut_cot (o := 128) x0 x1 _ 1 _ rfl,
    cut_cot (o := 256) x0 x1 _ 2 _ rfl, cut_cot (o := 384) x0 x1 _ 3 _ rfl]

theorem half_sum : k0_pay74 k0_pay43 (k0_pay66 (k0_pay57 (k0_pay3 x0 x1) k0_pay43 (k0_pay47 (k0_pay3 x0 x1) k0_pay43 k0_pay44 (ld0 x4)) (ld1 x4)) (k0_pay65 (k0_pay3 x0 x1) k0_pay43 (ld2 x4))) (ld3 x4) (k0_pay68 (k0_pay3 x0 x1)) (k0_pay71 k0_pay43 (ld3 x4)) (k0_pay72 k0_pay43 (ld3 x4)) (ix2 0 ⟨64 * s + l, by omega⟩) =
    ∑ h : Fin 4, ∑ y : Fin 256, halfPart (half (head x4 y h) s) (half (halfCot x0 x1 y h) s) l := by
  rw [halfGain3, halfGain2, halfGain1, halfGain0, Fin.sum_univ_four, show (k0_pay44 : FVec Ideal S1x128 .f32) (ix2 0 ⟨64 * s + l, by omega⟩) = 0 by pointwise [k0_pay44], zero_add]
  simp only [(strip_head _ _).1, (strip_head _ _).2.1, (strip_head _ _).2.2.1, (strip_head _ _).2.2.2, cut_halfCot (o := 512) x0 x1 _ 0 _ rfl,
    cut_halfCot (o := 640) x0 x1 _ 1 _ rfl, cut_halfCot (o := 768) x0 x1 _ 2 _ rfl, cut_halfCot (o := 896) x0 x1 _ 3 _ rfl]

/-- The two rows that a point stores, over a block `X`. -/
theorem rows {f : List (View.Piece (Elt Ideal) S8x128 .f32) → S8x128.Idx → Elt Ideal .f32} (hf : Reads f)
    (X : FVec Ideal S8x128 .f32) (L : List (View.Piece (Elt Ideal) S8x128 .f32)) (hL : ∀ (r : Fin 8) (b : Fin 128), f L (ix2 r b) = X (ix2 r b))
    (r : Fin 8) (b : Fin 128) :
    f (⟨Rect.unit ![1, 0] ![1, 128] inb_S8x128_S1x128_1_0, k0_pay1 (k0_pay74 k0_pay43 (k0_pay66 (k0_pay57 (k0_pay3 x0 x1) k0_pay43 (k0_pay47 (k0_pay3 x0 x1) k0_pay43 k0_pay44 (ld0 x4)) (ld1 x4)) (k0_pay65 (k0_pay3 x0 x1) k0_pay43 (ld2 x4))) (ld3 x4) (k0_pay68 (k0_pay3 x0 x1)) (k0_pay71 k0_pay43 (ld3 x4)) (k0_pay72 k0_pay43 (ld3 x4)))
        (View.ld (Val := Elt Ideal) (e' := .f32) X (Rect.unit ![1, 0] ![1, 128] inb_S8x128_S1x128_1_0))⟩ ::
      ⟨Rect.unit ![0, 0] ![1, 128] inb_S8x128_S1x128_0_0, k0_pay42 (k0_pay31 (k0_pay22 (k0_pay13 k0_pay4 (ld0 x2) (k0_pay7 (ld0 x2)) (k0_pay9 x0 x1 (ld0 x3))) (ld1 x2) (ld1 x3) (k0_pay15 (k0_pay3 x0 x1)) (k0_pay17 (ld1 x2))) (k0_pay30 (k0_pay3 x0 x1) (ld2 x2) (ld2 x3))) (ld3 x2) (k0_pay33 (k0_pay3 x0 x1)) (k0_pay35 (ld3 x2)) (k0_pay37 (ld3 x3))
        (View.ld (Val := Elt Ideal) (e' := .f32) X (Rect.unit ![0, 0] ![1, 128] inb_S8x128_S1x128_0_0))⟩ :: L) (ix2 r b) =
    X (ix2 r b) + added x0 x1 x2 x3 x4 r b := by
  refine hf.block _ _ _ r b _ (fun x y hr hb => ?_) fun h1 => hf.block _ _ _ r b _ (fun x y hr hb => ?_) fun h0 => ?_
  · obtain rfl : b = y := Fin.ext (by omega)
    obtain rfl : x = 0 := Subsingleton.elim _ _
    obtain rfl : r = 1 := Fin.ext hr
    have e : b = ⟨64 * (⟨b / 64, by omega⟩ : Fin 2) + (⟨b % 64, by omega⟩ : Fin 64), by omega⟩ := Fin.ext (Nat.div_add_mod _ _).symm
    have hs := half_sum x0 x1 x4 ⟨b / 64, by omega⟩ ⟨b % 64, by omega⟩
    rw [← e] at hs
    rw [added, if_neg (by decide), if_pos (by rfl), ← hs]
    pointwise [k0_pay1]
  · obtain rfl : b = y := Fin.ext (by omega)
    obtain rfl : x = 0 := Subsingleton.elim _ _
    obtain rfl : r = 0 := Fin.ext hr
    rw [added, if_pos (by rfl), gain_sum]
    exact congrArg (· + _) (ld_block X _ 0 b 0 b rfl (Nat.zero_add _).symm)
  · rw [added, if_neg (by omega), if_neg (by omega), add_zero]
    exact hL r b

end

variable (m : (ℓ : Loc nD τ sig) → Buf (Elt Ideal) ℓ) (c : Dev nD) (t : Fin cfg0.N)

theorem gradsA (ht : t.val % 8 = 0) (a : Fin 256) (h : Fin 4) (k : Fin 128) :
    (outsAt0 m c t.val t.isLt).1 (ix2 a ⟨h * 128 + k, by omega⟩) = rowGrad (head (iblk m c 2 t) a h) (head (X0_3 m c t) a h) (cot (iblk m c 0 t) (iblk m c 1 t) a h) (only (iblk m c 5 t)) k := by
  rw [outsAt0_A m c t ht]
  dsimp only
  frame_open
  frame_out
  exact grads _ _ _ _ _ a h k reads_canon _

theorem gradsB (ht : ¬t.val % 8 = 0) (a : Fin 256) (h : Fin 4) (k : Fin 128) :
    (outsAt0 m c t.val t.isLt).1 (ix2 a ⟨h * 128 + k, by omega⟩) = rowGrad (head (iblk m c 2 t) a h) (head (X0_3 m c t) a h) (cot (iblk m c 0 t) (iblk m c 1 t) a h) (only (iblk m c 5 t)) k := by
  rw [outsAt0_B m c t ht]
  dsimp only
  frame_open
  frame_out
  exact grads _ _ _ _ _ a h k reads_canon _

theorem gatesA (ht : t.val % 8 = 0) (a : Fin 256) (h : Fin 4) (k : Fin 128) :
    (outsAt0 m c t.val t.isLt).2.1 (ix2 a ⟨h * 128 + k, by omega⟩) = gateGrad (head (iblk m c 2 t) a h) (head (X0_3 m c t) a h) (cot (iblk m c 0 t) (iblk m c 1 t) a h) (only (iblk m c 5 t)) k := by
  rw [outsAt0_A m c t ht]
  dsimp only
  frame_open
  frame_out
  exact gates _ _ _ _ _ a h k reads_canon _

theorem gatesB (ht : ¬t.val % 8 = 0) (a : Fin 256) (h : Fin 4) (k : Fin 128) :
    (outsAt0 m c t.val t.isLt).2.1 (ix2 a ⟨h * 128 + k, by omega⟩) = gateGrad (head (iblk m c 2 t) a h) (head (X0_3 m c t) a h) (cot (iblk m c 0 t) (iblk m c 1 t) a h) (only (iblk m c 5 t)) k := by
  rw [outsAt0_B m c t ht]
  dsimp only
  frame_open
  frame_out
  exact gates _ _ _ _ _ a h k reads_canon _

theorem halvesA (ht : t.val % 8 = 0) (a : Fin 256) (h : Fin 4) (s : Fin 2) (l : Fin 64) :
    (outsAt0 m c t.val t.isLt).2.2.1 (ix2 a ⟨h * 128 + (64 * s + l), by omega⟩) = halfGrad (half (head (iblk m c 4 t) a h) s) (half (halfCot (iblk m c 0 t) (iblk m c 1 t) a h) s) (half (only (iblk m c 6 t)) s) l := by
  rw [outsAt0_A m c t ht]
  dsimp only
  frame_open
  frame_out
  exact halves _ _ _ _ a h s l reads_canon _

theorem halvesB (ht : ¬t.val % 8 = 0) (a : Fin 256) (h : Fin 4) (s : Fin 2) (l : Fin 64) :
    (outsAt0 m c t.val t.isLt).2.2.1 (ix2 a ⟨h * 128 + (64 * s + l), by omega⟩) = halfGrad (half (head (iblk m c 4 t) a h) s) (half (halfCot (iblk m c 0 t) (iblk m c 1 t) a h) s) (half (only (iblk m c 6 t)) s) l := by
  rw [outsAt0_B m c t ht]
  dsimp only
  frame_open
  frame_out
  exact halves _ _ _ _ a h s l reads_canon _

abbrev addedAt (r : Fin 8) (b : Fin 128) : EReal := added (iblk m c 0 t) (iblk m c 1 t) (iblk m c 2 t) (X0_3 m c t) (iblk m c 4 t) r b

theorem sumsA (h : t.val % 8 = 0) (r : Fin 8) (b : Fin 128) : (outsAt0 m c t.val t.isLt).2.2.2 (ix2 r b) = addedAt m c t r b := by
  rw [outsAt0_A m c t h]
  dsimp only
  frame_open
  simp (disch := decide) only [↓ View.readCov_skip, ↓ View.readCov_cons_toLoadRect, ↓ View.readCov_fill]
  frame_out
  refine (rows _ _ _ _ _ reads_canon k0_pay2 _ (fun r b => reads_canon.strip _ _ _ _ _ _ (by omega)
    (fun y hy => by rw [show b = y from Fin.ext (by omega)]) fun hl => absurd hl (Nat.not_lt_zero _)) r b).trans ?_
  rw [show (k0_pay2 : FVec Ideal S8x128 .f32) (ix2 r b) = 0 by pointwise [k0_pay2], zero_add]

theorem sumsB (h : ¬t.val % 8 = 0) (hlt : t.val - 1 < cfg0.N) (r : Fin 8) (b : Fin 128) :
    (outsAt0 m c t.val t.isLt).2.2.2 (ix2 r b) = (outsAt0 m c (t.val - 1) hlt).2.2.2 (ix2 r b) + addedAt m c t r b := by
  rw [outsAt0_B m c t h]
  dsimp only
  frame_open
  simp (disch := decide) only [↓ View.readCov_skip, ↓ View.readCov_cons_toLoadRect, ↓ View.readCov_fill]
  frame_out
  refine rows _ _ _ _ _ (reads_writes _ _) _ _ (fun r b => ?_) r b
  rw [View.writes_nil]
  exact congrFun (Memref.IsWhole.read_unread _ _) _

end Cert.Proof.Heads

end

end
-- ==== Proof.HeadsRef.lean ====
module

public import proofs.«01_k».proof.Proof.Gen.HeadsRefIdeal.Read
public import proofs.«01_k».proof.Proof.HeadsRow
public import Idealize.ShloMosaic.Lib.Pointwise

/-! The reference's gradients of the heads' norms and gate, read at an index. -/

@[expose] public section

set_option maxRecDepth 16384

noncomputable section

namespace Cert.Proof.HeadsRef

open Idealize.ShloMosaic Idealize.ShloMosaic.TcCoe Idealize.ShloMosaic.Tactic
open Cert.HeadsRefIdeal Cert.HeadsRefIdeal.Gen Cert.HeadsRefIdeal.Read Cert.Norm Cert.Rms Finset

local instance : Cert.HeadsRefIdeal.Facts := Cert.HeadsRefIdeal.Gen.facts

/-- A sum over the first two axes of three, and of four, from zero. -/
theorem sum_three {p q w : ℕ} (h : (⟨3, ![p, q, w]⟩ : Shape).ReducesTo [0, 1] ⟨1, ![w]⟩) (v : (⟨3, ![p, q, w]⟩ : Shape).Idx → EReal) (k : Fin w) :
    Ideal.hostReduceAdd h v 0 (ix1 k) = ∑ y : Fin p, ∑ c : Fin q, v (ix3 y c k) := by
  have hp (i : (⟨3, ![p, q, w]⟩ : Shape).Idx) : h.drop i = ix1 k ↔ ∃ d : Fin p × Fin q, ix3 d.1 d.2 k = i := by
    refine ⟨fun e => ⟨(i 0, i 1), ?_⟩, ?_⟩
    · rw [show k = i 2 from (congrFun e 0).symm]
      exact ix3_eta i
    · rintro ⟨d, rfl⟩
      funext b
      fin_cases b
      rfl
  rw [Ideal.hostReduceAdd, zero_add, sum_filter_eq_sum_of_fiber _ _ (fun _ _ e => Prod.ext (congrFun e 0) (congrFun e 1)) hp, Fintype.sum_prod_type]

theorem sum_four {p q r w : ℕ} (h : (⟨4, ![p, q, r, w]⟩ : Shape).ReducesTo [0, 1] ⟨2, ![r, w]⟩) (v : (⟨4, ![p, q, r, w]⟩ : Shape).Idx → EReal)
    (s : Fin r) (k : Fin w) : Ideal.hostReduceAdd h v 0 (ix2 s k) = ∑ y : Fin p, ∑ c : Fin q, v (ix4 y c s k) := by
  have hp (i : (⟨4, ![p, q, r, w]⟩ : Shape).Idx) : h.drop i = ix2 s k ↔ ∃ d : Fin p × Fin q, ix4 d.1 d.2 s k = i := by
    refine ⟨fun e => ⟨(i 0, i 1), ?_⟩, ?_⟩
    · rw [show s = i 2 from (congrFun e 0).symm, show k = i 3 from (congrFun e 1).symm]
      exact ix4_eta i
    · rintro ⟨d, rfl⟩
      funext b
      fin_cases b <;> rfl
  rw [Ideal.hostReduceAdd, zero_add, sum_filter_eq_sum_of_fiber _ _ (fun _ _ e => Prod.ext (congrFun e 0) (congrFun e 1)) hp, Fintype.sum_prod_type]

variable (x0 : FVec Ideal S2048x1024 .bf16) (x1 : FVec Ideal S1024x1024 .bf16) (x2 : FVec Ideal S2048x512 .f32) (x3 : FVec Ideal S2048x3840 .f32)
  (x4 : FVec Ideal S2048x512 .f32) (x5 : FVec Ideal S128 .f32) (x6 : FVec Ideal S64 .f32)
  (a : Fin 2048) (h : Fin 4) (k : Fin 128) (s : Fin 2) (l : Fin 64)

/-- The rows of a head: its values, the gate's argument, the cotangent of its output. -/
def head (k : Fin 128) : EReal := x2 (ix2 a ⟨h * 128 + k, by omega⟩)
def arg (k : Fin 128) : EReal := x3 (ix2 a ⟨1536 + (h * 128 + k), by omega⟩)
def cot (k : Fin 128) : EReal := ∑ n : Fin 1024, x0 (ix2 a n) * x1 (ix2 ⟨h * 128 + k, by omega⟩ n)
def half (l : Fin 64) : EReal := x4 (ix2 a ⟨h * 128 + s * 64 + l, by omega⟩)
def halfCot (l : Fin 64) : EReal := ∑ n : Fin 1024, x0 (ix2 a n) * x1 (ix2 ⟨512 + (h * 128 + s * 64 + l), by omega⟩ n)

theorem head_at : val_main_v4 (F := Ideal) x2 (ix3 a h k) = head x2 a h k := by
  pointwise [val_main_v4]
  rfl

theorem arg_at : val_main_v21 (F := Ideal) x3 (ix3 a h k) = arg x3 a h k := by
  pointwise [val_main_v0, val_main_v21]
  rfl

theorem cot_at : val_main_v52 (F := Ideal) x0 x1 (ix3 a h k) = cot x0 x1 a h k := by
  pointwise [val_main_v45, val_main_v47, val_main_v48, val_main_v49, val_main_v52]
  rfl

theorem half_at : val_main_v24 (F := Ideal) x4 (ix4 a h s l) = half x4 a h s l := by
  pointwise [val_main_v24]
  rfl

theorem halfCot_at : val_main_v51 (F := Ideal) x0 x1 (ix4 a h s l) = halfCot x0 x1 a h s l := by
  pointwise [val_main_v45, val_main_v47, val_main_v48, val_main_v50, val_main_v51]
  rfl

theorem gain_at : val_main_v25 (F := Ideal) x6 (ix2 s l) = x6 (ix1 l) := by
  pointwise [val_main_v1, val_main_v2, val_main_v3, val_main_v25]

theorem spread_at (z : Fin 1) : val_main_v11 (F := Ideal) x2 (ix3 a h z) = spread long (head x2 a h) := by
  pointwise [val_main_v5, val_main_cst, val_main_v6, val_main_v7, val_main_cst_0, val_main_v8, val_main_v9, val_main_cst_1, val_main_v10, val_main_v11, head_at]
  rfl

theorem scale_at (z : Fin 1) : val_main_v12 (F := Ideal) x2 (ix3 a h z) = scale long (head x2 a h) := by
  pointwise [val_main_v12, spread_at]
  rfl

theorem sig_at : val_main_v22_2 (F := Ideal) x3 (ix3 a h k) = sig (arg x3 a h k) := by
  pointwise [val_main_call0_v0, val_main_call0_v1, val_main_call0_cst, val_main_call0_v2, val_main_call0_v3, val_main_call0_cst_0, val_main_call0_v4, val_main_v22_2, arg_at]
  rfl

theorem silu_at : val_main_v22_0 (F := Ideal) x3 (ix3 a h k) = silu (arg x3 a h k) := by
  pointwise [val_main_v22_0, sig_at, arg_at]
  rfl

theorem slope_at : val_main_v22_1 (F := Ideal) x3 (ix3 a h k) = sig (arg x3 a h k) * (1 - sig (arg x3 a h k)) := by
  pointwise [val_main_call0_cst_1, val_main_call0_v6, val_main_call0_v7, val_main_v22_1, sig_at]

theorem inner_at : val_main_v83 (F := Ideal) x0 x1 x3 x5 (ix3 a h k) = inner (arg x3 a h) (cot x0 x1 a h) (fun k => x5 (ix1 k)) k := by
  pointwise [val_main_v18, val_main_v76, val_main_v82, val_main_v83, cot_at, silu_at]
  rfl

theorem pull_at : val_main_v93 (F := Ideal) x0 x1 x2 x3 x5 (ix2 a h) = pull long (head x2 a h) (inner (arg x3 a h) (cot x0 x1 a h) fun k => x5 (ix1 k)) := by
  pointwise [val_main_v13, val_main_cst_2, val_main_v14, val_main_v15, val_main_v85, val_main_cst_14, val_main_v86, val_main_v87, val_main_v90, val_main_cst_15, val_main_v91, val_main_v92, val_main_cst_16, val_main_v93, head_at, inner_at, scale_at, spread_at]
  simp only [univ_unique, sum_singleton]
  rfl

theorem rowGrad_at : val_main_v98 (F := Ideal) x0 x1 x2 x3 x5 (ix3 a h k) = derived long (head x2 a h) (inner (arg x3 a h) (cot x0 x1 a h) fun k => x5 (ix1 k)) k := by
  pointwise [val_main_v88, val_main_v89, val_main_v94, val_main_v95, val_main_v96, val_main_v97, val_main_v98, head_at, inner_at, scale_at, pull_at]
  rfl

theorem gateGrad_at : val_main_v77 (F := Ideal) x0 x1 x2 x3 x5 (ix3 a h k) =
    head x2 a h k * scale long (head x2 a h) * x5 (ix1 k) * cot x0 x1 a h k * sig (arg x3 a h k) +
      arg x3 a h k * (head x2 a h k * scale long (head x2 a h) * x5 (ix1 k) * cot x0 x1 a h k) * (sig (arg x3 a h k) * (1 - sig (arg x3 a h k))) := by
  pointwise [val_main_v16, val_main_v17, val_main_v18, val_main_v19, val_main_v20, val_main_v75, val_main_call1_v0, val_main_call1_v1, val_main_call1_v2, val_main_v77, head_at, arg_at, cot_at, scale_at, sig_at, slope_at]

/-- The gain's gradient: a sum over the rows and the heads. -/
theorem gainGrad_at : val_main_v84 (F := Ideal) x0 x1 x2 x3 (ix1 k) = ∑ y : Fin 2048, ∑ h : Fin 4, gainPart (head x2 y h) (arg x3 y h) (cot x0 x1 y h) k := by
  have h (y : Fin 2048) (c : Fin 4) : val_main_v79 (F := Ideal) x0 x1 x2 x3 (ix3 y c k) = gainPart (head x2 y c) (arg x3 y c) (cot x0 x1 y c) k := by
    pointwise [val_main_v16, val_main_v17, val_main_v76, val_main_v79, head_at, cot_at, scale_at, silu_at]
    rw [mul_comm, ← mul_assoc]
    rfl
  pointwise [val_main_cst_12, val_main_v80, val_main_v81, val_main_cst_13, val_main_v84]
  rw [sum_three]
  pointwise [sum_three, h]
  simp only [univ_unique, sum_singleton]

theorem halfSpread_at (z : Fin 1) : val_main_v32 (F := Ideal) x4 (ix4 a h s z) = spread short (half x4 a h s) := by
  pointwise [val_main_v26, val_main_cst_3, val_main_v27, val_main_v28, val_main_cst_4, val_main_v29, val_main_v30, val_main_cst_5, val_main_v31, val_main_v32, half_at]
  rfl

theorem halfScale_at (z : Fin 1) : val_main_v33 (F := Ideal) x4 (ix4 a h s z) = scale short (half x4 a h s) := by
  pointwise [val_main_v33, halfSpread_at]
  rfl

theorem halfInner_at : val_main_v57 (F := Ideal) x0 x1 x6 (ix4 a h s l) = halfCot x0 x1 a h s l * x6 (ix1 l) := by
  pointwise [val_main_v39, val_main_v56, val_main_v57, halfCot_at, gain_at]

theorem halfPull_at : val_main_v67 (F := Ideal) x0 x1 x4 x6 (ix3 a h s) = pull short (half x4 a h s) fun l => halfCot x0 x1 a h s l * x6 (ix1 l) := by
  pointwise [val_main_v34, val_main_cst_6, val_main_v35, val_main_v36, val_main_v59, val_main_cst_9, val_main_v60, val_main_v61, val_main_v64, val_main_cst_10, val_main_v65, val_main_v66, val_main_cst_11, val_main_v67, half_at, halfInner_at, halfScale_at, halfSpread_at]
  simp only [univ_unique, sum_singleton]
  rfl

theorem halfGrad_at : val_main_v72 (F := Ideal) x0 x1 x4 x6 (ix4 a h s l) = derived short (half x4 a h s) (fun l => halfCot x0 x1 a h s l * x6 (ix1 l)) l := by
  pointwise [val_main_v62, val_main_v63, val_main_v68, val_main_v69, val_main_v70, val_main_v71, val_main_v72, half_at, halfInner_at, halfScale_at, halfPull_at]
  rfl

theorem halfGain_at : val_main_v58 (F := Ideal) x0 x1 x4 (ix2 s l) = ∑ y : Fin 2048, ∑ h : Fin 4, halfPart (half x4 y h s) (halfCot x0 x1 y h s) l := by
  have h (y : Fin 2048) (c : Fin 4) : val_main_v53 (F := Ideal) x0 x1 x4 (ix4 y c s l) = halfPart (half x4 y c s) (halfCot x0 x1 y c s) l := by
    pointwise [val_main_v37, val_main_v38, val_main_v53, half_at, halfCot_at, halfScale_at]
    rw [mul_comm, ← mul_assoc]
    rfl
  pointwise [val_main_cst_7, val_main_v54, val_main_v55, val_main_cst_8, val_main_v58]
  rw [sum_four]
  pointwise [sum_four, h]
  simp only [univ_unique, sum_singleton]

/-- The results' places. -/
theorem rowGrad_place : val_main_v99 (F := Ideal) x0 x1 x2 x3 x5 (ix2 a ⟨h * 128 + k, by omega⟩) = val_main_v98 (F := Ideal) x0 x1 x2 x3 x5 (ix3 a h k) := by
  pointwise [val_main_v99]
  done

theorem gateGrad_place : val_main_v100 (F := Ideal) x0 x1 x2 x3 x5 (ix2 a ⟨h * 128 + k, by omega⟩) = val_main_v77 (F := Ideal) x0 x1 x2 x3 x5 (ix3 a h k) := by
  pointwise [val_main_v78, val_main_v100]
  done

theorem halfGrad_place : val_main_v74 (F := Ideal) x0 x1 x4 x6 (ix2 a ⟨h * 128 + s * 64 + l, by omega⟩) = val_main_v72 (F := Ideal) x0 x1 x4 x6 (ix4 a h s l) := by
  pointwise [val_main_v74]
  done

theorem rows_at (r : Fin 8) (b : Fin 128) : val_main_v104 (F := Ideal) x0 x1 x2 x3 x4 (ix2 r b) =
    if r.val = 0 then val_main_v84 (F := Ideal) x0 x1 x2 x3 (ix1 b)
      else if r.val = 1 then val_main_v58 (F := Ideal) x0 x1 x4 (ix2 ⟨b / 64, by omega⟩ ⟨b % 64, by omega⟩) else 0 := by
  pointwise [val_main_v73, val_main_v101, val_main_v102, val_main_cst_17, val_main_v103, val_main_v104]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]

end Cert.Proof.HeadsRef

end

end
-- ==== Proof.Heads.lean ====
module

public import proofs.«01_k».proof.Defs
public import proofs.«01_k».proof.Proof.Gen.HeadsRefIdeal.Run
public import proofs.«01_k».proof.Proof.HeadsPoint
public import proofs.«01_k».proof.Proof.HeadsRef
public import proofs.«01_k».proof.Proof.Finite
public import Idealize.ShloMosaic.Lib.StableHlo.RunRead
public import Idealize.ShloMosaic.Lib.Tactic.CleanTypes

/-! The gradients of the heads' norms and gate: what the kernel's run leaves is what the reference gives. -/

@[expose] public section

set_option maxRecDepth 16384

noncomputable section

namespace Cert.Proof.Heads

open Idealize.ShloMosaic Idealize.ShloMosaic.TcCoe Idealize.ShloMosaic.Tactic Idealize.SL.Sem
open Cert.HeadsIdeal Cert.HeadsIdeal.Gen Cert.Stores Cert.Norm Cert.Rms Finset
open Cert.HeadsRefIdeal.Read (val_main_v74 val_main_v99 val_main_v100 val_main_v104)

local instance : Cert.HeadsIdeal.Facts := Cert.HeadsIdeal.Gen.facts
local instance : Cert.HeadsRefIdeal.Facts := Cert.HeadsRefIdeal.Gen.facts

/-- Every window's block at every point. -/
theorem idx : ∀ t : Fin cfg0.N, win0_0.index t = ![t.val, 0] ∧ win0_1.index t = ![0, 0] ∧ win0_2.index t = ![t.val, 0] ∧
    win0_3.index t = ![t.val, 3] ∧ win0_4.index t = ![t.val, 0] ∧ win0_5.index t = ![0, 0] ∧ win0_6.index t = ![0, 0] ∧
    win0_7.index t = ![t.val, 0] ∧ win0_8.index t = ![t.val, 0] ∧ win0_9.index t = ![t.val, 0] ∧ win0_10.index t = ![0, 0] :=
  (by decide +kernel : ∀ t : Fin grid0.N, _)

variable (m : (ℓ : Loc nD τ sig) → Buf (Elt Ideal) ℓ) (c : Dev nD)

/-- The program's arguments. -/
abbrev arg0 : FVec Ideal S2048x1024 .bf16 := m ((c : Thread nD τ).loc main_arg0)
abbrev arg1 : FVec Ideal S1024x1024 .bf16 := m ((c : Thread nD τ).loc main_arg1)
abbrev arg2 : FVec Ideal S2048x512 .f32 := m ((c : Thread nD τ).loc main_arg2)
abbrev arg3 : FVec Ideal S2048x3840 .f32 := m ((c : Thread nD τ).loc main_arg3)
abbrev arg4 : FVec Ideal S2048x512 .f32 := m ((c : Thread nD τ).loc main_arg4)
abbrev arg5 : FVec Ideal S128 .f32 := m ((c : Thread nD τ).loc main_arg5)
abbrev arg6 : FVec Ideal S64 .f32 := m ((c : Thread nD τ).loc main_arg6)

/-- The gains as one row of 128 lanes, as the host gives them: the shorter one twice. -/
abbrev line (x : FVec Ideal S128 .f32) : FVec Ideal S1x128 .f32 := broadcastInDim S1x128 ![1] (by decide) x
abbrev twice (x : FVec Ideal S64 .f32) : FVec Ideal S1x128 .f32 :=
  line (shapeCast S128 (broadcastInDim S2x64 ![0, 1] (by decide) (shapeCast S1x64 x (by decide) : FVec Ideal S1x64 .f32) : FVec Ideal S2x64 .f32) (by decide))

theorem line_at (x : FVec Ideal S128 .f32) (k : Fin 128) : line x (ix2 0 k) = x (ix1 k) := by
  pointwise [line]

theorem twice_at (x : FVec Ideal S64 .f32) (s : Fin 2) (l : Fin 64) : twice x (ix2 0 (lane s l)) = x (ix1 l) := by
  pointwise [twice, line]

theorem V_5 : V m c main_v0 = line (arg5 m c) := by
  unfold_abbrev_sides
  after_reads_simp

theorem V_6 : V m c main_v4 = twice (arg6 m c) := by
  unfold_abbrev_sides
  after_reads_simp
  rfl

section

variable (t : Fin cfg0.N) (ht : t.val < 8) (a : Fin 256) (h : Fin 4) (s : Fin 2)

theorem block1 (k j : Fin 1024) : iblk m c 1 t (ix2 k j) = arg1 m c (ix2 k j) := by
  blk_ext [iblk, V, idx t]

theorem gain_block : only (iblk m c 5 t) = fun k => arg5 m c (ix1 k) := by
  funext k
  have h : iblk m c 5 t (ix2 0 k) = V m c main_v0 (ix2 0 k) := by blk_ext [iblk, idx t]
  exact h.trans ((congrFun (V_5 m c) _).trans (line_at _ k))

theorem half_gain_block : half (only (iblk m c 6 t)) s = fun l => arg6 m c (ix1 l) := by
  funext l
  have h : iblk m c 6 t (ix2 0 (lane s l)) = V m c main_v4 (ix2 0 (lane s l)) := by blk_ext [iblk, idx t]
  exact h.trans ((congrFun (V_6 m c) _).trans (twice_at _ s l))

include ht

/-- The row of the whole arrays that a point's row is. -/
abbrev spot : Fin 2048 := ⟨256 * t.val + a, by omega⟩

theorem block0 (k : Fin 1024) : iblk m c 0 t (ix2 a k) = arg0 m c (ix2 (spot t ht a) k) := by
  blk_ext [iblk, V, idx t]

theorem head_block : head (iblk m c 2 t) a h = HeadsRef.head (arg2 m c) (spot t ht a) h := by
  funext k
  rw [head, HeadsRef.head]
  blk_ext [iblk, V, idx t]

theorem arg_block : head (X0_3 m c t) a h = HeadsRef.arg (arg3 m c) (spot t ht a) h := by
  funext k
  rw [head, HeadsRef.arg]
  unfold X0_3 Pipeline.Window.fill
  rw [dif_pos (moved0_3 t _)]
  blk_ext [iblk, V, idx t]

theorem half_block : half (head (iblk m c 4 t) a h) s = HeadsRef.half (arg4 m c) (spot t ht a) h s := by
  funext l
  rw [half, head, HeadsRef.half]
  blk_ext [iblk, V, idx t]

theorem cot_block : cot (iblk m c 0 t) (iblk m c 1 t) a h = HeadsRef.cot (arg0 m c) (arg1 m c) (spot t ht a) h := by
  funext k
  simp only [cot, HeadsRef.cot, block0 m c t ht, block1]

theorem halfCot_block : half (halfCot (iblk m c 0 t) (iblk m c 1 t) a h) s = HeadsRef.halfCot (arg0 m c) (arg1 m c) (spot t ht a) h s := by
  funext l
  simp only [half, halfCot, HeadsRef.halfCot, block0 m c t ht, block1]
  exact sum_congr rfl fun n _ => congrArg (fun j => arg0 m c (ix2 (spot t ht a) n) * arg1 m c (ix2 j n)) (Fin.ext (by
    show 512 + (h.val * 128 + (64 * s.val + l.val)) = 512 + (h.val * 128 + s.val * 64 + l.val); omega))

end

/-- Every entry that the gradient reads is a real number. -/
structure Reals : Prop where
  h0 : ∀ i, IsReal (arg0 m c i)
  h1 : ∀ i, IsReal (arg1 m c i)
  h2 : ∀ i, IsReal (arg2 m c i)
  h3 : ∀ i, IsReal (arg3 m c i)
  h4 : ∀ i, IsReal (arg4 m c i)
  h5 : ∀ i, IsReal (arg5 m c i)
  h6 : ∀ i, IsReal (arg6 m c i)

variable {m c} (hR : Reals m c)

include hR

theorem head_real (a : Fin 2048) (h : Fin 4) (k : Fin 128) : IsReal (HeadsRef.head (arg2 m c) a h k) := hR.h2 _

theorem arg_real (a : Fin 2048) (h : Fin 4) (k : Fin 128) : IsReal (HeadsRef.arg (arg3 m c) a h k) := hR.h3 _

theorem half_real (a : Fin 2048) (h : Fin 4) (s : Fin 2) (l : Fin 64) : IsReal (HeadsRef.half (arg4 m c) a h s l) := hR.h4 _

theorem cot_real (a : Fin 2048) (h : Fin 4) (k : Fin 128) : IsReal (HeadsRef.cot (arg0 m c) (arg1 m c) a h k) :=
  .sum _ fun n => .mul (hR.h0 _) (hR.h1 _)

theorem halfCot_real (a : Fin 2048) (h : Fin 4) (s : Fin 2) (l : Fin 64) : IsReal (HeadsRef.halfCot (arg0 m c) (arg1 m c) a h s l) :=
  .sum _ fun n => .mul (hR.h0 _) (hR.h1 _)

theorem inner_real (a : Fin 2048) (h : Fin 4) (k : Fin 128) :
    IsReal (inner (HeadsRef.arg (arg3 m c) a h) (HeadsRef.cot (arg0 m c) (arg1 m c) a h) (fun k => arg5 m c (ix1 k)) k) :=
  .mul (.mul (cot_real hR a h k) (.mul (arg_real hR a h k) (sig_real (arg_real hR a h k)))) (hR.h5 _)

/-- The point's results are the reference's. -/
theorem grads_out (t : Fin cfg0.N) (ht : t.val < 8) (a : Fin 256) (h : Fin 4) (k : Fin 128) :
    (outsAt0 m c t.val t.isLt).1 (ix2 a ⟨h * 128 + k, by omega⟩) = val_main_v99 (F := Ideal) (arg0 m c) (arg1 m c) (arg2 m c) (arg3 m c) (arg5 m c) (ix2 (spot t ht a) ⟨h * 128 + k, by omega⟩) := by
  rw [HeadsRef.rowGrad_place, HeadsRef.rowGrad_at, derived_eq_direct long k (by norm_num) long_eq (head_real hR _ _) (inner_real hR _ _),
    ← gain_block m c t, ← head_block m c t ht, ← arg_block m c t ht, ← cot_block m c t ht]
  by_cases hm : t.val % 8 = 0
  · exact gradsA m c t hm a h k
  · exact gradsB m c t hm a h k

theorem gates_out (t : Fin cfg0.N) (ht : t.val < 8) (a : Fin 256) (h : Fin 4) (k : Fin 128) :
    (outsAt0 m c t.val t.isLt).2.1 (ix2 a ⟨h * 128 + k, by omega⟩) = val_main_v100 (F := Ideal) (arg0 m c) (arg1 m c) (arg2 m c) (arg3 m c) (arg5 m c) (ix2 (spot t ht a) ⟨h * 128 + k, by omega⟩) := by
  have hw : IsReal (HeadsRef.head (arg2 m c) (spot t ht a) h k * scale long (HeadsRef.head (arg2 m c) (spot t ht a) h) * arg5 m c (ix1 k) *
      HeadsRef.cot (arg0 m c) (arg1 m c) (spot t ht a) h k) :=
    .mul (.mul (.mul (head_real hR _ h k) (scale_real long (by norm_num) long_eq (head_real hR _ h))) (hR.h5 _)) (cot_real hR _ h k)
  rw [HeadsRef.gateGrad_place, HeadsRef.gateGrad_at, gate_eq hw (arg_real hR _ h k), mul_comm _ (HeadsRef.cot _ _ _ _ _),
    ← head_block m c t ht, ← arg_block m c t ht, ← cot_block m c t ht, ← congrFun (gain_block m c t) k]
  by_cases hm : t.val % 8 = 0
  · exact gatesA m c t hm a h k
  · exact gatesB m c t hm a h k

theorem halves_out (t : Fin cfg0.N) (ht : t.val < 8) (a : Fin 256) (h : Fin 4) (s : Fin 2) (l : Fin 64) :
    (outsAt0 m c t.val t.isLt).2.2.1 (ix2 a ⟨h * 128 + (64 * s + l), by omega⟩) = val_main_v74 (F := Ideal) (arg0 m c) (arg1 m c) (arg4 m c) (arg6 m c) (ix2 (spot t ht a) ⟨h * 128 + s * 64 + l, by omega⟩) := by
  rw [HeadsRef.halfGrad_place, HeadsRef.halfGrad_at, derived_eq_direct short l (by norm_num) short_eq (half_real hR _ _ _)
    (fun l => .mul (halfCot_real hR (spot t ht a) h s l) (hR.h6 (ix1 l)))]
  have e : (fun l => HeadsRef.halfCot (arg0 m c) (arg1 m c) (spot t ht a) h s l * arg6 m c (ix1 l)) =
      fun l => half (halfCot (iblk m c 0 t) (iblk m c 1 t) a h) s l * half (only (iblk m c 6 t)) s l :=
    funext fun l => by rw [halfCot_block m c t ht, half_gain_block]
  rw [e, ← half_block m c t ht]
  by_cases hm : t.val % 8 = 0
  · exact halvesA m c t hm a h s l
  · exact halvesB m c t hm a h s l

omit hR

variable (m c)

/-- What the point `s` adds to the block of sums. -/
def share (r : Fin 8) (b : Fin 128) (s : ℕ) : EReal := if h : s < cfg0.N then addedAt m c ⟨s, h⟩ r b else 0

theorem sums_upto (r : Fin 8) (b : Fin 128) : ∀ (n : ℕ) (hn : n < cfg0.N), (outsAt0 m c n hn).2.2.2 (ix2 r b) = ∑ s ∈ range (n + 1), share m c r b s
  | 0, hn => by
    rw [sum_range_one, share, dif_pos hn]
    exact sumsA m c ⟨0, hn⟩ rfl r b
  | n + 1, hn => by
    have h8 : n + 1 < 8 := hn
    rw [sum_range_succ, ← sums_upto r b n (by omega), share, dif_pos hn]
    exact sumsB m c ⟨n + 1, hn⟩ (by show ¬(n + 1) % 8 = 0; omega) _ r b

/-- The block of sums after the last point. -/
theorem sums_out (r : Fin 8) (b : Fin 128) (n : ℕ) (h7 : n = 7) (hn : n < cfg0.N) : (outsAt0 m c n hn).2.2.2 (ix2 r b) = val_main_v104 (F := Ideal) (arg0 m c) (arg1 m c) (arg2 m c) (arg3 m c) (arg4 m c) (ix2 r b) := by
  subst h7
  have hs : ∀ s : Fin 8, share m c r b s = addedAt m c s r b := fun s => dif_pos s.isLt
  have hx (s : Fin 8) (y : Fin 256) (h : Fin 4) := head_block m c s s.isLt y h
  have hz (s : Fin 8) (y : Fin 256) (h : Fin 4) := arg_block m c s s.isLt y h
  have hd (s : Fin 8) (y : Fin 256) (h : Fin 4) := cot_block m c s s.isLt y h
  have hy (s : Fin 8) (y : Fin 256) (h : Fin 4) (e : Fin 2) := half_block m c s s.isLt y h e
  have he (s : Fin 8) (y : Fin 256) (h : Fin 4) (e : Fin 2) := halfCot_block m c s s.isLt y h e
  rw [sums_upto, HeadsRef.rows_at, HeadsRef.gainGrad_at, HeadsRef.halfGain_at, sum_range (n := 8)]
  simp only [hs, addedAt, added, hx, hz, hd, hy, he]
  split_ifs
  · refine (sum_congr rfl fun s _ => sum_comm).trans ?_
    exact (sum_blocks (n := 8) (w := 256) rfl fun y : Fin 2048 => ∑ h : Fin 4,
      gainPart (HeadsRef.head (arg2 m c) y h) (HeadsRef.arg (arg3 m c) y h) (HeadsRef.cot (arg0 m c) (arg1 m c) y h) b).symm
  · refine (sum_congr rfl fun s _ => sum_comm).trans ?_
    exact (sum_blocks (n := 8) (w := 256) rfl fun y : Fin 2048 => ∑ h : Fin 4, halfPart (HeadsRef.half (arg4 m c) y h ⟨b / 64, by omega⟩)
      (HeadsRef.halfCot (arg0 m c) (arg1 m c) y h ⟨b / 64, by omega⟩) ⟨b % 64, by omega⟩).symm
  · exact sum_const_zero

/-- A column is a head's lane. -/
theorem column (b : Fin 512) : ∃ (h : Fin 4) (k : Fin 128), b = ⟨h * 128 + k, by omega⟩ :=
  ⟨⟨b / 128, by omega⟩, ⟨b % 128, by omega⟩, Fin.ext (by show b.val = b.val / 128 * 128 + b.val % 128; omega)⟩

/-- The arrays after the kernel's run. -/
theorem array10 : (dats m 0 c).arrAt 10 cfg0.N = val_main_v104 (F := Ideal) (arg0 m c) (arg1 m c) (arg2 m c) (arg3 m c) (arg4 m c) := by
  refine (dats m 0 c).arrAt_eq_of_covers 10 _ (by decide +kernel) fun t hf y => ?_
  have ht : t.val < 8 := t.isLt
  have h7 : t.val % 8 = 7 := (flush0_10 t).mp hf
  blk_simp
  rw [after0_10]
  obtain ⟨a, b, rfl⟩ : ∃ (a : Fin 8) (b : Fin 128), y = ix2 a b := ⟨y 0, y 1, (ix2_eta y).symm⟩
  refine (sums_out m c a b t.val (by omega) t.isLt).trans (congrArg _ ?_)
  blk_ext [idx t]

variable {m c}

include hR

theorem array7 : (dats m 0 c).arrAt 7 cfg0.N = val_main_v99 (F := Ideal) (arg0 m c) (arg1 m c) (arg2 m c) (arg3 m c) (arg5 m c) := by
  refine (dats m 0 c).arrAt_eq_of_covers 7 _ (by decide +kernel) fun t hf y => ?_
  have ht : t.val < 8 := t.isLt
  blk_simp
  rw [after0_7]
  obtain ⟨a, b, rfl⟩ : ∃ (a : Fin 256) (b : Fin 512), y = ix2 a b := ⟨y 0, y 1, (ix2_eta y).symm⟩
  obtain ⟨h, k, rfl⟩ := column b
  refine (grads_out hR t ht a h k).trans (congrArg _ ?_)
  blk_ext [idx t]

theorem array8 : (dats m 0 c).arrAt 8 cfg0.N = val_main_v100 (F := Ideal) (arg0 m c) (arg1 m c) (arg2 m c) (arg3 m c) (arg5 m c) := by
  refine (dats m 0 c).arrAt_eq_of_covers 8 _ (by decide +kernel) fun t hf y => ?_
  have ht : t.val < 8 := t.isLt
  blk_simp
  rw [after0_8]
  obtain ⟨a, b, rfl⟩ : ∃ (a : Fin 256) (b : Fin 512), y = ix2 a b := ⟨y 0, y 1, (ix2_eta y).symm⟩
  obtain ⟨h, k, rfl⟩ := column b
  refine (gates_out hR t ht a h k).trans (congrArg _ ?_)
  blk_ext [idx t]

theorem array9 : (dats m 0 c).arrAt 9 cfg0.N = val_main_v74 (F := Ideal) (arg0 m c) (arg1 m c) (arg4 m c) (arg6 m c) := by
  refine (dats m 0 c).arrAt_eq_of_covers 9 _ (by decide +kernel) fun t hf y => ?_
  have ht : t.val < 8 := t.isLt
  blk_simp
  rw [after0_9]
  obtain ⟨a, b, rfl⟩ : ∃ (a : Fin 256) (b : Fin 512), y = ix2 a b := ⟨y 0, y 1, (ix2_eta y).symm⟩
  obtain ⟨h, k, rfl⟩ := column b
  obtain ⟨s, l, rfl⟩ : ∃ (s : Fin 2) (l : Fin 64), k = lane s l :=
    ⟨⟨k / 64, by omega⟩, ⟨k % 64, by omega⟩, Fin.ext (Nat.div_add_mod _ _).symm⟩
  refine (halves_out hR t ht a h s l).trans (congrArg _ ?_)
  blk_ext [idx t]

omit hR

/-- The reference ends with its arguments kept. -/
theorem frame_reference : Cert.quiescent_HeadsRefIdeal := fun m ρ _ =>
  (θ_run Cert.HeadsRefIdeal.defs _ _).mono (fun r h => ⟨fun c => (h c).2.2.2.2, sem_eq_zero_of_no_sems (by decide) r.2⟩)
    (Cert.HeadsRefIdeal.Value.run (F := Ideal) m ρ)

/-- The side conditions the precondition's text states. -/
theorem facts : Cert.Pre_finite_heads.Facts := ⟨by decide, by decide, by decide, by decide, by decide, by decide⟩

theorem reals [Cert.Pre_finite_heads.Facts] (h : Cert.Pre_HeadsIdeal_finite_heads m) : Reals m c :=
  ⟨fun i => Finite.isReal_half (congrFun (h c).1 i), fun i => Finite.isReal_half (congrFun (h c).2.1 i), fun i => Finite.isReal (congrFun (h c).2.2.1 i),
    fun i => Finite.isReal (congrFun (h c).2.2.2.1 i), fun i => Finite.isReal (congrFun (h c).2.2.2.2.1 i),
    fun i => Finite.isReal (congrFun (h c).2.2.2.2.2.1 i), fun i => Finite.isReal (congrFun (h c).2.2.2.2.2.2 i)⟩

/-- The ideal kernel computes what the reference does, on finite arrays. -/
theorem algebraic [Cert.Pre_finite_heads.Facts] : Cert.algebraic_HeadsIdeal_HeadsRefIdeal_pre_finite_heads := by
  intro m g m' g' hpre hargs
  refine ⟨fun c => val_main_v99 (F := Ideal) (arg0 m c) (arg1 m c) (arg2 m c) (arg3 m c) (arg5 m c), fun c => val_main_v100 (F := Ideal) (arg0 m c) (arg1 m c) (arg2 m c) (arg3 m c) (arg5 m c), fun c => val_main_v74 (F := Ideal) (arg0 m c) (arg1 m c) (arg4 m c) (arg6 m c), fun c => val_main_v104 (F := Ideal) (arg0 m c) (arg1 m c) (arg2 m c) (arg3 m c) (arg4 m c), ?_, ?_⟩
  · refine (θ_run Cert.HeadsIdeal.defs _ _).mono (fun r h c => ?_) (Cert.HeadsIdeal.Value.run_blocks (F := Ideal) m g)
    obtain ⟨h7, h8, h9, h10, h⟩ := h c
    have hR : Reals m c := reals hpre
    exact ⟨h7.trans (array7 hR), h8.trans (array8 hR), h9.trans (array9 hR), h10.trans (array10 m c), h⟩
  · refine (θ_run Cert.HeadsRefIdeal.defs _ _).mono (fun r h c => ?_) (Cert.HeadsRefIdeal.Value.run (F := Ideal) m' g')
    obtain ⟨h0, h1, h2, h3, h⟩ := h c
    obtain ⟨e0, e1, e2, e3, e4, e5, e6⟩ := hargs c
    replace h0 := h0.trans (Cert.HeadsRefIdeal.Read.val_main_v99_eq _ c)
    replace h1 := h1.trans (Cert.HeadsRefIdeal.Read.val_main_v100_eq _ _ _ _ _)
    replace h2 := h2.trans (Cert.HeadsRefIdeal.Read.val_main_v74_eq _ c)
    rw [e0, e1, e2, e3, e5] at h0
    rw [e0, e1, e2, e3, e5] at h1
    rw [e0, e1, e4, e6] at h2
    refine ⟨h0, h1, h2, ?_, h⟩
    clear h0 h1 h2 h
    replace h3 := h3.trans (Cert.HeadsRefIdeal.Read.val_main_v104_eq _ _ _ _ _)
    rw [e0, e1, e2, e3, e4] at h3
    exact h3

end Cert.Proof.Heads

end

end
-- ==== Proof.Forward.lean ====
module

public import proofs.«01_k».proof.Proof.Pair

/-! The forward pass of the forgetting attention over the real numbers, and the extended-real expressions that come to it: a row's
    output, divided after the sum over the keys, and its log-sum. -/

@[expose] public section

noncomputable section

namespace Cert.Fox

open Idealize.ShloMosaic Finset

/-- The output of query row `r` at column `l`. -/
def out (n : ℕ) (p c : ℕ → ℕ → ℝ) (r l : ℕ) : ℝ := ∑ j : Fin n, p j (3072 + l) * attn n p c (l / 64) r j

/-- The logarithm of the sum of the exponentials of row `r`'s scores. -/
def logSum (n : ℕ) (p c : ℕ → ℕ → ℝ) (h r : ℕ) : ℝ := Real.log (total (causal r) fun j : Fin n => raw p c h r j)

/-- One, as the programs write it. -/
theorem ofBits_one : Ideal.ofBits .f32 0x3F800000#32 = 1 := by
  simp [Ideal.ofBits, Ideal.ieee, -EReal.coe_mul]
  norm_num

variable {n : ℕ} {ok : Fin n → Prop} [DecidablePred ok] (hne : ∃ j, ok j)

/-- The sum of the exponentials of masked scores, each less the same number. -/
theorem sum_exp_sub (a : Fin n → ℝ) (M : ℝ) : ∑ j, Ideal.exp (score ok a j - (M : EReal)) = (total ok (fun i => a i - M) : EReal) := by
  simp only [score_sub, sum_exp_score]

include hne in
/-- A row's output: the exponentials' product with the values, times the inverse of the exponentials' sum. -/
theorem row_out (a v : Fin n → ℝ) (M : ℝ) :
    (∑ j, Ideal.exp (score ok a j - (M : EReal)) * (v j : EReal)) * Ideal.div 1 (total ok (fun i => a i - M) : EReal) =
      ((∑ j, v j * weight ok a j : ℝ) : EReal) := by
  have hp := total_pos hne fun i => a i - M
  simp only [score_sub, exp_score, Ideal.div_coe hp.ne', one_mul, ← EReal.coe_mul, sum_coe]
  congr 1
  rw [sum_mul]
  refine sum_congr rfl fun j _ => ?_
  rw [← weight_sub a M j]
  unfold weight
  split
  · field_simp
  · ring

include hne in
/-- A row's log-sum: its maximum, or any other number, and the logarithm of the sum of the lowered exponentials. -/
theorem row_log (a : Fin n → ℝ) (M : ℝ) :
    (M : EReal) + Ideal.log (total ok (fun i => a i - M) : EReal) = ((Real.log (total ok a) : ℝ) : EReal) := by
  have hp := total_pos hne fun i => a i - M
  have hl : Ideal.log (total ok (fun i => a i - M) : EReal) = ((Real.log (total ok (fun i => a i - M)) : ℝ) : EReal) := by
    exact if_neg hp.not_ge
  rw [hl, ← EReal.coe_add]
  congr 1
  rw [total_sub, Real.log_mul (total_pos hne a).ne' (Real.exp_pos _).ne', Real.log_exp]
  ring

end Cert.Fox

end

end
-- ==== Proof.FoxDHead.lean ====
module

public import proofs.«01_k».proof.Proof.Gen.FoxDIdeal.Skeleton
public import Idealize.ShloMosaic.Lib.Pointwise
public import proofs.«01_k».proof.Proof.Forward

/-! One head of the forward attention's body, over 2048 keys: its masked scores, their row's maximum and exponentials, and what it
    puts into the pair's output and into its lane of the log-sums. -/

@[expose] public section

set_option maxRecDepth 16384

noncomputable section

namespace Cert.ForwardD

open Idealize.ShloMosaic Cert.FoxDIdeal Cert.FoxDIdeal.Gen Cert.FoxDIdeal.Facts Cert.Fox Finset
open Cert.Head (lanes queries lanes_apply lane_eq)
open Cert.Pair (lo hi sum_lanes)

local instance : Cert.FoxDIdeal.Facts := Cert.FoxDIdeal.Gen.facts

abbrev Rows := FVec Ideal S256x128 .f32
abbrev Keys := FVec Ideal S2048x128 .f32
abbrev Square := FVec Ideal S256x2048 .f32

/-- The head's masked scores. -/
def scores (i : grid0.Coords) (a b : BitVec 32) (q : Rows) (k : Keys) (c : FVec Ideal S1x2048 .f32) : Square :=
  select (k0_pay7 i)
    (subf (matmul dot_S256x128_S2048x128_S256x2048_1_1_0_0_n_n none (truncf .bf16 (queries a b q) bitsLt_bf16_f32) (truncf .bf16 k bitsLt_bf16_f32) (constant S256x2048 .f32 0x00000000#32))
      (broadcastTo S256x2048 c broadcasts_S1x2048_S256x2048))
    (broadcast S256x2048 (Named.named κ "mask" 0xF149F2CA#32))

/-- Each row's greatest score. -/
def tops (s : Square) : FVec Ideal S256x1 .f32 :=
  shapeCast S256x1 (multiReduction .maximumf [1] S256 s 0xFF800000#32 reduces_S256x2048_S256 (.inl rfl) rfl) shapeCasts_S256_S256x1

/-- The exponentials of the scores less their row's maximum. -/
def exps (s : Square) : Square := exp (subf s (broadcastTo S256x2048 (tops s) broadcasts_S256x1_S256x2048))

/-- Their sum along each row. -/
def sums (s : Square) : FVec Ideal S256x1 .f32 :=
  shapeCast S256x1 (multiReduction .add [1] S256 (exps s) 0x00000000#32 reduces_S256x2048_S256 (.inl rfl) rfl) shapeCasts_S256_S256x1

/-- The head's output, put over the other head's. -/
def putOut (s : Square) (a b : BitVec 32) (v : Keys) (old : Rows) : Rows :=
  select (lanes a b)
    (mulf (matmul dot_S256x2048_S2048x128_S256x128_1_0_0_1_n_n none (truncf .bf16 (exps s) bitsLt_bf16_f32) (truncf .bf16 v bitsLt_bf16_f32) (constant S256x128 .f32 0x00000000#32))
      (broadcastTo S256x128 (divf (broadcast S256x1 (Scalar.ofBits .f32 0x3F800000#32)) (sums s)) broadcasts_S256x1_S256x128))
    old

/-- The head's log-sums, put into its lane. -/
def putLog (s : Square) (h : BitVec 32) (old : Rows) : Rows :=
  select (cmpi .eq (iota .tc S256x128 32 [1] iota_S256x128_d1_w32) (broadcast S256x128 h))
    (broadcastTo S256x128 (shapeCast S256x1 (addf (tops s) (log (sums s))) shapeCasts_S256x1_S256x1) broadcasts_S256x1_S256x128)
    old

/-- The causal mask of the rows of grid point `i`. -/
theorem causal_apply (i : grid0.Coords) (R : ℕ) (hR : R = 256 * (6 + (i 0).val)) (y : Fin 256) (j : Fin 2048) :
    k0_pay7 i (ix2 y j) = BitVec.ofBool (decide (causal (R + y.val) j)) := by
  have hi : (i 0).val < 2 := (i 0).isLt
  unfold_payloads
  pointwise []
  have e : IntOp.addi (Scalar.muli (Scalar.addi 6#32 (BitVec.ofNat 32 (i 0).val)) 256#32) (BitVec.ofNat 32 y.val) = BitVec.ofNat 32 (R + y.val) := by
    show (6#32 + BitVec.ofNat 32 (i 0).val) * 256#32 + BitVec.ofNat 32 y.val = _
    apply BitVec.eq_of_toNat_eq
    simp
    omega
  rw [e, sle_ofNat (by omega) (by omega)]
  rfl

/-- The scores at an index. -/
theorem scores_apply (i : grid0.Coords) (a b : BitVec 32) (q : Rows) (k : Keys) (c : FVec Ideal S1x2048 .f32) (y : Fin 256) (j : Fin 2048) :
    scores i a b q k c (ix2 y j) = Scalar.select (k0_pay7 i (ix2 y j))
      (∑ d : Fin 128, queries a b q (ix2 y d) * k (ix2 j d) - c (ix2 0 j)) ⊥ := by
  pointwise [scores]
  rfl

variable {s : Square} {y : Fin 256} {r : ℕ} {a : Fin 2048 → ℝ} (hs : ∀ j : Fin 2048, s (ix2 y j) = score (causal r) a j)

include hs in
/-- A row whose scores are known: its maximum, its exponentials and their sum. -/
theorem row_apply : ∃ M : ℝ, tops s (ix2 y 0) = (M : EReal) ∧ (∀ j : Fin 2048, exps s (ix2 y j) = Ideal.exp (score (causal r) a j - (M : EReal))) ∧
    sums s (ix2 y 0) = (total (causal r) (fun j : Fin 2048 => a j - M) : EReal) := by
  obtain ⟨M, hM⟩ := fold_max_score (causal_exists (by norm_num) r) a
  have e : tops s (ix2 y 0) = (M : EReal) := by
    pointwise [tops]
    exact fold_op_score hM rfl ofBits_neg_inf hs
  have e2 : ∀ j : Fin 2048, exps s (ix2 y j) = Ideal.exp (score (causal r) a j - (M : EReal)) := by
    intro j
    pointwise [exps]
    rw [e, hs]
  refine ⟨M, e, e2, ?_⟩
  pointwise [sums]
  simp only [e2, sum_exp_sub]

include hs in
/-- The output at an index. -/
theorem putOut_apply (e : Fin 2) (v : Keys) (old : Rows) (d : Fin 128) (V : Fin 2048 → ℝ) (hv : ∀ j : Fin 2048, v (ix2 j d) = (V j : EReal)) :
    putOut s (lo e) (hi e) v old (ix2 y d) = if d.val / 64 = e.val then ((∑ j, V j * weight (causal r) a j : ℝ) : EReal) else old (ix2 y d) := by
  obtain ⟨M, -, h2, h3⟩ := row_apply hs
  have h : putOut s (lo e) (hi e) v old (ix2 y d) = Scalar.select (lanes (lo e) (hi e) (ix2 y d))
      ((∑ j : Fin 2048, exps s (ix2 y j) * v (ix2 j d)) * Ideal.div (Ideal.ofBits .f32 0x3F800000#32) (sums s (ix2 y 0))) (old (ix2 y d)) := by
    pointwise [putOut]
  rw [h, lanes_apply, select_decide, h3]
  simp only [h2, hv]
  rw [ofBits_one, row_out (causal_exists (by norm_num) r)]

include hs in
/-- The log-sums at an index. -/
theorem putLog_apply (h : Fin 16) (old : Rows) (z : Fin 128) :
    putLog s (BitVec.ofNat 32 h.val) old (ix2 y z) = if z.val = h.val then ((Real.log (total (causal r) a) : ℝ) : EReal) else old (ix2 y z) := by
  obtain ⟨M, h1, -, h3⟩ := row_apply hs
  have e : putLog s (BitVec.ofNat 32 h.val) old (ix2 y z) = Scalar.select (IntOp.cmpi .eq (BitVec.ofNat 32 z.val) (BitVec.ofNat 32 h.val))
      (tops s (ix2 y 0) + Ideal.log (sums s (ix2 y 0))) (old (ix2 y z)) := by
    pointwise [putLog]
  rw [e, lane_eq, select_decide, h1, h3, row_log (causal_exists (by norm_num) r)]

end Cert.ForwardD

end

end
-- ==== Proof.FoxDRef.lean ====
module

public import proofs.«01_k».proof.Proof.Gen.FoxDRefIdeal.Read
public import proofs.«01_k».proof.Proof.Forward

/-! The reference of the forward attention at the 512 query rows from 1536, read at an index as real numbers. -/

@[expose] public section

set_option maxRecDepth 16384

noncomputable section

namespace Cert.FoxDRef

open Idealize.ShloMosaic Cert.FoxDRefIdeal Cert.FoxDRefIdeal.Gen Cert.FoxDRefIdeal.Read Cert.Fox Finset

variable {p c : ℕ → ℕ → ℝ}
variable {x0 : (⟨S2048x3840, .f32⟩ : BufTy).Contents (Elt Ideal)} (hp : ∀ a b, x0 (ix2 a b) = ((p a.val b.val : ℝ) : EReal))
variable {x1 : (⟨S128x2048, .f32⟩ : BufTy).Contents (Elt Ideal)} (hc : ∀ a b, x1 (ix2 a b) = ((c a.val b.val : ℝ) : EReal))

include hp hc in
/-- The masked scores, the query's own cumulated decay added. -/
theorem masked (h : Fin 8) (r : Fin 512) (j : Fin 2048) : val_main_v23 (F := Ideal) x0 x1 (ix3 h r j) =
    score (causal (1536 + r.val)) (fun j : Fin 2048 => raw p c h (1536 + r) j - -c (8 + h) (1536 + r)) j := by
  pointwise [val_main_v23, val_main_call0_v2, val_main_call0_v1, val_main_call0_v0, val_main_cst_0, val_main_v22, val_main_v21, val_main_v20,
    val_main_v19, val_main_v18, val_main_v17, val_main_c, val_main_v16, val_main_v15, val_main_v14, val_main_v13, val_main_v12, val_main_v11,
    val_main_v10, val_main_v9, val_main_cst, val_main_v8, val_main_v6, val_main_v5, val_main_v4, val_main_v3, val_main_v1, val_main_v0]
  have e : IntOp.addi (1536#32) (BitVec.ofNat 32 r.val) = BitVec.ofNat 32 (1536 + r.val) := (BitVec.ofNat_add _ _).symm
  rw [e, sle_ofNat (by omega) (by omega), select_decide]
  simp only [hp, hc, ofBits_eighth, ← EReal.coe_mul, sum_coe, ← EReal.coe_add, ← EReal.coe_sub]
  rw [score]
  congr 1
  · congr 1
    unfold raw
    ring

include hp hc in
/-- The output. -/
theorem result_out (r : Fin 512) (l : Fin 512) : val_main_v37 (F := Ideal) x0 x1 (ix2 r l) = (out 2048 p c (1536 + r) l : EReal) := by
  obtain ⟨M, hM⟩ := fold_max_score (causal_exists (by norm_num) (1536 + r.val))
    (fun j : Fin 2048 => raw p c (l.val / 64) (1536 + r) j - -c (8 + l.val / 64) (1536 + r))
  have e : val_main_v26 (F := Ideal) x0 x1 (ix2 (⟨l / 64, by omega⟩ : Fin 8) r) = (M : EReal) := by
    have e1 : val_main_v24 (F := Ideal) x0 x1 (ix2 (⟨l / 64, by omega⟩ : Fin 8) r) = (M : EReal) := by
      pointwise [val_main_v24, val_main_cst_1]
      exact fold_op_score hM rfl ofBits_neg_inf fun j => masked hp hc ⟨l / 64, by omega⟩ r j
    rw [val_main_v26_apply, e1, val_main_v25_apply, val_main_cst_2_apply]
    show max (Ideal.ofBits .f32 0xFF800000#32) _ = _
    rw [ofBits_neg_inf]
    exact max_eq_right bot_le
  pointwise [val_main_v37, val_main_v36, val_main_v35, val_main_v34, val_main_v33, val_main_v32, val_main_v31, val_main_v30, val_main_v29,
    val_main_v28, val_main_v27, val_main_cst_3, val_main_v7, val_main_v2]
  simp only [e, masked hp hc, hp, sum_exp_sub, score_sub, zero_add, exp_div_total (causal_exists (n := 2048) (by norm_num) _), weight_sub,
    sum_exp_score, ← EReal.coe_mul, sum_coe]
  rfl

include hp hc in
/-- The masked scores that the log-sums come from. -/
theorem lowered (h : Fin 8) (r : Fin 512) (j : Fin 2048) : val_main_v52 (F := Ideal) x0 x1 (ix3 h r j) =
    score (causal (1536 + r.val)) (fun j : Fin 2048 => raw p c h (1536 + r) j) j := by
  pointwise [val_main_v52, val_main_call1_v2, val_main_call1_v1, val_main_call1_v0, val_main_cst_6, val_main_v51, val_main_v50, val_main_v49,
    val_main_v48, val_main_v47, val_main_v46, val_main_c_5, val_main_v45, val_main_v44, val_main_v43, val_main_v42, val_main_v41, val_main_cst_4,
    val_main_v40, val_main_v39, val_main_v38, val_main_v3, val_main_v1, val_main_v0]
  have e : IntOp.addi (1536#32) (BitVec.ofNat 32 r.val) = BitVec.ofNat 32 (1536 + r.val) := (BitVec.ofNat_add _ _).symm
  rw [e, sle_ofNat (by omega) (by omega), select_decide]
  simp only [hp, hc, ofBits_eighth, ← EReal.coe_mul, sum_coe, ← EReal.coe_sub]
  rw [score]
  congr 1

include hp hc in
/-- Each row's greatest score and the sum of the exponentials of its scores less that. -/
theorem parts (h : Fin 8) (r : Fin 512) : ∃ M : ℝ, val_main_v53 (F := Ideal) x0 x1 (ix2 h r) = (M : EReal) ∧
    val_main_v58 (F := Ideal) x0 x1 (ix2 h r) = (total (causal (1536 + r.val)) (fun j : Fin 2048 => raw p c h (1536 + r) j - M) : EReal) := by
  obtain ⟨M, hM⟩ := fold_max_score (causal_exists (by norm_num) (1536 + r.val)) (fun j : Fin 2048 => raw p c h (1536 + r) j)
  have e : val_main_v53 (F := Ideal) x0 x1 (ix2 h r) = (M : EReal) := by
    pointwise [val_main_v53, val_main_cst_7]
    exact fold_op_score hM rfl ofBits_neg_inf fun j => lowered hp hc h r j
  refine ⟨M, e, ?_⟩
  pointwise [val_main_v58, val_main_v57, val_main_v56, val_main_v55, val_main_v54, val_main_cst_8]
  simp only [e, lowered hp hc, sum_exp_sub, zero_add]

include hp hc in
/-- The log-sums. -/
theorem log_sum (h : Fin 8) (r : Fin 512) : val_main_v60 (F := Ideal) x0 x1 (ix2 h r) = (logSum 2048 p c h (1536 + r) : EReal) := by
  obtain ⟨M, e, e'⟩ := parts hp hc h r
  rw [val_main_v60_apply, val_main_v59_apply, e, e']
  exact row_log (causal_exists (by norm_num) _) _ M

include hp hc in
/-- The log-sums, a head to a lane. -/
theorem result_log (r : Fin 512) (z : Fin 128) : val_main_v62 (F := Ideal) x0 x1 (ix2 r z) =
    ((if z.val < 8 then logSum 2048 p c z (1536 + r) else 0 : ℝ) : EReal) := by
  have e : ∀ h : Fin 8, val_main_v60 (F := Ideal) x0 x1 (ix2 h r) = (logSum 2048 p c h (1536 + r) : EReal) := fun h => log_sum hp hc h r
  pointwise [val_main_v62, val_main_v61, val_main_call2_v0]
  split
  · rename_i hz
    exact e ⟨z, hz⟩
  · show (((0#32).toInt : ℝ) : EReal) = _
    simp

end Cert.FoxDRef

end

end
-- ==== Proof.FoxFinite.lean ====
module

public import proofs.«01_k».proof.Proof.Finite
public import proofs.«01_k».proof.Pre_finite_fox

/-! The forward attention's arguments, read as tables of real numbers. -/

@[expose] public section

noncomputable section

namespace Cert.FoxFinite

open Idealize.ShloMosaic Cert.Finite

/-- The side conditions the precondition's text states. -/
theorem facts : Cert.Pre_finite_fox.Facts := ⟨by decide, by decide⟩

variable [Cert.Pre_finite_fox.Facts] {p : FVec Ideal ⟨2, ![2048, 3840]⟩ .f32} {c : FVec Ideal ⟨2, ![128, 2048]⟩ .f32}

theorem proj_table (h : (Cert.Pre_finite_fox.fn (F := Ideal) p c).1 = fun _ => 1#1) (a : Fin 2048) (b : Fin 3840) :
    p (ix2 a b) = ((table p a.val b.val : ℝ) : EReal) :=
  eq_table p (fun j => congrFun h j) a b

theorem decay_table (h : (Cert.Pre_finite_fox.fn (F := Ideal) p c).2 = fun _ => 1#1) (a : Fin 128) (b : Fin 2048) :
    c (ix2 a b) = ((table c a.val b.val : ℝ) : EReal) :=
  eq_table c (fun j => congrFun h j) a b

end Cert.FoxFinite

end

end
-- ==== Proof.FoxD.lean ====
module

public import proofs.«01_k».proof.Defs
public import proofs.«01_k».proof.Pre_finite_fox
public import proofs.«01_k».proof.Proof.Gen.FoxDIdeal.Frame
public import proofs.«01_k».proof.Proof.Gen.FoxDIdeal.Value
public import proofs.«01_k».proof.Proof.Gen.FoxDRefIdeal.Run
public import proofs.«01_k».proof.Proof.FoxDHead
public import proofs.«01_k».proof.Proof.FoxDRef
public import proofs.«01_k».proof.Proof.FoxFinite
public import proofs.«01_k».proof.Proof.Stores

/-! The forward attention at the 512 query rows from 1536: what the kernel's run leaves is what the reference gives. -/

@[expose] public section

set_option maxRecDepth 16384

noncomputable section

namespace Cert.Proof.FoxD

open Idealize.ShloMosaic Idealize.ShloMosaic.TcCoe Idealize.ShloMosaic.Tactic Idealize.SL.Sem
open Cert.FoxDIdeal Cert.FoxDIdeal.Gen Cert.ForwardD Cert.Stores Cert.Fox Finset
open Cert.Head (queries queries_apply lanes_apply)
open Cert.Pair (lo hi sum_lanes)
open Cert.FoxDRefIdeal.Read (val_main_v37 val_main_v62)

local instance : Cert.FoxDIdeal.Facts := Cert.FoxDIdeal.Gen.facts
local instance : Cert.FoxDRefIdeal.Facts := Cert.FoxDRefIdeal.Gen.facts

section heads

variable (p c : ℕ → ℕ → ℝ) (R : ℕ)

/-- The blocks that a grid point reads, the query rows beginning at `R`. -/
structure Ins (q : FVec Ideal S256x512 .f32) (k v : FVec Ideal S2048x512 .f32) (dec : FVec Ideal S128x2048 .f32) : Prop where
  q : ∀ (y : Fin 256) (d : Fin 512), q (ix2 y d) = (p (R + y) (2048 + d) : EReal)
  k : ∀ (j : Fin 2048) (d : Fin 512), k (ix2 j d) = (p j (2560 + d) : EReal)
  v : ∀ (j : Fin 2048) (d : Fin 512), v (ix2 j d) = (p j (3072 + d) : EReal)
  dec : ∀ (h : Fin 128) (j : Fin 2048), dec (ix2 h j) = (c h j : EReal)

variable {p c R}
variable {q : FVec Ideal S256x512 .f32} {k v : FVec Ideal S2048x512 .f32} {dec : FVec Ideal S128x2048 .f32} (hI : Ins p c R q k v dec)

/-! That a load stays inside its block: 128 columns of the queries' and of the keys' block, one row of decays. -/
abbrev InRows (a : ℕ) : Prop := ∀ i, (![0, a] : Fin 2 → ℕ) i + (![256, 128] : Fin 2 → ℕ) i ≤ (![256, 512] : Fin 2 → ℕ) i
abbrev InKeys (a : ℕ) : Prop := ∀ i, (![0, a] : Fin 2 → ℕ) i + (![2048, 128] : Fin 2 → ℕ) i ≤ (![2048, 512] : Fin 2 → ℕ) i
abbrev InDec (a : ℕ) : Prop := ∀ i, (![a, 0] : Fin 2 → ℕ) i + (![1, 2048] : Fin 2 → ℕ) i ≤ (![128, 2048] : Fin 2 → ℕ) i

abbrev rowsAt (x : FVec Ideal S256x512 .f32) (a : ℕ) (h : InRows a) : Rows :=
  View.ld (Val := Elt Ideal) (e' := .f32) x (Rect.unit (s := S256x512) ![0, a] ![256, 128] h)

abbrev keysAt (x : FVec Ideal S2048x512 .f32) (a : ℕ) (h : InKeys a) : Keys :=
  View.ld (Val := Elt Ideal) (e' := .f32) x (Rect.unit (s := S2048x512) ![0, a] ![2048, 128] h)

abbrev decAt (x : FVec Ideal S128x2048 .f32) (a : ℕ) (h : InDec a) : FVec Ideal S1x2048 .f32 :=
  View.ld (Val := Elt Ideal) (e' := .f32) x (Rect.unit (s := S128x2048) ![a, 0] ![1, 2048] h)

/-- A head's masked scores, from the blocks' loads at column `a` and row `b`. -/
abbrev headS (i : grid0.Coords) (z : Fin 2) (q : FVec Ideal S256x512 .f32) (k : FVec Ideal S2048x512 .f32) (dec : FVec Ideal S128x2048 .f32)
    (a b : ℕ) (hr : InRows a) (hk : InKeys a) (hd : InDec b) : Square :=
  scores i (lo z) (hi z) (rowsAt q a hr) (keysAt k a hk) (decAt dec b hd)

variable {i : grid0.Coords} (hR : R = 256 * (6 + (i 0).val)) {pr a b e b' e' : ℕ} {hr : InRows a} {hk : InKeys a} {hd : InDec b} {hd' : InDec b'}

include hI hR in
/-- The masked scores of a head at an index. -/
theorem headS_eq (z : Fin 2) (ha : a = 128 * pr) (hp : pr < 4) (he : e = 2 * pr + z) (hb : b = 8 + e) (y : Fin 256) (j : Fin 2048) :
    headS i z q k dec a b hr hk hd (ix2 y j) = score (causal (R + y.val)) (fun j : Fin 2048 => raw p c e (R + y) j) j := by
  subst ha he hb
  have hz : z.val < 2 := z.isLt
  have hq : ∀ d : Fin 128, queries (lo z) (hi z) (rowsAt q (128 * pr) hr) (ix2 y d) =
      ((if d.val / 64 = z.val then 1 / 8 * p (R + y) (2048 + (128 * pr + d)) else 0 : ℝ) : EReal) := by
    intro d
    rw [queries_apply, lanes_apply, select_decide,
      show rowsAt q (128 * pr) hr (ix2 y d) = _ from (ld_block q hr y d y ⟨128 * pr + d, by omega⟩ (by omega) rfl).trans (hI.q _ _),
      ofBits_eighth, ← EReal.coe_mul, mul_comm]
    split <;> simp
  have hkk : ∀ d : Fin 128, keysAt k (128 * pr) hk (ix2 j d) = (p j (2560 + (128 * pr + d)) : EReal) := fun d =>
    (ld_block k hk j d j ⟨128 * pr + d, by omega⟩ (by omega) rfl).trans (hI.k _ _)
  have hdd : decAt dec (8 + (2 * pr + z)) hd (ix2 0 j) = (c (8 + (2 * pr + z)) j : EReal) :=
    (ld_block dec hd 0 j ⟨8 + (2 * pr + z), by omega⟩ j (by simp) (by omega)).trans (hI.dec _ _)
  rw [headS, scores_apply, causal_apply i R hR, select_decide]
  unfold score
  split
  · simp only [hq, hkk, hdd, ← EReal.coe_mul, sum_coe, ← EReal.coe_sub, ite_mul, zero_mul]
    rw [sum_lanes z pr fun d => 1 / 8 * p (R + y) (2048 + d) * p j (2560 + d)]
    unfold raw
    simp only [mul_comm _ (1 / 8 : ℝ), mul_sum, mul_assoc]
  · rfl

include hI hR in
/-- The output of a pair of heads. -/
theorem pair_out (ha : a = 128 * pr) (hp : pr < 4) (he : e = 2 * pr) (hb : b = 8 + e) (he' : e' = 2 * pr + 1) (hb' : b' = 8 + e')
    (old : Rows) (r x : Fin 256) (n : Fin 512) (y : Fin 128) (hx : r.val = 0 + x.val) (hn : n.val = a + y.val) :
    putOut (headS i 1 q k dec a b' hr hk hd') (lo 1) (hi 1) (keysAt v a hk)
      (putOut (headS i 0 q k dec a b hr hk hd) (lo 0) (hi 0) (keysAt v a hk) old) (ix2 x y) = (out 2048 p c (R + r) n : EReal) := by
  obtain rfl : r = x := Fin.ext (by omega)
  have hv : ∀ j : Fin 2048, keysAt v a hk (ix2 j y) = (p j (3072 + n) : EReal) := fun j =>
    (ld_block v hk j y j n (by omega) hn).trans (hI.v _ _)
  rw [putOut_apply (headS_eq hI hR 1 ha hp he' hb' r) 1 _ _ y _ hv, putOut_apply (headS_eq hI hR 0 ha hp he hb r) 0 _ _ y _ hv]
  have hy : y.val / 64 = 0 ∨ y.val / 64 = 1 := by omega
  rcases hy with h | h
  · rw [if_neg (by simp [h]), if_pos (by simp [h]), out, show n.val / 64 = e by omega]
    rfl
  · rw [if_pos (by simp [h]), out, show n.val / 64 = e' by omega]
    rfl

/-- The lane of one head: its log-sums there, and the older lanes elsewhere. -/
theorem lane_step {s : Square} (h : Fin 16) (old : Rows) (y : Fin 256) (z : Fin 128) (hh : h.val < 8)
    (hs : ∀ j : Fin 2048, s (ix2 y j) = score (causal (R + y.val)) (fun j : Fin 2048 => raw p c h (R + y) j) j)
    (ho : z.val ≠ h.val → old (ix2 y z) = ((if z.val < 8 then logSum 2048 p c z (R + y) else 0 : ℝ) : EReal)) :
    putLog s (BitVec.ofNat 32 h.val) old (ix2 y z) = ((if z.val < 8 then logSum 2048 p c z (R + y) else 0 : ℝ) : EReal) := by
  rw [putLog_apply hs]
  split
  · rename_i e
    rw [if_pos (by omega), e]
    rfl
  · rename_i e
    exact ho e

end heads

variable (m : (ℓ : Loc nD τ sig) → Buf (Elt Ideal) ℓ) (ch : Dev nD)

/-- Every window's block at every point. -/
theorem idx : ∀ t : Fin cfg0.N, win0_0.index t = ![6 + t.val, 4] ∧ win0_1.index t = ![0, 5] ∧ win0_2.index t = ![0, 6] ∧ win0_3.index t = ![0, 0] ∧
    win0_4.index t = ![t.val, 0] ∧ win0_5.index t = ![t.val, 0] ∧ (cfg0.grid.coords t 0).val = t.val :=
  (by decide +kernel : ∀ t : Fin grid0.N, _)

abbrev proj : FVec Ideal S2048x3840 .f32 := m ((ch : Thread nD τ).loc main_arg0)
abbrev decay : FVec Ideal S128x2048 .f32 := m ((ch : Thread nD τ).loc main_arg1)

/-- The queries' block. -/
theorem block_q (t : Fin cfg0.N) (y : Fin 256) (d : Fin 512) (hr : 256 * (6 + t.val) + y.val < 2048) :
    X0_0 m ch t (ix2 y d) = proj m ch (ix2 ⟨256 * (6 + t.val) + y, hr⟩ ⟨2048 + d, by omega⟩) := by
  unfold X0_0 Pipeline.Window.fill
  rw [dif_pos (moved0_0 t _)]
  blk_ext [iblk, V, idx t]

/-- The keys' block. -/
theorem block_k (t : Fin cfg0.N) (j : Fin 2048) (d : Fin 512) :
    X0_1 m ch t (ix2 j d) = proj m ch (ix2 ⟨j, by omega⟩ ⟨2560 + d, by omega⟩) := by
  unfold X0_1 Pipeline.Window.fill
  rw [dif_pos (moved0_1 t _)]
  blk_ext [iblk, V, idx t]

/-- The values' block. -/
theorem block_v (t : Fin cfg0.N) (j : Fin 2048) (d : Fin 512) :
    X0_2 m ch t (ix2 j d) = proj m ch (ix2 ⟨j, by omega⟩ ⟨3072 + d, by omega⟩) := by
  unfold X0_2 Pipeline.Window.fill
  rw [dif_pos (moved0_2 t _)]
  blk_ext [iblk, V, idx t]

/-- The decays' block. -/
theorem block_dec (t : Fin cfg0.N) (h : Fin 128) (j : Fin 2048) : iblk m ch 3 t (ix2 h j) = decay m ch (ix2 h ⟨j, by omega⟩) := by
  blk_ext [iblk, V, idx t]

section point

variable {p c : ℕ → ℕ → ℝ} {R : ℕ} (t : Fin cfg0.N) (hI : Ins p c R (X0_0 m ch t) (X0_1 m ch t) (X0_2 m ch t) (iblk m ch 3 t))
  (hR : R = 256 * (6 + (cfg0.grid.coords t 0).val))

include hI hR in
/-- A point's output. -/
theorem out_point (y : Fin 256) (n : Fin 512) : (outsAt0 m ch t).1 (ix2 y n) = (out 2048 p c (R + y) n : EReal) := by
  rw [outsAt0]
  dsimp only
  frame_open
  frame_out
  refine reads_canon.block _ _ _ _ _ _ (fun x z hx hz => pair_out (pr := 3) (a := 384) (b := 14) (e := 6) (b' := 15) (e' := 7) hI hR rfl (by omega) rfl rfl rfl rfl _ y x n z hx hz) fun h3 => ?_
  refine reads_canon.block _ _ _ _ _ _ (fun x z hx hz => pair_out (pr := 2) (a := 256) (b := 12) (e := 4) (b' := 13) (e' := 5) hI hR rfl (by omega) rfl rfl rfl rfl _ y x n z hx hz) fun h2 => ?_
  refine reads_canon.block _ _ _ _ _ _ (fun x z hx hz => pair_out (pr := 1) (a := 128) (b := 10) (e := 2) (b' := 11) (e' := 3) hI hR rfl (by omega) rfl rfl rfl rfl _ y x n z hx hz) fun h1 => ?_
  refine reads_canon.block _ _ _ _ _ _ (fun x z hx hz => pair_out (pr := 0) (a := 0) (b := 8) (e := 0) (b' := 9) (e' := 1) hI hR rfl (by omega) rfl rfl rfl rfl _ y x n z hx hz) fun h0 => ?_
  omega

include hI hR in
/-- A point's log-sums. -/
theorem log_point (y : Fin 256) (z : Fin 128) : (outsAt0 m ch t).2 (ix2 y z) = ((if z.val < 8 then logSum 2048 p c z (R + y) else 0 : ℝ) : EReal) := by
  rw [outsAt0]
  dsimp only
  frame_open
  frame_out
  refine lane_step 7 _ y z (by decide) (fun j => headS_eq (pr := 3) (a := 384) (b := 15) (e := 7) hI hR 1 rfl (by omega) rfl rfl y j) fun h7 => ?_
  refine lane_step 6 _ y z (by decide) (fun j => headS_eq (pr := 3) (a := 384) (b := 14) (e := 6) hI hR 0 rfl (by omega) rfl rfl y j) fun h6 => ?_
  refine lane_step 5 _ y z (by decide) (fun j => headS_eq (pr := 2) (a := 256) (b := 13) (e := 5) hI hR 1 rfl (by omega) rfl rfl y j) fun h5 => ?_
  refine lane_step 4 _ y z (by decide) (fun j => headS_eq (pr := 2) (a := 256) (b := 12) (e := 4) hI hR 0 rfl (by omega) rfl rfl y j) fun h4 => ?_
  refine lane_step 3 _ y z (by decide) (fun j => headS_eq (pr := 1) (a := 128) (b := 11) (e := 3) hI hR 1 rfl (by omega) rfl rfl y j) fun h3 => ?_
  refine lane_step 2 _ y z (by decide) (fun j => headS_eq (pr := 1) (a := 128) (b := 10) (e := 2) hI hR 0 rfl (by omega) rfl rfl y j) fun h2 => ?_
  refine lane_step 1 _ y z (by decide) (fun j => headS_eq (pr := 0) (a := 0) (b := 9) (e := 1) hI hR 1 rfl (by omega) rfl rfl y j) fun h1 => ?_
  refine lane_step 0 _ y z (by decide) (fun j => headS_eq (pr := 0) (a := 0) (b := 8) (e := 0) hI hR 0 rfl (by omega) rfl rfl y j) fun h0 => ?_
  rw [if_neg (by simp at h7 h6 h5 h4 h3 h2 h1 h0; omega)]
  pointwise [k0_pay8]
  rfl

end point

section arrays

variable {m ch} {p c : ℕ → ℕ → ℝ} (hp : ∀ a b, proj m ch (ix2 a b) = ((p a.val b.val : ℝ) : EReal)) (hc : ∀ a b, decay m ch (ix2 a b) = ((c a.val b.val : ℝ) : EReal))

include hp hc in
/-- What the point `t` reads. -/
theorem ins (t : Fin cfg0.N) : Ins p c (256 * (6 + t.val)) (X0_0 m ch t) (X0_1 m ch t) (X0_2 m ch t) (iblk m ch 3 t) := by
  have ht : t.val < 2 := t.isLt
  constructor
  · intro y d
    exact (block_q m ch t y d (by omega)).trans (hp _ _)
  · intro j d
    exact (block_k m ch t j d).trans (hp _ _)
  · intro j d
    exact (block_v m ch t j d).trans (hp _ _)
  · intro h j
    exact (block_dec m ch t h j).trans (hc _ _)

/-- The first row of the point `t`. -/
theorem row (t : Fin cfg0.N) : 256 * (6 + t.val) = 256 * (6 + (cfg0.grid.coords t 0).val) := by rw [(idx t).2.2.2.2.2.2]

include hp hc in
/-- The output's array. -/
theorem array4 : (dats m 0 ch).arrAt 4 cfg0.N = val_main_v37 (F := Ideal) (proj m ch) (decay m ch) := by
  refine (dats m 0 ch).arrAt_eq_of_covers 4 _ (by decide +kernel) fun t hf y => ?_
  have ht : t.val < 2 := t.isLt
  blk_simp
  rw [after0_4]
  obtain ⟨a, b, rfl⟩ : ∃ (a : Fin 256) (b : Fin 512), y = ix2 a b := ⟨y 0, y 1, (ix2_eta y).symm⟩
  have e : (win0_4.blk t).view.emb (ix2 a b) = ix2 (⟨256 * t.val + a, by omega⟩ : Fin 512) b := by blk_ext [idx t]
  rw [e]
  refine (out_point m ch t (ins hp hc t) (row t) a b).trans (Eq.trans ?_ (Cert.FoxDRef.result_out hp hc _ b).symm)
  rw [show 256 * (6 + t.val) + a.val = 1536 + (256 * t.val + a.val) by omega]

include hp hc in
/-- The log-sums' array. -/
theorem array5 : (dats m 0 ch).arrAt 5 cfg0.N = val_main_v62 (F := Ideal) (proj m ch) (decay m ch) := by
  refine (dats m 0 ch).arrAt_eq_of_covers 5 _ (by decide +kernel) fun t hf y => ?_
  have ht : t.val < 2 := t.isLt
  blk_simp
  rw [after0_5]
  obtain ⟨a, b, rfl⟩ : ∃ (a : Fin 256) (b : Fin 128), y = ix2 a b := ⟨y 0, y 1, (ix2_eta y).symm⟩
  have e : (win0_5.blk t).view.emb (ix2 a b) = ix2 (⟨256 * t.val + a, by omega⟩ : Fin 512) b := by blk_ext [idx t]
  rw [e]
  refine (log_point m ch t (ins hp hc t) (row t) a b).trans (Eq.trans ?_ (Cert.FoxDRef.result_log hp hc _ b).symm)
  rw [show 256 * (6 + t.val) + a.val = 1536 + (256 * t.val + a.val) by omega]

end arrays

/-- The reference ends with its arguments kept. -/
theorem frame_reference : Cert.quiescent_FoxDRefIdeal := fun m ρ _ =>
  (θ_run Cert.FoxDRefIdeal.defs _ _).mono (fun r h => ⟨fun c => (h c).2.2, sem_eq_zero_of_no_sems (by decide) r.2⟩)
    (Cert.FoxDRefIdeal.Value.run (F := Ideal) m ρ)

/-- The ideal kernel computes what the reference does, on finite arrays. -/
theorem algebraic [Cert.Pre_finite_fox.Facts] : Cert.algebraic_FoxDIdeal_FoxDRefIdeal_pre_finite_fox := by
  intro m g m' g' hpre hargs
  refine ⟨fun c => val_main_v37 (F := Ideal) (proj m c) (decay m c), fun c => val_main_v62 (F := Ideal) (proj m c) (decay m c), ?_, ?_⟩
  · refine (θ_run Cert.FoxDIdeal.defs _ _).mono (fun r h c => ?_) (Cert.FoxDIdeal.Value.run_blocks (F := Ideal) m g)
    obtain ⟨h0, h1, h⟩ := h c
    have hp := FoxFinite.proj_table (hpre c).1
    have hc := FoxFinite.decay_table (hpre c).2
    exact ⟨h0.trans (array4 hp hc), h1.trans (array5 hp hc), h⟩
  · refine (θ_run Cert.FoxDRefIdeal.defs _ _).mono (fun r h c => ?_) (Cert.FoxDRefIdeal.Value.run (F := Ideal) m' g')
    obtain ⟨h0, h1, h⟩ := h c
    obtain ⟨e0, e1⟩ := hargs c
    replace h0 := h0.trans (Cert.FoxDRefIdeal.Read.val_main_v37_eq _ c)
    replace h1 := h1.trans (Cert.FoxDRefIdeal.Read.val_main_v62_eq _ c)
    rw [e0, e1] at h0 h1
    exact ⟨h0, h1, h⟩

end Cert.Proof.FoxD

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Square
public import proofs.«01_k».proof.Proof.Gen.Square.Frame
public import proofs.«01_k».proof.Proof.Gen.SquareIdeal
public import proofs.«01_k».proof.Proof.Gen.SquareIdeal.Frame
public import proofs.«01_k».proof.Proof.Gen.SquareIdeal.Value
public import proofs.«01_k».proof.Proof.Gen.SquareRefIdeal
public import proofs.«01_k».proof.Proof.Gen.SquareRefIdeal.Run
public import proofs.«01_k».proof.Proof.Gen.SquareRefIdeal.Read
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Stream
public import proofs.«01_k».proof.Proof.Gen.Stream.Frame
public import proofs.«01_k».proof.Proof.Gen.StreamIdeal
public import proofs.«01_k».proof.Proof.Gen.StreamIdeal.Frame
public import proofs.«01_k».proof.Proof.Gen.StreamIdeal.Value
public import proofs.«01_k».proof.Proof.Gen.StreamRefIdeal
public import proofs.«01_k».proof.Proof.Gen.StreamRefIdeal.Run
public import proofs.«01_k».proof.Proof.Gen.StreamRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Join
public import proofs.«01_k».proof.Proof.Gen.Join.Frame
public import proofs.«01_k».proof.Proof.Gen.JoinIdeal
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.JoinRefIdeal.Read
public import proofs.«01_k».proof.Proof.Gen.Entry
public import proofs.«01_k».proof.Proof.Gen.Entry.Frame
public import proofs.«01_k».proof.Proof.Gen.EntryIdeal
public import proofs.«01_k».proof.Proof.Gen.EntryIdeal.Frame
public import proofs.«01_k».proof.Proof.Gen.EntryIdeal.Value
public import proofs.«01_k».proof.Proof.Gen.EntryRefIdeal
public import proofs.«01_k».proof.Proof.Gen.EntryRefIdeal.Run
public import proofs.«01_k».proof.Proof.Gen.EntryRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import proofs.«01_k».proof.Proof.Gen.Leave
public import proofs.«01_k».proof.Proof.Gen.Leave.Frame
public import proofs.«01_k».proof.Proof.Gen.LeaveIdeal
public import proofs.«01_k».proof.Proof.Gen.LeaveIdeal.Frame
public import proofs.«01_k».proof.Proof.Gen.LeaveIdeal.Value
public import proofs.«01_k».proof.Proof.Gen.LeaveRefIdeal
public import proofs.«01_k».proof.Proof.Gen.LeaveRefIdeal.Run
public import proofs.«01_k».proof.Proof.Gen.LeaveRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.FoxD
public import proofs.«01_k».proof.Proof.Gen.FoxD.Frame
public import proofs.«01_k».proof.Proof.Gen.FoxDIdeal
public import proofs.«01_k».proof.Proof.Gen.FoxDIdeal.Frame
public import proofs.«01_k».proof.Proof.Gen.FoxDIdeal.Value
public import proofs.«01_k».proof.Proof.Gen.FoxDRefIdeal
public import proofs.«01_k».proof.Proof.Gen.FoxDRefIdeal.Run
public import proofs.«01_k».proof.Proof.Gen.FoxDRefIdeal.Read
public import proofs.«01_k».proof.Proof.Arrays
public import proofs.«01_k».proof.Proof.Finite
public import Idealize.ShloMosaic.Adequacy
public import Idealize.ShloMosaic.Init
public import proofs.«01_k».proof.Proof.Act
public import proofs.«01_k».proof.Proof.Down
public import proofs.«01_k».proof.Proof.Up
public import proofs.«01_k».proof.Proof.Square
public import proofs.«01_k».proof.Proof.Ple
public import proofs.«01_k».proof.Proof.In
public import proofs.«01_k».proof.Proof.Stream
public import proofs.«01_k».proof.Proof.Proj
public import proofs.«01_k».proof.Proof.Mlp
public import proofs.«01_k».proof.Proof.Gate
public import proofs.«01_k».proof.Proof.Join
public import proofs.«01_k».proof.Proof.Entry
public import proofs.«01_k».proof.Proof.Mix
public import proofs.«01_k».proof.Proof.Mid
public import proofs.«01_k».proof.Proof.Leave
public import proofs.«01_k».proof.Proof.Tail
public import proofs.«01_k».proof.Proof.Heads
public import proofs.«01_k».proof.Proof.FoxD

@[expose] public section

set_option maxRecDepth 16384

noncomputable section

namespace Cert.Proof

open Idealize.ShloMosaic Idealize.SL.Sem

local instance : Cert.Pre_finite.Facts := Cert.Finite.facts
local instance : Cert.Pre_finite_mid.Facts := Mid.facts
local instance : Cert.Pre_finite_leave.Facts := Leave.facts
local instance : Cert.Pre_finite_tail.Facts := Tail.facts
local instance : Cert.Pre_finite_heads.Facts := Heads.facts
local instance : Cert.Pre_finite_fox.Facts := Cert.FoxFinite.facts
local instance : Cert.KernelIdeal.Facts := Cert.KernelIdeal.Gen.facts
local instance : Cert.ReferenceIdeal.Facts := Cert.ReferenceIdeal.Gen.facts

/-- The reference runs, leaves its arguments as they were, and has no counter to leave elsewhere than at zero. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- On finite arguments the ideal kernel's five results are the reference's. -/
theorem algebraic : Cert.algebraic_KernelIdeal_ReferenceIdeal_pre_finite := by
  intro m g m' g' hpre hargs
  have hp := fun c => Cert.Finite.proj_table (hpre c).1
  have hc := fun c => Cert.Finite.decay_table (hpre c).2.1
  have hg := fun c => Cert.Finite.cot_table (hpre c).2.2
  refine ⟨fun c => Cert.ReferenceIdeal.Read.val_main_v90 (F := Ideal) (Cert.Arrays.proj m c) (Cert.Arrays.decay m c) (Cert.Arrays.cot m c),
    fun c => Cert.ReferenceIdeal.Read.val_main_v88 (F := Ideal) (Cert.Arrays.proj m c) (Cert.Arrays.decay m c) (Cert.Arrays.cot m c),
    fun c => Cert.ReferenceIdeal.Read.val_main_v87 (F := Ideal) (Cert.Arrays.proj m c) (Cert.Arrays.decay m c) (Cert.Arrays.cot m c),
    fun c => Cert.ReferenceIdeal.Read.val_main_v92 (F := Ideal) (Cert.Arrays.proj m c) (Cert.Arrays.decay m c) (Cert.Arrays.cot m c),
    fun c => Cert.ReferenceIdeal.Read.val_main_v93 (F := Ideal) (Cert.Arrays.proj m c) (Cert.Arrays.decay m c) (Cert.Arrays.cot m c), ?_, ?_⟩
  · refine (θ_run Cert.KernelIdeal.defs _ _).mono (fun r h c => ?_) (Cert.KernelIdeal.Value.run_blocks (F := Ideal) m g)
    obtain ⟨h0, h1, h2, h3, h4, h5⟩ := h c
    exact ⟨h0.trans (Cert.Arrays.array_q (hp c) (hc c) (hg c)), h1.trans (Cert.Arrays.array_k (hp c) (hc c) (hg c)),
      h2.trans (Cert.Arrays.array_v (hp c) (hc c) (hg c)), h3.trans (Cert.Arrays.array_row (hp c) (hc c) (hg c)),
      h4.trans (Cert.Arrays.array_col (hp c) (hc c) (hg c)), h5⟩
  · refine (θ_run Cert.ReferenceIdeal.defs _ _).mono (fun r h c => ?_) (Cert.ReferenceIdeal.Value.run (F := Ideal) m' g')
    obtain ⟨h0, h1, h2, h3, h4, h5⟩ := h c
    obtain ⟨e0, e1, e2⟩ := hargs c
    rw [Cert.ReferenceIdeal.Read.val_main_v90_eq, e0, e1, e2] at h0
    rw [Cert.ReferenceIdeal.Read.val_main_v88_eq, e0, e1, e2] at h1
    rw [Cert.ReferenceIdeal.Read.val_main_v87_eq, e0, e1, e2] at h2
    rw [Cert.ReferenceIdeal.Read.val_main_v92_eq, e0, e1, e2] at h3
    rw [Cert.ReferenceIdeal.Read.val_main_v93_eq, e0, e1, e2] at h4
    exact ⟨h0, h1, h2, h3, h4, h5⟩

theorem claim : Cert.Claim :=
  ⟨Cert.Kernel.Gen.facts, Cert.KernelIdeal.Gen.facts, Cert.ReferenceIdeal.Gen.facts,
    Cert.Act.Gen.facts, Cert.ActIdeal.Gen.facts, Cert.ActRefIdeal.Gen.facts,
    Cert.Down.Gen.facts, Cert.DownIdeal.Gen.facts, Cert.DownRefIdeal.Gen.facts,
    Cert.Up.Gen.facts, Cert.UpIdeal.Gen.facts, Cert.UpRefIdeal.Gen.facts,
    Cert.Square.Gen.facts, Cert.SquareIdeal.Gen.facts, Cert.SquareRefIdeal.Gen.facts,
    Cert.Ple.Gen.facts, Cert.PleIdeal.Gen.facts, Cert.PleRefIdeal.Gen.facts,
    Cert.In.Gen.facts, Cert.InIdeal.Gen.facts, Cert.InRefIdeal.Gen.facts,
    Cert.Stream.Gen.facts, Cert.StreamIdeal.Gen.facts, Cert.StreamRefIdeal.Gen.facts,
    Cert.Proj.Gen.facts, Cert.ProjIdeal.Gen.facts, Cert.ProjRefIdeal.Gen.facts,
    Cert.Mlp.Gen.facts, Cert.MlpIdeal.Gen.facts, Cert.MlpRefIdeal.Gen.facts,
    Cert.Gate.Gen.facts, Cert.GateIdeal.Gen.facts, Cert.GateRefIdeal.Gen.facts,
    Cert.Join.Gen.facts, Cert.JoinIdeal.Gen.facts, Cert.JoinRefIdeal.Gen.facts,
    Cert.Entry.Gen.facts, Cert.EntryIdeal.Gen.facts, Cert.EntryRefIdeal.Gen.facts,
    Cert.Mix.Gen.facts, Cert.MixIdeal.Gen.facts, Cert.MixRefIdeal.Gen.facts,
    Cert.Mid.Gen.facts, Cert.MidIdeal.Gen.facts, Cert.MidRefIdeal.Gen.facts,
    Cert.Leave.Gen.facts, Cert.LeaveIdeal.Gen.facts, Cert.LeaveRefIdeal.Gen.facts,
    Cert.Tail.Gen.facts, Cert.TailIdeal.Gen.facts, Cert.TailRefIdeal.Gen.facts,
    Cert.Heads.Gen.facts, Cert.HeadsIdeal.Gen.facts, Cert.HeadsRefIdeal.Gen.facts,
    Cert.FoxD.Gen.facts, Cert.FoxDIdeal.Gen.facts, Cert.FoxDRefIdeal.Gen.facts,
    Cert.Finite.facts, Mid.facts, Leave.facts, Tail.facts, Heads.facts, Cert.FoxFinite.facts,
    fun m g _ => Cert.Kernel.Gen.frame m g, fun m g _ => Cert.KernelIdeal.Gen.frame m g,
    fun m g _ => Cert.KernelIdeal.Gen.frame m g, frame_reference, fun m g _ => frame_reference m g trivial,
    fun m g _ => Cert.Act.Gen.frame m g, fun m g _ => Cert.ActIdeal.Gen.frame m g, Act.frame_reference,
    fun m g _ => Cert.Down.Gen.frame m g, fun m g _ => Cert.DownIdeal.Gen.frame m g, Down.frame_reference,
    fun m g _ => Cert.Up.Gen.frame m g, fun m g _ => Cert.UpIdeal.Gen.frame m g, Up.frame_reference,
    fun m g _ => Cert.Square.Gen.frame m g, fun m g _ => Cert.SquareIdeal.Gen.frame m g, Square.frame_reference,
    fun m g _ => Cert.Ple.Gen.frame m g, fun m g _ => Cert.PleIdeal.Gen.frame m g, Ple.frame_reference,
    fun m g _ => Cert.In.Gen.frame m g, fun m g _ => Cert.InIdeal.Gen.frame m g, In.frame_reference,
    fun m g _ => Cert.Stream.Gen.frame m g, fun m g _ => Cert.StreamIdeal.Gen.frame m g, Stream.frame_reference,
    fun m g _ => Cert.Proj.Gen.frame m g, fun m g _ => Cert.ProjIdeal.Gen.frame m g, Proj.frame_reference,
    fun m g _ => Cert.Mlp.Gen.frame m g, fun m g _ => Cert.MlpIdeal.Gen.frame m g, Mlp.frame_reference,
    fun m g _ => Cert.Gate.Gen.frame m g, fun m g _ => Cert.GateIdeal.Gen.frame m g, Gate.frame_reference,
    fun m g _ => Cert.Join.Gen.frame m g, fun m g _ => Cert.JoinIdeal.Gen.frame m g, Join.frame_reference,
    fun m g _ => Cert.Entry.Gen.frame m g, fun m g _ => Cert.EntryIdeal.Gen.frame m g, Entry.frame_reference,
    fun m g _ => Cert.Mix.Gen.frame m g, fun m g _ => Cert.MixIdeal.Gen.frame m g, Mix.frame_reference,
    fun m g _ => Cert.Mid.Gen.frame m g, fun m g _ => Cert.MidIdeal.Gen.frame m g, fun m g _ => Cert.MidIdeal.Gen.frame m g,
    Mid.frame_reference, fun m g _ => Mid.frame_reference m g trivial,
    fun m g _ => Cert.Leave.Gen.frame m g, fun m g _ => Cert.LeaveIdeal.Gen.frame m g, fun m g _ => Cert.LeaveIdeal.Gen.frame m g,
    Leave.frame_reference, fun m g _ => Leave.frame_reference m g trivial,
    fun m g _ => Cert.Tail.Gen.frame m g, fun m g _ => Cert.TailIdeal.Gen.frame m g, fun m g _ => Cert.TailIdeal.Gen.frame m g,
    Tail.frame_reference, fun m g _ => Tail.frame_reference m g trivial,
    fun m g _ => Cert.Heads.Gen.frame m g, fun m g _ => Cert.HeadsIdeal.Gen.frame m g, fun m g _ => Cert.HeadsIdeal.Gen.frame m g,
    Heads.frame_reference, fun m g _ => Heads.frame_reference m g trivial,
    fun m g _ => Cert.FoxD.Gen.frame m g, fun m g _ => Cert.FoxDIdeal.Gen.frame m g, fun m g _ => Cert.FoxDIdeal.Gen.frame m g,
    FoxD.frame_reference, fun m g _ => FoxD.frame_reference m g trivial,
    IdealRules.named_const.statement Cert.KernelIdeal.κ "mask" .f32 0xF149F2CA#32 ⊥ rfl, algebraic,
    trivial, Act.algebraic,
    trivial, Down.algebraic,
    trivial, Up.algebraic,
    trivial, Square.algebraic,
    trivial, Ple.algebraic,
    trivial, In.algebraic,
    trivial, Stream.algebraic,
    trivial, Proj.algebraic,
    trivial, Mlp.algebraic,
    trivial, Gate.algebraic,
    trivial, Join.algebraic,
    trivial, Entry.algebraic,
    trivial, Mix.algebraic,
    trivial, Mid.algebraic,
    trivial, Leave.algebraic,
    trivial, Tail.algebraic,
    trivial, Heads.algebraic,
    IdealRules.named_const.statement Cert.FoxDIdeal.κ "mask" .f32 0xF149F2CA#32 ⊥ rfl, FoxD.algebraic⟩

end Cert.Proof

end
